-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v17_0)) (v1 : (c : Dev Cert.Kernel2Ideal.nD) → Buf (Elt Ideal) ((c.tc : Thread Cert.Kernel2Ideal.nD Cert.Kernel2Ideal.τ).loc Cert.Kernel2Ideal.main_v17_1)) (v2 : (c : Dev Cert.Kernel2Ideal.nD) → Buf (Elt Ideal) ((c.tc : Thread Cert.Kernel2Ideal.nD Cert.Kernel2Ideal.τ).loc Cert.Kernel2Ideal.main_v17_2)) (v3 : (c : Dev Cert.Kernel2Ideal.nD) → Buf (Elt Ideal) ((c.tc : Thread Cert.Kernel2Ideal.nD Cert.Kernel2Ideal.τ).loc Cert.Kernel2Ideal.main_v17_3)) (v4 : (c : Dev Cert.Kernel2Ideal.nD) → Buf (Elt Ideal) ((c.tc : Thread Cert.Kernel2Ideal.nD Cert.Kernel2Ideal.τ).loc Cert.Kernel2Ideal.main_v17_4)) (v5 : (c : Dev Cert.Kernel2Ideal.nD) → Buf (Elt Ideal) ((c.tc : Thread Cert.Kernel2Ideal.nD Cert.Kernel2Ideal.τ).loc Cert.Kernel2Ideal.main_v17_5)) (v6 : (c : Dev Cert.Kernel2Ideal.nD) → Buf (Elt Ideal) ((c.tc : Thread Cert.Kernel2Ideal.nD Cert.Kernel2Ideal.τ).loc Cert.Kernel2Ideal.main_v17_6)) (v7 : (c : Dev Cert.Kernel2Ideal.nD) → Buf (Elt Ideal) ((c.tc : Thread Cert.Kernel2Ideal.nD Cert.Kernel2Ideal.τ).loc Cert.Kernel2Ideal.main_v17_7)) (v8 : (c : Dev Cert.Kernel2Ideal.nD) → Buf (Elt Ideal) ((c.tc : Thread Cert.Kernel2Ideal.nD Cert.Kernel2Ideal.τ).loc Cert.Kernel2Ideal.main_v17_8)) (v9 : (c : Dev Cert.Kernel2Ideal.nD) → Buf (Elt Ideal) ((c.tc : Thread Cert.Kernel2Ideal.nD Cert.Kernel2Ideal.τ).loc Cert.Kernel2Ideal.main_v17_9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17_0) = v0 c
          ∧ r.2.mem ((c.tc : Thread Cert.Kernel2Ideal.nD Cert.Kernel2Ideal.τ).loc Cert.Kernel2Ideal.main_v17_1) = v1 c
          ∧ r.2.mem ((c.tc : Thread Cert.Kernel2Ideal.nD Cert.Kernel2Ideal.τ).loc Cert.Kernel2Ideal.main_v17_2) = v2 c
          ∧ r.2.mem ((c.tc : Thread Cert.Kernel2Ideal.nD Cert.Kernel2Ideal.τ).loc Cert.Kernel2Ideal.main_v17_3) = v3 c
          ∧ r.2.mem ((c.tc : Thread Cert.Kernel2Ideal.nD Cert.Kernel2Ideal.τ).loc Cert.Kernel2Ideal.main_v17_4) = v4 c
          ∧ r.2.mem ((c.tc : Thread Cert.Kernel2Ideal.nD Cert.Kernel2Ideal.τ).loc Cert.Kernel2Ideal.main_v17_5) = v5 c
          ∧ r.2.mem ((c.tc : Thread Cert.Kernel2Ideal.nD Cert.Kernel2Ideal.τ).loc Cert.Kernel2Ideal.main_v17_6) = v6 c
          ∧ r.2.mem ((c.tc : Thread Cert.Kernel2Ideal.nD Cert.Kernel2Ideal.τ).loc Cert.Kernel2Ideal.main_v17_7) = v7 c
          ∧ r.2.mem ((c.tc : Thread Cert.Kernel2Ideal.nD Cert.Kernel2Ideal.τ).loc Cert.Kernel2Ideal.main_v17_8) = v8 c
          ∧ r.2.mem ((c.tc : Thread Cert.Kernel2Ideal.nD Cert.Kernel2Ideal.τ).loc Cert.Kernel2Ideal.main_v17_9) = v9 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_v42) = v1 c
          ∧ r.2.mem ((c.tc : Thread Cert.Reference2Ideal.nD Cert.Reference2Ideal.τ).loc Cert.Reference2Ideal.main_v51) = v2 c
          ∧ r.2.mem ((c.tc : Thread Cert.Reference2Ideal.nD Cert.Reference2Ideal.τ).loc Cert.Reference2Ideal.main_v83) = v3 c
          ∧ r.2.mem ((c.tc : Thread Cert.Reference2Ideal.nD Cert.Reference2Ideal.τ).loc Cert.Reference2Ideal.main_v122) = v4 c
          ∧ r.2.mem ((c.tc : Thread Cert.Reference2Ideal.nD Cert.Reference2Ideal.τ).loc Cert.Reference2Ideal.main_v131) = v5 c
          ∧ r.2.mem ((c.tc : Thread Cert.Reference2Ideal.nD Cert.Reference2Ideal.τ).loc Cert.Reference2Ideal.main_v104) = v6 c
          ∧ r.2.mem ((c.tc : Thread Cert.Reference2Ideal.nD Cert.Reference2Ideal.τ).loc Cert.Reference2Ideal.main_v140) = v7 c
          ∧ r.2.mem ((c.tc : Thread Cert.Reference2Ideal.nD Cert.Reference2Ideal.τ).loc Cert.Reference2Ideal.main_v113) = v8 c
          ∧ r.2.mem ((c.tc : Thread Cert.Reference2Ideal.nD Cert.Reference2Ideal.τ).loc Cert.Reference2Ideal.main_v141) = v9 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v76) = v0 c
          ∧ r.2.mem ((c.tc : Thread Cert.Reference3Ideal.nD Cert.Reference3Ideal.τ).loc Cert.Reference3Ideal.main_v80) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_v38) = v1 c
          ∧ r.2.mem ((c.tc : Thread Cert.Reference5Ideal.nD Cert.Reference5Ideal.τ).loc Cert.Reference5Ideal.main_v55) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel5_Kernel5Ideal
    ∧ algebraic_Kernel5Ideal_Reference5Ideal (hKernel5Ideal := hKernel5Ideal) (hReference5Ideal := hReference5Ideal)
-- ==== Pre_finite.lean ====
abbrev S2x16384x128 : Shape := ⟨3, ![2, 16384, 128]⟩
abbrev S3x64 : Shape := ⟨2, ![3, 64]⟩
abbrev S2x32x64 : Shape := ⟨3, ![2, 32, 64]⟩
abbrev S2x2048x256 : Shape := ⟨3, ![2, 2048, 256]⟩
abbrev S2x256 : Shape := ⟨2, ![2, 256]⟩
abbrev S2x256x64 : Shape := ⟨3, ![2, 256, 64]⟩
abbrev S_ : Shape := ⟨0, ![]⟩

class Facts : Prop where
  bcast_S_S2x32x64 : S_.BroadcastsInDim S2x32x64 (![] : Fin 0 → Fin S2x32x64.rank)
  reducesTo_S2x32x64_S_d0_1_2 : S2x32x64.ReducesTo [0, 1, 2] S_
  h_S_ : 0 < S_.numel
  bcast_S_S2x2048x256 : S_.BroadcastsInDim S2x2048x256 (![] : Fin 0 → Fin S2x2048x256.rank)
  reducesTo_S2x2048x256_S_d0_1_2 : S2x2048x256.ReducesTo [0, 1, 2] S_

variable [Facts]

def fn {F : FTy → Type} [FloatOps F] (main_arg0 : FVec F S2x16384x128 .f32) (main_arg1 : FVec F S3x64 .f32) (main_arg2 : FVec F S2x32x64 .f32) (main_arg3 : FVec F S2x2048x256 .f32) (main_arg4 : FVec F S2x256 .f32) (main_arg5 : FVec F S2x256x64 .f32) : IVec S_ 1 :=
  let main_v0 : FVec F S2x32x64 .f32 := Host.absf main_arg2
  let main_cst : FVec F S_ .f32 := constant S_ .f32 0x7F800000#32
  let main_v1 : FVec F S2x32x64 .f32 := broadcastInDim S2x32x64 ![] bcast_S_S2x32x64 main_cst
  let main_v2 : IVec S2x32x64 1 := cmpf .olt main_v0 main_v1
  let main_c : IVec S_ 1 := constantI S_ 1 1#1
  let main_v3 : IVec S_ 1 := (fun x v => Host.reduce IntOp.andi x v reducesTo_S2x32x64_S_d0_1_2 h_S_) main_v2 main_c
  let main_v4 : FVec F S2x2048x256 .f32 := Host.absf main_arg3
  let main_cst_0 : FVec F S_ .f32 := constant S_ .f32 0x7F800000#32
  let main_v5 : FVec F S2x2048x256 .f32 := broadcastInDim S2x2048x256 ![] bcast_S_S2x2048x256 main_cst_0
  let main_v6 : IVec S2x2048x256 1 := cmpf .olt main_v4 main_v5
  let main_c_1 : IVec S_ 1 := constantI S_ 1 1#1
  let main_v7 : IVec S_ 1 := (fun x v => Host.reduce IntOp.andi x v reducesTo_S2x2048x256_S_d0_1_2 h_S_) main_v6 main_c_1
  let main_v8 : IVec S_ 1 := andi main_v3 main_v7
  main_v8
-- ==== Kernel.lean ====
abbrev S1x16384x1024 : Shape := ⟨3, ![1, 16384, 1024]⟩
abbrev S1024 : Shape := ⟨1, ![1024]⟩
abbrev S512x16384 : Shape := ⟨2, ![512, 16384]⟩
abbrev S32x16384 : Shape := ⟨2, ![32, 16384]⟩
abbrev S16384x512 : Shape := ⟨2, ![16384, 512]⟩
abbrev S1024x4888 : Shape := ⟨2, ![1024, 4888]⟩
abbrev S4x512 : Shape := ⟨2, ![4, 512]⟩
abbrev S512 : Shape := ⟨1, ![512]⟩
abbrev S8x64x64 : Shape := ⟨3, ![8, 64, 64]⟩
abbrev S512x1024 : Shape := ⟨2, ![512, 1024]⟩
abbrev S1024x1024 : Shape := ⟨2, ![1024, 1024]⟩
abbrev S16384x1024 : Shape := ⟨2, ![16384, 1024]⟩
abbrev S1024x512 : Shape := ⟨2, ![1024, 512]⟩
abbrev S1024x2560 : Shape := ⟨2, ![1024, 2560]⟩
abbrev S1024x3072 : Shape := ⟨2, ![1024, 3072]⟩
abbrev S1x512 : Shape := ⟨2, ![1, 512]⟩
abbrev S8x8 : Shape := ⟨2, ![8, 8]⟩
abbrev S_ : Shape := ⟨0, ![]⟩
abbrev S8x1x8x1 : Shape := ⟨4, ![8, 1, 8, 1]⟩
abbrev S8x64x1x64 : Shape := ⟨4, ![8, 64, 1, 64]⟩
abbrev S8x64x8x64 : Shape := ⟨4, ![8, 64, 8, 64]⟩
abbrev S512x512 : Shape := ⟨2, ![512, 512]⟩
abbrev S1x1024 : Shape := ⟨2, ![1, 1024]⟩
abbrev S32x512 : Shape := ⟨2, ![32, 512]⟩
abbrev S8x512 : Shape := ⟨2, ![8, 512]⟩
abbrev S64x8x512 : Shape := ⟨3, ![64, 8, 512]⟩
abbrev S1x8x512 : Shape := ⟨3, ![1, 8, 512]⟩
abbrev S512x1 : Shape := ⟨2, ![512, 1]⟩
abbrev S1024x2048 : Shape := ⟨2, ![1024, 2048]⟩
abbrev S512x2048 : Shape := ⟨2, ![512, 2048]⟩
abbrev S64x512 : Shape := ⟨2, ![64, 512]⟩

abbrev nBuf : Space → Nat
  | .hbm => 60
  | .vmem => 30
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S512x16384, .f32⟩
  | .hbm, ⟨3, _⟩ => ⟨S512x16384, .f32⟩
  | .hbm, ⟨4, _⟩ => ⟨S512x16384, .f32⟩
  | .hbm, ⟨5, _⟩ => ⟨S32x16384, .f32⟩
  | .hbm, ⟨6, _⟩ => ⟨S16384x512, .f32⟩
  | .hbm, ⟨7, _⟩ => ⟨S1024x4888, .f32⟩
  | .hbm, ⟨8, _⟩ => ⟨S4x512, .f32⟩
  | .hbm, ⟨9, _⟩ => ⟨S512, .f32⟩
  | .hbm, ⟨10, _⟩ => ⟨S8x64x64, .f32⟩
  | .hbm, ⟨11, _⟩ => ⟨S512, .f32⟩
  | .hbm, ⟨12, _⟩ => ⟨S8x64x64, .f32⟩
  | .hbm, ⟨13, _⟩ => ⟨S512, .f32⟩
  | .hbm, ⟨14, _⟩ => ⟨S512, .f32⟩
  | .hbm, ⟨15, _⟩ => ⟨S512x1024, .f32⟩
  | .hbm, ⟨16, _⟩ => ⟨S512x1024, .f32⟩
  | .hbm, ⟨17, _⟩ => ⟨S1024x1024, .f32⟩
  | .hbm, ⟨18, _⟩ => ⟨S16384x1024, .f32⟩
  | .hbm, ⟨19, _⟩ => ⟨S1024x4888, .bf16⟩
  | .hbm, ⟨20, _⟩ => ⟨S1024x512, .bf16⟩
  | .hbm, ⟨21, _⟩ => ⟨S1024x2560, .bf16⟩
  | .hbm, ⟨22, _⟩ => ⟨S1024x3072, .bf16⟩
  | .hbm, ⟨23, _⟩ => ⟨S1x512, .f32⟩
  | .hbm, ⟨24, _⟩ => ⟨S8x8, .i32⟩
  | .hbm, ⟨25, _⟩ => ⟨S8x8, .i32⟩
  | .hbm, ⟨26, _⟩ => ⟨S_, .i32⟩
  | .hbm, ⟨27, _⟩ => ⟨S8x8, .i32⟩
  | .hbm, ⟨28, _⟩ => ⟨S8x8, .i32⟩
  | .hbm, ⟨29, _⟩ => ⟨S8x8, .i1⟩
  | .hbm, ⟨30, _⟩ => ⟨S8x8, .f32⟩
  | .hbm, ⟨31, _⟩ => ⟨S8x1x8x1, .f32⟩
  | .hbm, ⟨32, _⟩ => ⟨S8x64x1x64, .f32⟩
  | .hbm, ⟨33, _⟩ => ⟨S8x64x8x64, .f32⟩
  | .hbm, ⟨34, _⟩ => ⟨S8x64x8x64, .f32⟩
  | .hbm, ⟨35, _⟩ => ⟨S8x64x8x64, .f32⟩
  | .hbm, ⟨36, _⟩ => ⟨S512x512, .f32⟩
  | .hbm, ⟨37, _⟩ => ⟨S512x512, .bf16⟩
  | .hbm, ⟨38, _⟩ => ⟨S1x512, .f32⟩
  | .hbm, ⟨39, _⟩ => ⟨S8x8, .i32⟩
  | .hbm, ⟨40, _⟩ => ⟨S8x8, .i32⟩
  | .hbm, ⟨41, _⟩ => ⟨S_, .i32⟩
  | .hbm, ⟨42, _⟩ => ⟨S8x8, .i32⟩
  | .hbm, ⟨43, _⟩ => ⟨S8x8, .i32⟩
  | .hbm, ⟨44, _⟩ => ⟨S8x8, .i1⟩
  | .hbm, ⟨45, _⟩ => ⟨S8x8, .f32⟩
  | .hbm, ⟨46, _⟩ => ⟨S8x1x8x1, .f32⟩
  | .hbm, ⟨47, _⟩ => ⟨S8x64x1x64, .f32⟩
  | .hbm, ⟨48, _⟩ => ⟨S8x64x8x64, .f32⟩
  | .hbm, ⟨49, _⟩ => ⟨S8x64x8x64, .f32⟩
  | .hbm, ⟨50, _⟩ => ⟨S8x64x8x64, .f32⟩
  | .hbm, ⟨51, _⟩ => ⟨S512x512, .f32⟩
  | .hbm, ⟨52, _⟩ => ⟨S512x512, .bf16⟩
  | .hbm, ⟨53, _⟩ => ⟨S1x512, .f32⟩
  | .hbm, ⟨54, _⟩ => ⟨S1x512, .f32⟩
  | .hbm, ⟨55, _⟩ => ⟨S512x1024, .bf16⟩
  | .hbm, ⟨56, _⟩ => ⟨S512x1024, .bf16⟩
  | .hbm, ⟨57, _⟩ => ⟨S1024x1024, .bf16⟩
  | .hbm, ⟨58, _⟩ => ⟨S1x1024, .f32⟩
  | .hbm, ⟨59, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S32x512, .f32⟩
  | .local _ .vmem, ⟨10, _⟩ => ⟨S32x512, .f32⟩
  | .local _ .vmem, ⟨11, _⟩ => ⟨S512x512, .f32⟩
  | .local _ .vmem, ⟨12, _⟩ => ⟨S512x512, .f32⟩
  | .local _ .vmem, ⟨13, _⟩ => ⟨S4x512, .f32⟩
  | .local _ .vmem, ⟨14, _⟩ => ⟨S1x512, .f32⟩
  | .local _ .vmem, ⟨15, _⟩ => ⟨S512x512, .bf16⟩
  | .local _ .vmem, ⟨16, _⟩ => ⟨S1x512, .f32⟩
  | .local _ .vmem, ⟨17, _⟩ => ⟨S512x512, .bf16⟩
  | .local _ .vmem, ⟨18, _⟩ => ⟨S1x512, .f32⟩
  | .local _ .vmem, ⟨19, _⟩ => ⟨S1x512, .f32⟩
  | .local _ .vmem, ⟨20, _⟩ => ⟨S1024x3072, .bf16⟩
  | .local _ .vmem, ⟨21, _⟩ => ⟨S512x1024, .bf16⟩
  | .local _ .vmem, ⟨22, _⟩ => ⟨S512x1024, .bf16⟩
  | .local _ .vmem, ⟨23, _⟩ => ⟨S1024x1024, .bf16⟩
  | .local _ .vmem, ⟨24, _⟩ => ⟨S512x1024, .f32⟩
  | .local _ .vmem, ⟨25, _⟩ => ⟨S512x1024, .f32⟩
  | .local _ .vmem, ⟨26, _⟩ => ⟨S512x512, .f32⟩
  | .local _ .vmem, ⟨27, _⟩ => ⟨S8x512, .f32⟩
  | .local _ .vmem, ⟨28, _⟩ => ⟨S1x512, .f32⟩
  | .local _ .vmem, ⟨29, _⟩ => ⟨S512x512, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_0 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg18_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem18_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x3072 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ReferenceIdeal.lean ====
abbrev S1x16384x1024 : Shape := ⟨3, ![1, 16384, 1024]⟩
abbrev S1024 : Shape := ⟨1, ![1024]⟩
abbrev S512x16384 : Shape := ⟨2, ![512, 16384]⟩
abbrev S32x16384 : Shape := ⟨2, ![32, 16384]⟩
abbrev S16384x512 : Shape := ⟨2, ![16384, 512]⟩
abbrev S1024x4888 : Shape := ⟨2, ![1024, 4888]⟩
abbrev S4x512 : Shape := ⟨2, ![4, 512]⟩
abbrev S512 : Shape := ⟨1, ![512]⟩
abbrev S8x64x64 : Shape := ⟨3, ![8, 64, 64]⟩
abbrev S512x1024 : Shape := ⟨2, ![512, 1024]⟩
abbrev S1024x1024 : Shape := ⟨2, ![1024, 1024]⟩
abbrev S1x16384x512 : Shape := ⟨3, ![1, 16384, 512]⟩
abbrev S_ : Shape := ⟨0, ![]⟩
abbrev S1x16387x512 : Shape := ⟨3, ![1, 16387, 512]⟩
abbrev S1x512 : Shape := ⟨2, ![1, 512]⟩
abbrev S1x1x512 : Shape := ⟨3, ![1, 1, 512]⟩
abbrev S1x16384x8x64 : Shape := ⟨4, ![1, 16384, 8, 64]⟩
abbrev S8x64x1x16384 : Shape := ⟨4, ![8, 64, 1, 16384]⟩
abbrev S1x16384 : Shape := ⟨2, ![1, 16384]⟩
abbrev S1x16384x1 : Shape := ⟨3, ![1, 16384, 1]⟩
abbrev S1x1x1024 : Shape := ⟨3, ![1, 1, 1024]⟩
abbrev S1x16384x4888 : Shape := ⟨3, ![1, 16384, 4888]⟩
abbrev S1x16384x768 : Shape := ⟨3, ![1, 16384, 768]⟩
abbrev S1x16384x24 : Shape := ⟨3, ![1, 16384, 24]⟩
abbrev S1x16384x2048 : Shape := ⟨3, ![1, 16384, 2048]⟩
abbrev S1x512x16384 : Shape := ⟨3, ![1, 512, 16384]⟩
abbrev S3x512x16384 : Shape := ⟨3, ![3, 512, 16384]⟩
abbrev S3x8x64x16384 : Shape := ⟨4, ![3, 8, 64, 16384]⟩
abbrev S16384x3x8x64 : Shape := ⟨4, ![16384, 3, 8, 64]⟩
abbrev S1x16384x3x8x64 : Shape := ⟨5, ![1, 16384, 3, 8, 64]⟩
abbrev S24x16384 : Shape := ⟨2, ![24, 16384]⟩
abbrev S16384x24 : Shape := ⟨2, ![16384, 24]⟩
abbrev S1x16384x3x8x1 : Shape := ⟨5, ![1, 16384, 3, 8, 1]⟩
abbrev S16384x1024 : Shape := ⟨2, ![16384, 1024]⟩

abbrev nBuf : Space → Nat
  | .hbm => 227
  | .vmem => 0
  | .smem => 0
  | _ => 0

abbrev hbmTy0_0 (i : Nat) : BufTy := match i % 128 with
  | 0 => ⟨S1x16384x1024, .f32⟩
  | 1 => ⟨S1024, .f32⟩
  | 2 => ⟨S512x16384, .f32⟩
  | 3 => ⟨S512x16384, .f32⟩
  | 4 => ⟨S512x16384, .f32⟩
  | 5 => ⟨S32x16384, .f32⟩
  | 6 => ⟨S16384x512, .f32⟩
  | 7 => ⟨S1024x4888, .f32⟩
  | 8 => ⟨S4x512, .f32⟩
  | 9 => ⟨S512, .f32⟩
  | 10 => ⟨S8x64x64, .f32⟩
  | 11 => ⟨S512, .f32⟩
  | 12 => ⟨S8x64x64, .f32⟩
  | 13 => ⟨S512, .f32⟩
  | 14 => ⟨S512, .f32⟩
  | 15 => ⟨S512x1024, .f32⟩
  | 16 => ⟨S512x1024, .f32⟩
  | 17 => ⟨S1024x1024, .f32⟩
  | 18 => ⟨S1x16384x512, .f32⟩
  | 19 => ⟨S_, .i32⟩
  | 20 => ⟨S_, .f32⟩
  | 21 => ⟨S1x16387x512, .f32⟩
  | 22 => ⟨S1x16384x512, .f32⟩
  | 23 => ⟨S1x512, .f32⟩
  | 24 => ⟨S512, .f32⟩
  | 25 => ⟨S1x1x512, .f32⟩
  | 26 => ⟨S1x16384x512, .f32⟩
  | 27 => ⟨S1x16384x512, .f32⟩
  | 28 => ⟨S_, .f32⟩
  | 29 => ⟨S1x16384x512, .f32⟩
  | 30 => ⟨S1x16384x512, .f32⟩
  | 31 => ⟨S1x16384x512, .f32⟩
  | 32 => ⟨S1x512, .f32⟩
  | 33 => ⟨S512, .f32⟩
  | 34 => ⟨S1x1x512, .f32⟩
  | 35 => ⟨S1x16384x512, .f32⟩
  | 36 => ⟨S1x16384x512, .f32⟩
  | 37 => ⟨S1x16384x512, .f32⟩
  | 38 => ⟨S1x16384x512, .f32⟩
  | 39 => ⟨S1x512, .f32⟩
  | 40 => ⟨S512, .f32⟩
  | 41 => ⟨S1x1x512, .f32⟩
  | 42 => ⟨S1x16384x512, .f32⟩
  | 43 => ⟨S1x16384x512, .f32⟩
  | 44 => ⟨S1x16384x512, .f32⟩
  | 45 => ⟨S1x16384x512, .f32⟩
  | 46 => ⟨S1x512, .f32⟩
  | 47 => ⟨S512, .f32⟩
  | 48 => ⟨S1x1x512, .f32⟩
  | 49 => ⟨S1x16384x512, .f32⟩
  | 50 => ⟨S1x16384x512, .f32⟩
  | 51 => ⟨S1x16384x512, .f32⟩
  | 52 => ⟨S1x1x512, .f32⟩
  | 53 => ⟨S1x16384x512, .f32⟩
  | 54 => ⟨S1x16384x512, .f32⟩
  | 55 => ⟨S1x16384x8x64, .f32⟩
  | 56 => ⟨S8x64x1x16384, .f32⟩
  | 57 => ⟨S1x16384x8x64, .f32⟩
  | 58 => ⟨S1x16384x512, .f32⟩
  | 59 => ⟨S1x1x512, .f32⟩
  | 60 => ⟨S1x16384x512, .f32⟩
  | 61 => ⟨S1x16384x512, .f32⟩
  | 62 => ⟨S1x16384x512, .f32⟩
  | 63 => ⟨S1x16384x512, .f32⟩
  | 64 => ⟨S_, .f32⟩
  | 65 => ⟨S1x16384x512, .f32⟩
  | 66 => ⟨S1x16384x512, .f32⟩
  | 67 => ⟨S_, .f32⟩
  | 68 => ⟨S1x16384x512, .f32⟩
  | 69 => ⟨S1x16384x512, .f32⟩
  | 70 => ⟨S8x64x1x16384, .f32⟩
  | 71 => ⟨S1x16384x8x64, .f32⟩
  | 72 => ⟨S1x16384x512, .f32⟩
  | 73 => ⟨S1x1x512, .f32⟩
  | 74 => ⟨S1x16384x512, .f32⟩
  | 75 => ⟨S1x16384x512, .f32⟩
  | 76 => ⟨S1x16384x512, .f32⟩
  | 77 => ⟨S1x16384x512, .f32⟩
  | 78 => ⟨S_, .f32⟩
  | 79 => ⟨S1x16384x512, .f32⟩
  | 80 => ⟨S1x16384x512, .f32⟩
  | 81 => ⟨S_, .f32⟩
  | 82 => ⟨S1x16384x512, .f32⟩
  | 83 => ⟨S1x16384x512, .f32⟩
  | 84 => ⟨S_, .f32⟩
  | 85 => ⟨S1x16384x512, .f32⟩
  | 86 => ⟨S1x16384x512, .f32⟩
  | 87 => ⟨S512, .f32⟩
  | 88 => ⟨S_, .f32⟩
  | 89 => ⟨S512, .f32⟩
  | 90 => ⟨S512, .f32⟩
  | 91 => ⟨S512, .f32⟩
  | 92 => ⟨S512, .f32⟩
  | 93 => ⟨S512, .i1⟩
  | 94 => ⟨S512, .f32⟩
  | 95 => ⟨S512, .f32⟩
  | 96 => ⟨S512, .f32⟩
  | 97 => ⟨S512, .f32⟩
  | 98 => ⟨S512, .f32⟩
  | 99 => ⟨S512, .f32⟩
  | 100 => ⟨S512, .f32⟩
  | 101 => ⟨S512, .f32⟩
  | 102 => ⟨S1x1x512, .f32⟩
  | 103 => ⟨S1x16384x512, .f32⟩
  | 104 => ⟨S1x16384x512, .f32⟩
  | 105 => ⟨S1x16384x512, .f32⟩
  | 106 => ⟨S_, .f32⟩
  | 107 => ⟨S1x16384x512, .f32⟩
  | 108 => ⟨S1x16384x512, .f32⟩
  | 109 => ⟨S1x16384x512, .f32⟩
  | 110 => ⟨S1x16384x512, .f32⟩
  | 111 => ⟨S1x16384x512, .f32⟩
  | 112 => ⟨S1x16384x512, .f32⟩
  | 113 => ⟨S1x16384x512, .f32⟩
  | 114 => ⟨S_, .f32⟩
  | 115 => ⟨S512, .f32⟩
  | 116 => ⟨S16384x512, .f32⟩
  | 117 => ⟨S16384x512, .f32⟩
  | 118 => ⟨S_, .f32⟩
  | 119 => ⟨S16384x512, .f32⟩
  | 120 => ⟨S_, .i32⟩
  | 121 => ⟨S16384x512, .f32⟩
  | 122 => ⟨S16384x512, .f32⟩
  | 123 => ⟨S_, .i32⟩
  | 124 => ⟨S512, .f32⟩
  | 125 => ⟨S16384x512, .f32⟩
  | 126 => ⟨S_, .i32⟩
  | 127 => ⟨S_, .i1⟩
  | _ => ⟨S1x16384x1024, .f32⟩

abbrev hbmTy0_1 (i : Nat) : BufTy := match i % 128 with
  | 0 => ⟨S_, .i32⟩
  | 1 => ⟨S1x512, .f32⟩
  | 2 => ⟨S512, .f32⟩
  | 3 => ⟨S_, .i32⟩
  | 4 => ⟨S1x512, .f32⟩
  | 5 => ⟨S512, .f32⟩
  | 6 => ⟨S512, .f32⟩
  | 7 => ⟨S512, .f32⟩
  | 8 => ⟨S1x512, .f32⟩
  | 9 => ⟨S_, .i32⟩
  | 10 => ⟨S16384x512, .f32⟩
  | 11 => ⟨S_, .i32⟩
  | 12 => ⟨S_, .i32⟩
  | 13 => ⟨S1x16384x512, .f32⟩
  | 14 => ⟨S1x16384x1024, .f32⟩
  | 15 => ⟨S_, .f32⟩
  | 16 => ⟨S1x16384, .f32⟩
  | 17 => ⟨S1x16384x1, .f32⟩
  | 18 => ⟨S_, .f32⟩
  | 19 => ⟨S1x16384x1, .f32⟩
  | 20 => ⟨S1x16384x1, .f32⟩
  | 21 => ⟨S_, .f32⟩
  | 22 => ⟨S1x16384x1, .f32⟩
  | 23 => ⟨S1x16384x1, .f32⟩
  | 24 => ⟨S1x16384x1, .f32⟩
  | 25 => ⟨S1x16384x1024, .f32⟩
  | 26 => ⟨S1x16384x1024, .f32⟩
  | 27 => ⟨S1x1x1024, .f32⟩
  | 28 => ⟨S1x16384x1024, .f32⟩
  | 29 => ⟨S1x16384x1024, .f32⟩
  | 30 => ⟨S1x16384x4888, .f32⟩
  | 31 => ⟨S1x16384x512, .f32⟩
  | 32 => ⟨S1x16384x768, .f32⟩
  | 33 => ⟨S1x16384x512, .f32⟩
  | 34 => ⟨S1x16384x24, .f32⟩
  | 35 => ⟨S1x16384x512, .f32⟩
  | 36 => ⟨S1x16384x512, .f32⟩
  | 37 => ⟨S1x16384x2048, .f32⟩
  | 38 => ⟨S1x512x16384, .f32⟩
  | 39 => ⟨S1x512x16384, .f32⟩
  | 40 => ⟨S1x512x16384, .f32⟩
  | 41 => ⟨S3x512x16384, .f32⟩
  | 42 => ⟨S3x8x64x16384, .f32⟩
  | 43 => ⟨S16384x3x8x64, .f32⟩
  | 44 => ⟨S1x16384x3x8x64, .f32⟩
  | 45 => ⟨S24x16384, .f32⟩
  | 46 => ⟨S16384x24, .f32⟩
  | 47 => ⟨S1x16384x3x8x1, .f32⟩
  | 48 => ⟨S1x16384x3x8x64, .f32⟩
  | 49 => ⟨S1x16384x3x8x64, .f32⟩
  | 50 => ⟨S_, .f32⟩
  | 51 => ⟨S1x16384x8x64, .f32⟩
  | 52 => ⟨S1x16384x512, .f32⟩
  | 53 => ⟨S1x16384x512, .f32⟩
  | 54 => ⟨S1x16384x512, .f32⟩
  | 55 => ⟨S_, .f32⟩
  | 56 => ⟨S1x16384x512, .f32⟩
  | 57 => ⟨S1x16384x512, .f32⟩
  | 58 => ⟨S_, .f32⟩
  | 59 => ⟨S1x16384x512, .f32⟩
  | 60 => ⟨S1x16384x512, .f32⟩
  | 61 => ⟨S1x16384x512, .f32⟩
  | 62 => ⟨S1x16384x512, .f32⟩
  | 63 => ⟨S1x16384x1024, .f32⟩
  | 64 => ⟨S1x16384x512, .f32⟩
  | 65 => ⟨S1x16384x512, .f32⟩
  | 66 => ⟨S_, .f32⟩
  | 67 => ⟨S1x16384x512, .f32⟩
  | 68 => ⟨S1x16384x512, .f32⟩
  | 69 => ⟨S_, .f32⟩
  | 70 => ⟨S1x16384x512, .f32⟩
  | 71 => ⟨S1x16384x512, .f32⟩
  | 72 => ⟨S1x16384x512, .f32⟩
  | 73 => ⟨S1x16384x512, .f32⟩
  | 74 => ⟨S1x16384x1024, .f32⟩
  | 75 => ⟨S1x16384x1024, .f32⟩
  | 76 => ⟨S1x16384x1024, .f32⟩
  | 77 => ⟨S1x16384x1024, .f32⟩
  | 78 => ⟨S1x16384x1024, .f32⟩
  | 79 => ⟨S_, .f32⟩
  | 80 => ⟨S1x16384x1024, .f32⟩
  | 81 => ⟨S1x16384x1024, .f32⟩
  | 82 => ⟨S_, .f32⟩
  | 83 => ⟨S1x16384x1024, .f32⟩
  | 84 => ⟨S1x16384x1024, .f32⟩
  | 85 => ⟨S1x16384x1024, .f32⟩
  | 86 => ⟨S1x16384x1024, .f32⟩
  | 87 => ⟨S1x16384x1024, .f32⟩
  | 88 => ⟨S_, .f32⟩
  | 89 => ⟨S1x16384x1024, .f32⟩
  | 90 => ⟨S1x16384x1024, .f32⟩
  | 91 => ⟨S_, .f32⟩
  | 92 => ⟨S1x16384x1024, .f32⟩
  | 93 => ⟨S1x16384x1024, .f32⟩
  | 94 => ⟨S1x16384x1024, .f32⟩
  | 95 => ⟨S1x16384x1024, .f32⟩
  | 96 => ⟨S1x16384x1024, .f32⟩
  | 97 => ⟨S1x16384x1024, .f32⟩
  | 98 => ⟨S16384x1024, .f32⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_call0_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_0 : Ref sig .tc := ⟨.hbm, 64, rfl⟩
abbrev main_v43 : Ref sig .tc := ⟨.hbm, 65, rfl⟩
abbrev main_v44 : Ref sig .tc := ⟨.hbm, 66, rfl⟩
abbrev main_cst_1 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_2 : Ref sig .tc := ⟨.hbm, 78, rfl⟩
abbrev main_v55 : Ref sig .tc := ⟨.hbm, 79, rfl⟩
abbrev main_v56 : Ref sig .tc := ⟨.hbm, 80, rfl⟩
abbrev main_cst_3 : Ref sig .tc := ⟨.hbm, 81, rfl⟩
abbrev main_v57 : Ref sig .tc := ⟨.hbm, 82, rfl⟩
abbrev main_v58 : Ref sig .tc := ⟨.hbm, 83, rfl⟩
abbrev main_cst_4 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_call1_cst : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_call1_v5 : Ref sig .tc := ⟨.hbm, 94, rfl⟩
abbrev main_call1_v6 : Ref sig .tc := ⟨.hbm, 95, rfl⟩
abbrev main_call1_v7 : Ref sig .tc := ⟨.hbm, 96, rfl⟩
abbrev main_call1_v8 : Ref sig .tc := ⟨.hbm, 97, rfl⟩
abbrev main_call1_v9 : Ref sig .tc := ⟨.hbm, 98, rfl⟩
abbrev main_call1_v10 : Ref sig .tc := ⟨.hbm, 99, rfl⟩
abbrev main_call1_v11 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_5 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_6 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_cst_7 : Ref sig .tc := ⟨.hbm, 118, rfl⟩
abbrev main_v77 : Ref sig .tc := ⟨.hbm, 119, rfl⟩
abbrev main_c_8 : Ref sig .tc := ⟨.hbm, 120, rfl⟩
abbrev main_v78_0 : Ref sig .tc := ⟨.hbm, 121, rfl⟩
abbrev main_v78_1 : Ref sig .tc := ⟨.hbm, 122, rfl⟩
abbrev main_v78_2 : Ref sig .tc := ⟨.hbm, 123, rfl⟩
abbrev main_v78_3 : Ref sig .tc := ⟨.hbm, 124, rfl⟩
abbrev main_v78_4 : Ref sig .tc := ⟨.hbm, 125, rfl⟩
abbrev main_while0c_c_21 : Ref sig .tc := ⟨.hbm, 126, rfl⟩
abbrev main_while0c_v141 : Ref sig .tc := ⟨.hbm, 127, rfl⟩
abbrev main_while0b_call2_c : Ref sig .tc := ⟨.hbm, 128, rfl⟩
abbrev main_while0b_call2_v0 : Ref sig .tc := ⟨.hbm, 129, rfl⟩
abbrev main_while0b_v141 : Ref sig .tc := ⟨.hbm, 130, rfl⟩
abbrev main_while0b_call3_c : Ref sig .tc := ⟨.hbm, 131, rfl⟩
abbrev main_while0b_call3_v0 : Ref sig .tc := ⟨.hbm, 132, rfl⟩
abbrev main_while0b_v142 : Ref sig .tc := ⟨.hbm, 133, rfl⟩
abbrev main_while0b_v143 : Ref sig .tc := ⟨.hbm, 134, rfl⟩
abbrev main_while0b_v144 : Ref sig .tc := ⟨.hbm, 135, rfl⟩
abbrev main_while0b_call4_v0 : Ref sig .tc := ⟨.hbm, 136, rfl⟩
abbrev main_while0b_call4_c : Ref sig .tc := ⟨.hbm, 137, rfl⟩
abbrev main_while0b_v145 : Ref sig .tc := ⟨.hbm, 138, rfl⟩
abbrev main_while0b_c_21 : Ref sig .tc := ⟨.hbm, 139, rfl⟩
abbrev main_while0b_v146 : Ref sig .tc := ⟨.hbm, 140, rfl⟩
abbrev main_v79 : Ref sig .tc := ⟨.hbm, 141, rfl⟩
abbrev main_v80 : Ref sig .tc := ⟨.hbm, 142, rfl⟩
abbrev main_cst_9 : Ref sig .tc := ⟨.hbm, 143, rfl⟩
abbrev main_v81 : Ref sig .tc := ⟨.hbm, 144, rfl⟩
abbrev main_v82 : Ref sig .tc := ⟨.hbm, 145, rfl⟩
abbrev main_cst_10 : Ref sig .tc := ⟨.hbm, 146, rfl⟩
abbrev main_v83 : Ref sig .tc := ⟨.hbm, 147, rfl⟩
abbrev main_v84 : Ref sig .tc := ⟨.hbm, 148, rfl⟩
abbrev main_cst_11 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_cst_12 : Ref sig .tc := ⟨.hbm, 178, rfl⟩
abbrev main_v113 : Ref sig .tc := ⟨.hbm, 179, rfl⟩
abbrev main_v114 : Ref sig .tc := ⟨.hbm, 180, rfl⟩
abbrev main_call5_v0 : Ref sig .tc := ⟨.hbm, 181, rfl⟩
abbrev main_call5_v1 : Ref sig .tc := ⟨.hbm, 182, rfl⟩
abbrev main_call5_cst : Ref sig .tc := ⟨.hbm, 183, rfl⟩
abbrev main_call5_v2 : Ref sig .tc := ⟨.hbm, 184, rfl⟩
abbrev main_call5_v3 : Ref sig .tc := ⟨.hbm, 185, rfl⟩
abbrev main_call5_cst_0 : Ref sig .tc := ⟨.hbm, 186, rfl⟩
abbrev main_call5_v4 : Ref sig .tc := ⟨.hbm, 187, rfl⟩
abbrev main_call5_v5 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_call6_v0 : Ref sig .tc := ⟨.hbm, 192, rfl⟩
abbrev main_call6_v1 : Ref sig .tc := ⟨.hbm, 193, rfl⟩
abbrev main_call6_cst : Ref sig .tc := ⟨.hbm, 194, rfl⟩
abbrev main_call6_v2 : Ref sig .tc := ⟨.hbm, 195, rfl⟩
abbrev main_call6_v3 : Ref sig .tc := ⟨.hbm, 196, rfl⟩
abbrev main_call6_cst_0 : Ref sig .tc := ⟨.hbm, 197, rfl⟩
abbrev main_call6_v4 : Ref sig .tc := ⟨.hbm, 198, rfl⟩
abbrev main_call6_v5 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_v124 : Ref sig .tc := ⟨.hbm, 206, rfl⟩
abbrev main_cst_13 : Ref sig .tc := ⟨.hbm, 207, rfl⟩
abbrev main_v125 : Ref sig .tc := ⟨.hbm, 208, rfl⟩
abbrev main_v126 : Ref sig .tc := ⟨.hbm, 209, rfl⟩
abbrev main_cst_14 : Ref sig .tc := ⟨.hbm, 210, rfl⟩
abbrev main_v127 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_v131 : Ref sig .tc := ⟨.hbm, 215, rfl⟩
abbrev main_cst_15 : Ref sig .tc := ⟨.hbm, 216, rfl⟩
abbrev main_v132 : Ref sig .tc := ⟨.hbm, 217, rfl⟩
abbrev main_v133 : Ref sig .tc := ⟨.hbm, 218, rfl⟩
abbrev main_cst_16 : Ref sig .tc := ⟨.hbm, 219, rfl⟩
abbrev main_v134 : Ref sig .tc := ⟨.hbm, 220, rfl⟩
abbrev main_v135 : Ref sig .tc := ⟨.hbm, 221, rfl⟩
abbrev main_v136 : Ref sig .tc := ⟨.hbm, 222, rfl⟩
abbrev main_v137 : Ref sig .tc := ⟨.hbm, 223, rfl⟩
abbrev main_v138 : Ref sig .tc := ⟨.hbm, 224, rfl⟩
abbrev main_v139 : Ref sig .tc := ⟨.hbm, 225, rfl⟩
abbrev main_v140 : Ref sig .tc := ⟨.hbm, 226, rfl⟩

abbrev nD : Nat := 1
abbrev τ : Topo := Topo.v7x

variable {F : FTy → Type} [FloatOps F]

abbrev main_while0_count : Scf.Loop 32 := ⟨0#32, 16384#32, 1#32⟩
-- ==== Kernel2.lean ====
abbrev S1x16384x1024 : Shape := ⟨3, ![1, 16384, 1024]⟩
abbrev S1024 : Shape := ⟨1, ![1024]⟩
abbrev S1024x4888 : Shape := ⟨2, ![1024, 4888]⟩
abbrev S64 : Shape := ⟨1, ![64]⟩
abbrev S3x64 : Shape := ⟨2, ![3, 64]⟩
abbrev S16384x1024 : Shape := ⟨2, ![16384, 1024]⟩
abbrev S_ : Shape := ⟨0, ![]⟩
abbrev S1024x104 : Shape := ⟨2, ![1024, 104]⟩
abbrev S1024x1280 : Shape := ⟨2, ![1024, 1280]⟩
abbrev S1024x24 : Shape := ⟨2, ![1024, 24]⟩
abbrev S1024x512 : Shape := ⟨2, ![1024, 512]⟩
abbrev S1024x1920 : Shape := ⟨2, ![1024, 1920]⟩
abbrev S1x64 : Shape := ⟨2, ![1, 64]⟩
abbrev S8x64 : Shape := ⟨2, ![8, 64]⟩
abbrev S512 : Shape := ⟨1, ![512]⟩
abbrev S512x1 : Shape := ⟨2, ![512, 1]⟩
abbrev S1x3x1x64 : Shape := ⟨4, ![1, 3, 1, 64]⟩
abbrev S1x3x2x64 : Shape := ⟨4, ![1, 3, 2, 64]⟩
abbrev S3x128 : Shape := ⟨2, ![3, 128]⟩
abbrev S1x1024 : Shape := ⟨2, ![1, 1024]⟩
abbrev S512x16384 : Shape := ⟨2, ![512, 16384]⟩
abbrev S32x16384 : Shape := ⟨2, ![32, 16384]⟩
abbrev S2x16384x256 : Shape := ⟨3, ![2, 16384, 256]⟩
abbrev S2x32x80x512 : Shape := ⟨4, ![2, 32, 80, 512]⟩
abbrev S2x128x80x128 : Shape := ⟨4, ![2, 128, 80, 128]⟩
abbrev S2x16384x128 : Shape := ⟨3, ![2, 16384, 128]⟩
abbrev S16384x512 : Shape := ⟨2, ![16384, 512]⟩
abbrev S512x1024 : Shape := ⟨2, ![512, 1024]⟩
abbrev S512x512 : Shape := ⟨2, ![512, 512]⟩
abbrev S32x512 : Shape := ⟨2, ![32, 512]⟩
abbrev S2x512x256 : Shape := ⟨3, ![2, 512, 256]⟩
abbrev S2x1x80x512 : Shape := ⟨4, ![2, 1, 80, 512]⟩
abbrev S2x4x80x128 : Shape := ⟨4, ![2, 4, 80, 128]⟩
abbrev S2x512x128 : Shape := ⟨3, ![2, 512, 128]⟩
abbrev S1024x768 : Shape := ⟨2, ![1024, 768]⟩
abbrev S512x768 : Shape := ⟨2, ![512, 768]⟩
abbrev S512x128 : Shape := ⟨2, ![512, 128]⟩
abbrev S1x512x128 : Shape := ⟨3, ![1, 512, 128]⟩
abbrev S1x128 : Shape := ⟨2, ![1, 128]⟩
abbrev S128x512 : Shape := ⟨2, ![128, 512]⟩
abbrev S16x512 : Shape := ⟨2, ![16, 512]⟩
abbrev S64x512 : Shape := ⟨2, ![64, 512]⟩
abbrev S80x512 : Shape := ⟨2, ![80, 512]⟩
abbrev S1x1x80x512 : Shape := ⟨4, ![1, 1, 80, 512]⟩
abbrev S80x128 : Shape := ⟨2, ![80, 128]⟩
abbrev S1x1x80x128 : Shape := ⟨4, ![1, 1, 80, 128]⟩
abbrev S1x512 : Shape := ⟨2, ![1, 512]⟩
abbrev S64x1 : Shape := ⟨2, ![64, 1]⟩
abbrev S1024x128 : Shape := ⟨2, ![1024, 128]⟩

abbrev nBuf : Space → Nat
  | .hbm => 34
  | .vmem => 26
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1024x4888, .f32⟩
  | .hbm, ⟨3, _⟩ => ⟨S64, .f32⟩
  | .hbm, ⟨4, _⟩ => ⟨S3x64, .f32⟩
  | .hbm, ⟨5, _⟩ => ⟨S16384x1024, .f32⟩
  | .hbm, ⟨6, _⟩ => ⟨S1024x4888, .bf16⟩
  | .hbm, ⟨7, _⟩ => ⟨S_, .bf16⟩
  | .hbm, ⟨8, _⟩ => ⟨S1024x104, .bf16⟩
  | .hbm, ⟨9, _⟩ => ⟨S1024x1280, .bf16⟩
  | .hbm, ⟨10, _⟩ => ⟨S1024x24, .bf16⟩
  | .hbm, ⟨11, _⟩ => ⟨S1024x512, .bf16⟩
  | .hbm, ⟨12, _⟩ => ⟨S1024x1920, .bf16⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S1x64, .f32⟩
  | .hbm, ⟨17, _⟩ => ⟨S8x64, .f32⟩
  | .hbm, ⟨18, _⟩ => ⟨S512, .f32⟩
  | .hbm, ⟨19, _⟩ => ⟨S512x1, .f32⟩
  | .hbm, ⟨20, _⟩ => ⟨S1x3x1x64, .f32⟩
  | .hbm, ⟨21, _⟩ => ⟨S1x3x2x64, .f32⟩
  | .hbm, ⟨22, _⟩ => ⟨S3x128, .f32⟩
  | .hbm, ⟨23, _⟩ => ⟨S1x1024, .f32⟩
  | .hbm, ⟨24, _⟩ => ⟨S512x16384, .bf16⟩
  | .hbm, ⟨25, _⟩ => ⟨S512x16384, .bf16⟩
  | .hbm, ⟨26, _⟩ => ⟨S32x16384, .f32⟩
  | .hbm, ⟨27, _⟩ => ⟨S2x16384x256, .bf16⟩
  | .hbm, ⟨28, _⟩ => ⟨S2x32x80x512, .bf16⟩
  | .hbm, ⟨29, _⟩ => ⟨S2x128x80x128, .bf16⟩
  | .hbm, ⟨30, _⟩ => ⟨S2x16384x128, .bf16⟩
  | .hbm, ⟨31, _⟩ => ⟨S2x128x80x128, .bf16⟩
  | .hbm, ⟨32, _⟩ => ⟨S2x16384x128, .f32⟩
  | .hbm, ⟨33, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1920, .bf16⟩
  | .local _ .vmem, ⟨4, _⟩ => ⟨S512x1, .f32⟩
  | .local _ .vmem, ⟨5, _⟩ => ⟨S3x128, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S32x512, .f32⟩
  | .local _ .vmem, ⟨11, _⟩ => ⟨S32x512, .f32⟩
  | .local _ .vmem, ⟨12, _⟩ => ⟨S2x512x256, .bf16⟩
  | .local _ .vmem, ⟨13, _⟩ => ⟨S2x512x256, .bf16⟩
  | .local _ .vmem, ⟨14, _⟩ => ⟨S2x1x80x512, .bf16⟩
  | .local _ .vmem, ⟨15, _⟩ => ⟨S2x1x80x512, .bf16⟩
  | .local _ .vmem, ⟨16, _⟩ => ⟨S2x4x80x128, .bf16⟩
  | .local _ .vmem, ⟨17, _⟩ => ⟨S2x4x80x128, .bf16⟩
  | .local _ .vmem, ⟨18, _⟩ => ⟨S2x512x128, .bf16⟩
  | .local _ .vmem, ⟨19, _⟩ => ⟨S2x512x128, .bf16⟩
  | .local _ .vmem, ⟨20, _⟩ => ⟨S2x4x80x128, .bf16⟩
  | .local _ .vmem, ⟨21, _⟩ => ⟨S2x4x80x128, .bf16⟩
  | .local _ .vmem, ⟨22, _⟩ => ⟨S2x512x128, .f32⟩
  | .local _ .vmem, ⟨23, _⟩ => ⟨S2x512x128, .f32⟩
  | .local _ .vmem, ⟨24, _⟩ => ⟨S512x512, .f32⟩
  | .local _ .vmem, ⟨25, _⟩ => ⟨S512x512, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev main_v17_2 : Ref sig .tc := ⟨.hbm, 26, rfl⟩
abbrev main_v17_3 : Ref sig .tc := ⟨.hbm, 27, rfl⟩
abbrev main_v17_4 : Ref sig .tc := ⟨.hbm, 28, rfl⟩
abbrev main_v17_5 : Ref sig .tc := ⟨.hbm, 29, rfl⟩
abbrev main_v17_6 : Ref sig .tc := ⟨.hbm, 30, rfl⟩
abbrev main_v17_7 : Ref sig .tc := ⟨.hbm, 31, rfl⟩
abbrev main_v17_8 : Ref sig .tc := ⟨.hbm, 32, rfl⟩
abbrev main_v17_9 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1920 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x1x80x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x4x80x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x4x80x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S1x16384x1024 : Shape := ⟨3, ![1, 16384, 1024]⟩
abbrev S1024 : Shape := ⟨1, ![1024]⟩
abbrev S1024x4888 : Shape := ⟨2, ![1024, 4888]⟩
abbrev S64 : Shape := ⟨1, ![64]⟩
abbrev S3x64 : Shape := ⟨2, ![3, 64]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1x16384x4888 : Shape := ⟨3, ![1, 16384, 4888]⟩
abbrev S1x16384x512 : Shape := ⟨3, ![1, 16384, 512]⟩
abbrev S1x16384x768 : Shape := ⟨3, ![1, 16384, 768]⟩
abbrev S1x16384x24 : Shape := ⟨3, ![1, 16384, 24]⟩
abbrev S1x16384x2048 : Shape := ⟨3, ![1, 16384, 2048]⟩
abbrev S1x16384x8x64 : Shape := ⟨4, ![1, 16384, 8, 64]⟩
abbrev S1x16384x8 : Shape := ⟨3, ![1, 16384, 8]⟩
abbrev S1x16384x8x1 : Shape := ⟨4, ![1, 16384, 8, 1]⟩
abbrev S1x1x1x64 : Shape := ⟨4, ![1, 1, 1, 64]⟩
abbrev S16384x512 : Shape := ⟨2, ![16384, 512]⟩
abbrev S512x16384 : Shape := ⟨2, ![512, 16384]⟩
abbrev S16384x24 : Shape := ⟨2, ![16384, 24]⟩
abbrev S16384x32 : Shape := ⟨2, ![16384, 32]⟩
abbrev S32x16384 : Shape := ⟨2, ![32, 16384]⟩
abbrev S16384x6x2x64 : Shape := ⟨4, ![16384, 6, 2, 64]⟩
abbrev S16384x1x2x64 : Shape := ⟨4, ![16384, 1, 2, 64]⟩
abbrev S16384x2x64 : Shape := ⟨3, ![16384, 2, 64]⟩
abbrev S1x64 : Shape := ⟨2, ![1, 64]⟩
abbrev S16384x2 : Shape := ⟨2, ![16384, 2]⟩
abbrev S16384x2x1 : Shape := ⟨3, ![16384, 2, 1]⟩
abbrev S1x1x64 : Shape := ⟨3, ![1, 1, 64]⟩
abbrev S2x16384x64 : Shape := ⟨3, ![2, 16384, 64]⟩
abbrev S128x128 : Shape := ⟨2, ![128, 128]⟩
abbrev S1x1x128x1x128 : Shape := ⟨5, ![1, 1, 128, 1, 128]⟩
abbrev S2x2x128x64x128 : Shape := ⟨5, ![2, 2, 128, 64, 128]⟩
abbrev S2x16384x128 : Shape := ⟨3, ![2, 16384, 128]⟩
abbrev S2x16384x2 : Shape := ⟨3, ![2, 16384, 2]⟩
abbrev S2x16384x62 : Shape := ⟨3, ![2, 16384, 62]⟩
abbrev S2x16384x256 : Shape := ⟨3, ![2, 16384, 256]⟩
abbrev S16384x6x128 : Shape := ⟨3, ![16384, 6, 128]⟩
abbrev S16384x1x128 : Shape := ⟨3, ![16384, 1, 128]⟩
abbrev S16384x128 : Shape := ⟨2, ![16384, 128]⟩
abbrev S1x16384x128 : Shape := ⟨3, ![1, 16384, 128]⟩
abbrev S2x64x16384 : Shape := ⟨3, ![2, 64, 16384]⟩
abbrev S2x1x16384 : Shape := ⟨3, ![2, 1, 16384]⟩
abbrev S2x15x16384 : Shape := ⟨3, ![2, 15, 16384]⟩
abbrev S2x80x16384 : Shape := ⟨3, ![2, 80, 16384]⟩
abbrev S2x80x32x512 : Shape := ⟨4, ![2, 80, 32, 512]⟩
abbrev S2x32x80x512 : Shape := ⟨4, ![2, 32, 80, 512]⟩
abbrev S2x80x128x128 : Shape := ⟨4, ![2, 80, 128, 128]⟩
abbrev S2x128x80x128 : Shape := ⟨4, ![2, 128, 80, 128]⟩

abbrev nBuf : Space → Nat
  | .hbm => 174
  | .vmem => 0
  | .smem => 0
  | _ => 0

abbrev hbmTy0_0 (i : Nat) : BufTy := match i % 128 with
  | 0 => ⟨S1x16384x1024, .f32⟩
  | 1 => ⟨S1024, .f32⟩
  | 2 => ⟨S1024x4888, .f32⟩
  | 3 => ⟨S64, .f32⟩
  | 4 => ⟨S3x64, .f32⟩
  | 5 => ⟨S1x16384x1024, .f32⟩
  | 6 => ⟨S_, .f32⟩
  | 7 => ⟨S1x16384, .f32⟩
  | 8 => ⟨S1x16384x1, .f32⟩
  | 9 => ⟨S_, .f32⟩
  | 10 => ⟨S1x16384x1, .f32⟩
  | 11 => ⟨S1x16384x1, .f32⟩
  | 12 => ⟨S_, .f32⟩
  | 13 => ⟨S1x16384x1, .f32⟩
  | 14 => ⟨S1x16384x1, .f32⟩
  | 15 => ⟨S1x16384x1, .f32⟩
  | 16 => ⟨S1x16384x1024, .f32⟩
  | 17 => ⟨S1x16384x1024, .f32⟩
  | 18 => ⟨S1x1x1024, .f32⟩
  | 19 => ⟨S1x16384x1024, .f32⟩
  | 20 => ⟨S1x16384x1024, .f32⟩
  | 21 => ⟨S1x16384x4888, .f32⟩
  | 22 => ⟨S1x16384x512, .f32⟩
  | 23 => ⟨S1x16384x768, .f32⟩
  | 24 => ⟨S1x16384x512, .f32⟩
  | 25 => ⟨S1x16384x24, .f32⟩
  | 26 => ⟨S1x16384x512, .f32⟩
  | 27 => ⟨S1x16384x512, .f32⟩
  | 28 => ⟨S1x16384x2048, .f32⟩
  | 29 => ⟨S1x16384x8x64, .f32⟩
  | 30 => ⟨S1x16384x8x64, .f32⟩
  | 31 => ⟨S_, .f32⟩
  | 32 => ⟨S1x16384x8, .f32⟩
  | 33 => ⟨S1x16384x8x1, .f32⟩
  | 34 => ⟨S_, .f32⟩
  | 35 => ⟨S1x16384x8x1, .f32⟩
  | 36 => ⟨S1x16384x8x1, .f32⟩
  | 37 => ⟨S_, .f32⟩
  | 38 => ⟨S1x16384x8x1, .f32⟩
  | 39 => ⟨S1x16384x8x1, .f32⟩
  | 40 => ⟨S1x16384x8x1, .f32⟩
  | 41 => ⟨S1x16384x8x64, .f32⟩
  | 42 => ⟨S1x16384x8x64, .f32⟩
  | 43 => ⟨S1x1x1x64, .f32⟩
  | 44 => ⟨S1x16384x8x64, .f32⟩
  | 45 => ⟨S1x16384x8x64, .f32⟩
  | 46 => ⟨S_, .f32⟩
  | 47 => ⟨S1x16384x8x64, .f32⟩
  | 48 => ⟨S1x16384x8x64, .f32⟩
  | 49 => ⟨S16384x512, .f32⟩
  | 50 => ⟨S512x16384, .f32⟩
  | 51 => ⟨S512x16384, .bf16⟩
  | 52 => ⟨S512x16384, .f32⟩
  | 53 => ⟨S512x16384, .f32⟩
  | 54 => ⟨S512x16384, .bf16⟩
  | 55 => ⟨S16384x24, .f32⟩
  | 56 => ⟨S_, .i32⟩
  | 57 => ⟨S_, .f32⟩
  | 58 => ⟨S16384x32, .f32⟩
  | 59 => ⟨S16384x32, .f32⟩
  | 60 => ⟨S16384x32, .f32⟩
  | 61 => ⟨S_, .f32⟩
  | 62 => ⟨S16384x32, .f32⟩
  | 63 => ⟨S16384x32, .f32⟩
  | 64 => ⟨S_, .f32⟩
  | 65 => ⟨S16384x32, .f32⟩
  | 66 => ⟨S16384x32, .f32⟩
  | 67 => ⟨S32x16384, .f32⟩
  | 68 => ⟨S16384x6x2x64, .f32⟩
  | 69 => ⟨S16384x1x2x64, .f32⟩
  | 70 => ⟨S16384x2x64, .f32⟩
  | 71 => ⟨S1x64, .f32⟩
  | 72 => ⟨S64, .f32⟩
  | 73 => ⟨S16384x2x64, .f32⟩
  | 74 => ⟨S_, .f32⟩
  | 75 => ⟨S16384x2, .f32⟩
  | 76 => ⟨S16384x2x1, .f32⟩
  | 77 => ⟨S_, .f32⟩
  | 78 => ⟨S16384x2x1, .f32⟩
  | 79 => ⟨S16384x2x1, .f32⟩
  | 80 => ⟨S_, .f32⟩
  | 81 => ⟨S16384x2x1, .f32⟩
  | 82 => ⟨S16384x2x1, .f32⟩
  | 83 => ⟨S16384x2x1, .f32⟩
  | 84 => ⟨S16384x2x64, .f32⟩
  | 85 => ⟨S16384x2x64, .f32⟩
  | 86 => ⟨S1x1x64, .f32⟩
  | 87 => ⟨S16384x2x64, .f32⟩
  | 88 => ⟨S16384x2x64, .f32⟩
  | 89 => ⟨S2x16384x64, .f32⟩
  | 90 => ⟨S128x128, .i32⟩
  | 91 => ⟨S128x128, .i32⟩
  | 92 => ⟨S_, .i32⟩
  | 93 => ⟨S128x128, .i32⟩
  | 94 => ⟨S128x128, .i32⟩
  | 95 => ⟨S128x128, .i1⟩
  | 96 => ⟨S128x128, .f32⟩
  | 97 => ⟨S1x1x128x1x128, .f32⟩
  | 98 => ⟨S2x2x128x64x128, .f32⟩
  | 99 => ⟨S2x16384x128, .f32⟩
  | 100 => ⟨S_, .f32⟩
  | 101 => ⟨S2x16384x2, .f32⟩
  | 102 => ⟨S_, .f32⟩
  | 103 => ⟨S2x16384x62, .f32⟩
  | 104 => ⟨S2x16384x256, .f32⟩
  | 105 => ⟨S2x16384x256, .bf16⟩
  | 106 => ⟨S16384x1x2x64, .f32⟩
  | 107 => ⟨S16384x2x64, .f32⟩
  | 108 => ⟨S1x64, .f32⟩
  | 109 => ⟨S64, .f32⟩
  | 110 => ⟨S16384x2x64, .f32⟩
  | 111 => ⟨S_, .f32⟩
  | 112 => ⟨S16384x2, .f32⟩
  | 113 => ⟨S16384x2x1, .f32⟩
  | 114 => ⟨S_, .f32⟩
  | 115 => ⟨S16384x2x1, .f32⟩
  | 116 => ⟨S16384x2x1, .f32⟩
  | 117 => ⟨S_, .f32⟩
  | 118 => ⟨S16384x2x1, .f32⟩
  | 119 => ⟨S16384x2x1, .f32⟩
  | 120 => ⟨S16384x2x1, .f32⟩
  | 121 => ⟨S16384x2x64, .f32⟩
  | 122 => ⟨S16384x2x64, .f32⟩
  | 123 => ⟨S1x1x64, .f32⟩
  | 124 => ⟨S16384x2x64, .f32⟩
  | 125 => ⟨S16384x2x64, .f32⟩
  | 126 => ⟨S2x16384x64, .f32⟩
  | 127 => ⟨S_, .f32⟩
  | _ => ⟨S1x16384x1024, .f32⟩

abbrev hbmTy0_1 (i : Nat) : BufTy := match i % 128 with
  | 0 => ⟨S2x16384x64, .f32⟩
  | 1 => ⟨S2x16384x128, .f32⟩
  | 2 => ⟨S2x16384x128, .bf16⟩
  | 3 => ⟨S16384x6x128, .f32⟩
  | 4 => ⟨S16384x1x128, .f32⟩
  | 5 => ⟨S16384x128, .f32⟩
  | 6 => ⟨S16384x6x128, .f32⟩
  | 7 => ⟨S16384x1x128, .f32⟩
  | 8 => ⟨S16384x128, .f32⟩
  | 9 => ⟨S1x16384x128, .f32⟩
  | 10 => ⟨S1x16384x128, .f32⟩
  | 11 => ⟨S2x16384x128, .f32⟩
  | 12 => ⟨S16384x1x2x64, .f32⟩
  | 13 => ⟨S16384x2x64, .f32⟩
  | 14 => ⟨S2x64x16384, .f32⟩
  | 15 => ⟨S_, .f32⟩
  | 16 => ⟨S2x1x16384, .f32⟩
  | 17 => ⟨S_, .f32⟩
  | 18 => ⟨S2x15x16384, .f32⟩
  | 19 => ⟨S2x80x16384, .f32⟩
  | 20 => ⟨S2x80x16384, .bf16⟩
  | 21 => ⟨S2x80x32x512, .bf16⟩
  | 22 => ⟨S2x32x80x512, .bf16⟩
  | 23 => ⟨S16384x1x2x64, .f32⟩
  | 24 => ⟨S16384x2x64, .f32⟩
  | 25 => ⟨S2x64x16384, .f32⟩
  | 26 => ⟨S_, .f32⟩
  | 27 => ⟨S2x1x16384, .f32⟩
  | 28 => ⟨S_, .f32⟩
  | 29 => ⟨S2x15x16384, .f32⟩
  | 30 => ⟨S2x80x16384, .f32⟩
  | 31 => ⟨S2x80x16384, .bf16⟩
  | 32 => ⟨S2x80x128x128, .bf16⟩
  | 33 => ⟨S2x128x80x128, .bf16⟩
  | 34 => ⟨S16384x1x2x64, .f32⟩
  | 35 => ⟨S16384x2x64, .f32⟩
  | 36 => ⟨S2x64x16384, .f32⟩
  | 37 => ⟨S_, .f32⟩
  | 38 => ⟨S2x1x16384, .f32⟩
  | 39 => ⟨S_, .f32⟩
  | 40 => ⟨S2x15x16384, .f32⟩
  | 41 => ⟨S2x80x16384, .f32⟩
  | 42 => ⟨S2x80x16384, .bf16⟩
  | 43 => ⟨S2x80x128x128, .bf16⟩
  | 44 => ⟨S2x128x80x128, .bf16⟩
  | 45 => ⟨S16384x512, .f32⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c : Ref sig .tc := ⟨.hbm, 56, rfl⟩
abbrev main_call0_v0 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_v48 : Ref sig .tc := ⟨.hbm, 63, rfl⟩
abbrev main_cst_7 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_8 : Ref sig .tc := ⟨.hbm, 74, rfl⟩
abbrev main_v58 : Ref sig .tc := ⟨.hbm, 75, rfl⟩
abbrev main_v59 : Ref sig .tc := ⟨.hbm, 76, rfl⟩
abbrev main_cst_9 : Ref sig .tc := ⟨.hbm, 77, rfl⟩
abbrev main_v60 : Ref sig .tc := ⟨.hbm, 78, rfl⟩
abbrev main_v61 : Ref sig .tc := ⟨.hbm, 79, rfl⟩
abbrev main_cst_10 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_c_11 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_12 : Ref sig .tc := ⟨.hbm, 100, rfl⟩
abbrev main_v80 : Ref sig .tc := ⟨.hbm, 101, rfl⟩
abbrev main_cst_13 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_14 : Ref sig .tc := ⟨.hbm, 111, rfl⟩
abbrev main_v89 : Ref sig .tc := ⟨.hbm, 112, rfl⟩
abbrev main_v90 : Ref sig .tc := ⟨.hbm, 113, rfl⟩
abbrev main_cst_15 : Ref sig .tc := ⟨.hbm, 114, rfl⟩
abbrev main_v91 : Ref sig .tc := ⟨.hbm, 115, rfl⟩
abbrev main_v92 : Ref sig .tc := ⟨.hbm, 116, rfl⟩
abbrev main_cst_16 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_cst_17 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_cst_18 : Ref sig .tc := ⟨.hbm, 143, rfl⟩
abbrev main_v117 : Ref sig .tc := ⟨.hbm, 144, rfl⟩
abbrev main_cst_19 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_cst_20 : Ref sig .tc := ⟨.hbm, 154, rfl⟩
abbrev main_v126 : Ref sig .tc := ⟨.hbm, 155, rfl⟩
abbrev main_cst_21 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_cst_22 : Ref sig .tc := ⟨.hbm, 165, rfl⟩
abbrev main_v135 : Ref sig .tc := ⟨.hbm, 166, rfl⟩
abbrev main_cst_23 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩

abbrev nD : Nat := 1
abbrev τ : Topo := Topo.v7x

variable {F : FTy → Type} [FloatOps F]
-- ==== Kernel3.lean ====
abbrev S2x16384x128 : Shape := ⟨3, ![2, 16384, 128]⟩
abbrev S3x64 : Shape := ⟨2, ![3, 64]⟩
abbrev S2x32x64 : Shape := ⟨3, ![2, 32, 64]⟩
abbrev S2x2048x256 : Shape := ⟨3, ![2, 2048, 256]⟩
abbrev S2x256 : Shape := ⟨2, ![2, 256]⟩
abbrev S2x256x64 : Shape := ⟨3, ![2, 256, 64]⟩
abbrev S_ : Shape := ⟨0, ![]⟩
abbrev S2x256x128 : Shape := ⟨3, ![2, 256, 128]⟩
abbrev S1x64 : Shape := ⟨2, ![1, 64]⟩
abbrev S64 : Shape := ⟨1, ![64]⟩
abbrev S128 : Shape := ⟨1, ![128]⟩
abbrev S1x128 : Shape := ⟨2, ![1, 128]⟩
abbrev S2x1x256 : Shape := ⟨3, ![2, 1, 256]⟩
abbrev S2x1x2048 : Shape := ⟨3, ![2, 1, 2048]⟩
abbrev S2x1024x256 : Shape := ⟨3, ![2, 1024, 256]⟩
abbrev S2x128x1024 : Shape := ⟨3, ![2, 128, 1024]⟩
abbrev S1024x128 : Shape := ⟨2, ![1024, 128]⟩
abbrev S1x1024x128 : Shape := ⟨3, ![1, 1024, 128]⟩
abbrev S1024x1024 : Shape := ⟨2, ![1024, 1024]⟩
abbrev S1x2048x256 : Shape := ⟨3, ![1, 2048, 256]⟩
abbrev S2048x256 : Shape := ⟨2, ![2048, 256]⟩
abbrev S1024x256 : Shape := ⟨2, ![1024, 256]⟩
abbrev S1x1x2048 : Shape := ⟨3, ![1, 1, 2048]⟩
abbrev S1x2048 : Shape := ⟨2, ![1, 2048]⟩
abbrev S8x2048 : Shape := ⟨2, ![8, 2048]⟩
abbrev S8x256 : Shape := ⟨2, ![8, 256]⟩
abbrev S1x256 : Shape := ⟨2, ![1, 256]⟩
abbrev S1x1x256 : Shape := ⟨3, ![1, 1, 256]⟩
abbrev S1x256x128 : Shape := ⟨3, ![1, 256, 128]⟩
abbrev S256x128 : Shape := ⟨2, ![256, 128]⟩
abbrev S1024 : Shape := ⟨1, ![1024]⟩
abbrev S1024x1 : Shape := ⟨2, ![1024, 1]⟩
abbrev S128x1024 : Shape := ⟨2, ![128, 1024]⟩
abbrev S1x128x1024 : Shape := ⟨3, ![1, 128, 1024]⟩

abbrev nBuf : Space → Nat
  | .hbm => 19
  | .vmem => 8
  | .smem => 0
  | _ => 0

abbrev bufTy : (tb : Table) → Fin (tcTables nBuf tb) → BufTy
  | .hbm, ⟨0, _⟩ => ⟨S2x16384x128, .f32⟩
  | .hbm, ⟨1, _⟩ => ⟨S3x64, .f32⟩
  | .hbm, ⟨2, _⟩ => ⟨S2x32x64, .f32⟩
  | .hbm, ⟨3, _⟩ => ⟨S2x2048x256, .f32⟩
  | .hbm, ⟨4, _⟩ => ⟨S2x256, .f32⟩
  | .hbm, ⟨5, _⟩ => ⟨S2x256x64, .f32⟩
  | .hbm, ⟨6, _⟩ => ⟨S_, .i32⟩
  | .hbm, ⟨7, _⟩ => ⟨S_, .f32⟩
  | .hbm, ⟨8, _⟩ => ⟨S2x256x128, .f32⟩
  | .hbm, ⟨9, _⟩ => ⟨S1x64, .f32⟩
  | .hbm, ⟨10, _⟩ => ⟨S64, .f32⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S2x1x256, .f32⟩
  | .hbm, ⟨16, _⟩ => ⟨S2x1x2048, .f32⟩
  | .hbm, ⟨17, _⟩ => ⟨S2x1024x256, .bf16⟩
  | .hbm, ⟨18, _⟩ => ⟨S2x128x1024, .bf16⟩
  | .local _ .vmem, ⟨0, _⟩ => ⟨S2x16384x128, .f32⟩
  | .local _ .vmem, ⟨1, _⟩ => ⟨S2x2048x256, .f32⟩
  | .local _ .vmem, ⟨2, _⟩ => ⟨S2x1x256, .f32⟩
  | .local _ .vmem, ⟨3, _⟩ => ⟨S2x256x128, .f32⟩
  | .local _ .vmem, ⟨4, _⟩ => ⟨S2x1x2048, .f32⟩
  | .local _ .vmem, ⟨5, _⟩ => ⟨S1x128, .f32⟩
  | .local _ .vmem, ⟨6, _⟩ => ⟨S2x1024x256, .bf16⟩
  | .local _ .vmem, ⟨7, _⟩ => ⟨S2x128x1024, .bf16⟩
  | _, _ => ⟨S2x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S2x16384x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference3Ideal.lean ====
abbrev S2x16384x128 : Shape := ⟨3, ![2, 16384, 128]⟩
abbrev S3x64 : Shape := ⟨2, ![3, 64]⟩
abbrev S2x32x64 : Shape := ⟨3, ![2, 32, 64]⟩
abbrev S2x2048x256 : Shape := ⟨3, ![2, 2048, 256]⟩
abbrev S2x256 : Shape := ⟨2, ![2, 256]⟩
abbrev S2x256x64 : Shape := ⟨3, ![2, 256, 64]⟩
abbrev S2x16384x2x64 : Shape := ⟨4, ![2, 16384, 2, 64]⟩
abbrev S1x16384x2x64 : Shape := ⟨4, ![1, 16384, 2, 64]⟩
abbrev S16384x2x64 : Shape := ⟨3, ![16384, 2, 64]⟩
abbrev S1x32x64 : Shape := ⟨3, ![1, 32, 64]⟩
abbrev S32x64 : Shape := ⟨2, ![32, 64]⟩
abbrev S1x2048x256 : Shape := ⟨3, ![1, 2048, 256]⟩
abbrev S2048x256 : Shape := ⟨2, ![2048, 256]⟩
abbrev S1x256 : Shape := ⟨2, ![1, 256]⟩
abbrev S256 : Shape := ⟨1, ![256]⟩
abbrev S1x256x64 : Shape := ⟨3, ![1, 256, 64]⟩
abbrev S256x64 : Shape := ⟨2, ![256, 64]⟩
abbrev S1024x16x2x64 : Shape := ⟨4, ![1024, 16, 2, 64]⟩
abbrev S1023x16x2x64 : Shape := ⟨4, ![1023, 16, 2, 64]⟩
abbrev S1x16x2x64 : Shape := ⟨4, ![1, 16, 2, 64]⟩
abbrev S1024x32x2x64 : Shape := ⟨4, ![1024, 32, 2, 64]⟩
abbrev S1x32x1x64 : Shape := ⟨4, ![1, 32, 1, 64]⟩
abbrev S1024x2x32x64 : Shape := ⟨4, ![1024, 2, 32, 64]⟩
abbrev S1024x2x2048 : Shape := ⟨3, ![1024, 2, 2048]⟩
abbrev S1024x2x256 : Shape := ⟨3, ![1024, 2, 256]⟩
abbrev S1x1x256 : Shape := ⟨3, ![1, 1, 256]⟩
abbrev S_ : Shape := ⟨0, ![]⟩
abbrev S1024x2x64 : Shape := ⟨3, ![1024, 2, 64]⟩
abbrev S1x64 : Shape := ⟨2, ![1, 64]⟩
abbrev S64 : Shape := ⟨1, ![64]⟩
abbrev S1024x2 : Shape := ⟨2, ![1024, 2]⟩
abbrev S1024x2x1 : Shape := ⟨3, ![1024, 2, 1]⟩
abbrev S1x1x64 : Shape := ⟨3, ![1, 1, 64]⟩
abbrev S2x1024x64 : Shape := ⟨3, ![2, 1024, 64]⟩
abbrev S2x64x1024 : Shape := ⟨3, ![2, 64, 1024]⟩
abbrev S2x1024x2 : Shape := ⟨3, ![2, 1024, 2]⟩
abbrev S2x1024x62 : Shape := ⟨3, ![2, 1024, 62]⟩
abbrev S2x1024x256 : Shape := ⟨3, ![2, 1024, 256]⟩
abbrev S2x1x1024 : Shape := ⟨3, ![2, 1, 1024]⟩
abbrev S2x63x1024 : Shape := ⟨3, ![2, 63, 1024]⟩
abbrev S2x128x1024 : Shape := ⟨3, ![2, 128, 1024]⟩

abbrev nBuf : Space → Nat
  | .hbm => 110
  | .vmem => 0
  | .smem => 0
  | _ => 0

abbrev bufTy : (tb : Table) → Fin (tcTables nBuf tb) → BufTy
  | .hbm, ⟨0, _⟩ => ⟨S2x16384x128, .f32⟩
  | .hbm, ⟨1, _⟩ => ⟨S3x64, .f32⟩
  | .hbm, ⟨2, _⟩ => ⟨S2x32x64, .f32⟩
  | .hbm, ⟨3, _⟩ => ⟨S2x2048x256, .f32⟩
  | .hbm, ⟨4, _⟩ => ⟨S2x256, .f32⟩
  | .hbm, ⟨5, _⟩ => ⟨S2x256x64, .f32⟩
  | .hbm, ⟨6, _⟩ => ⟨S2x16384x2x64, .f32⟩
  | .hbm, ⟨7, _⟩ => ⟨S1x16384x2x64, .f32⟩
  | .hbm, ⟨8, _⟩ => ⟨S16384x2x64, .f32⟩
  | .hbm, ⟨9, _⟩ => ⟨S1x32x64, .f32⟩
  | .hbm, ⟨10, _⟩ => ⟨S32x64, .f32⟩
  | .hbm, ⟨11, _⟩ => ⟨S1x2048x256, .f32⟩
  | .hbm, ⟨12, _⟩ => ⟨S2048x256, .f32⟩
  | .hbm, ⟨13, _⟩ => ⟨S1x256, .f32⟩
  | .hbm, ⟨14, _⟩ => ⟨S256, .f32⟩
  | .hbm, ⟨15, _⟩ => ⟨S1x256x64, .f32⟩
  | .hbm, ⟨16, _⟩ => ⟨S256x64, .f32⟩
  | .hbm, ⟨17, _⟩ => ⟨S1024x16x2x64, .f32⟩
  | .hbm, ⟨18, _⟩ => ⟨S1023x16x2x64, .f32⟩
  | .hbm, ⟨19, _⟩ => ⟨S1x16x2x64, .f32⟩
  | .hbm, ⟨20, _⟩ => ⟨S1024x16x2x64, .f32⟩
  | .hbm, ⟨21, _⟩ => ⟨S1024x32x2x64, .f32⟩
  | .hbm, ⟨22, _⟩ => ⟨S1x32x1x64, .f32⟩
  | .hbm, ⟨23, _⟩ => ⟨S1024x32x2x64, .f32⟩
  | .hbm, ⟨24, _⟩ => ⟨S1024x32x2x64, .f32⟩
  | .hbm, ⟨25, _⟩ => ⟨S1024x2x32x64, .f32⟩
  | .hbm, ⟨26, _⟩ => ⟨S1024x2x2048, .f32⟩
  | .hbm, ⟨27, _⟩ => ⟨S1024x2x256, .f32⟩
  | .hbm, ⟨28, _⟩ => ⟨S1x1x256, .f32⟩
  | .hbm, ⟨29, _⟩ => ⟨S1024x2x256, .f32⟩
  | .hbm, ⟨30, _⟩ => ⟨S1024x2x256, .f32⟩
  | .hbm, ⟨31, _⟩ => ⟨S1024x2x256, .f32⟩
  | .hbm, ⟨32, _⟩ => ⟨S1024x2x256, .f32⟩
  | .hbm, ⟨33, _⟩ => ⟨S_, .f32⟩
  | .hbm, ⟨34, _⟩ => ⟨S1024x2x256, .f32⟩
  | .hbm, ⟨35, _⟩ => ⟨S1024x2x256, .f32⟩
  | .hbm, ⟨36, _⟩ => ⟨S_, .f32⟩
  | .hbm, ⟨37, _⟩ => ⟨S1024x2x256, .f32⟩
  | .hbm, ⟨38, _⟩ => ⟨S1024x2x256, .f32⟩
  | .hbm, ⟨39, _⟩ => ⟨S1024x2x256, .f32⟩
  | .hbm, ⟨40, _⟩ => ⟨S1024x2x64, .f32⟩
  | .hbm, ⟨41, _⟩ => ⟨S1x64, .f32⟩
  | .hbm, ⟨42, _⟩ => ⟨S64, .f32⟩
  | .hbm, ⟨43, _⟩ => ⟨S1024x2x64, .f32⟩
  | .hbm, ⟨44, _⟩ => ⟨S_, .f32⟩
  | .hbm, ⟨45, _⟩ => ⟨S1024x2, .f32⟩
  | .hbm, ⟨46, _⟩ => ⟨S1024x2x1, .f32⟩
  | .hbm, ⟨47, _⟩ => ⟨S_, .f32⟩
  | .hbm, ⟨48, _⟩ => ⟨S1024x2x1, .f32⟩
  | .hbm, ⟨49, _⟩ => ⟨S1024x2x1, .f32⟩
  | .hbm, ⟨50, _⟩ => ⟨S_, .f32⟩
  | .hbm, ⟨51, _⟩ => ⟨S1024x2x1, .f32⟩
  | .hbm, ⟨52, _⟩ => ⟨S1024x2x1, .f32⟩
  | .hbm, ⟨53, _⟩ => ⟨S1024x2x1, .f32⟩
  | .hbm, ⟨54, _⟩ => ⟨S1024x2x64, .f32⟩
  | .hbm, ⟨55, _⟩ => ⟨S1024x2x64, .f32⟩
  | .hbm, ⟨56, _⟩ => ⟨S1x1x64, .f32⟩
  | .hbm, ⟨57, _⟩ => ⟨S1024x2x64, .f32⟩
  | .hbm, ⟨58, _⟩ => ⟨S1024x2x64, .f32⟩
  | .hbm, ⟨59, _⟩ => ⟨S2x1024x64, .f32⟩
  | .hbm, ⟨60, _⟩ => ⟨S1x16384x2x64, .f32⟩
  | .hbm, ⟨61, _⟩ => ⟨S16384x2x64, .f32⟩
  | .hbm, ⟨62, _⟩ => ⟨S1x32x64, .f32⟩
  | .hbm, ⟨63, _⟩ => ⟨S32x64, .f32⟩
  | .hbm, ⟨64, _⟩ => ⟨S1x2048x256, .f32⟩
  | .hbm, ⟨65, _⟩ => ⟨S2048x256, .f32⟩
  | .hbm, ⟨66, _⟩ => ⟨S1x256, .f32⟩
  | .hbm, ⟨67, _⟩ => ⟨S256, .f32⟩
  | .hbm, ⟨68, _⟩ => ⟨S1x256x64, .f32⟩
  | .hbm, ⟨69, _⟩ => ⟨S256x64, .f32⟩
  | .hbm, ⟨70, _⟩ => ⟨S1024x16x2x64, .f32⟩
  | .hbm, ⟨71, _⟩ => ⟨S1023x16x2x64, .f32⟩
  | .hbm, ⟨72, _⟩ => ⟨S1x16x2x64, .f32⟩
  | .hbm, ⟨73, _⟩ => ⟨S1024x16x2x64, .f32⟩
  | .hbm, ⟨74, _⟩ => ⟨S1024x32x2x64, .f32⟩
  | .hbm, ⟨75, _⟩ => ⟨S1x32x1x64, .f32⟩
  | .hbm, ⟨76, _⟩ => ⟨S1024x32x2x64, .f32⟩
  | .hbm, ⟨77, _⟩ => ⟨S1024x32x2x64, .f32⟩
  | .hbm, ⟨78, _⟩ => ⟨S1024x2x32x64, .f32⟩
  | .hbm, ⟨79, _⟩ => ⟨S1024x2x2048, .f32⟩
  | .hbm, ⟨80, _⟩ => ⟨S1024x2x256, .f32⟩
  | .hbm, ⟨81, _⟩ => ⟨S1x1x256, .f32⟩
  | .hbm, ⟨82, _⟩ => ⟨S1024x2x256, .f32⟩
  | .hbm, ⟨83, _⟩ => ⟨S1024x2x256, .f32⟩
  | .hbm, ⟨84, _⟩ => ⟨S1024x2x256, .f32⟩
  | .hbm, ⟨85, _⟩ => ⟨S1024x2x256, .f32⟩
  | .hbm, ⟨86, _⟩ => ⟨S_, .f32⟩
  | .hbm, ⟨87, _⟩ => ⟨S1024x2x256, .f32⟩
  | .hbm, ⟨88, _⟩ => ⟨S1024x2x256, .f32⟩
  | .hbm, ⟨89, _⟩ => ⟨S_, .f32⟩
  | .hbm, ⟨90, _⟩ => ⟨S1024x2x256, .f32⟩
  | .hbm, ⟨91, _⟩ => ⟨S1024x2x256, .f32⟩
  | .hbm, ⟨92, _⟩ => ⟨S1024x2x256, .f32⟩
  | .hbm, ⟨93, _⟩ => ⟨S1024x2x64, .f32⟩
  | .hbm, ⟨94, _⟩ => ⟨S2x64x1024, .f32⟩
  | .hbm, ⟨95, _⟩ => ⟨S2x1024x64, .bf16⟩
  | .hbm, ⟨96, _⟩ => ⟨S2x1024x64, .f32⟩
  | .hbm, ⟨97, _⟩ => ⟨S2x1024x64, .f32⟩
  | .hbm, ⟨98, _⟩ => ⟨S_, .f32⟩
  | .hbm, ⟨99, _⟩ => ⟨S2x1024x2, .f32⟩
  | .hbm, ⟨100, _⟩ => ⟨S_, .f32⟩
  | .hbm, ⟨101, _⟩ => ⟨S2x1024x62, .f32⟩
  | .hbm, ⟨102, _⟩ => ⟨S2x1024x256, .f32⟩
  | .hbm, ⟨103, _⟩ => ⟨S2x1024x256, .bf16⟩
  | .hbm, ⟨104, _⟩ => ⟨S_, .f32⟩
  | .hbm, ⟨105, _⟩ => ⟨S2x1x1024, .f32⟩
  | .hbm, ⟨106, _⟩ => ⟨S_, .f32⟩
  | .hbm, ⟨107, _⟩ => ⟨S2x63x1024, .f32⟩
  | .hbm, ⟨108, _⟩ => ⟨S2x128x1024, .f32⟩
  | .hbm, ⟨109, _⟩ => ⟨S2x128x1024, .bf16⟩
  | _, _ => ⟨S2x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst : Ref sig .tc := ⟨.hbm, 44, rfl⟩
abbrev main_v30 : Ref sig .tc := ⟨.hbm, 45, rfl⟩
abbrev main_v31 : Ref sig .tc := ⟨.hbm, 46, rfl⟩
abbrev main_cst_0 : Ref sig .tc := ⟨.hbm, 47, rfl⟩
abbrev main_v32 : Ref sig .tc := ⟨.hbm, 48, rfl⟩
abbrev main_v33 : Ref sig .tc := ⟨.hbm, 49, rfl⟩
abbrev main_cst_1 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_call1_v0 : Ref sig .tc := ⟨.hbm, 84, rfl⟩
abbrev main_call1_v1 : Ref sig .tc := ⟨.hbm, 85, rfl⟩
abbrev main_call1_cst : Ref sig .tc := ⟨.hbm, 86, rfl⟩
abbrev main_call1_v2 : Ref sig .tc := ⟨.hbm, 87, rfl⟩
abbrev main_call1_v3 : Ref sig .tc := ⟨.hbm, 88, rfl⟩
abbrev main_call1_cst_0 : Ref sig .tc := ⟨.hbm, 89, rfl⟩
abbrev main_call1_v4 : Ref sig .tc := ⟨.hbm, 90, rfl⟩
abbrev main_call1_v5 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_2 : Ref sig .tc := ⟨.hbm, 98, rfl⟩
abbrev main_v73 : Ref sig .tc := ⟨.hbm, 99, rfl⟩
abbrev main_cst_3 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_4 : Ref sig .tc := ⟨.hbm, 104, rfl⟩
abbrev main_v77 : Ref sig .tc := ⟨.hbm, 105, rfl⟩
abbrev main_cst_5 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩

abbrev nD : Nat := 1
abbrev τ : Topo := Topo.v7x

variable {F : FTy → Type} [FloatOps F]
-- ==== Kernel4.lean ====
abbrev S512x16384 : Shape := ⟨2, ![512, 16384]⟩
abbrev S2x256x16384 : Shape := ⟨3, ![2, 256, 16384]⟩
abbrev S2x16384x256 : Shape := ⟨3, ![2, 16384, 256]⟩
abbrev S2x32x80x512 : Shape := ⟨4, ![2, 32, 80, 512]⟩
abbrev S2x128x80x128 : Shape := ⟨4, ![2, 128, 80, 128]⟩
abbrev S8x384x128 : Shape := ⟨3, ![8, 384, 128]⟩
abbrev S2x64x512 : Shape := ⟨3, ![2, 64, 512]⟩
abbrev S2x16384x128 : Shape := ⟨3, ![2, 16384, 128]⟩
abbrev S8x1152x128 : Shape := ⟨3, ![8, 1152, 128]⟩
abbrev S256x128 : Shape := ⟨2, ![256, 128]⟩
abbrev S1x256x128 : Shape := ⟨3, ![1, 256, 128]⟩
abbrev S1x16384x256 : Shape := ⟨3, ![1, 16384, 256]⟩
abbrev S1x32x80x512 : Shape := ⟨4, ![1, 32, 80, 512]⟩
abbrev S1x128x80x128 : Shape := ⟨4, ![1, 128, 80, 128]⟩
abbrev S4x384x128 : Shape := ⟨3, ![4, 384, 128]⟩
abbrev S1x64x512 : Shape := ⟨3, ![1, 64, 512]⟩
abbrev S1x16384x128 : Shape := ⟨3, ![1, 16384, 128]⟩
abbrev S4x1152x128 : Shape := ⟨3, ![4, 1152, 128]⟩
abbrev S2x256x512 : Shape := ⟨3, ![2, 256, 512]⟩
abbrev S1x512 : Shape := ⟨2, ![1, 512]⟩
abbrev S80x512 : Shape := ⟨2, ![80, 512]⟩
abbrev S512x512 : Shape := ⟨2, ![512, 512]⟩
abbrev S64x128 : Shape := ⟨2, ![64, 128]⟩
abbrev S64x512 : Shape := ⟨2, ![64, 512]⟩
abbrev S128x512 : Shape := ⟨2, ![128, 512]⟩
abbrev S1x640x128 : Shape := ⟨3, ![1, 640, 128]⟩
abbrev S640x128 : Shape := ⟨2, ![640, 128]⟩
abbrev S640x512 : Shape := ⟨2, ![640, 512]⟩
abbrev S128x128 : Shape := ⟨2, ![128, 128]⟩
abbrev S1x128x128 : Shape := ⟨3, ![1, 128, 128]⟩
abbrev S256x512 : Shape := ⟨2, ![256, 512]⟩
abbrev S1x256x512 : Shape := ⟨3, ![1, 256, 512]⟩
abbrev S1x256x256 : Shape := ⟨3, ![1, 256, 256]⟩
abbrev S256x256 : Shape := ⟨2, ![256, 256]⟩
abbrev S1x1x80x128 : Shape := ⟨4, ![1, 1, 80, 128]⟩
abbrev S80x128 : Shape := ⟨2, ![80, 128]⟩
abbrev S80x256 : Shape := ⟨2, ![80, 256]⟩
abbrev S1x512x256 : Shape := ⟨3, ![1, 512, 256]⟩
abbrev S512x256 : Shape := ⟨2, ![512, 256]⟩
abbrev S512 : Shape := ⟨1, ![512]⟩
abbrev S80x640 : Shape := ⟨2, ![80, 640]⟩
abbrev S1x1x80x512 : Shape := ⟨4, ![1, 1, 80, 512]⟩

abbrev nBuf : Space → Nat
  | .hbm => 12
  | .vmem => 29
  | .smem => 0
  | _ => 0

abbrev bufTy : (tb : Table) → Fin (tcTables nBuf tb) → BufTy
  | .hbm, ⟨0, _⟩ => ⟨S512x16384, .bf16⟩
  | .hbm, ⟨1, _⟩ => ⟨S2x256x16384, .bf16⟩
  | .hbm, ⟨2, _⟩ => ⟨S2x16384x256, .bf16⟩
  | .hbm, ⟨3, _⟩ => ⟨S2x32x80x512, .bf16⟩
  | .hbm, ⟨4, _⟩ => ⟨S2x128x80x128, .bf16⟩
  | .hbm, ⟨5, _⟩ => ⟨S8x384x128, .f32⟩
  | .hbm, ⟨6, _⟩ => ⟨S2x64x512, .bf16⟩
  | .hbm, ⟨7, _⟩ => ⟨S2x16384x128, .bf16⟩
  | .hbm, ⟨8, _⟩ => ⟨S2x128x80x128, .bf16⟩
  | .hbm, ⟨9, _⟩ => ⟨S8x1152x128, .f32⟩
  | .hbm, ⟨10, _⟩ => ⟨S512x16384, .f32⟩
  | .hbm, ⟨11, _⟩ => ⟨S512x16384, .f32⟩
  | .local _ .vmem, ⟨0, _⟩ => ⟨S256x128, .bf16⟩
  | .local _ .vmem, ⟨1, _⟩ => ⟨S256x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x16384x256, .bf16⟩
  | .local _ .vmem, ⟨5, _⟩ => ⟨S1x16384x256, .bf16⟩
  | .local _ .vmem, ⟨6, _⟩ => ⟨S1x32x80x512, .bf16⟩
  | .local _ .vmem, ⟨7, _⟩ => ⟨S1x128x80x128, .bf16⟩
  | .local _ .vmem, ⟨8, _⟩ => ⟨S4x384x128, .f32⟩
  | .local _ .vmem, ⟨9, _⟩ => ⟨S4x384x128, .f32⟩
  | .local _ .vmem, ⟨10, _⟩ => ⟨S1x64x512, .bf16⟩
  | .local _ .vmem, ⟨11, _⟩ => ⟨S1x64x512, .bf16⟩
  | .local _ .vmem, ⟨12, _⟩ => ⟨S1x16384x128, .bf16⟩
  | .local _ .vmem, ⟨13, _⟩ => ⟨S1x128x80x128, .bf16⟩
  | .local _ .vmem, ⟨14, _⟩ => ⟨S4x1152x128, .f32⟩
  | .local _ .vmem, ⟨15, _⟩ => ⟨S4x1152x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S2x256x512, .bf16⟩
  | .local _ .vmem, ⟨21, _⟩ => ⟨S1x512, .f32⟩
  | .local _ .vmem, ⟨22, _⟩ => ⟨S80x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | _, _ => ⟨S512x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![2, 128], ![false, false]⟩

def k0_mult1 (i : grid0.Coords) : BitVec 32 :=
  let arg1 : BitVec 32 := BitVec.ofNat 32 (i 1).val
  let c4_i32 : BitVec 32 := 4#32
  let v9 : BitVec 32 := Scalar.subi arg1 c4_i32
  let c0_i32 : BitVec 32 := 0#32
  let v10 : BitVec 32 := Scalar.maxsi v9 c0_i32
  let c128_i32 : BitVec 32 := 128#32
  let v11 : BitVec 32 := Scalar.muli v10 c128_i32
  v11
def k0_mult2 (i : grid0.Coords) : BitVec 32 :=
  let c512_i32 : BitVec 32 := 512#32
  let arg1 : BitVec 32 := BitVec.ofNat 32 (i 1).val
  let c128_i32_4 : BitVec 32 := 128#32
  let v13 : BitVec 32 := Scalar.muli arg1 c128_i32_4
  let v14 : BitVec 32 := Scalar.subi c512_i32 v13
  let c0_i32_5 : BitVec 32 := 0#32
  let v15 : BitVec 32 := Scalar.maxsi v14 c0_i32_5
  v15
def k0_off1 (i : grid0.Coords) : Fin 3 → Nat :=
  let c0_6 : Index := 0#32
  let arg1 : BitVec 32 := BitVec.ofNat 32 (i 1).val
  let c4_i32 : BitVec 32 := 4#32
  let v9 : BitVec 32 := Scalar.subi arg1 c4_i32
  let c0_i32 : BitVec 32 := 0#32
  let v10 : BitVec 32 := Scalar.maxsi v9 c0_i32
  let c128_i32 : BitVec 32 := 128#32
  let v11 : BitVec 32 := Scalar.muli v10 c128_i32
  let v12 : BitVec 32 := v11
  let v19 : Index := Scalar.indexCast v12
  let c0_7 : Index := 0#32
  ![0, v19.toNat, 0]
def k0_off2 (i : grid0.Coords) : Fin 3 → Nat :=
  let c0_9 : Index := 0#32
  let c512_i32 : BitVec 32 := 512#32
  let arg1 : BitVec 32 := BitVec.ofNat 32 (i 1).val
  let c128_i32_4 : BitVec 32 := 128#32
  let v13 : BitVec 32 := Scalar.muli arg1 c128_i32_4
  let v14 : BitVec 32 := Scalar.subi c512_i32 v13
  let c0_i32_5 : BitVec 32 := 0#32
  let v15 : BitVec 32 := Scalar.maxsi v14 c0_i32_5
  let v16 : BitVec 32 := v15
  let v23 : Index := Scalar.indexCast v16
  let c0_10 : Index := 0#32
  ![0, v23.toNat, 0]
def k0_off3 (i : grid0.Coords) : Fin 3 → Nat :=
  let c1 : Index := 1#32
  let c512_i32 : BitVec 32 := 512#32
  let arg1 : BitVec 32 := BitVec.ofNat 32 (i 1).val
  let c128_i32_4 : BitVec 32 := 128#32
  let v13 : BitVec 32 := Scalar.muli arg1 c128_i32_4
  let v14 : BitVec 32 := Scalar.subi c512_i32 v13
  let c0_i32_5 : BitVec 32 := 0#32
  let v15 : BitVec 32 := Scalar.maxsi v14 c0_i32_5
  let v16 : BitVec 32 := v15
  let v26 : Index := Scalar.indexCast v16
  let c0_11 : Index := 0#32
  ![1, v26.toNat, 0]
def k0_off4 (i : grid0.Coords) : Fin 3 → Nat :=
  let c2 : Index := 2#32
  let c512_i32 : BitVec 32 := 512#32
  let arg1 : BitVec 32 := BitVec.ofNat 32 (i 1).val
  let c128_i32_4 : BitVec 32 := 128#32
  let v13 : BitVec 32 := Scalar.muli arg1 c128_i32_4
  let v14 : BitVec 32 := Scalar.subi c512_i32 v13
  let c0_i32_5 : BitVec 32 := 0#32
  let v15 : BitVec 32 := Scalar.maxsi v14 c0_i32_5
  let v16 : BitVec 32 := v15
  let v29 : Index := Scalar.indexCast v16
  let c0_12 : Index := 0#32
  ![2, v29.toNat, 0]
def k0_off5 (i : grid0.Coords) : Fin 3 → Nat :=
  let c3 : Index := 3#32
  let c512_i32 : BitVec 32 := 512#32
  let arg1 : BitVec 32 := BitVec.ofNat 32 (i 1).val
  let c128_i32_4 : BitVec 32 := 128#32
  let v13 : BitVec 32 := Scalar.muli arg1 c128_i32_4
  let v14 : BitVec 32 := Scalar.subi c512_i32 v13
  let c0_i32_5 : BitVec 32 := 0#32
  let v15 : BitVec 32 := Scalar.maxsi v14 c0_i32_5
  let v16 : BitVec 32 := v15
  let v32 : Index := Scalar.indexCast v16
  let c0_13 : Index := 0#32
  ![3, v32.toNat, 0]
def k0_mult3 (i : grid0.Coords) : BitVec 32 :=
  let arg1 : BitVec 32 := BitVec.ofNat 32 (i 1).val
  let c1_i32_49 : BitVec 32 := 1#32
  let v102 : BitVec 32 := Scalar.subi arg1 c1_i32_49
  let c0_i32_50 : BitVec 32 := 0#32
  let v103 : BitVec 32 := Scalar.maxsi v102 c0_i32_50
  let c128_i32_51 : BitVec 32 := 128#32
  let v104 : BitVec 32 := Scalar.muli v103 c128_i32_51
  v104
def k0_mult4 (i : grid0.Coords) : BitVec 32 :=
  let arg1 : BitVec 32 := BitVec.ofNat 32 (i 1).val
  let c0_i32_52 : BitVec 32 := 0#32
  let v106 : BitVec 1 := Scalar.cmpi .eq arg1 c0_i32_52
  let c128_i32_53 : BitVec 32 := 128#32
  let c0_i32_54 : BitVec 32 := 0#32
  let v107 : BitVec 32 := Scalar.select v106 c128_i32_53 c0_i32_54
  v107
def k0_mult5 (i : grid0.Coords) : BitVec 32 :=
  let c2_i32_55 : BitVec 32 := 2#32
  let arg1 : BitVec 32 := BitVec.ofNat 32 (i 1).val
  let c1_i32_49 : BitVec 32 := 1#32
  let v102 : BitVec 32 := Scalar.subi arg1 c1_i32_49
  let c0_i32_50 : BitVec 32 := 0#32
  let v103 : BitVec 32 := Scalar.maxsi v102 c0_i32_50
  let v109 : BitVec 32 := Scalar.muli c2_i32_55 v103
  let c0_i32_57 : BitVec 32 := 0#32
  let v111 : BitVec 1 := Scalar.cmpi .sgt v109 c0_i32_57
  let v112 : BitVec 32 := Scalar.extui v111
  let c0_i32_58 : BitVec 32 := 0#32
  let v113 : BitVec 1 := Scalar.cmpi .slt v109 c0_i32_58
  let v114 : BitVec 32 := Scalar.extui v113
  let v115 : BitVec 32 := Scalar.subi v112 v114
  let c128_i32_56 : BitVec 32 := 128#32
  let c0_i32_59 : BitVec 32 := 0#32
  let v116 : BitVec 1 := Scalar.cmpi .sgt c128_i32_56 c0_i32_59
  let v117 : BitVec 32 := Scalar.extui v116
  let c0_i32_60 : BitVec 32 := 0#32
  let v118 : BitVec 1 := Scalar.cmpi .slt c128_i32_56 c0_i32_60
  let v119 : BitVec 32 := Scalar.extui v118
  let v120 : BitVec 32 := Scalar.subi v117 v119
  let v121 : BitVec 1 := Scalar.cmpi .ne v115 v120
  let v122 : BitVec 32 := Scalar.remsi v109 c128_i32_56
  let c0_i32_61 : BitVec 32 := 0#32
  let v123 : BitVec 1 := Scalar.cmpi .ne v122 c0_i32_61
  let v124 : BitVec 1 := Scalar.andi v121 v123
  let v110 : BitVec 32 := Scalar.divsi v109 c128_i32_56
  let c1_i32_62 : BitVec 32 := 1#32
  let v125 : BitVec 32 := Scalar.subi v110 c1_i32_62
  let v126 : BitVec 32 := Scalar.select v124 v125 v110
  let c128_i32_63 : BitVec 32 := 128#32
  let v127 : BitVec 32 := Scalar.muli v126 c128_i32_63
  v127
def k0_mult6 (i : grid0.Coords) : BitVec 32 :=
  let c2_i32_55 : BitVec 32 := 2#32
  let arg1 : BitVec 32 := BitVec.ofNat 32 (i 1).val
  let c1_i32_49 : BitVec 32 := 1#32
  let v102 : BitVec 32 := Scalar.subi arg1 c1_i32_49
  let c0_i32_50 : BitVec 32 := 0#32
  let v103 : BitVec 32 := Scalar.maxsi v102 c0_i32_50
  let v109 : BitVec 32 := Scalar.muli c2_i32_55 v103
  let c3_i32 : BitVec 32 := 3#32
  let v129 : BitVec 32 := Scalar.addi v109 c3_i32
  let c0_i32_65 : BitVec 32 := 0#32
  let v131 : BitVec 1 := Scalar.cmpi .sgt v129 c0_i32_65
  let v132 : BitVec 32 := Scalar.extui v131
  let c0_i32_66 : BitVec 32 := 0#32
  let v133 : BitVec 1 := Scalar.cmpi .slt v129 c0_i32_66
  let v134 : BitVec 32 := Scalar.extui v133
  let v135 : BitVec 32 := Scalar.subi v132 v134
  let c128_i32_64 : BitVec 32 := 128#32
  let c0_i32_67 : BitVec 32 := 0#32
  let v136 : BitVec 1 := Scalar.cmpi .sgt c128_i32_64 c0_i32_67
  let v137 : BitVec 32 := Scalar.extui v136
  let c0_i32_68 : BitVec 32 := 0#32
  let v138 : BitVec 1 := Scalar.cmpi .slt c128_i32_64 c0_i32_68
  let v139 : BitVec 32 := Scalar.extui v138
  let v140 : BitVec 32 := Scalar.subi v137 v139
  let v141 : BitVec 1 := Scalar.cmpi .ne v135 v140
  let v142 : BitVec 32 := Scalar.remsi v129 c128_i32_64
  let c0_i32_69 : BitVec 32 := 0#32
  let v143 : BitVec 1 := Scalar.cmpi .ne v142 c0_i32_69
  let v144 : BitVec 1 := Scalar.andi v141 v143
  let v130 : BitVec 32 := Scalar.divsi v129 c128_i32_64
  let c1_i32_70 : BitVec 32 := 1#32
  let v145 : BitVec 32 := Scalar.subi v130 c1_i32_70
  let v146 : BitVec 32 := Scalar.select v144 v145 v130
  let c128_i32_71 : BitVec 32 := 128#32
  let v147 : BitVec 32 := Scalar.muli v146 c128_i32_71
  v147
def k0_off6 (i : grid0.Coords) : Fin 3 → Nat :=
  let c0_72 : Index := 0#32
  let c2_i32_55 : BitVec 32 := 2#32
  let arg1 : BitVec 32 := BitVec.ofNat 32 (i 1).val
  let c1_i32_49 : BitVec 32 := 1#32
  let v102 : BitVec 32 := Scalar.subi arg1 c1_i32_49
  let c0_i32_50 : BitVec 32 := 0#32
  let v103 : BitVec 32 := Scalar.maxsi v102 c0_i32_50
  let v109 : BitVec 32 := Scalar.muli c2_i32_55 v103
  let c0_i32_57 : BitVec 32 := 0#32
  let v111 : BitVec 1 := Scalar.cmpi .sgt v109 c0_i32_57
  let v112 : BitVec 32 := Scalar.extui v111
  let c0_i32_58 : BitVec 32 := 0#32
  let v113 : BitVec 1 := Scalar.cmpi .slt v109 c0_i32_58
  let v114 : BitVec 32 := Scalar.extui v113
  let v115 : BitVec 32 := Scalar.subi v112 v114
  let c128_i32_56 : BitVec 32 := 128#32
  let c0_i32_59 : BitVec 32 := 0#32
  let v116 : BitVec 1 := Scalar.cmpi .sgt c128_i32_56 c0_i32_59
  let v117 : BitVec 32 := Scalar.extui v116
  let c0_i32_60 : BitVec 32 := 0#32
  let v118 : BitVec 1 := Scalar.cmpi .slt c128_i32_56 c0_i32_60
  let v119 : BitVec 32 := Scalar.extui v118
  let v120 : BitVec 32 := Scalar.subi v117 v119
  let v121 : BitVec 1 := Scalar.cmpi .ne v115 v120
  let v122 : BitVec 32 := Scalar.remsi v109 c128_i32_56
  let c0_i32_61 : BitVec 32 := 0#32
  let v123 : BitVec 1 := Scalar.cmpi .ne v122 c0_i32_61
  let v124 : BitVec 1 := Scalar.andi v121 v123
  let v110 : BitVec 32 := Scalar.divsi v109 c128_i32_56
  let c1_i32_62 : BitVec 32 := 1#32
  let v125 : BitVec 32 := Scalar.subi v110 c1_i32_62
  let v126 : BitVec 32 := Scalar.select v124 v125 v110
  let c128_i32_63 : BitVec 32 := 128#32
  let v127 : BitVec 32 := Scalar.muli v126 c128_i32_63
  let v128 : BitVec 32 := v127
  let v149 : Index := Scalar.indexCast v128
  let c0_73 : Index := 0#32
  ![0, v149.toNat, 0]
def k0_off7 (i : grid0.Coords) : Fin 3 → Nat :=
  let c0_74 : Index := 0#32
  let c2_i32_55 : BitVec 32 := 2#32
  let arg1 : BitVec 32 := BitVec.ofNat 32 (i 1).val
  let c1_i32_49 : BitVec 32 := 1#32
  let v102 : BitVec 32 := Scalar.subi arg1 c1_i32_49
  let c0_i32_50 : BitVec 32 := 0#32
  let v103 : BitVec 32 := Scalar.maxsi v102 c0_i32_50
  let v109 : BitVec 32 := Scalar.muli c2_i32_55 v103
  let c3_i32 : BitVec 32 := 3#32
  let v129 : BitVec 32 := Scalar.addi v109 c3_i32
  let c0_i32_65 : BitVec 32 := 0#32
  let v131 : BitVec 1 := Scalar.cmpi .sgt v129 c0_i32_65
  let v132 : BitVec 32 := Scalar.extui v131
  let c0_i32_66 : BitVec 32 := 0#32
  let v133 : BitVec 1 := Scalar.cmpi .slt v129 c0_i32_66
  let v134 : BitVec 32 := Scalar.extui v133
  let v135 : BitVec 32 := Scalar.subi v132 v134
  let c128_i32_64 : BitVec 32 := 128#32
  let c0_i32_67 : BitVec 32 := 0#32
  let v136 : BitVec 1 := Scalar.cmpi .sgt c128_i32_64 c0_i32_67
  let v137 : BitVec 32 := Scalar.extui v136
  let c0_i32_68 : BitVec 32 := 0#32
  let v138 : BitVec 1 := Scalar.cmpi .slt c128_i32_64 c0_i32_68
  let v139 : BitVec 32 := Scalar.extui v138
  let v140 : BitVec 32 := Scalar.subi v137 v139
  let v141 : BitVec 1 := Scalar.cmpi .ne v135 v140
  let v142 : BitVec 32 := Scalar.remsi v129 c128_i32_64
  let c0_i32_69 : BitVec 32 := 0#32
  let v143 : BitVec 1 := Scalar.cmpi .ne v142 c0_i32_69
  let v144 : BitVec 1 := Scalar.andi v141 v143
  let v130 : BitVec 32 := Scalar.divsi v129 c128_i32_64
  let c1_i32_70 : BitVec 32 := 1#32
  let v145 : BitVec 32 := Scalar.subi v130 c1_i32_70
  let v146 : BitVec 32 := Scalar.select v144 v145 v130
  let c128_i32_71 : BitVec 32 := 128#32
  let v147 : BitVec 32 := Scalar.muli v146 c128_i32_71
  let v148 : BitVec 32 := v147
  let v153 : Index := Scalar.indexCast v148
  let c0_75 : Index := 0#32
  ![0, v153.toNat, 0]
def k0_off8 (i : grid0.Coords) : Fin 3 → Nat :=
  let c0_76 : Index := 0#32
  let arg1 : BitVec 32 := BitVec.ofNat 32 (i 1).val
  let c1_i32_49 : BitVec 32 := 1#32
  let v102 : BitVec 32 := Scalar.subi arg1 c1_i32_49
  let c0_i32_50 : BitVec 32 := 0#32
  let v103 : BitVec 32 := Scalar.maxsi v102 c0_i32_50
  let c128_i32_51 : BitVec 32 := 128#32
  let v104 : BitVec 32 := Scalar.muli v103 c128_i32_51
  let v105 : BitVec 32 := v104
  let v160 : Index := Scalar.indexCast v105
  let c0_77 : Index := 0#32
  ![0, v160.toNat, 0]
def k0_off9 (i : grid0.Coords) : Fin 3 → Nat :=
  let c0_79 : Index := 0#32
  let arg1 : BitVec 32 := BitVec.ofNat 32 (i 1).val
  let c0_i32_52 : BitVec 32 := 0#32
  let v106 : BitVec 1 := Scalar.cmpi .eq arg1 c0_i32_52
  let c128_i32_53 : BitVec 32 := 128#32
  let c0_i32_54 : BitVec 32 := 0#32
  let v107 : BitVec 32 := Scalar.select v106 c128_i32_53 c0_i32_54
  let v108 : BitVec 32 := v107
  let v167 : Index := Scalar.indexCast v108
  let c0_80 : Index := 0#32
  ![0, v167.toNat, 0]
def k0_off10 (i : grid0.Coords) : Fin 3 → Nat :=
  let c1_81 : Index := 1#32
  let arg1 : BitVec 32 := BitVec.ofNat 32 (i 1).val
  let c0_i32_52 : BitVec 32 := 0#32
  let v106 : BitVec 1 := Scalar.cmpi .eq arg1 c0_i32_52
  let c128_i32_53 : BitVec 32 := 128#32
  let c0_i32_54 : BitVec 32 := 0#32
  let v107 : BitVec 32 := Scalar.select v106 c128_i32_53 c0_i32_54
  let v108 : BitVec 32 := v107
  let v170 : Index := Scalar.indexCast v108
  let c0_82 : Index := 0#32
  ![1, v170.toNat, 0]
def k0_off11 (i : grid0.Coords) : Fin 3 → Nat :=
  let c2_83 : Index := 2#32
  let arg1 : BitVec 32 := BitVec.ofNat 32 (i 1).val
  let c0_i32_52 : BitVec 32 := 0#32
  let v106 : BitVec 1 := Scalar.cmpi .eq arg1 c0_i32_52
  let c128_i32_53 : BitVec 32 := 128#32
  let c0_i32_54 : BitVec 32 := 0#32
  let v107 : BitVec 32 := Scalar.select v106 c128_i32_53 c0_i32_54
  let v108 : BitVec 32 := v107
  let v173 : Index := Scalar.indexCast v108
  let c0_84 : Index := 0#32
  ![2, v173.toNat, 0]
def k0_off12 (i : grid0.Coords) : Fin 3 → Nat :=
  let c3_85 : Index := 3#32
  let arg1 : BitVec 32 := BitVec.ofNat 32 (i 1).val
  let c0_i32_52 : BitVec 32 := 0#32
  let v106 : BitVec 1 := Scalar.cmpi .eq arg1 c0_i32_52
  let c128_i32_53 : BitVec 32 := 128#32
  let c0_i32_54 : BitVec 32 := 0#32
  let v107 : BitVec 32 := Scalar.select v106 c128_i32_53 c0_i32_54
  let v108 : BitVec 32 := v107
  let v176 : Index := Scalar.indexCast v108
  let c0_86 : Index := 0#32
  ![3, v176.toNat, 0]
def k0_off13 (i : grid0.Coords) : Fin 4 → Nat :=
  let c0_87 : Index := 0#32
  let arg1 : BitVec 32 := BitVec.ofNat 32 (i 1).val
  let c1_i32_49 : BitVec 32 := 1#32
  let v102 : BitVec 32 := Scalar.subi arg1 c1_i32_49
  let c0_i32_50 : BitVec 32 := 0#32
  let v103 : BitVec 32 := Scalar.maxsi v102 c0_i32_50
  let v181 : Index := Scalar.indexCast v103
  let c0_88 : Index := 0#32
  let c0_89 : Index := 0#32
  ![0, v181.toNat, 0, 0]
def k0_off14 (i : grid0.Coords) (c1_i32_49 : BitVec 32) (c1_i32_90 : BitVec 32) : Fin 4 → Nat :=
  let c0_91 : Index := 0#32
  let arg1 : BitVec 32 := BitVec.ofNat 32 (i 1).val
  let v102 : BitVec 32 := Scalar.subi arg1 c1_i32_49
  let c0_i32_50 : BitVec 32 := 0#32
  let v103 : BitVec 32 := Scalar.maxsi v102 c0_i32_50
  let v184 : BitVec 32 := Scalar.addi v103 c1_i32_90
  let v185 : Index := Scalar.indexCast v184
  let c0_92 : Index := 0#32
  let c0_93 : Index := 0#32
  ![0, v185.toNat, 0, 0]
def k0_off14_at (r : Fin 6) : BitVec 32 × BitVec 32 :=
  if r.val < 3 then
    if r.val < 1 then
      (1#32, 1#32)
    else
      if r.val < 2 then
        (4#32, 0#32)
      else
        (4#32, 1#32)
  else
    if r.val < 4 then
      (4#32, 2#32)
    else
      if r.val < 5 then
        (4#32, 3#32)
      else
        (4#32, 4#32)
def k0_mult7 : BitVec 32 :=
  let c0_i32_96 : BitVec 32 := 0#32
  c0_i32_96
def k0_mult8 (i : grid0.Coords) : BitVec 32 :=
  let c1_i32_108 : BitVec 32 := 1#32
  let arg1 : BitVec 32 := BitVec.ofNat 32 (i 1).val
  let c1_i32 : BitVec 32 := 1#32
  let v80 : BitVec 32 := Scalar.subi arg1 c1_i32
  let c0_i32_38 : BitVec 32 := 0#32
  let v81 : BitVec 32 := Scalar.maxsi v80 c0_i32_38
  let c128_i32_39 : BitVec 32 := 128#32
  let v82 : BitVec 32 := Scalar.muli v81 c128_i32_39
  let c512_i32_40 : BitVec 32 := 512#32
  let v83 : BitVec 32 := Scalar.addi v82 c512_i32_40
  let c1_i32_41 : BitVec 32 := 1#32
  let v84 : BitVec 32 := Scalar.subi v83 c1_i32_41
  let c0_i32_43 : BitVec 32 := 0#32
  let v86 : BitVec 1 := Scalar.cmpi .sgt v84 c0_i32_43
  let v87 : BitVec 32 := Scalar.extui v86
  let c0_i32_44 : BitVec 32 := 0#32
  let v88 : BitVec 1 := Scalar.cmpi .slt v84 c0_i32_44
  let v89 : BitVec 32 := Scalar.extui v88
  let v90 : BitVec 32 := Scalar.subi v87 v89
  let c512_i32_42 : BitVec 32 := 512#32
  let c0_i32_45 : BitVec 32 := 0#32
  let v91 : BitVec 1 := Scalar.cmpi .sgt c512_i32_42 c0_i32_45
  let v92 : BitVec 32 := Scalar.extui v91
  let c0_i32_46 : BitVec 32 := 0#32
  let v93 : BitVec 1 := Scalar.cmpi .slt c512_i32_42 c0_i32_46
  let v94 : BitVec 32 := Scalar.extui v93
  let v95 : BitVec 32 := Scalar.subi v92 v94
  let v96 : BitVec 1 := Scalar.cmpi .ne v90 v95
  let v97 : BitVec 32 := Scalar.remsi v84 c512_i32_42
  let c0_i32_47 : BitVec 32 := 0#32
  let v98 : BitVec 1 := Scalar.cmpi .ne v97 c0_i32_47
  let v99 : BitVec 1 := Scalar.andi v96 v98
  let v85 : BitVec 32 := Scalar.divsi v84 c512_i32_42
  let c1_i32_48 : BitVec 32 := 1#32
  let v100 : BitVec 32 := Scalar.subi v85 c1_i32_48
  let v101 : BitVec 32 := Scalar.select v99 v100 v85
  let c1_i32_94 : BitVec 32 := 1#32
  let v189 : BitVec 32 := Scalar.subi v101 c1_i32_94
  let c0_i32_95 : BitVec 32 := 0#32
  let v190 : BitVec 32 := Scalar.maxsi v189 c0_i32_95
  let v206 : BitVec 32 := Scalar.minsi c1_i32_108 v190
  let c512_i32_109 : BitVec 32 := 512#32
  let v207 : BitVec 32 := Scalar.muli v206 c512_i32_109
  v207
def k0_off15 (i : grid0.Coords) : Fin 3 → Nat :=
  let c0_110 : Index := 0#32
  let c1_i32_108 : BitVec 32 := 1#32
  let arg1 : BitVec 32 := BitVec.ofNat 32 (i 1).val
  let c1_i32 : BitVec 32 := 1#32
  let v80 : BitVec 32 := Scalar.subi arg1 c1_i32
  let c0_i32_38 : BitVec 32 := 0#32
  let v81 : BitVec 32 := Scalar.maxsi v80 c0_i32_38
  let c128_i32_39 : BitVec 32 := 128#32
  let v82 : BitVec 32 := Scalar.muli v81 c128_i32_39
  let c512_i32_40 : BitVec 32 := 512#32
  let v83 : BitVec 32 := Scalar.addi v82 c512_i32_40
  let c1_i32_41 : BitVec 32 := 1#32
  let v84 : BitVec 32 := Scalar.subi v83 c1_i32_41
  let c0_i32_43 : BitVec 32 := 0#32
  let v86 : BitVec 1 := Scalar.cmpi .sgt v84 c0_i32_43
  let v87 : BitVec 32 := Scalar.extui v86
  let c0_i32_44 : BitVec 32 := 0#32
  let v88 : BitVec 1 := Scalar.cmpi .slt v84 c0_i32_44
  let v89 : BitVec 32 := Scalar.extui v88
  let v90 : BitVec 32 := Scalar.subi v87 v89
  let c512_i32_42 : BitVec 32 := 512#32
  let c0_i32_45 : BitVec 32 := 0#32
  let v91 : BitVec 1 := Scalar.cmpi .sgt c512_i32_42 c0_i32_45
  let v92 : BitVec 32 := Scalar.extui v91
  let c0_i32_46 : BitVec 32 := 0#32
  let v93 : BitVec 1 := Scalar.cmpi .slt c512_i32_42 c0_i32_46
  let v94 : BitVec 32 := Scalar.extui v93
  let v95 : BitVec 32 := Scalar.subi v92 v94
  let v96 : BitVec 1 := Scalar.cmpi .ne v90 v95
  let v97 : BitVec 32 := Scalar.remsi v84 c512_i32_42
  let c0_i32_47 : BitVec 32 := 0#32
  let v98 : BitVec 1 := Scalar.cmpi .ne v97 c0_i32_47
  let v99 : BitVec 1 := Scalar.andi v96 v98
  let v85 : BitVec 32 := Scalar.divsi v84 c512_i32_42
  let c1_i32_48 : BitVec 32 := 1#32
  let v100 : BitVec 32 := Scalar.subi v85 c1_i32_48
  let v101 : BitVec 32 := Scalar.select v99 v100 v85
  let c1_i32_94 : BitVec 32 := 1#32
  let v189 : BitVec 32 := Scalar.subi v101 c1_i32_94
  let c0_i32_95 : BitVec 32 := 0#32
  let v190 : BitVec 32 := Scalar.maxsi v189 c0_i32_95
  let v206 : BitVec 32 := Scalar.minsi c1_i32_108 v190
  let c512_i32_109 : BitVec 32 := 512#32
  let v207 : BitVec 32 := Scalar.muli v206 c512_i32_109
  let v208 : BitVec 32 := v207
  let v209 : Index := Scalar.indexCast v208
  let c0_111 : Index := 0#32
  ![0, v209.toNat, 0]
def k0_off16 (i : grid0.Coords) : Fin 3 → Nat :=
  let c1_i32_108 : BitVec 32 := 1#32
  let arg1 : BitVec 32 := BitVec.ofNat 32 (i 1).val
  let c1_i32 : BitVec 32 := 1#32
  let v80 : BitVec 32 := Scalar.subi arg1 c1_i32
  let c0_i32_38 : BitVec 32 := 0#32
  let v81 : BitVec 32 := Scalar.maxsi v80 c0_i32_38
  let c128_i32_39 : BitVec 32 := 128#32
  let v82 : BitVec 32 := Scalar.muli v81 c128_i32_39
  let c512_i32_40 : BitVec 32 := 512#32
  let v83 : BitVec 32 := Scalar.addi v82 c512_i32_40
  let c1_i32_41 : BitVec 32 := 1#32
  let v84 : BitVec 32 := Scalar.subi v83 c1_i32_41
  let c0_i32_43 : BitVec 32 := 0#32
  let v86 : BitVec 1 := Scalar.cmpi .sgt v84 c0_i32_43
  let v87 : BitVec 32 := Scalar.extui v86
  let c0_i32_44 : BitVec 32 := 0#32
  let v88 : BitVec 1 := Scalar.cmpi .slt v84 c0_i32_44
  let v89 : BitVec 32 := Scalar.extui v88
  let v90 : BitVec 32 := Scalar.subi v87 v89
  let c512_i32_42 : BitVec 32 := 512#32
  let c0_i32_45 : BitVec 32 := 0#32
  let v91 : BitVec 1 := Scalar.cmpi .sgt c512_i32_42 c0_i32_45
  let v92 : BitVec 32 := Scalar.extui v91
  let c0_i32_46 : BitVec 32 := 0#32
  let v93 : BitVec 1 := Scalar.cmpi .slt c512_i32_42 c0_i32_46
  let v94 : BitVec 32 := Scalar.extui v93
  let v95 : BitVec 32 := Scalar.subi v92 v94
  let v96 : BitVec 1 := Scalar.cmpi .ne v90 v95
  let v97 : BitVec 32 := Scalar.remsi v84 c512_i32_42
  let c0_i32_47 : BitVec 32 := 0#32
  let v98 : BitVec 1 := Scalar.cmpi .ne v97 c0_i32_47
  let v99 : BitVec 1 := Scalar.andi v96 v98
  let v85 : BitVec 32 := Scalar.divsi v84 c512_i32_42
  let c1_i32_48 : BitVec 32 := 1#32
  let v100 : BitVec 32 := Scalar.subi v85 c1_i32_48
  let v101 : BitVec 32 := Scalar.select v99 v100 v85
  let c1_i32_94 : BitVec 32 := 1#32
  let v189 : BitVec 32 := Scalar.subi v101 c1_i32_94
  let c0_i32_95 : BitVec 32 := 0#32
  let v190 : BitVec 32 := Scalar.maxsi v189 c0_i32_95
  let v206 : BitVec 32 := Scalar.minsi c1_i32_108 v190
  let c8_i32 : BitVec 32 := 8#32
  let v212 : BitVec 32 := Scalar.muli v206 c8_i32
  let c0_i32_113 : BitVec 32 := 0#32
  let v214 : BitVec 1 := Scalar.cmpi .sgt v212 c0_i32_113
  let v215 : BitVec 32 := Scalar.extui v214
  let c0_i32_114 : BitVec 32 := 0#32
  let v216 : BitVec 1 := Scalar.cmpi .slt v212 c0_i32_114
  let v217 : BitVec 32 := Scalar.extui v216
  let v218 : BitVec 32 := Scalar.subi v215 v217
  let c128_i32_112 : BitVec 32 := 128#32
  let c0_i32_115 : BitVec 32 := 0#32
  let v219 : BitVec 1 := Scalar.cmpi .sgt c128_i32_112 c0_i32_115
  let v220 : BitVec 32 := Scalar.extui v219
  let c0_i32_116 : BitVec 32 := 0#32
  let v221 : BitVec 1 := Scalar.cmpi .slt c128_i32_112 c0_i32_116
  let v222 : BitVec 32 := Scalar.extui v221
  let v223 : BitVec 32 := Scalar.subi v220 v222
  let v224 : BitVec 1 := Scalar.cmpi .ne v218 v223
  let v225 : BitVec 32 := Scalar.remsi v212 c128_i32_112
  let c0_i32_117 : BitVec 32 := 0#32
  let v226 : BitVec 1 := Scalar.cmpi .ne v225 c0_i32_117
  let v227 : BitVec 1 := Scalar.andi v224 v226
  let v213 : BitVec 32 := Scalar.divsi v212 c128_i32_112
  let c1_i32_118 : BitVec 32 := 1#32
  let v228 : BitVec 32 := Scalar.subi v213 c1_i32_118
  let v229 : BitVec 32 := Scalar.select v227 v228 v213
  let v230 : Index := Scalar.indexCast v229
  let c0_119 : Index := 0#32
  let c0_120 : Index := 0#32
  ![v230.toNat, 0, 0]
@[reducible] def k0_t1_loop (i : grid0.Coords) : Scf.Loop 32 :=
  let c0_i32_175 : BitVec 32 := 0#32
  let arg1 : BitVec 32 := BitVec.ofNat 32 (i 1).val
  let c1_i32 : BitVec 32 := 1#32
  let v80 : BitVec 32 := Scalar.subi arg1 c1_i32
  let c0_i32_38 : BitVec 32 := 0#32
  let v81 : BitVec 32 := Scalar.maxsi v80 c0_i32_38
  let c128_i32_39 : BitVec 32 := 128#32
  let v82 : BitVec 32 := Scalar.muli v81 c128_i32_39
  let c512_i32_40 : BitVec 32 := 512#32
  let v83 : BitVec 32 := Scalar.addi v82 c512_i32_40
  let c1_i32_41 : BitVec 32 := 1#32
  let v84 : BitVec 32 := Scalar.subi v83 c1_i32_41
  let c0_i32_43 : BitVec 32 := 0#32
  let v86 : BitVec 1 := Scalar.cmpi .sgt v84 c0_i32_43
  let v87 : BitVec 32 := Scalar.extui v86
  let c0_i32_44 : BitVec 32 := 0#32
  let v88 : BitVec 1 := Scalar.cmpi .slt v84 c0_i32_44
  let v89 : BitVec 32 := Scalar.extui v88
  let v90 : BitVec 32 := Scalar.subi v87 v89
  let c512_i32_42 : BitVec 32 := 512#32
  let c0_i32_45 : BitVec 32 := 0#32
  let v91 : BitVec 1 := Scalar.cmpi .sgt c512_i32_42 c0_i32_45
  let v92 : BitVec 32 := Scalar.extui v91
  let c0_i32_46 : BitVec 32 := 0#32
  let v93 : BitVec 1 := Scalar.cmpi .slt c512_i32_42 c0_i32_46
  let v94 : BitVec 32 := Scalar.extui v93
  let v95 : BitVec 32 := Scalar.subi v92 v94
  let v96 : BitVec 1 := Scalar.cmpi .ne v90 v95
  let v97 : BitVec 32 := Scalar.remsi v84 c512_i32_42
  let c0_i32_47 : BitVec 32 := 0#32
  let v98 : BitVec 1 := Scalar.cmpi .ne v97 c0_i32_47
  let v99 : BitVec 1 := Scalar.andi v96 v98
  let v85 : BitVec 32 := Scalar.divsi v84 c512_i32_42
  let c1_i32_48 : BitVec 32 := 1#32
  let v100 : BitVec 32 := Scalar.subi v85 c1_i32_48
  let v101 : BitVec 32 := Scalar.select v99 v100 v85
  let c0_i32_168 : BitVec 32 := 0#32
  let v308 : BitVec 1 := Scalar.cmpi .sgt v101 c0_i32_168
  let v309 : BitVec 32 := Scalar.extui v308
  let c0_i32_169 : BitVec 32 := 0#32
  let v310 : BitVec 1 := Scalar.cmpi .slt v101 c0_i32_169
  let v311 : BitVec 32 := Scalar.extui v310
  let v312 : BitVec 32 := Scalar.subi v309 v311
  let c6_i32 : BitVec 32 := 6#32
  let c0_i32_170 : BitVec 32 := 0#32
  let v313 : BitVec 1 := Scalar.cmpi .sgt c6_i32 c0_i32_170
  let v314 : BitVec 32 := Scalar.extui v313
  let c0_i32_171 : BitVec 32 := 0#32
  let v315 : BitVec 1 := Scalar.cmpi .slt c6_i32 c0_i32_171
  let v316 : BitVec 32 := Scalar.extui v315
  let v317 : BitVec 32 := Scalar.subi v314 v316
  let v318 : BitVec 1 := Scalar.cmpi .ne v312 v317
  let v319 : BitVec 32 := Scalar.remsi v101 c6_i32
  let c0_i32_172 : BitVec 32 := 0#32
  let v320 : BitVec 1 := Scalar.cmpi .ne v319 c0_i32_172
  let v321 : BitVec 1 := Scalar.andi v318 v320
  let v307 : BitVec 32 := Scalar.divsi v101 c6_i32
  let c1_i32_173 : BitVec 32 := 1#32
  let v322 : BitVec 32 := Scalar.subi v307 c1_i32_173
  let v323 : BitVec 32 := Scalar.select v321 v322 v307
  let v324 : BitVec 32 := Scalar.subi v323 c0_i32_175
  let c1_i32_176 : BitVec 32 := 1#32
  let v326 : BitVec 32 := Scalar.divsi v324 c1_i32_176
  let v327 : BitVec 32 := Scalar.muli v326 c1_i32_176
  let v328 : BitVec 32 := Scalar.addi c0_i32_175 v327
  let c1_i32_177 : BitVec 32 := 1#32
  ⟨c0_i32_175, v328, c1_i32_177⟩
def k0_mult9 (i : grid0.Coords) (k0_t1 : Fin (k0_t1_loop i).trips) : BitVec 32 :=
  let c6_i32_212 : BitVec 32 := 6#32
  let c0_i32_175 : BitVec 32 := 0#32
  let c1_i32_177 : BitVec 32 := 1#32
  let arg23 : BitVec 32 := Scf.iv c0_i32_175 c1_i32_177 k0_t1
  let v392 : BitVec 32 := Scalar.muli c6_i32_212 arg23
  let c0_i32_213 : BitVec 32 := 0#32
  let v393 : BitVec 32 := Scalar.addi v392 c0_i32_213
  let c2_i32_214 : BitVec 32 := 2#32
  let v394 : BitVec 32 := Scalar.addi v393 c2_i32_214
  let arg1 : BitVec 32 := BitVec.ofNat 32 (i 1).val
  let c1_i32 : BitVec 32 := 1#32
  let v80 : BitVec 32 := Scalar.subi arg1 c1_i32
  let c0_i32_38 : BitVec 32 := 0#32
  let v81 : BitVec 32 := Scalar.maxsi v80 c0_i32_38
  let c128_i32_39 : BitVec 32 := 128#32
  let v82 : BitVec 32 := Scalar.muli v81 c128_i32_39
  let c512_i32_40 : BitVec 32 := 512#32
  let v83 : BitVec 32 := Scalar.addi v82 c512_i32_40
  let c1_i32_41 : BitVec 32 := 1#32
  let v84 : BitVec 32 := Scalar.subi v83 c1_i32_41
  let c0_i32_43 : BitVec 32 := 0#32
  let v86 : BitVec 1 := Scalar.cmpi .sgt v84 c0_i32_43
  let v87 : BitVec 32 := Scalar.extui v86
  let c0_i32_44 : BitVec 32 := 0#32
  let v88 : BitVec 1 := Scalar.cmpi .slt v84 c0_i32_44
  let v89 : BitVec 32 := Scalar.extui v88
  let v90 : BitVec 32 := Scalar.subi v87 v89
  let c512_i32_42 : BitVec 32 := 512#32
  let c0_i32_45 : BitVec 32 := 0#32
  let v91 : BitVec 1 := Scalar.cmpi .sgt c512_i32_42 c0_i32_45
  let v92 : BitVec 32 := Scalar.extui v91
  let c0_i32_46 : BitVec 32 := 0#32
  let v93 : BitVec 1 := Scalar.cmpi .slt c512_i32_42 c0_i32_46
  let v94 : BitVec 32 := Scalar.extui v93
  let v95 : BitVec 32 := Scalar.subi v92 v94
  let v96 : BitVec 1 := Scalar.cmpi .ne v90 v95
  let v97 : BitVec 32 := Scalar.remsi v84 c512_i32_42
  let c0_i32_47 : BitVec 32 := 0#32
  let v98 : BitVec 1 := Scalar.cmpi .ne v97 c0_i32_47
  let v99 : BitVec 1 := Scalar.andi v96 v98
  let v85 : BitVec 32 := Scalar.divsi v84 c512_i32_42
  let c1_i32_48 : BitVec 32 := 1#32
  let v100 : BitVec 32 := Scalar.subi v85 c1_i32_48
  let v101 : BitVec 32 := Scalar.select v99 v100 v85
  let c1_i32_94 : BitVec 32 := 1#32
  let v189 : BitVec 32 := Scalar.subi v101 c1_i32_94
  let c0_i32_95 : BitVec 32 := 0#32
  let v190 : BitVec 32 := Scalar.maxsi v189 c0_i32_95
  let v395 : BitVec 32 := Scalar.minsi v394 v190
  let c512_i32_215 : BitVec 32 := 512#32
  let v396 : BitVec 32 := Scalar.muli v395 c512_i32_215
  v396
def k0_off17 (i : grid0.Coords) (k0_t1 : Fin (k0_t1_loop i).trips) (c0_i32_213 : BitVec 32) : Fin 3 → Nat :=
  let c0_216 : Index := 0#32
  let c6_i32_212 : BitVec 32 := 6#32
  let c0_i32_175 : BitVec 32 := 0#32
  let c1_i32_177 : BitVec 32 := 1#32
  let arg23 : BitVec 32 := Scf.iv c0_i32_175 c1_i32_177 k0_t1
  let v392 : BitVec 32 := Scalar.muli c6_i32_212 arg23
  let v393 : BitVec 32 := Scalar.addi v392 c0_i32_213
  let c2_i32_214 : BitVec 32 := 2#32
  let v394 : BitVec 32 := Scalar.addi v393 c2_i32_214
  let arg1 : BitVec 32 := BitVec.ofNat 32 (i 1).val
  let c1_i32 : BitVec 32 := 1#32
  let v80 : BitVec 32 := Scalar.subi arg1 c1_i32
  let c0_i32_38 : BitVec 32 := 0#32
  let v81 : BitVec 32 := Scalar.maxsi v80 c0_i32_38
  let c128_i32_39 : BitVec 32 := 128#32
  let v82 : BitVec 32 := Scalar.muli v81 c128_i32_39
  let c512_i32_40 : BitVec 32 := 512#32
  let v83 : BitVec 32 := Scalar.addi v82 c512_i32_40
  let c1_i32_41 : BitVec 32 := 1#32
  let v84 : BitVec 32 := Scalar.subi v83 c1_i32_41
  let c0_i32_43 : BitVec 32 := 0#32
  let v86 : BitVec 1 := Scalar.cmpi .sgt v84 c0_i32_43
  let v87 : BitVec 32 := Scalar.extui v86
  let c0_i32_44 : BitVec 32 := 0#32
  let v88 : BitVec 1 := Scalar.cmpi .slt v84 c0_i32_44
  let v89 : BitVec 32 := Scalar.extui v88
  let v90 : BitVec 32 := Scalar.subi v87 v89
  let c512_i32_42 : BitVec 32 := 512#32
  let c0_i32_45 : BitVec 32 := 0#32
  let v91 : BitVec 1 := Scalar.cmpi .sgt c512_i32_42 c0_i32_45
  let v92 : BitVec 32 := Scalar.extui v91
  let c0_i32_46 : BitVec 32 := 0#32
  let v93 : BitVec 1 := Scalar.cmpi .slt c512_i32_42 c0_i32_46
  let v94 : BitVec 32 := Scalar.extui v93
  let v95 : BitVec 32 := Scalar.subi v92 v94
  let v96 : BitVec 1 := Scalar.cmpi .ne v90 v95
  let v97 : BitVec 32 := Scalar.remsi v84 c512_i32_42
  let c0_i32_47 : BitVec 32 := 0#32
  let v98 : BitVec 1 := Scalar.cmpi .ne v97 c0_i32_47
  let v99 : BitVec 1 := Scalar.andi v96 v98
  let v85 : BitVec 32 := Scalar.divsi v84 c512_i32_42
  let c1_i32_48 : BitVec 32 := 1#32
  let v100 : BitVec 32 := Scalar.subi v85 c1_i32_48
  let v101 : BitVec 32 := Scalar.select v99 v100 v85
  let c1_i32_94 : BitVec 32 := 1#32
  let v189 : BitVec 32 := Scalar.subi v101 c1_i32_94
  let c0_i32_95 : BitVec 32 := 0#32
  let v190 : BitVec 32 := Scalar.maxsi v189 c0_i32_95
  let v395 : BitVec 32 := Scalar.minsi v394 v190
  let c512_i32_215 : BitVec 32 := 512#32
  let v396 : BitVec 32 := Scalar.muli v395 c512_i32_215
  let v397 : BitVec 32 := v396
  let v398 : Index := Scalar.indexCast v397
  let c0_217 : Index := 0#32
  ![0, v398.toNat, 0]
def k0_off18 (i : grid0.Coords) (k0_t1 : Fin (k0_t1_loop i).trips) (c0_i32_213 : BitVec 32) : Fin 3 → Nat :=
  let c6_i32_212 : BitVec 32 := 6#32
  let c0_i32_175 : BitVec 32 := 0#32
  let c1_i32_177 : BitVec 32 := 1#32
  let arg23 : BitVec 32 := Scf.iv c0_i32_175 c1_i32_177 k0_t1
  let v392 : BitVec 32 := Scalar.muli c6_i32_212 arg23
  let v393 : BitVec 32 := Scalar.addi v392 c0_i32_213
  let c2_i32_214 : BitVec 32 := 2#32
  let v394 : BitVec 32 := Scalar.addi v393 c2_i32_214
  let arg1 : BitVec 32 := BitVec.ofNat 32 (i 1).val
  let c1_i32 : BitVec 32 := 1#32
  let v80 : BitVec 32 := Scalar.subi arg1 c1_i32
  let c0_i32_38 : BitVec 32 := 0#32
  let v81 : BitVec 32 := Scalar.maxsi v80 c0_i32_38
  let c128_i32_39 : BitVec 32 := 128#32
  let v82 : BitVec 32 := Scalar.muli v81 c128_i32_39
  let c512_i32_40 : BitVec 32 := 512#32
  let v83 : BitVec 32 := Scalar.addi v82 c512_i32_40
  let c1_i32_41 : BitVec 32 := 1#32
  let v84 : BitVec 32 := Scalar.subi v83 c1_i32_41
  let c0_i32_43 : BitVec 32 := 0#32
  let v86 : BitVec 1 := Scalar.cmpi .sgt v84 c0_i32_43
  let v87 : BitVec 32 := Scalar.extui v86
  let c0_i32_44 : BitVec 32 := 0#32
  let v88 : BitVec 1 := Scalar.cmpi .slt v84 c0_i32_44
  let v89 : BitVec 32 := Scalar.extui v88
  let v90 : BitVec 32 := Scalar.subi v87 v89
  let c512_i32_42 : BitVec 32 := 512#32
  let c0_i32_45 : BitVec 32 := 0#32
  let v91 : BitVec 1 := Scalar.cmpi .sgt c512_i32_42 c0_i32_45
  let v92 : BitVec 32 := Scalar.extui v91
  let c0_i32_46 : BitVec 32 := 0#32
  let v93 : BitVec 1 := Scalar.cmpi .slt c512_i32_42 c0_i32_46
  let v94 : BitVec 32 := Scalar.extui v93
  let v95 : BitVec 32 := Scalar.subi v92 v94
  let v96 : BitVec 1 := Scalar.cmpi .ne v90 v95
  let v97 : BitVec 32 := Scalar.remsi v84 c512_i32_42
  let c0_i32_47 : BitVec 32 := 0#32
  let v98 : BitVec 1 := Scalar.cmpi .ne v97 c0_i32_47
  let v99 : BitVec 1 := Scalar.andi v96 v98
  let v85 : BitVec 32 := Scalar.divsi v84 c512_i32_42
  let c1_i32_48 : BitVec 32 := 1#32
  let v100 : BitVec 32 := Scalar.subi v85 c1_i32_48
  let v101 : BitVec 32 := Scalar.select v99 v100 v85
  let c1_i32_94 : BitVec 32 := 1#32
  let v189 : BitVec 32 := Scalar.subi v101 c1_i32_94
  let c0_i32_95 : BitVec 32 := 0#32
  let v190 : BitVec 32 := Scalar.maxsi v189 c0_i32_95
  let v395 : BitVec 32 := Scalar.minsi v394 v190
  let c8_i32_218 : BitVec 32 := 8#32
  let v401 : BitVec 32 := Scalar.muli v395 c8_i32_218
  let c0_i32_220 : BitVec 32 := 0#32
  let v403 : BitVec 1 := Scalar.cmpi .sgt v401 c0_i32_220
  let v404 : BitVec 32 := Scalar.extui v403
  let c0_i32_221 : BitVec 32 := 0#32
  let v405 : BitVec 1 := Scalar.cmpi .slt v401 c0_i32_221
  let v406 : BitVec 32 := Scalar.extui v405
  let v407 : BitVec 32 := Scalar.subi v404 v406
  let c128_i32_219 : BitVec 32 := 128#32
  let c0_i32_222 : BitVec 32 := 0#32
  let v408 : BitVec 1 := Scalar.cmpi .sgt c128_i32_219 c0_i32_222
  let v409 : BitVec 32 := Scalar.extui v408
  let c0_i32_223 : BitVec 32 := 0#32
  let v410 : BitVec 1 := Scalar.cmpi .slt c128_i32_219 c0_i32_223
  let v411 : BitVec 32 := Scalar.extui v410
  let v412 : BitVec 32 := Scalar.subi v409 v411
  let v413 : BitVec 1 := Scalar.cmpi .ne v407 v412
  let v414 : BitVec 32 := Scalar.remsi v401 c128_i32_219
  let c0_i32_224 : BitVec 32 := 0#32
  let v415 : BitVec 1 := Scalar.cmpi .ne v414 c0_i32_224
  let v416 : BitVec 1 := Scalar.andi v413 v415
  let v402 : BitVec 32 := Scalar.divsi v401 c128_i32_219
  let c1_i32_225 : BitVec 32 := 1#32
  let v417 : BitVec 32 := Scalar.subi v402 c1_i32_225
  let v418 : BitVec 32 := Scalar.select v416 v417 v402
  let v419 : Index := Scalar.indexCast v418
  let c0_226 : Index := 0#32
  let c0_227 : Index := 0#32
  ![v419.toNat, 0, 0]
def k0_off19 (i : grid0.Coords) (k0_t1 : Fin (k0_t1_loop i).trips) (c0_i32_238 : BitVec 32) : Fin 4 → Nat :=
  let c0_239 : Index := 0#32
  let c6_i32_212 : BitVec 32 := 6#32
  let c0_i32_175 : BitVec 32 := 0#32
  let c1_i32_177 : BitVec 32 := 1#32
  let arg23 : BitVec 32 := Scf.iv c0_i32_175 c1_i32_177 k0_t1
  let v392 : BitVec 32 := Scalar.muli c6_i32_212 arg23
  let v433 : BitVec 32 := Scalar.addi v392 c0_i32_238
  let v434 : Index := Scalar.indexCast v433
  let c0_240 : Index := 0#32
  let c0_241 : Index := 0#32
  ![0, v434.toNat, 0, 0]
def k0_mult10 (i : grid0.Coords) (k0_t1 : Fin (k0_t1_loop i).trips) : BitVec 32 :=
  let c6_i32_212 : BitVec 32 := 6#32
  let c0_i32_175 : BitVec 32 := 0#32
  let c1_i32_177 : BitVec 32 := 1#32
  let arg23 : BitVec 32 := Scf.iv c0_i32_175 c1_i32_177 k0_t1
  let v392 : BitVec 32 := Scalar.muli c6_i32_212 arg23
  let c1_i32_251 : BitVec 32 := 1#32
  let v456 : BitVec 32 := Scalar.addi v392 c1_i32_251
  let c2_i32_252 : BitVec 32 := 2#32
  let v457 : BitVec 32 := Scalar.addi v456 c2_i32_252
  let arg1 : BitVec 32 := BitVec.ofNat 32 (i 1).val
  let c1_i32 : BitVec 32 := 1#32
  let v80 : BitVec 32 := Scalar.subi arg1 c1_i32
  let c0_i32_38 : BitVec 32 := 0#32
  let v81 : BitVec 32 := Scalar.maxsi v80 c0_i32_38
  let c128_i32_39 : BitVec 32 := 128#32
  let v82 : BitVec 32 := Scalar.muli v81 c128_i32_39
  let c512_i32_40 : BitVec 32 := 512#32
  let v83 : BitVec 32 := Scalar.addi v82 c512_i32_40
  let c1_i32_41 : BitVec 32 := 1#32
  let v84 : BitVec 32 := Scalar.subi v83 c1_i32_41
  let c0_i32_43 : BitVec 32 := 0#32
  let v86 : BitVec 1 := Scalar.cmpi .sgt v84 c0_i32_43
  let v87 : BitVec 32 := Scalar.extui v86
  let c0_i32_44 : BitVec 32 := 0#32
  let v88 : BitVec 1 := Scalar.cmpi .slt v84 c0_i32_44
  let v89 : BitVec 32 := Scalar.extui v88
  let v90 : BitVec 32 := Scalar.subi v87 v89
  let c512_i32_42 : BitVec 32 := 512#32
  let c0_i32_45 : BitVec 32 := 0#32
  let v91 : BitVec 1 := Scalar.cmpi .sgt c512_i32_42 c0_i32_45
  let v92 : BitVec 32 := Scalar.extui v91
  let c0_i32_46 : BitVec 32 := 0#32
  let v93 : BitVec 1 := Scalar.cmpi .slt c512_i32_42 c0_i32_46
  let v94 : BitVec 32 := Scalar.extui v93
  let v95 : BitVec 32 := Scalar.subi v92 v94
  let v96 : BitVec 1 := Scalar.cmpi .ne v90 v95
  let v97 : BitVec 32 := Scalar.remsi v84 c512_i32_42
  let c0_i32_47 : BitVec 32 := 0#32
  let v98 : BitVec 1 := Scalar.cmpi .ne v97 c0_i32_47
  let v99 : BitVec 1 := Scalar.andi v96 v98
  let v85 : BitVec 32 := Scalar.divsi v84 c512_i32_42
  let c1_i32_48 : BitVec 32 := 1#32
  let v100 : BitVec 32 := Scalar.subi v85 c1_i32_48
  let v101 : BitVec 32 := Scalar.select v99 v100 v85
  let c1_i32_94 : BitVec 32 := 1#32
  let v189 : BitVec 32 := Scalar.subi v101 c1_i32_94
  let c0_i32_95 : BitVec 32 := 0#32
  let v190 : BitVec 32 := Scalar.maxsi v189 c0_i32_95
  let v458 : BitVec 32 := Scalar.minsi v457 v190
  let c512_i32_253 : BitVec 32 := 512#32
  let v459 : BitVec 32 := Scalar.muli v458 c512_i32_253
  v459
def k0_mult11 (i : grid0.Coords) (k0_t1 : Fin (k0_t1_loop i).trips) : BitVec 32 :=
  let c6_i32_212 : BitVec 32 := 6#32
  let c0_i32_175 : BitVec 32 := 0#32
  let c1_i32_177 : BitVec 32 := 1#32
  let arg23 : BitVec 32 := Scf.iv c0_i32_175 c1_i32_177 k0_t1
  let v392 : BitVec 32 := Scalar.muli c6_i32_212 arg23
  let c2_i32_289 : BitVec 32 := 2#32
  let v519 : BitVec 32 := Scalar.addi v392 c2_i32_289
  let c2_i32_290 : BitVec 32 := 2#32
  let v520 : BitVec 32 := Scalar.addi v519 c2_i32_290
  let arg1 : BitVec 32 := BitVec.ofNat 32 (i 1).val
  let c1_i32 : BitVec 32 := 1#32
  let v80 : BitVec 32 := Scalar.subi arg1 c1_i32
  let c0_i32_38 : BitVec 32 := 0#32
  let v81 : BitVec 32 := Scalar.maxsi v80 c0_i32_38
  let c128_i32_39 : BitVec 32 := 128#32
  let v82 : BitVec 32 := Scalar.muli v81 c128_i32_39
  let c512_i32_40 : BitVec 32 := 512#32
  let v83 : BitVec 32 := Scalar.addi v82 c512_i32_40
  let c1_i32_41 : BitVec 32 := 1#32
  let v84 : BitVec 32 := Scalar.subi v83 c1_i32_41
  let c0_i32_43 : BitVec 32 := 0#32
  let v86 : BitVec 1 := Scalar.cmpi .sgt v84 c0_i32_43
  let v87 : BitVec 32 := Scalar.extui v86
  let c0_i32_44 : BitVec 32 := 0#32
  let v88 : BitVec 1 := Scalar.cmpi .slt v84 c0_i32_44
  let v89 : BitVec 32 := Scalar.extui v88
  let v90 : BitVec 32 := Scalar.subi v87 v89
  let c512_i32_42 : BitVec 32 := 512#32
  let c0_i32_45 : BitVec 32 := 0#32
  let v91 : BitVec 1 := Scalar.cmpi .sgt c512_i32_42 c0_i32_45
  let v92 : BitVec 32 := Scalar.extui v91
  let c0_i32_46 : BitVec 32 := 0#32
  let v93 : BitVec 1 := Scalar.cmpi .slt c512_i32_42 c0_i32_46
  let v94 : BitVec 32 := Scalar.extui v93
  let v95 : BitVec 32 := Scalar.subi v92 v94
  let v96 : BitVec 1 := Scalar.cmpi .ne v90 v95
  let v97 : BitVec 32 := Scalar.remsi v84 c512_i32_42
  let c0_i32_47 : BitVec 32 := 0#32
  let v98 : BitVec 1 := Scalar.cmpi .ne v97 c0_i32_47
  let v99 : BitVec 1 := Scalar.andi v96 v98
  let v85 : BitVec 32 := Scalar.divsi v84 c512_i32_42
  let c1_i32_48 : BitVec 32 := 1#32
  let v100 : BitVec 32 := Scalar.subi v85 c1_i32_48
  let v101 : BitVec 32 := Scalar.select v99 v100 v85
  let c1_i32_94 : BitVec 32 := 1#32
  let v189 : BitVec 32 := Scalar.subi v101 c1_i32_94
  let c0_i32_95 : BitVec 32 := 0#32
  let v190 : BitVec 32 := Scalar.maxsi v189 c0_i32_95
  let v521 : BitVec 32 := Scalar.minsi v520 v190
  let c512_i32_291 : BitVec 32 := 512#32
  let v522 : BitVec 32 := Scalar.muli v521 c512_i32_291
  v522
def k0_mult12 (i : grid0.Coords) (k0_t1 : Fin (k0_t1_loop i).trips) : BitVec 32 :=
  let c6_i32_327 : BitVec 32 := 6#32
  let c0_i32_175 : BitVec 32 := 0#32
  let c1_i32_177 : BitVec 32 := 1#32
  let arg23 : BitVec 32 := Scf.iv c0_i32_175 c1_i32_177 k0_t1
  let v582 : BitVec 32 := Scalar.muli c6_i32_327 arg23
  let c3_i32_328 : BitVec 32 := 3#32
  let v583 : BitVec 32 := Scalar.addi v582 c3_i32_328
  let c0_i32_329 : BitVec 32 := 0#32
  let v584 : BitVec 32 := Scalar.addi v583 c0_i32_329
  let c2_i32_330 : BitVec 32 := 2#32
  let v585 : BitVec 32 := Scalar.addi v584 c2_i32_330
  let arg1 : BitVec 32 := BitVec.ofNat 32 (i 1).val
  let c1_i32 : BitVec 32 := 1#32
  let v80 : BitVec 32 := Scalar.subi arg1 c1_i32
  let c0_i32_38 : BitVec 32 := 0#32
  let v81 : BitVec 32 := Scalar.maxsi v80 c0_i32_38
  let c128_i32_39 : BitVec 32 := 128#32
  let v82 : BitVec 32 := Scalar.muli v81 c128_i32_39
  let c512_i32_40 : BitVec 32 := 512#32
  let v83 : BitVec 32 := Scalar.addi v82 c512_i32_40
  let c1_i32_41 : BitVec 32 := 1#32
  let v84 : BitVec 32 := Scalar.subi v83 c1_i32_41
  let c0_i32_43 : BitVec 32 := 0#32
  let v86 : BitVec 1 := Scalar.cmpi .sgt v84 c0_i32_43
  let v87 : BitVec 32 := Scalar.extui v86
  let c0_i32_44 : BitVec 32 := 0#32
  let v88 : BitVec 1 := Scalar.cmpi .slt v84 c0_i32_44
  let v89 : BitVec 32 := Scalar.extui v88
  let v90 : BitVec 32 := Scalar.subi v87 v89
  let c512_i32_42 : BitVec 32 := 512#32
  let c0_i32_45 : BitVec 32 := 0#32
  let v91 : BitVec 1 := Scalar.cmpi .sgt c512_i32_42 c0_i32_45
  let v92 : BitVec 32 := Scalar.extui v91
  let c0_i32_46 : BitVec 32 := 0#32
  let v93 : BitVec 1 := Scalar.cmpi .slt c512_i32_42 c0_i32_46
  let v94 : BitVec 32 := Scalar.extui v93
  let v95 : BitVec 32 := Scalar.subi v92 v94
  let v96 : BitVec 1 := Scalar.cmpi .ne v90 v95
  let v97 : BitVec 32 := Scalar.remsi v84 c512_i32_42
  let c0_i32_47 : BitVec 32 := 0#32
  let v98 : BitVec 1 := Scalar.cmpi .ne v97 c0_i32_47
  let v99 : BitVec 1 := Scalar.andi v96 v98
  let v85 : BitVec 32 := Scalar.divsi v84 c512_i32_42
  let c1_i32_48 : BitVec 32 := 1#32
  let v100 : BitVec 32 := Scalar.subi v85 c1_i32_48
  let v101 : BitVec 32 := Scalar.select v99 v100 v85
  let c1_i32_94 : BitVec 32 := 1#32
  let v189 : BitVec 32 := Scalar.subi v101 c1_i32_94
  let c0_i32_95 : BitVec 32 := 0#32
  let v190 : BitVec 32 := Scalar.maxsi v189 c0_i32_95
  let v586 : BitVec 32 := Scalar.minsi v585 v190
  let c512_i32_331 : BitVec 32 := 512#32
  let v587 : BitVec 32 := Scalar.muli v586 c512_i32_331
  v587
def k0_off20 (i : grid0.Coords) (k0_t1 : Fin (k0_t1_loop i).trips) (c0_i32_329 : BitVec 32) : Fin 3 → Nat :=
  let c0_332 : Index := 0#32
  let c6_i32_327 : BitVec 32 := 6#32
  let c0_i32_175 : BitVec 32 := 0#32
  let c1_i32_177 : BitVec 32 := 1#32
  let arg23 : BitVec 32 := Scf.iv c0_i32_175 c1_i32_177 k0_t1
  let v582 : BitVec 32 := Scalar.muli c6_i32_327 arg23
  let c3_i32_328 : BitVec 32 := 3#32
  let v583 : BitVec 32 := Scalar.addi v582 c3_i32_328
  let v584 : BitVec 32 := Scalar.addi v583 c0_i32_329
  let c2_i32_330 : BitVec 32 := 2#32
  let v585 : BitVec 32 := Scalar.addi v584 c2_i32_330
  let arg1 : BitVec 32 := BitVec.ofNat 32 (i 1).val
  let c1_i32 : BitVec 32 := 1#32
  let v80 : BitVec 32 := Scalar.subi arg1 c1_i32
  let c0_i32_38 : BitVec 32 := 0#32
  let v81 : BitVec 32 := Scalar.maxsi v80 c0_i32_38
  let c128_i32_39 : BitVec 32 := 128#32
  let v82 : BitVec 32 := Scalar.muli v81 c128_i32_39
  let c512_i32_40 : BitVec 32 := 512#32
  let v83 : BitVec 32 := Scalar.addi v82 c512_i32_40
  let c1_i32_41 : BitVec 32 := 1#32
  let v84 : BitVec 32 := Scalar.subi v83 c1_i32_41
  let c0_i32_43 : BitVec 32 := 0#32
  let v86 : BitVec 1 := Scalar.cmpi .sgt v84 c0_i32_43
  let v87 : BitVec 32 := Scalar.extui v86
  let c0_i32_44 : BitVec 32 := 0#32
  let v88 : BitVec 1 := Scalar.cmpi .slt v84 c0_i32_44
  let v89 : BitVec 32 := Scalar.extui v88
  let v90 : BitVec 32 := Scalar.subi v87 v89
  let c512_i32_42 : BitVec 32 := 512#32
  let c0_i32_45 : BitVec 32 := 0#32
  let v91 : BitVec 1 := Scalar.cmpi .sgt c512_i32_42 c0_i32_45
  let v92 : BitVec 32 := Scalar.extui v91
  let c0_i32_46 : BitVec 32 := 0#32
  let v93 : BitVec 1 := Scalar.cmpi .slt c512_i32_42 c0_i32_46
  let v94 : BitVec 32 := Scalar.extui v93
  let v95 : BitVec 32 := Scalar.subi v92 v94
  let v96 : BitVec 1 := Scalar.cmpi .ne v90 v95
  let v97 : BitVec 32 := Scalar.remsi v84 c512_i32_42
  let c0_i32_47 : BitVec 32 := 0#32
  let v98 : BitVec 1 := Scalar.cmpi .ne v97 c0_i32_47
  let v99 : BitVec 1 := Scalar.andi v96 v98
  let v85 : BitVec 32 := Scalar.divsi v84 c512_i32_42
  let c1_i32_48 : BitVec 32 := 1#32
  let v100 : BitVec 32 := Scalar.subi v85 c1_i32_48
  let v101 : BitVec 32 := Scalar.select v99 v100 v85
  let c1_i32_94 : BitVec 32 := 1#32
  let v189 : BitVec 32 := Scalar.subi v101 c1_i32_94
  let c0_i32_95 : BitVec 32 := 0#32
  let v190 : BitVec 32 := Scalar.maxsi v189 c0_i32_95
  let v586 : BitVec 32 := Scalar.minsi v585 v190
  let c512_i32_331 : BitVec 32 := 512#32
  let v587 : BitVec 32 := Scalar.muli v586 c512_i32_331
  let v588 : BitVec 32 := v587
  let v589 : Index := Scalar.indexCast v588
  let c0_333 : Index := 0#32
  ![0, v589.toNat, 0]
def k0_off21 (i : grid0.Coords) (k0_t1 : Fin (k0_t1_loop i).trips) (c0_i32_329 : BitVec 32) : Fin 3 → Nat :=
  let c6_i32_327 : BitVec 32 := 6#32
  let c0_i32_175 : BitVec 32 := 0#32
  let c1_i32_177 : BitVec 32 := 1#32
  let arg23 : BitVec 32 := Scf.iv c0_i32_175 c1_i32_177 k0_t1
  let v582 : BitVec 32 := Scalar.muli c6_i32_327 arg23
  let c3_i32_328 : BitVec 32 := 3#32
  let v583 : BitVec 32 := Scalar.addi v582 c3_i32_328
  let v584 : BitVec 32 := Scalar.addi v583 c0_i32_329
  let c2_i32_330 : BitVec 32 := 2#32
  let v585 : BitVec 32 := Scalar.addi v584 c2_i32_330
  let arg1 : BitVec 32 := BitVec.ofNat 32 (i 1).val
  let c1_i32 : BitVec 32 := 1#32
  let v80 : BitVec 32 := Scalar.subi arg1 c1_i32
  let c0_i32_38 : BitVec 32 := 0#32
  let v81 : BitVec 32 := Scalar.maxsi v80 c0_i32_38
  let c128_i32_39 : BitVec 32 := 128#32
  let v82 : BitVec 32 := Scalar.muli v81 c128_i32_39
  let c512_i32_40 : BitVec 32 := 512#32
  let v83 : BitVec 32 := Scalar.addi v82 c512_i32_40
  let c1_i32_41 : BitVec 32 := 1#32
  let v84 : BitVec 32 := Scalar.subi v83 c1_i32_41
  let c0_i32_43 : BitVec 32 := 0#32
  let v86 : BitVec 1 := Scalar.cmpi .sgt v84 c0_i32_43
  let v87 : BitVec 32 := Scalar.extui v86
  let c0_i32_44 : BitVec 32 := 0#32
  let v88 : BitVec 1 := Scalar.cmpi .slt v84 c0_i32_44
  let v89 : BitVec 32 := Scalar.extui v88
  let v90 : BitVec 32 := Scalar.subi v87 v89
  let c512_i32_42 : BitVec 32 := 512#32
  let c0_i32_45 : BitVec 32 := 0#32
  let v91 : BitVec 1 := Scalar.cmpi .sgt c512_i32_42 c0_i32_45
  let v92 : BitVec 32 := Scalar.extui v91
  let c0_i32_46 : BitVec 32 := 0#32
  let v93 : BitVec 1 := Scalar.cmpi .slt c512_i32_42 c0_i32_46
  let v94 : BitVec 32 := Scalar.extui v93
  let v95 : BitVec 32 := Scalar.subi v92 v94
  let v96 : BitVec 1 := Scalar.cmpi .ne v90 v95
  let v97 : BitVec 32 := Scalar.remsi v84 c512_i32_42
  let c0_i32_47 : BitVec 32 := 0#32
  let v98 : BitVec 1 := Scalar.cmpi .ne v97 c0_i32_47
  let v99 : BitVec 1 := Scalar.andi v96 v98
  let v85 : BitVec 32 := Scalar.divsi v84 c512_i32_42
  let c1_i32_48 : BitVec 32 := 1#32
  let v100 : BitVec 32 := Scalar.subi v85 c1_i32_48
  let v101 : BitVec 32 := Scalar.select v99 v100 v85
  let c1_i32_94 : BitVec 32 := 1#32
  let v189 : BitVec 32 := Scalar.subi v101 c1_i32_94
  let c0_i32_95 : BitVec 32 := 0#32
  let v190 : BitVec 32 := Scalar.maxsi v189 c0_i32_95
  let v586 : BitVec 32 := Scalar.minsi v585 v190
  let c8_i32_334 : BitVec 32 := 8#32
  let v592 : BitVec 32 := Scalar.muli v586 c8_i32_334
  let c0_i32_336 : BitVec 32 := 0#32
  let v594 : BitVec 1 := Scalar.cmpi .sgt v592 c0_i32_336
  let v595 : BitVec 32 := Scalar.extui v594
  let c0_i32_337 : BitVec 32 := 0#32
  let v596 : BitVec 1 := Scalar.cmpi .slt v592 c0_i32_337
  let v597 : BitVec 32 := Scalar.extui v596
  let v598 : BitVec 32 := Scalar.subi v595 v597
  let c128_i32_335 : BitVec 32 := 128#32
  let c0_i32_338 : BitVec 32 := 0#32
  let v599 : BitVec 1 := Scalar.cmpi .sgt c128_i32_335 c0_i32_338
  let v600 : BitVec 32 := Scalar.extui v599
  let c0_i32_339 : BitVec 32 := 0#32
  let v601 : BitVec 1 := Scalar.cmpi .slt c128_i32_335 c0_i32_339
  let v602 : BitVec 32 := Scalar.extui v601
  let v603 : BitVec 32 := Scalar.subi v600 v602
  let v604 : BitVec 1 := Scalar.cmpi .ne v598 v603
  let v605 : BitVec 32 := Scalar.remsi v592 c128_i32_335
  let c0_i32_340 : BitVec 32 := 0#32
  let v606 : BitVec 1 := Scalar.cmpi .ne v605 c0_i32_340
  let v607 : BitVec 1 := Scalar.andi v604 v606
  let v593 : BitVec 32 := Scalar.divsi v592 c128_i32_335
  let c1_i32_341 : BitVec 32 := 1#32
  let v608 : BitVec 32 := Scalar.subi v593 c1_i32_341
  let v609 : BitVec 32 := Scalar.select v607 v608 v593
  let v610 : Index := Scalar.indexCast v609
  let c0_342 : Index := 0#32
  let c0_343 : Index := 0#32
  ![v610.toNat, 0, 0]
def k0_off22 (i : grid0.Coords) (k0_t1 : Fin (k0_t1_loop i).trips) (c0_i32_354 : BitVec 32) : Fin 4 → Nat :=
  let c0_355 : Index := 0#32
  let c6_i32_327 : BitVec 32 := 6#32
  let c0_i32_175 : BitVec 32 := 0#32
  let c1_i32_177 : BitVec 32 := 1#32
  let arg23 : BitVec 32 := Scf.iv c0_i32_175 c1_i32_177 k0_t1
  let v582 : BitVec 32 := Scalar.muli c6_i32_327 arg23
  let c3_i32_328 : BitVec 32 := 3#32
  let v583 : BitVec 32 := Scalar.addi v582 c3_i32_328
  let v624 : BitVec 32 := Scalar.addi v583 c0_i32_354
  let v625 : Index := Scalar.indexCast v624
  let c0_356 : Index := 0#32
  let c0_357 : Index := 0#32
  ![0, v625.toNat, 0, 0]
def k0_mult13 (i : grid0.Coords) (k0_t1 : Fin (k0_t1_loop i).trips) : BitVec 32 :=
  let c6_i32_327 : BitVec 32 := 6#32
  let c0_i32_175 : BitVec 32 := 0#32
  let c1_i32_177 : BitVec 32 := 1#32
  let arg23 : BitVec 32 := Scf.iv c0_i32_175 c1_i32_177 k0_t1
  let v582 : BitVec 32 := Scalar.muli c6_i32_327 arg23
  let c3_i32_328 : BitVec 32 := 3#32
  let v583 : BitVec 32 := Scalar.addi v582 c3_i32_328
  let c1_i32_367 : BitVec 32 := 1#32
  let v647 : BitVec 32 := Scalar.addi v583 c1_i32_367
  let c2_i32_368 : BitVec 32 := 2#32
  let v648 : BitVec 32 := Scalar.addi v647 c2_i32_368
  let arg1 : BitVec 32 := BitVec.ofNat 32 (i 1).val
  let c1_i32 : BitVec 32 := 1#32
  let v80 : BitVec 32 := Scalar.subi arg1 c1_i32
  let c0_i32_38 : BitVec 32 := 0#32
  let v81 : BitVec 32 := Scalar.maxsi v80 c0_i32_38
  let c128_i32_39 : BitVec 32 := 128#32
  let v82 : BitVec 32 := Scalar.muli v81 c128_i32_39
  let c512_i32_40 : BitVec 32 := 512#32
  let v83 : BitVec 32 := Scalar.addi v82 c512_i32_40
  let c1_i32_41 : BitVec 32 := 1#32
  let v84 : BitVec 32 := Scalar.subi v83 c1_i32_41
  let c0_i32_43 : BitVec 32 := 0#32
  let v86 : BitVec 1 := Scalar.cmpi .sgt v84 c0_i32_43
  let v87 : BitVec 32 := Scalar.extui v86
  let c0_i32_44 : BitVec 32 := 0#32
  let v88 : BitVec 1 := Scalar.cmpi .slt v84 c0_i32_44
  let v89 : BitVec 32 := Scalar.extui v88
  let v90 : BitVec 32 := Scalar.subi v87 v89
  let c512_i32_42 : BitVec 32 := 512#32
  let c0_i32_45 : BitVec 32 := 0#32
  let v91 : BitVec 1 := Scalar.cmpi .sgt c512_i32_42 c0_i32_45
  let v92 : BitVec 32 := Scalar.extui v91
  let c0_i32_46 : BitVec 32 := 0#32
  let v93 : BitVec 1 := Scalar.cmpi .slt c512_i32_42 c0_i32_46
  let v94 : BitVec 32 := Scalar.extui v93
  let v95 : BitVec 32 := Scalar.subi v92 v94
  let v96 : BitVec 1 := Scalar.cmpi .ne v90 v95
  let v97 : BitVec 32 := Scalar.remsi v84 c512_i32_42
  let c0_i32_47 : BitVec 32 := 0#32
  let v98 : BitVec 1 := Scalar.cmpi .ne v97 c0_i32_47
  let v99 : BitVec 1 := Scalar.andi v96 v98
  let v85 : BitVec 32 := Scalar.divsi v84 c512_i32_42
  let c1_i32_48 : BitVec 32 := 1#32
  let v100 : BitVec 32 := Scalar.subi v85 c1_i32_48
  let v101 : BitVec 32 := Scalar.select v99 v100 v85
  let c1_i32_94 : BitVec 32 := 1#32
  let v189 : BitVec 32 := Scalar.subi v101 c1_i32_94
  let c0_i32_95 : BitVec 32 := 0#32
  let v190 : BitVec 32 := Scalar.maxsi v189 c0_i32_95
  let v649 : BitVec 32 := Scalar.minsi v648 v190
  let c512_i32_369 : BitVec 32 := 512#32
  let v650 : BitVec 32 := Scalar.muli v649 c512_i32_369
  v650
def k0_mult14 (i : grid0.Coords) (k0_t1 : Fin (k0_t1_loop i).trips) : BitVec 32 :=
  let c6_i32_327 : BitVec 32 := 6#32
  let c0_i32_175 : BitVec 32 := 0#32
  let c1_i32_177 : BitVec 32 := 1#32
  let arg23 : BitVec 32 := Scf.iv c0_i32_175 c1_i32_177 k0_t1
  let v582 : BitVec 32 := Scalar.muli c6_i32_327 arg23
  let c3_i32_328 : BitVec 32 := 3#32
  let v583 : BitVec 32 := Scalar.addi v582 c3_i32_328
  let c2_i32_405 : BitVec 32 := 2#32
  let v710 : BitVec 32 := Scalar.addi v583 c2_i32_405
  let c2_i32_406 : BitVec 32 := 2#32
  let v711 : BitVec 32 := Scalar.addi v710 c2_i32_406
  let arg1 : BitVec 32 := BitVec.ofNat 32 (i 1).val
  let c1_i32 : BitVec 32 := 1#32
  let v80 : BitVec 32 := Scalar.subi arg1 c1_i32
  let c0_i32_38 : BitVec 32 := 0#32
  let v81 : BitVec 32 := Scalar.maxsi v80 c0_i32_38
  let c128_i32_39 : BitVec 32 := 128#32
  let v82 : BitVec 32 := Scalar.muli v81 c128_i32_39
  let c512_i32_40 : BitVec 32 := 512#32
  let v83 : BitVec 32 := Scalar.addi v82 c512_i32_40
  let c1_i32_41 : BitVec 32 := 1#32
  let v84 : BitVec 32 := Scalar.subi v83 c1_i32_41
  let c0_i32_43 : BitVec 32 := 0#32
  let v86 : BitVec 1 := Scalar.cmpi .sgt v84 c0_i32_43
  let v87 : BitVec 32 := Scalar.extui v86
  let c0_i32_44 : BitVec 32 := 0#32
  let v88 : BitVec 1 := Scalar.cmpi .slt v84 c0_i32_44
  let v89 : BitVec 32 := Scalar.extui v88
  let v90 : BitVec 32 := Scalar.subi v87 v89
  let c512_i32_42 : BitVec 32 := 512#32
  let c0_i32_45 : BitVec 32 := 0#32
  let v91 : BitVec 1 := Scalar.cmpi .sgt c512_i32_42 c0_i32_45
  let v92 : BitVec 32 := Scalar.extui v91
  let c0_i32_46 : BitVec 32 := 0#32
  let v93 : BitVec 1 := Scalar.cmpi .slt c512_i32_42 c0_i32_46
  let v94 : BitVec 32 := Scalar.extui v93
  let v95 : BitVec 32 := Scalar.subi v92 v94
  let v96 : BitVec 1 := Scalar.cmpi .ne v90 v95
  let v97 : BitVec 32 := Scalar.remsi v84 c512_i32_42
  let c0_i32_47 : BitVec 32 := 0#32
  let v98 : BitVec 1 := Scalar.cmpi .ne v97 c0_i32_47
  let v99 : BitVec 1 := Scalar.andi v96 v98
  let v85 : BitVec 32 := Scalar.divsi v84 c512_i32_42
  let c1_i32_48 : BitVec 32 := 1#32
  let v100 : BitVec 32 := Scalar.subi v85 c1_i32_48
  let v101 : BitVec 32 := Scalar.select v99 v100 v85
  let c1_i32_94 : BitVec 32 := 1#32
  let v189 : BitVec 32 := Scalar.subi v101 c1_i32_94
  let c0_i32_95 : BitVec 32 := 0#32
  let v190 : BitVec 32 := Scalar.maxsi v189 c0_i32_95
  let v712 : BitVec 32 := Scalar.minsi v711 v190
  let c512_i32_407 : BitVec 32 := 512#32
  let v713 : BitVec 32 := Scalar.muli v712 c512_i32_407
  v713
@[reducible] def k0_t2_loop (i : grid0.Coords) : Scf.Loop 32 :=
  let c0_i32_175 : BitVec 32 := 0#32
  let arg1 : BitVec 32 := BitVec.ofNat 32 (i 1).val
  let c1_i32 : BitVec 32 := 1#32
  let v80 : BitVec 32 := Scalar.subi arg1 c1_i32
  let c0_i32_38 : BitVec 32 := 0#32
  let v81 : BitVec 32 := Scalar.maxsi v80 c0_i32_38
  let c128_i32_39 : BitVec 32 := 128#32
  let v82 : BitVec 32 := Scalar.muli v81 c128_i32_39
  let c512_i32_40 : BitVec 32 := 512#32
  let v83 : BitVec 32 := Scalar.addi v82 c512_i32_40
  let c1_i32_41 : BitVec 32 := 1#32
  let v84 : BitVec 32 := Scalar.subi v83 c1_i32_41
  let c0_i32_43 : BitVec 32 := 0#32
  let v86 : BitVec 1 := Scalar.cmpi .sgt v84 c0_i32_43
  let v87 : BitVec 32 := Scalar.extui v86
  let c0_i32_44 : BitVec 32 := 0#32
  let v88 : BitVec 1 := Scalar.cmpi .slt v84 c0_i32_44
  let v89 : BitVec 32 := Scalar.extui v88
  let v90 : BitVec 32 := Scalar.subi v87 v89
  let c512_i32_42 : BitVec 32 := 512#32
  let c0_i32_45 : BitVec 32 := 0#32
  let v91 : BitVec 1 := Scalar.cmpi .sgt c512_i32_42 c0_i32_45
  let v92 : BitVec 32 := Scalar.extui v91
  let c0_i32_46 : BitVec 32 := 0#32
  let v93 : BitVec 1 := Scalar.cmpi .slt c512_i32_42 c0_i32_46
  let v94 : BitVec 32 := Scalar.extui v93
  let v95 : BitVec 32 := Scalar.subi v92 v94
  let v96 : BitVec 1 := Scalar.cmpi .ne v90 v95
  let v97 : BitVec 32 := Scalar.remsi v84 c512_i32_42
  let c0_i32_47 : BitVec 32 := 0#32
  let v98 : BitVec 1 := Scalar.cmpi .ne v97 c0_i32_47
  let v99 : BitVec 1 := Scalar.andi v96 v98
  let v85 : BitVec 32 := Scalar.divsi v84 c512_i32_42
  let c1_i32_48 : BitVec 32 := 1#32
  let v100 : BitVec 32 := Scalar.subi v85 c1_i32_48
  let v101 : BitVec 32 := Scalar.select v99 v100 v85
  let c0_i32_168 : BitVec 32 := 0#32
  let v308 : BitVec 1 := Scalar.cmpi .sgt v101 c0_i32_168
  let v309 : BitVec 32 := Scalar.extui v308
  let c0_i32_169 : BitVec 32 := 0#32
  let v310 : BitVec 1 := Scalar.cmpi .slt v101 c0_i32_169
  let v311 : BitVec 32 := Scalar.extui v310
  let v312 : BitVec 32 := Scalar.subi v309 v311
  let c6_i32 : BitVec 32 := 6#32
  let c0_i32_170 : BitVec 32 := 0#32
  let v313 : BitVec 1 := Scalar.cmpi .sgt c6_i32 c0_i32_170
  let v314 : BitVec 32 := Scalar.extui v313
  let c0_i32_171 : BitVec 32 := 0#32
  let v315 : BitVec 1 := Scalar.cmpi .slt c6_i32 c0_i32_171
  let v316 : BitVec 32 := Scalar.extui v315
  let v317 : BitVec 32 := Scalar.subi v314 v316
  let v318 : BitVec 1 := Scalar.cmpi .ne v312 v317
  let v319 : BitVec 32 := Scalar.remsi v101 c6_i32
  let c0_i32_172 : BitVec 32 := 0#32
  let v320 : BitVec 1 := Scalar.cmpi .ne v319 c0_i32_172
  let v321 : BitVec 1 := Scalar.andi v318 v320
  let v307 : BitVec 32 := Scalar.divsi v101 c6_i32
  let c1_i32_173 : BitVec 32 := 1#32
  let v322 : BitVec 32 := Scalar.subi v307 c1_i32_173
  let v323 : BitVec 32 := Scalar.select v321 v322 v307
  let v324 : BitVec 32 := Scalar.subi v323 c0_i32_175
  let c1_i32_176 : BitVec 32 := 1#32
  let v326 : BitVec 32 := Scalar.divsi v324 c1_i32_176
  let v327 : BitVec 32 := Scalar.muli v326 c1_i32_176
  let v328 : BitVec 32 := Scalar.addi c0_i32_175 v327
  let v325 : BitVec 32 := Scalar.addi c0_i32_175 v324
  let c1_i32_178 : BitVec 32 := 1#32
  ⟨v328, v325, c1_i32_178⟩
def k0_mult15 (i : grid0.Coords) (k0_t2 : Fin (k0_t2_loop i).trips) : BitVec 32 :=
  let c6_i32_212 : BitVec 32 := 6#32
  let c0_i32_175 : BitVec 32 := 0#32
  let arg1 : BitVec 32 := BitVec.ofNat 32 (i 1).val
  let c1_i32 : BitVec 32 := 1#32
  let v80 : BitVec 32 := Scalar.subi arg1 c1_i32
  let c0_i32_38 : BitVec 32 := 0#32
  let v81 : BitVec 32 := Scalar.maxsi v80 c0_i32_38
  let c128_i32_39 : BitVec 32 := 128#32
  let v82 : BitVec 32 := Scalar.muli v81 c128_i32_39
  let c512_i32_40 : BitVec 32 := 512#32
  let v83 : BitVec 32 := Scalar.addi v82 c512_i32_40
  let c1_i32_41 : BitVec 32 := 1#32
  let v84 : BitVec 32 := Scalar.subi v83 c1_i32_41
  let c0_i32_43 : BitVec 32 := 0#32
  let v86 : BitVec 1 := Scalar.cmpi .sgt v84 c0_i32_43
  let v87 : BitVec 32 := Scalar.extui v86
  let c0_i32_44 : BitVec 32 := 0#32
  let v88 : BitVec 1 := Scalar.cmpi .slt v84 c0_i32_44
  let v89 : BitVec 32 := Scalar.extui v88
  let v90 : BitVec 32 := Scalar.subi v87 v89
  let c512_i32_42 : BitVec 32 := 512#32
  let c0_i32_45 : BitVec 32 := 0#32
  let v91 : BitVec 1 := Scalar.cmpi .sgt c512_i32_42 c0_i32_45
  let v92 : BitVec 32 := Scalar.extui v91
  let c0_i32_46 : BitVec 32 := 0#32
  let v93 : BitVec 1 := Scalar.cmpi .slt c512_i32_42 c0_i32_46
  let v94 : BitVec 32 := Scalar.extui v93
  let v95 : BitVec 32 := Scalar.subi v92 v94
  let v96 : BitVec 1 := Scalar.cmpi .ne v90 v95
  let v97 : BitVec 32 := Scalar.remsi v84 c512_i32_42
  let c0_i32_47 : BitVec 32 := 0#32
  let v98 : BitVec 1 := Scalar.cmpi .ne v97 c0_i32_47
  let v99 : BitVec 1 := Scalar.andi v96 v98
  let v85 : BitVec 32 := Scalar.divsi v84 c512_i32_42
  let c1_i32_48 : BitVec 32 := 1#32
  let v100 : BitVec 32 := Scalar.subi v85 c1_i32_48
  let v101 : BitVec 32 := Scalar.select v99 v100 v85
  let c0_i32_168 : BitVec 32 := 0#32
  let v308 : BitVec 1 := Scalar.cmpi .sgt v101 c0_i32_168
  let v309 : BitVec 32 := Scalar.extui v308
  let c0_i32_169 : BitVec 32 := 0#32
  let v310 : BitVec 1 := Scalar.cmpi .slt v101 c0_i32_169
  let v311 : BitVec 32 := Scalar.extui v310
  let v312 : BitVec 32 := Scalar.subi v309 v311
  let c6_i32 : BitVec 32 := 6#32
  let c0_i32_170 : BitVec 32 := 0#32
  let v313 : BitVec 1 := Scalar.cmpi .sgt c6_i32 c0_i32_170
  let v314 : BitVec 32 := Scalar.extui v313
  let c0_i32_171 : BitVec 32 := 0#32
  let v315 : BitVec 1 := Scalar.cmpi .slt c6_i32 c0_i32_171
  let v316 : BitVec 32 := Scalar.extui v315
  let v317 : BitVec 32 := Scalar.subi v314 v316
  let v318 : BitVec 1 := Scalar.cmpi .ne v312 v317
  let v319 : BitVec 32 := Scalar.remsi v101 c6_i32
  let c0_i32_172 : BitVec 32 := 0#32
  let v320 : BitVec 1 := Scalar.cmpi .ne v319 c0_i32_172
  let v321 : BitVec 1 := Scalar.andi v318 v320
  let v307 : BitVec 32 := Scalar.divsi v101 c6_i32
  let c1_i32_173 : BitVec 32 := 1#32
  let v322 : BitVec 32 := Scalar.subi v307 c1_i32_173
  let v323 : BitVec 32 := Scalar.select v321 v322 v307
  let v324 : BitVec 32 := Scalar.subi v323 c0_i32_175
  let c1_i32_176 : BitVec 32 := 1#32
  let v326 : BitVec 32 := Scalar.divsi v324 c1_i32_176
  let v327 : BitVec 32 := Scalar.muli v326 c1_i32_176
  let v328 : BitVec 32 := Scalar.addi c0_i32_175 v327
  let c1_i32_178 : BitVec 32 := 1#32
  let arg23 : BitVec 32 := Scf.iv v328 c1_i32_178 k0_t2
  let v392 : BitVec 32 := Scalar.muli c6_i32_212 arg23
  let c0_i32_213 : BitVec 32 := 0#32
  let v393 : BitVec 32 := Scalar.addi v392 c0_i32_213
  let c2_i32_214 : BitVec 32 := 2#32
  let v394 : BitVec 32 := Scalar.addi v393 c2_i32_214
  let c1_i32_94 : BitVec 32 := 1#32
  let v189 : BitVec 32 := Scalar.subi v101 c1_i32_94
  let c0_i32_95 : BitVec 32 := 0#32
  let v190 : BitVec 32 := Scalar.maxsi v189 c0_i32_95
  let v395 : BitVec 32 := Scalar.minsi v394 v190
  let c512_i32_215 : BitVec 32 := 512#32
  let v396 : BitVec 32 := Scalar.muli v395 c512_i32_215
  v396
def k0_off23 (i : grid0.Coords) (k0_t2 : Fin (k0_t2_loop i).trips) (c0_i32_213 : BitVec 32) : Fin 3 → Nat :=
  let c0_216 : Index := 0#32
  let c6_i32_212 : BitVec 32 := 6#32
  let c0_i32_175 : BitVec 32 := 0#32
  let arg1 : BitVec 32 := BitVec.ofNat 32 (i 1).val
  let c1_i32 : BitVec 32 := 1#32
  let v80 : BitVec 32 := Scalar.subi arg1 c1_i32
  let c0_i32_38 : BitVec 32 := 0#32
  let v81 : BitVec 32 := Scalar.maxsi v80 c0_i32_38
  let c128_i32_39 : BitVec 32 := 128#32
  let v82 : BitVec 32 := Scalar.muli v81 c128_i32_39
  let c512_i32_40 : BitVec 32 := 512#32
  let v83 : BitVec 32 := Scalar.addi v82 c512_i32_40
  let c1_i32_41 : BitVec 32 := 1#32
  let v84 : BitVec 32 := Scalar.subi v83 c1_i32_41
  let c0_i32_43 : BitVec 32 := 0#32
  let v86 : BitVec 1 := Scalar.cmpi .sgt v84 c0_i32_43
  let v87 : BitVec 32 := Scalar.extui v86
  let c0_i32_44 : BitVec 32 := 0#32
  let v88 : BitVec 1 := Scalar.cmpi .slt v84 c0_i32_44
  let v89 : BitVec 32 := Scalar.extui v88
  let v90 : BitVec 32 := Scalar.subi v87 v89
  let c512_i32_42 : BitVec 32 := 512#32
  let c0_i32_45 : BitVec 32 := 0#32
  let v91 : BitVec 1 := Scalar.cmpi .sgt c512_i32_42 c0_i32_45
  let v92 : BitVec 32 := Scalar.extui v91
  let c0_i32_46 : BitVec 32 := 0#32
  let v93 : BitVec 1 := Scalar.cmpi .slt c512_i32_42 c0_i32_46
  let v94 : BitVec 32 := Scalar.extui v93
  let v95 : BitVec 32 := Scalar.subi v92 v94
  let v96 : BitVec 1 := Scalar.cmpi .ne v90 v95
  let v97 : BitVec 32 := Scalar.remsi v84 c512_i32_42
  let c0_i32_47 : BitVec 32 := 0#32
  let v98 : BitVec 1 := Scalar.cmpi .ne v97 c0_i32_47
  let v99 : BitVec 1 := Scalar.andi v96 v98
  let v85 : BitVec 32 := Scalar.divsi v84 c512_i32_42
  let c1_i32_48 : BitVec 32 := 1#32
  let v100 : BitVec 32 := Scalar.subi v85 c1_i32_48
  let v101 : BitVec 32 := Scalar.select v99 v100 v85
  let c0_i32_168 : BitVec 32 := 0#32
  let v308 : BitVec 1 := Scalar.cmpi .sgt v101 c0_i32_168
  let v309 : BitVec 32 := Scalar.extui v308
  let c0_i32_169 : BitVec 32 := 0#32
  let v310 : BitVec 1 := Scalar.cmpi .slt v101 c0_i32_169
  let v311 : BitVec 32 := Scalar.extui v310
  let v312 : BitVec 32 := Scalar.subi v309 v311
  let c6_i32 : BitVec 32 := 6#32
  let c0_i32_170 : BitVec 32 := 0#32
  let v313 : BitVec 1 := Scalar.cmpi .sgt c6_i32 c0_i32_170
  let v314 : BitVec 32 := Scalar.extui v313
  let c0_i32_171 : BitVec 32 := 0#32
  let v315 : BitVec 1 := Scalar.cmpi .slt c6_i32 c0_i32_171
  let v316 : BitVec 32 := Scalar.extui v315
  let v317 : BitVec 32 := Scalar.subi v314 v316
  let v318 : BitVec 1 := Scalar.cmpi .ne v312 v317
  let v319 : BitVec 32 := Scalar.remsi v101 c6_i32
  let c0_i32_172 : BitVec 32 := 0#32
  let v320 : BitVec 1 := Scalar.cmpi .ne v319 c0_i32_172
  let v321 : BitVec 1 := Scalar.andi v318 v320
  let v307 : BitVec 32 := Scalar.divsi v101 c6_i32
  let c1_i32_173 : BitVec 32 := 1#32
  let v322 : BitVec 32 := Scalar.subi v307 c1_i32_173
  let v323 : BitVec 32 := Scalar.select v321 v322 v307
  let v324 : BitVec 32 := Scalar.subi v323 c0_i32_175
  let c1_i32_176 : BitVec 32 := 1#32
  let v326 : BitVec 32 := Scalar.divsi v324 c1_i32_176
  let v327 : BitVec 32 := Scalar.muli v326 c1_i32_176
  let v328 : BitVec 32 := Scalar.addi c0_i32_175 v327
  let c1_i32_178 : BitVec 32 := 1#32
  let arg23 : BitVec 32 := Scf.iv v328 c1_i32_178 k0_t2
  let v392 : BitVec 32 := Scalar.muli c6_i32_212 arg23
  let v393 : BitVec 32 := Scalar.addi v392 c0_i32_213
  let c2_i32_214 : BitVec 32 := 2#32
  let v394 : BitVec 32 := Scalar.addi v393 c2_i32_214
  let c1_i32_94 : BitVec 32 := 1#32
  let v189 : BitVec 32 := Scalar.subi v101 c1_i32_94
  let c0_i32_95 : BitVec 32 := 0#32
  let v190 : BitVec 32 := Scalar.maxsi v189 c0_i32_95
  let v395 : BitVec 32 := Scalar.minsi v394 v190
  let c512_i32_215 : BitVec 32 := 512#32
  let v396 : BitVec 32 := Scalar.muli v395 c512_i32_215
  let v397 : BitVec 32 := v396
  let v398 : Index := Scalar.indexCast v397
  let c0_217 : Index := 0#32
  ![0, v398.toNat, 0]
def k0_off24 (i : grid0.Coords) (k0_t2 : Fin (k0_t2_loop i).trips) (c0_i32_213 : BitVec 32) : Fin 3 → Nat :=
  let c6_i32_212 : BitVec 32 := 6#32
  let c0_i32_175 : BitVec 32 := 0#32
  let arg1 : BitVec 32 := BitVec.ofNat 32 (i 1).val
  let c1_i32 : BitVec 32 := 1#32
  let v80 : BitVec 32 := Scalar.subi arg1 c1_i32
  let c0_i32_38 : BitVec 32 := 0#32
  let v81 : BitVec 32 := Scalar.maxsi v80 c0_i32_38
  let c128_i32_39 : BitVec 32 := 128#32
  let v82 : BitVec 32 := Scalar.muli v81 c128_i32_39
  let c512_i32_40 : BitVec 32 := 512#32
  let v83 : BitVec 32 := Scalar.addi v82 c512_i32_40
  let c1_i32_41 : BitVec 32 := 1#32
  let v84 : BitVec 32 := Scalar.subi v83 c1_i32_41
  let c0_i32_43 : BitVec 32 := 0#32
  let v86 : BitVec 1 := Scalar.cmpi .sgt v84 c0_i32_43
  let v87 : BitVec 32 := Scalar.extui v86
  let c0_i32_44 : BitVec 32 := 0#32
  let v88 : BitVec 1 := Scalar.cmpi .slt v84 c0_i32_44
  let v89 : BitVec 32 := Scalar.extui v88
  let v90 : BitVec 32 := Scalar.subi v87 v89
  let c512_i32_42 : BitVec 32 := 512#32
  let c0_i32_45 : BitVec 32 := 0#32
  let v91 : BitVec 1 := Scalar.cmpi .sgt c512_i32_42 c0_i32_45
  let v92 : BitVec 32 := Scalar.extui v91
  let c0_i32_46 : BitVec 32 := 0#32
  let v93 : BitVec 1 := Scalar.cmpi .slt c512_i32_42 c0_i32_46
  let v94 : BitVec 32 := Scalar.extui v93
  let v95 : BitVec 32 := Scalar.subi v92 v94
  let v96 : BitVec 1 := Scalar.cmpi .ne v90 v95
  let v97 : BitVec 32 := Scalar.remsi v84 c512_i32_42
  let c0_i32_47 : BitVec 32 := 0#32
  let v98 : BitVec 1 := Scalar.cmpi .ne v97 c0_i32_47
  let v99 : BitVec 1 := Scalar.andi v96 v98
  let v85 : BitVec 32 := Scalar.divsi v84 c512_i32_42
  let c1_i32_48 : BitVec 32 := 1#32
  let v100 : BitVec 32 := Scalar.subi v85 c1_i32_48
  let v101 : BitVec 32 := Scalar.select v99 v100 v85
  let c0_i32_168 : BitVec 32 := 0#32
  let v308 : BitVec 1 := Scalar.cmpi .sgt v101 c0_i32_168
  let v309 : BitVec 32 := Scalar.extui v308
  let c0_i32_169 : BitVec 32 := 0#32
  let v310 : BitVec 1 := Scalar.cmpi .slt v101 c0_i32_169
  let v311 : BitVec 32 := Scalar.extui v310
  let v312 : BitVec 32 := Scalar.subi v309 v311
  let c6_i32 : BitVec 32 := 6#32
  let c0_i32_170 : BitVec 32 := 0#32
  let v313 : BitVec 1 := Scalar.cmpi .sgt c6_i32 c0_i32_170
  let v314 : BitVec 32 := Scalar.extui v313
  let c0_i32_171 : BitVec 32 := 0#32
  let v315 : BitVec 1 := Scalar.cmpi .slt c6_i32 c0_i32_171
  let v316 : BitVec 32 := Scalar.extui v315
  let v317 : BitVec 32 := Scalar.subi v314 v316
  let v318 : BitVec 1 := Scalar.cmpi .ne v312 v317
  let v319 : BitVec 32 := Scalar.remsi v101 c6_i32
  let c0_i32_172 : BitVec 32 := 0#32
  let v320 : BitVec 1 := Scalar.cmpi .ne v319 c0_i32_172
  let v321 : BitVec 1 := Scalar.andi v318 v320
  let v307 : BitVec 32 := Scalar.divsi v101 c6_i32
  let c1_i32_173 : BitVec 32 := 1#32
  let v322 : BitVec 32 := Scalar.subi v307 c1_i32_173
  let v323 : BitVec 32 := Scalar.select v321 v322 v307
  let v324 : BitVec 32 := Scalar.subi v323 c0_i32_175
  let c1_i32_176 : BitVec 32 := 1#32
  let v326 : BitVec 32 := Scalar.divsi v324 c1_i32_176
  let v327 : BitVec 32 := Scalar.muli v326 c1_i32_176
  let v328 : BitVec 32 := Scalar.addi c0_i32_175 v327
  let c1_i32_178 : BitVec 32 := 1#32
  let arg23 : BitVec 32 := Scf.iv v328 c1_i32_178 k0_t2
  let v392 : BitVec 32 := Scalar.muli c6_i32_212 arg23
  let v393 : BitVec 32 := Scalar.addi v392 c0_i32_213
  let c2_i32_214 : BitVec 32 := 2#32
  let v394 : BitVec 32 := Scalar.addi v393 c2_i32_214
  let c1_i32_94 : BitVec 32 := 1#32
  let v189 : BitVec 32 := Scalar.subi v101 c1_i32_94
  let c0_i32_95 : BitVec 32 := 0#32
  let v190 : BitVec 32 := Scalar.maxsi v189 c0_i32_95
  let v395 : BitVec 32 := Scalar.minsi v394 v190
  let c8_i32_218 : BitVec 32 := 8#32
  let v401 : BitVec 32 := Scalar.muli v395 c8_i32_218
  let c0_i32_220 : BitVec 32 := 0#32
  let v403 : BitVec 1 := Scalar.cmpi .sgt v401 c0_i32_220
  let v404 : BitVec 32 := Scalar.extui v403
  let c0_i32_221 : BitVec 32 := 0#32
  let v405 : BitVec 1 := Scalar.cmpi .slt v401 c0_i32_221
  let v406 : BitVec 32 := Scalar.extui v405
  let v407 : BitVec 32 := Scalar.subi v404 v406
  let c128_i32_219 : BitVec 32 := 128#32
  let c0_i32_222 : BitVec 32 := 0#32
  let v408 : BitVec 1 := Scalar.cmpi .sgt c128_i32_219 c0_i32_222
  let v409 : BitVec 32 := Scalar.extui v408
  let c0_i32_223 : BitVec 32 := 0#32
  let v410 : BitVec 1 := Scalar.cmpi .slt c128_i32_219 c0_i32_223
  let v411 : BitVec 32 := Scalar.extui v410
  let v412 : BitVec 32 := Scalar.subi v409 v411
  let v413 : BitVec 1 := Scalar.cmpi .ne v407 v412
  let v414 : BitVec 32 := Scalar.remsi v401 c128_i32_219
  let c0_i32_224 : BitVec 32 := 0#32
  let v415 : BitVec 1 := Scalar.cmpi .ne v414 c0_i32_224
  let v416 : BitVec 1 := Scalar.andi v413 v415
  let v402 : BitVec 32 := Scalar.divsi v401 c128_i32_219
  let c1_i32_225 : BitVec 32 := 1#32
  let v417 : BitVec 32 := Scalar.subi v402 c1_i32_225
  let v418 : BitVec 32 := Scalar.select v416 v417 v402
  let v419 : Index := Scalar.indexCast v418
  let c0_226 : Index := 0#32
  let c0_227 : Index := 0#32
  ![v419.toNat, 0, 0]
def k0_off25 (i : grid0.Coords) (k0_t2 : Fin (k0_t2_loop i).trips) (c0_i32_238 : BitVec 32) : Fin 4 → Nat :=
  let c0_239 : Index := 0#32
  let c6_i32_212 : BitVec 32 := 6#32
  let c0_i32_175 : BitVec 32 := 0#32
  let arg1 : BitVec 32 := BitVec.ofNat 32 (i 1).val
  let c1_i32 : BitVec 32 := 1#32
  let v80 : BitVec 32 := Scalar.subi arg1 c1_i32
  let c0_i32_38 : BitVec 32 := 0#32
  let v81 : BitVec 32 := Scalar.maxsi v80 c0_i32_38
  let c128_i32_39 : BitVec 32 := 128#32
  let v82 : BitVec 32 := Scalar.muli v81 c128_i32_39
  let c512_i32_40 : BitVec 32 := 512#32
  let v83 : BitVec 32 := Scalar.addi v82 c512_i32_40
  let c1_i32_41 : BitVec 32 := 1#32
  let v84 : BitVec 32 := Scalar.subi v83 c1_i32_41
  let c0_i32_43 : BitVec 32 := 0#32
  let v86 : BitVec 1 := Scalar.cmpi .sgt v84 c0_i32_43
  let v87 : BitVec 32 := Scalar.extui v86
  let c0_i32_44 : BitVec 32 := 0#32
  let v88 : BitVec 1 := Scalar.cmpi .slt v84 c0_i32_44
  let v89 : BitVec 32 := Scalar.extui v88
  let v90 : BitVec 32 := Scalar.subi v87 v89
  let c512_i32_42 : BitVec 32 := 512#32
  let c0_i32_45 : BitVec 32 := 0#32
  let v91 : BitVec 1 := Scalar.cmpi .sgt c512_i32_42 c0_i32_45
  let v92 : BitVec 32 := Scalar.extui v91
  let c0_i32_46 : BitVec 32 := 0#32
  let v93 : BitVec 1 := Scalar.cmpi .slt c512_i32_42 c0_i32_46
  let v94 : BitVec 32 := Scalar.extui v93
  let v95 : BitVec 32 := Scalar.subi v92 v94
  let v96 : BitVec 1 := Scalar.cmpi .ne v90 v95
  let v97 : BitVec 32 := Scalar.remsi v84 c512_i32_42
  let c0_i32_47 : BitVec 32 := 0#32
  let v98 : BitVec 1 := Scalar.cmpi .ne v97 c0_i32_47
  let v99 : BitVec 1 := Scalar.andi v96 v98
  let v85 : BitVec 32 := Scalar.divsi v84 c512_i32_42
  let c1_i32_48 : BitVec 32 := 1#32
  let v100 : BitVec 32 := Scalar.subi v85 c1_i32_48
  let v101 : BitVec 32 := Scalar.select v99 v100 v85
  let c0_i32_168 : BitVec 32 := 0#32
  let v308 : BitVec 1 := Scalar.cmpi .sgt v101 c0_i32_168
  let v309 : BitVec 32 := Scalar.extui v308
  let c0_i32_169 : BitVec 32 := 0#32
  let v310 : BitVec 1 := Scalar.cmpi .slt v101 c0_i32_169
  let v311 : BitVec 32 := Scalar.extui v310
  let v312 : BitVec 32 := Scalar.subi v309 v311
  let c6_i32 : BitVec 32 := 6#32
  let c0_i32_170 : BitVec 32 := 0#32
  let v313 : BitVec 1 := Scalar.cmpi .sgt c6_i32 c0_i32_170
  let v314 : BitVec 32 := Scalar.extui v313
  let c0_i32_171 : BitVec 32 := 0#32
  let v315 : BitVec 1 := Scalar.cmpi .slt c6_i32 c0_i32_171
  let v316 : BitVec 32 := Scalar.extui v315
  let v317 : BitVec 32 := Scalar.subi v314 v316
  let v318 : BitVec 1 := Scalar.cmpi .ne v312 v317
  let v319 : BitVec 32 := Scalar.remsi v101 c6_i32
  let c0_i32_172 : BitVec 32 := 0#32
  let v320 : BitVec 1 := Scalar.cmpi .ne v319 c0_i32_172
  let v321 : BitVec 1 := Scalar.andi v318 v320
  let v307 : BitVec 32 := Scalar.divsi v101 c6_i32
  let c1_i32_173 : BitVec 32 := 1#32
  let v322 : BitVec 32 := Scalar.subi v307 c1_i32_173
  let v323 : BitVec 32 := Scalar.select v321 v322 v307
  let v324 : BitVec 32 := Scalar.subi v323 c0_i32_175
  let c1_i32_176 : BitVec 32 := 1#32
  let v326 : BitVec 32 := Scalar.divsi v324 c1_i32_176
  let v327 : BitVec 32 := Scalar.muli v326 c1_i32_176
  let v328 : BitVec 32 := Scalar.addi c0_i32_175 v327
  let c1_i32_178 : BitVec 32 := 1#32
  let arg23 : BitVec 32 := Scf.iv v328 c1_i32_178 k0_t2
  let v392 : BitVec 32 := Scalar.muli c6_i32_212 arg23
  let v433 : BitVec 32 := Scalar.addi v392 c0_i32_238
  let v434 : Index := Scalar.indexCast v433
  let c0_240 : Index := 0#32
  let c0_241 : Index := 0#32
  ![0, v434.toNat, 0, 0]
def k0_mult16 (i : grid0.Coords) (k0_t2 : Fin (k0_t2_loop i).trips) : BitVec 32 :=
  let c6_i32_212 : BitVec 32 := 6#32
  let c0_i32_175 : BitVec 32 := 0#32
  let arg1 : BitVec 32 := BitVec.ofNat 32 (i 1).val
  let c1_i32 : BitVec 32 := 1#32
  let v80 : BitVec 32 := Scalar.subi arg1 c1_i32
  let c0_i32_38 : BitVec 32 := 0#32
  let v81 : BitVec 32 := Scalar.maxsi v80 c0_i32_38
  let c128_i32_39 : BitVec 32 := 128#32
  let v82 : BitVec 32 := Scalar.muli v81 c128_i32_39
  let c512_i32_40 : BitVec 32 := 512#32
  let v83 : BitVec 32 := Scalar.addi v82 c512_i32_40
  let c1_i32_41 : BitVec 32 := 1#32
  let v84 : BitVec 32 := Scalar.subi v83 c1_i32_41
  let c0_i32_43 : BitVec 32 := 0#32
  let v86 : BitVec 1 := Scalar.cmpi .sgt v84 c0_i32_43
  let v87 : BitVec 32 := Scalar.extui v86
  let c0_i32_44 : BitVec 32 := 0#32
  let v88 : BitVec 1 := Scalar.cmpi .slt v84 c0_i32_44
  let v89 : BitVec 32 := Scalar.extui v88
  let v90 : BitVec 32 := Scalar.subi v87 v89
  let c512_i32_42 : BitVec 32 := 512#32
  let c0_i32_45 : BitVec 32 := 0#32
  let v91 : BitVec 1 := Scalar.cmpi .sgt c512_i32_42 c0_i32_45
  let v92 : BitVec 32 := Scalar.extui v91
  let c0_i32_46 : BitVec 32 := 0#32
  let v93 : BitVec 1 := Scalar.cmpi .slt c512_i32_42 c0_i32_46
  let v94 : BitVec 32 := Scalar.extui v93
  let v95 : BitVec 32 := Scalar.subi v92 v94
  let v96 : BitVec 1 := Scalar.cmpi .ne v90 v95
  let v97 : BitVec 32 := Scalar.remsi v84 c512_i32_42
  let c0_i32_47 : BitVec 32 := 0#32
  let v98 : BitVec 1 := Scalar.cmpi .ne v97 c0_i32_47
  let v99 : BitVec 1 := Scalar.andi v96 v98
  let v85 : BitVec 32 := Scalar.divsi v84 c512_i32_42
  let c1_i32_48 : BitVec 32 := 1#32
  let v100 : BitVec 32 := Scalar.subi v85 c1_i32_48
  let v101 : BitVec 32 := Scalar.select v99 v100 v85
  let c0_i32_168 : BitVec 32 := 0#32
  let v308 : BitVec 1 := Scalar.cmpi .sgt v101 c0_i32_168
  let v309 : BitVec 32 := Scalar.extui v308
  let c0_i32_169 : BitVec 32 := 0#32
  let v310 : BitVec 1 := Scalar.cmpi .slt v101 c0_i32_169
  let v311 : BitVec 32 := Scalar.extui v310
  let v312 : BitVec 32 := Scalar.subi v309 v311
  let c6_i32 : BitVec 32 := 6#32
  let c0_i32_170 : BitVec 32 := 0#32
  let v313 : BitVec 1 := Scalar.cmpi .sgt c6_i32 c0_i32_170
  let v314 : BitVec 32 := Scalar.extui v313
  let c0_i32_171 : BitVec 32 := 0#32
  let v315 : BitVec 1 := Scalar.cmpi .slt c6_i32 c0_i32_171
  let v316 : BitVec 32 := Scalar.extui v315
  let v317 : BitVec 32 := Scalar.subi v314 v316
  let v318 : BitVec 1 := Scalar.cmpi .ne v312 v317
  let v319 : BitVec 32 := Scalar.remsi v101 c6_i32
  let c0_i32_172 : BitVec 32 := 0#32
  let v320 : BitVec 1 := Scalar.cmpi .ne v319 c0_i32_172
  let v321 : BitVec 1 := Scalar.andi v318 v320
  let v307 : BitVec 32 := Scalar.divsi v101 c6_i32
  let c1_i32_173 : BitVec 32 := 1#32
  let v322 : BitVec 32 := Scalar.subi v307 c1_i32_173
  let v323 : BitVec 32 := Scalar.select v321 v322 v307
  let v324 : BitVec 32 := Scalar.subi v323 c0_i32_175
  let c1_i32_176 : BitVec 32 := 1#32
  let v326 : BitVec 32 := Scalar.divsi v324 c1_i32_176
  let v327 : BitVec 32 := Scalar.muli v326 c1_i32_176
  let v328 : BitVec 32 := Scalar.addi c0_i32_175 v327
  let c1_i32_178 : BitVec 32 := 1#32
  let arg23 : BitVec 32 := Scf.iv v328 c1_i32_178 k0_t2
  let v392 : BitVec 32 := Scalar.muli c6_i32_212 arg23
  let c1_i32_251 : BitVec 32 := 1#32
  let v456 : BitVec 32 := Scalar.addi v392 c1_i32_251
  let c2_i32_252 : BitVec 32 := 2#32
  let v457 : BitVec 32 := Scalar.addi v456 c2_i32_252
  let c1_i32_94 : BitVec 32 := 1#32
  let v189 : BitVec 32 := Scalar.subi v101 c1_i32_94
  let c0_i32_95 : BitVec 32 := 0#32
  let v190 : BitVec 32 := Scalar.maxsi v189 c0_i32_95
  let v458 : BitVec 32 := Scalar.minsi v457 v190
  let c512_i32_253 : BitVec 32 := 512#32
  let v459 : BitVec 32 := Scalar.muli v458 c512_i32_253
  v459
def k0_mult17 (i : grid0.Coords) (k0_t2 : Fin (k0_t2_loop i).trips) : BitVec 32 :=
  let c6_i32_212 : BitVec 32 := 6#32
  let c0_i32_175 : BitVec 32 := 0#32
  let arg1 : BitVec 32 := BitVec.ofNat 32 (i 1).val
  let c1_i32 : BitVec 32 := 1#32
  let v80 : BitVec 32 := Scalar.subi arg1 c1_i32
  let c0_i32_38 : BitVec 32 := 0#32
  let v81 : BitVec 32 := Scalar.maxsi v80 c0_i32_38
  let c128_i32_39 : BitVec 32 := 128#32
  let v82 : BitVec 32 := Scalar.muli v81 c128_i32_39
  let c512_i32_40 : BitVec 32 := 512#32
  let v83 : BitVec 32 := Scalar.addi v82 c512_i32_40
  let c1_i32_41 : BitVec 32 := 1#32
  let v84 : BitVec 32 := Scalar.subi v83 c1_i32_41
  let c0_i32_43 : BitVec 32 := 0#32
  let v86 : BitVec 1 := Scalar.cmpi .sgt v84 c0_i32_43
  let v87 : BitVec 32 := Scalar.extui v86
  let c0_i32_44 : BitVec 32 := 0#32
  let v88 : BitVec 1 := Scalar.cmpi .slt v84 c0_i32_44
  let v89 : BitVec 32 := Scalar.extui v88
  let v90 : BitVec 32 := Scalar.subi v87 v89
  let c512_i32_42 : BitVec 32 := 512#32
  let c0_i32_45 : BitVec 32 := 0#32
  let v91 : BitVec 1 := Scalar.cmpi .sgt c512_i32_42 c0_i32_45
  let v92 : BitVec 32 := Scalar.extui v91
  let c0_i32_46 : BitVec 32 := 0#32
  let v93 : BitVec 1 := Scalar.cmpi .slt c512_i32_42 c0_i32_46
  let v94 : BitVec 32 := Scalar.extui v93
  let v95 : BitVec 32 := Scalar.subi v92 v94
  let v96 : BitVec 1 := Scalar.cmpi .ne v90 v95
  let v97 : BitVec 32 := Scalar.remsi v84 c512_i32_42
  let c0_i32_47 : BitVec 32 := 0#32
  let v98 : BitVec 1 := Scalar.cmpi .ne v97 c0_i32_47
  let v99 : BitVec 1 := Scalar.andi v96 v98
  let v85 : BitVec 32 := Scalar.divsi v84 c512_i32_42
  let c1_i32_48 : BitVec 32 := 1#32
  let v100 : BitVec 32 := Scalar.subi v85 c1_i32_48
  let v101 : BitVec 32 := Scalar.select v99 v100 v85
  let c0_i32_168 : BitVec 32 := 0#32
  let v308 : BitVec 1 := Scalar.cmpi .sgt v101 c0_i32_168
  let v309 : BitVec 32 := Scalar.extui v308
  let c0_i32_169 : BitVec 32 := 0#32
  let v310 : BitVec 1 := Scalar.cmpi .slt v101 c0_i32_169
  let v311 : BitVec 32 := Scalar.extui v310
  let v312 : BitVec 32 := Scalar.subi v309 v311
  let c6_i32 : BitVec 32 := 6#32
  let c0_i32_170 : BitVec 32 := 0#32
  let v313 : BitVec 1 := Scalar.cmpi .sgt c6_i32 c0_i32_170
  let v314 : BitVec 32 := Scalar.extui v313
  let c0_i32_171 : BitVec 32 := 0#32
  let v315 : BitVec 1 := Scalar.cmpi .slt c6_i32 c0_i32_171
  let v316 : BitVec 32 := Scalar.extui v315
  let v317 : BitVec 32 := Scalar.subi v314 v316
  let v318 : BitVec 1 := Scalar.cmpi .ne v312 v317
  let v319 : BitVec 32 := Scalar.remsi v101 c6_i32
  let c0_i32_172 : BitVec 32 := 0#32
  let v320 : BitVec 1 := Scalar.cmpi .ne v319 c0_i32_172
  let v321 : BitVec 1 := Scalar.andi v318 v320
  let v307 : BitVec 32 := Scalar.divsi v101 c6_i32
  let c1_i32_173 : BitVec 32 := 1#32
  let v322 : BitVec 32 := Scalar.subi v307 c1_i32_173
  let v323 : BitVec 32 := Scalar.select v321 v322 v307
  let v324 : BitVec 32 := Scalar.subi v323 c0_i32_175
  let c1_i32_176 : BitVec 32 := 1#32
  let v326 : BitVec 32 := Scalar.divsi v324 c1_i32_176
  let v327 : BitVec 32 := Scalar.muli v326 c1_i32_176
  let v328 : BitVec 32 := Scalar.addi c0_i32_175 v327
  let c1_i32_178 : BitVec 32 := 1#32
  let arg23 : BitVec 32 := Scf.iv v328 c1_i32_178 k0_t2
  let v392 : BitVec 32 := Scalar.muli c6_i32_212 arg23
  let c2_i32_289 : BitVec 32 := 2#32
  let v519 : BitVec 32 := Scalar.addi v392 c2_i32_289
  let c2_i32_290 : BitVec 32 := 2#32
  let v520 : BitVec 32 := Scalar.addi v519 c2_i32_290
  let c1_i32_94 : BitVec 32 := 1#32
  let v189 : BitVec 32 := Scalar.subi v101 c1_i32_94
  let c0_i32_95 : BitVec 32 := 0#32
  let v190 : BitVec 32 := Scalar.maxsi v189 c0_i32_95
  let v521 : BitVec 32 := Scalar.minsi v520 v190
  let c512_i32_291 : BitVec 32 := 512#32
  let v522 : BitVec 32 := Scalar.muli v521 c512_i32_291
  v522
def k0_mult18 (i : grid0.Coords) (k0_t2 : Fin (k0_t2_loop i).trips) : BitVec 32 :=
  let c6_i32_327 : BitVec 32 := 6#32
  let c0_i32_175 : BitVec 32 := 0#32
  let arg1 : BitVec 32 := BitVec.ofNat 32 (i 1).val
  let c1_i32 : BitVec 32 := 1#32
  let v80 : BitVec 32 := Scalar.subi arg1 c1_i32
  let c0_i32_38 : BitVec 32 := 0#32
  let v81 : BitVec 32 := Scalar.maxsi v80 c0_i32_38
  let c128_i32_39 : BitVec 32 := 128#32
  let v82 : BitVec 32 := Scalar.muli v81 c128_i32_39
  let c512_i32_40 : BitVec 32 := 512#32
  let v83 : BitVec 32 := Scalar.addi v82 c512_i32_40
  let c1_i32_41 : BitVec 32 := 1#32
  let v84 : BitVec 32 := Scalar.subi v83 c1_i32_41
  let c0_i32_43 : BitVec 32 := 0#32
  let v86 : BitVec 1 := Scalar.cmpi .sgt v84 c0_i32_43
  let v87 : BitVec 32 := Scalar.extui v86
  let c0_i32_44 : BitVec 32 := 0#32
  let v88 : BitVec 1 := Scalar.cmpi .slt v84 c0_i32_44
  let v89 : BitVec 32 := Scalar.extui v88
  let v90 : BitVec 32 := Scalar.subi v87 v89
  let c512_i32_42 : BitVec 32 := 512#32
  let c0_i32_45 : BitVec 32 := 0#32
  let v91 : BitVec 1 := Scalar.cmpi .sgt c512_i32_42 c0_i32_45
  let v92 : BitVec 32 := Scalar.extui v91
  let c0_i32_46 : BitVec 32 := 0#32
  let v93 : BitVec 1 := Scalar.cmpi .slt c512_i32_42 c0_i32_46
  let v94 : BitVec 32 := Scalar.extui v93
  let v95 : BitVec 32 := Scalar.subi v92 v94
  let v96 : BitVec 1 := Scalar.cmpi .ne v90 v95
  let v97 : BitVec 32 := Scalar.remsi v84 c512_i32_42
  let c0_i32_47 : BitVec 32 := 0#32
  let v98 : BitVec 1 := Scalar.cmpi .ne v97 c0_i32_47
  let v99 : BitVec 1 := Scalar.andi v96 v98
  let v85 : BitVec 32 := Scalar.divsi v84 c512_i32_42
  let c1_i32_48 : BitVec 32 := 1#32
  let v100 : BitVec 32 := Scalar.subi v85 c1_i32_48
  let v101 : BitVec 32 := Scalar.select v99 v100 v85
  let c0_i32_168 : BitVec 32 := 0#32
  let v308 : BitVec 1 := Scalar.cmpi .sgt v101 c0_i32_168
  let v309 : BitVec 32 := Scalar.extui v308
  let c0_i32_169 : BitVec 32 := 0#32
  let v310 : BitVec 1 := Scalar.cmpi .slt v101 c0_i32_169
  let v311 : BitVec 32 := Scalar.extui v310
  let v312 : BitVec 32 := Scalar.subi v309 v311
  let c6_i32 : BitVec 32 := 6#32
  let c0_i32_170 : BitVec 32 := 0#32
  let v313 : BitVec 1 := Scalar.cmpi .sgt c6_i32 c0_i32_170
  let v314 : BitVec 32 := Scalar.extui v313
  let c0_i32_171 : BitVec 32 := 0#32
  let v315 : BitVec 1 := Scalar.cmpi .slt c6_i32 c0_i32_171
  let v316 : BitVec 32 := Scalar.extui v315
  let v317 : BitVec 32 := Scalar.subi v314 v316
  let v318 : BitVec 1 := Scalar.cmpi .ne v312 v317
  let v319 : BitVec 32 := Scalar.remsi v101 c6_i32
  let c0_i32_172 : BitVec 32 := 0#32
  let v320 : BitVec 1 := Scalar.cmpi .ne v319 c0_i32_172
  let v321 : BitVec 1 := Scalar.andi v318 v320
  let v307 : BitVec 32 := Scalar.divsi v101 c6_i32
  let c1_i32_173 : BitVec 32 := 1#32
  let v322 : BitVec 32 := Scalar.subi v307 c1_i32_173
  let v323 : BitVec 32 := Scalar.select v321 v322 v307
  let v324 : BitVec 32 := Scalar.subi v323 c0_i32_175
  let c1_i32_176 : BitVec 32 := 1#32
  let v326 : BitVec 32 := Scalar.divsi v324 c1_i32_176
  let v327 : BitVec 32 := Scalar.muli v326 c1_i32_176
  let v328 : BitVec 32 := Scalar.addi c0_i32_175 v327
  let c1_i32_178 : BitVec 32 := 1#32
  let arg23 : BitVec 32 := Scf.iv v328 c1_i32_178 k0_t2
  let v582 : BitVec 32 := Scalar.muli c6_i32_327 arg23
  let c3_i32_328 : BitVec 32 := 3#32
  let v583 : BitVec 32 := Scalar.addi v582 c3_i32_328
  let c0_i32_329 : BitVec 32 := 0#32
  let v584 : BitVec 32 := Scalar.addi v583 c0_i32_329
  let c2_i32_330 : BitVec 32 := 2#32
  let v585 : BitVec 32 := Scalar.addi v584 c2_i32_330
  let c1_i32_94 : BitVec 32 := 1#32
  let v189 : BitVec 32 := Scalar.subi v101 c1_i32_94
  let c0_i32_95 : BitVec 32 := 0#32
  let v190 : BitVec 32 := Scalar.maxsi v189 c0_i32_95
  let v586 : BitVec 32 := Scalar.minsi v585 v190
  let c512_i32_331 : BitVec 32 := 512#32
  let v587 : BitVec 32 := Scalar.muli v586 c512_i32_331
  v587
def k0_off26 (i : grid0.Coords) (k0_t2 : Fin (k0_t2_loop i).trips) (c0_i32_329 : BitVec 32) : Fin 3 → Nat :=
  let c0_332 : Index := 0#32
  let c6_i32_327 : BitVec 32 := 6#32
  let c0_i32_175 : BitVec 32 := 0#32
  let arg1 : BitVec 32 := BitVec.ofNat 32 (i 1).val
  let c1_i32 : BitVec 32 := 1#32
  let v80 : BitVec 32 := Scalar.subi arg1 c1_i32
  let c0_i32_38 : BitVec 32 := 0#32
  let v81 : BitVec 32 := Scalar.maxsi v80 c0_i32_38
  let c128_i32_39 : BitVec 32 := 128#32
  let v82 : BitVec 32 := Scalar.muli v81 c128_i32_39
  let c512_i32_40 : BitVec 32 := 512#32
  let v83 : BitVec 32 := Scalar.addi v82 c512_i32_40
  let c1_i32_41 : BitVec 32 := 1#32
  let v84 : BitVec 32 := Scalar.subi v83 c1_i32_41
  let c0_i32_43 : BitVec 32 := 0#32
  let v86 : BitVec 1 := Scalar.cmpi .sgt v84 c0_i32_43
  let v87 : BitVec 32 := Scalar.extui v86
  let c0_i32_44 : BitVec 32 := 0#32
  let v88 : BitVec 1 := Scalar.cmpi .slt v84 c0_i32_44
  let v89 : BitVec 32 := Scalar.extui v88
  let v90 : BitVec 32 := Scalar.subi v87 v89
  let c512_i32_42 : BitVec 32 := 512#32
  let c0_i32_45 : BitVec 32 := 0#32
  let v91 : BitVec 1 := Scalar.cmpi .sgt c512_i32_42 c0_i32_45
  let v92 : BitVec 32 := Scalar.extui v91
  let c0_i32_46 : BitVec 32 := 0#32
  let v93 : BitVec 1 := Scalar.cmpi .slt c512_i32_42 c0_i32_46
  let v94 : BitVec 32 := Scalar.extui v93
  let v95 : BitVec 32 := Scalar.subi v92 v94
  let v96 : BitVec 1 := Scalar.cmpi .ne v90 v95
  let v97 : BitVec 32 := Scalar.remsi v84 c512_i32_42
  let c0_i32_47 : BitVec 32 := 0#32
  let v98 : BitVec 1 := Scalar.cmpi .ne v97 c0_i32_47
  let v99 : BitVec 1 := Scalar.andi v96 v98
  let v85 : BitVec 32 := Scalar.divsi v84 c512_i32_42
  let c1_i32_48 : BitVec 32 := 1#32
  let v100 : BitVec 32 := Scalar.subi v85 c1_i32_48
  let v101 : BitVec 32 := Scalar.select v99 v100 v85
  let c0_i32_168 : BitVec 32 := 0#32
  let v308 : BitVec 1 := Scalar.cmpi .sgt v101 c0_i32_168
  let v309 : BitVec 32 := Scalar.extui v308
  let c0_i32_169 : BitVec 32 := 0#32
  let v310 : BitVec 1 := Scalar.cmpi .slt v101 c0_i32_169
  let v311 : BitVec 32 := Scalar.extui v310
  let v312 : BitVec 32 := Scalar.subi v309 v311
  let c6_i32 : BitVec 32 := 6#32
  let c0_i32_170 : BitVec 32 := 0#32
  let v313 : BitVec 1 := Scalar.cmpi .sgt c6_i32 c0_i32_170
  let v314 : BitVec 32 := Scalar.extui v313
  let c0_i32_171 : BitVec 32 := 0#32
  let v315 : BitVec 1 := Scalar.cmpi .slt c6_i32 c0_i32_171
  let v316 : BitVec 32 := Scalar.extui v315
  let v317 : BitVec 32 := Scalar.subi v314 v316
  let v318 : BitVec 1 := Scalar.cmpi .ne v312 v317
  let v319 : BitVec 32 := Scalar.remsi v101 c6_i32
  let c0_i32_172 : BitVec 32 := 0#32
  let v320 : BitVec 1 := Scalar.cmpi .ne v319 c0_i32_172
  let v321 : BitVec 1 := Scalar.andi v318 v320
  let v307 : BitVec 32 := Scalar.divsi v101 c6_i32
  let c1_i32_173 : BitVec 32 := 1#32
  let v322 : BitVec 32 := Scalar.subi v307 c1_i32_173
  let v323 : BitVec 32 := Scalar.select v321 v322 v307
  let v324 : BitVec 32 := Scalar.subi v323 c0_i32_175
  let c1_i32_176 : BitVec 32 := 1#32
  let v326 : BitVec 32 := Scalar.divsi v324 c1_i32_176
  let v327 : BitVec 32 := Scalar.muli v326 c1_i32_176
  let v328 : BitVec 32 := Scalar.addi c0_i32_175 v327
  let c1_i32_178 : BitVec 32 := 1#32
  let arg23 : BitVec 32 := Scf.iv v328 c1_i32_178 k0_t2
  let v582 : BitVec 32 := Scalar.muli c6_i32_327 arg23
  let c3_i32_328 : BitVec 32 := 3#32
  let v583 : BitVec 32 := Scalar.addi v582 c3_i32_328
  let v584 : BitVec 32 := Scalar.addi v583 c0_i32_329
  let c2_i32_330 : BitVec 32 := 2#32
  let v585 : BitVec 32 := Scalar.addi v584 c2_i32_330
  let c1_i32_94 : BitVec 32 := 1#32
  let v189 : BitVec 32 := Scalar.subi v101 c1_i32_94
  let c0_i32_95 : BitVec 32 := 0#32
  let v190 : BitVec 32 := Scalar.maxsi v189 c0_i32_95
  let v586 : BitVec 32 := Scalar.minsi v585 v190
  let c512_i32_331 : BitVec 32 := 512#32
  let v587 : BitVec 32 := Scalar.muli v586 c512_i32_331
  let v588 : BitVec 32 := v587
  let v589 : Index := Scalar.indexCast v588
  let c0_333 : Index := 0#32
  ![0, v589.toNat, 0]
def k0_off27 (i : grid0.Coords) (k0_t2 : Fin (k0_t2_loop i).trips) (c0_i32_329 : BitVec 32) : Fin 3 → Nat :=
  let c6_i32_327 : BitVec 32 := 6#32
  let c0_i32_175 : BitVec 32 := 0#32
  let arg1 : BitVec 32 := BitVec.ofNat 32 (i 1).val
  let c1_i32 : BitVec 32 := 1#32
  let v80 : BitVec 32 := Scalar.subi arg1 c1_i32
  let c0_i32_38 : BitVec 32 := 0#32
  let v81 : BitVec 32 := Scalar.maxsi v80 c0_i32_38
  let c128_i32_39 : BitVec 32 := 128#32
  let v82 : BitVec 32 := Scalar.muli v81 c128_i32_39
  let c512_i32_40 : BitVec 32 := 512#32
  let v83 : BitVec 32 := Scalar.addi v82 c512_i32_40
  let c1_i32_41 : BitVec 32 := 1#32
  let v84 : BitVec 32 := Scalar.subi v83 c1_i32_41
  let c0_i32_43 : BitVec 32 := 0#32
  let v86 : BitVec 1 := Scalar.cmpi .sgt v84 c0_i32_43
  let v87 : BitVec 32 := Scalar.extui v86
  let c0_i32_44 : BitVec 32 := 0#32
  let v88 : BitVec 1 := Scalar.cmpi .slt v84 c0_i32_44
  let v89 : BitVec 32 := Scalar.extui v88
  let v90 : BitVec 32 := Scalar.subi v87 v89
  let c512_i32_42 : BitVec 32 := 512#32
  let c0_i32_45 : BitVec 32 := 0#32
  let v91 : BitVec 1 := Scalar.cmpi .sgt c512_i32_42 c0_i32_45
  let v92 : BitVec 32 := Scalar.extui v91
  let c0_i32_46 : BitVec 32 := 0#32
  let v93 : BitVec 1 := Scalar.cmpi .slt c512_i32_42 c0_i32_46
  let v94 : BitVec 32 := Scalar.extui v93
  let v95 : BitVec 32 := Scalar.subi v92 v94
  let v96 : BitVec 1 := Scalar.cmpi .ne v90 v95
  let v97 : BitVec 32 := Scalar.remsi v84 c512_i32_42
  let c0_i32_47 : BitVec 32 := 0#32
  let v98 : BitVec 1 := Scalar.cmpi .ne v97 c0_i32_47
  let v99 : BitVec 1 := Scalar.andi v96 v98
  let v85 : BitVec 32 := Scalar.divsi v84 c512_i32_42
  let c1_i32_48 : BitVec 32 := 1#32
  let v100 : BitVec 32 := Scalar.subi v85 c1_i32_48
  let v101 : BitVec 32 := Scalar.select v99 v100 v85
  let c0_i32_168 : BitVec 32 := 0#32
  let v308 : BitVec 1 := Scalar.cmpi .sgt v101 c0_i32_168
  let v309 : BitVec 32 := Scalar.extui v308
  let c0_i32_169 : BitVec 32 := 0#32
  let v310 : BitVec 1 := Scalar.cmpi .slt v101 c0_i32_169
  let v311 : BitVec 32 := Scalar.extui v310
  let v312 : BitVec 32 := Scalar.subi v309 v311
  let c6_i32 : BitVec 32 := 6#32
  let c0_i32_170 : BitVec 32 := 0#32
  let v313 : BitVec 1 := Scalar.cmpi .sgt c6_i32 c0_i32_170
  let v314 : BitVec 32 := Scalar.extui v313
  let c0_i32_171 : BitVec 32 := 0#32
  let v315 : BitVec 1 := Scalar.cmpi .slt c6_i32 c0_i32_171
  let v316 : BitVec 32 := Scalar.extui v315
  let v317 : BitVec 32 := Scalar.subi v314 v316
  let v318 : BitVec 1 := Scalar.cmpi .ne v312 v317
  let v319 : BitVec 32 := Scalar.remsi v101 c6_i32
  let c0_i32_172 : BitVec 32 := 0#32
  let v320 : BitVec 1 := Scalar.cmpi .ne v319 c0_i32_172
  let v321 : BitVec 1 := Scalar.andi v318 v320
  let v307 : BitVec 32 := Scalar.divsi v101 c6_i32
  let c1_i32_173 : BitVec 32 := 1#32
  let v322 : BitVec 32 := Scalar.subi v307 c1_i32_173
  let v323 : BitVec 32 := Scalar.select v321 v322 v307
  let v324 : BitVec 32 := Scalar.subi v323 c0_i32_175
  let c1_i32_176 : BitVec 32 := 1#32
  let v326 : BitVec 32 := Scalar.divsi v324 c1_i32_176
  let v327 : BitVec 32 := Scalar.muli v326 c1_i32_176
  let v328 : BitVec 32 := Scalar.addi c0_i32_175 v327
  let c1_i32_178 : BitVec 32 := 1#32
  let arg23 : BitVec 32 := Scf.iv v328 c1_i32_178 k0_t2
  let v582 : BitVec 32 := Scalar.muli c6_i32_327 arg23
  let c3_i32_328 : BitVec 32 := 3#32
  let v583 : BitVec 32 := Scalar.addi v582 c3_i32_328
  let v584 : BitVec 32 := Scalar.addi v583 c0_i32_329
  let c2_i32_330 : BitVec 32 := 2#32
  let v585 : BitVec 32 := Scalar.addi v584 c2_i32_330
  let c1_i32_94 : BitVec 32 := 1#32
  let v189 : BitVec 32 := Scalar.subi v101 c1_i32_94
  let c0_i32_95 : BitVec 32 := 0#32
  let v190 : BitVec 32 := Scalar.maxsi v189 c0_i32_95
  let v586 : BitVec 32 := Scalar.minsi v585 v190
  let c8_i32_334 : BitVec 32 := 8#32
  let v592 : BitVec 32 := Scalar.muli v586 c8_i32_334
  let c0_i32_336 : BitVec 32 := 0#32
  let v594 : BitVec 1 := Scalar.cmpi .sgt v592 c0_i32_336
  let v595 : BitVec 32 := Scalar.extui v594
  let c0_i32_337 : BitVec 32 := 0#32
  let v596 : BitVec 1 := Scalar.cmpi .slt v592 c0_i32_337
  let v597 : BitVec 32 := Scalar.extui v596
  let v598 : BitVec 32 := Scalar.subi v595 v597
  let c128_i32_335 : BitVec 32 := 128#32
  let c0_i32_338 : BitVec 32 := 0#32
  let v599 : BitVec 1 := Scalar.cmpi .sgt c128_i32_335 c0_i32_338
  let v600 : BitVec 32 := Scalar.extui v599
  let c0_i32_339 : BitVec 32 := 0#32
  let v601 : BitVec 1 := Scalar.cmpi .slt c128_i32_335 c0_i32_339
  let v602 : BitVec 32 := Scalar.extui v601
  let v603 : BitVec 32 := Scalar.subi v600 v602
  let v604 : BitVec 1 := Scalar.cmpi .ne v598 v603
  let v605 : BitVec 32 := Scalar.remsi v592 c128_i32_335
  let c0_i32_340 : BitVec 32 := 0#32
  let v606 : BitVec 1 := Scalar.cmpi .ne v605 c0_i32_340
  let v607 : BitVec 1 := Scalar.andi v604 v606
  let v593 : BitVec 32 := Scalar.divsi v592 c128_i32_335
  let c1_i32_341 : BitVec 32 := 1#32
  let v608 : BitVec 32 := Scalar.subi v593 c1_i32_341
  let v609 : BitVec 32 := Scalar.select v607 v608 v593
  let v610 : Index := Scalar.indexCast v609
  let c0_342 : Index := 0#32
  let c0_343 : Index := 0#32
  ![v610.toNat, 0, 0]
def k0_off28 (i : grid0.Coords) (k0_t2 : Fin (k0_t2_loop i).trips) (c0_i32_354 : BitVec 32) : Fin 4 → Nat :=
  let c0_355 : Index := 0#32
  let c6_i32_327 : BitVec 32 := 6#32
  let c0_i32_175 : BitVec 32 := 0#32
  let arg1 : BitVec 32 := BitVec.ofNat 32 (i 1).val
  let c1_i32 : BitVec 32 := 1#32
  let v80 : BitVec 32 := Scalar.subi arg1 c1_i32
  let c0_i32_38 : BitVec 32 := 0#32
  let v81 : BitVec 32 := Scalar.maxsi v80 c0_i32_38
  let c128_i32_39 : BitVec 32 := 128#32
  let v82 : BitVec 32 := Scalar.muli v81 c128_i32_39
  let c512_i32_40 : BitVec 32 := 512#32
  let v83 : BitVec 32 := Scalar.addi v82 c512_i32_40
  let c1_i32_41 : BitVec 32 := 1#32
  let v84 : BitVec 32 := Scalar.subi v83 c1_i32_41
  let c0_i32_43 : BitVec 32 := 0#32
  let v86 : BitVec 1 := Scalar.cmpi .sgt v84 c0_i32_43
  let v87 : BitVec 32 := Scalar.extui v86
  let c0_i32_44 : BitVec 32 := 0#32
  let v88 : BitVec 1 := Scalar.cmpi .slt v84 c0_i32_44
  let v89 : BitVec 32 := Scalar.extui v88
  let v90 : BitVec 32 := Scalar.subi v87 v89
  let c512_i32_42 : BitVec 32 := 512#32
  let c0_i32_45 : BitVec 32 := 0#32
  let v91 : BitVec 1 := Scalar.cmpi .sgt c512_i32_42 c0_i32_45
  let v92 : BitVec 32 := Scalar.extui v91
  let c0_i32_46 : BitVec 32 := 0#32
  let v93 : BitVec 1 := Scalar.cmpi .slt c512_i32_42 c0_i32_46
  let v94 : BitVec 32 := Scalar.extui v93
  let v95 : BitVec 32 := Scalar.subi v92 v94
  let v96 : BitVec 1 := Scalar.cmpi .ne v90 v95
  let v97 : BitVec 32 := Scalar.remsi v84 c512_i32_42
  let c0_i32_47 : BitVec 32 := 0#32
  let v98 : BitVec 1 := Scalar.cmpi .ne v97 c0_i32_47
  let v99 : BitVec 1 := Scalar.andi v96 v98
  let v85 : BitVec 32 := Scalar.divsi v84 c512_i32_42
  let c1_i32_48 : BitVec 32 := 1#32
  let v100 : BitVec 32 := Scalar.subi v85 c1_i32_48
  let v101 : BitVec 32 := Scalar.select v99 v100 v85
  let c0_i32_168 : BitVec 32 := 0#32
  let v308 : BitVec 1 := Scalar.cmpi .sgt v101 c0_i32_168
  let v309 : BitVec 32 := Scalar.extui v308
  let c0_i32_169 : BitVec 32 := 0#32
  let v310 : BitVec 1 := Scalar.cmpi .slt v101 c0_i32_169
  let v311 : BitVec 32 := Scalar.extui v310
  let v312 : BitVec 32 := Scalar.subi v309 v311
  let c6_i32 : BitVec 32 := 6#32
  let c0_i32_170 : BitVec 32 := 0#32
  let v313 : BitVec 1 := Scalar.cmpi .sgt c6_i32 c0_i32_170
  let v314 : BitVec 32 := Scalar.extui v313
  let c0_i32_171 : BitVec 32 := 0#32
  let v315 : BitVec 1 := Scalar.cmpi .slt c6_i32 c0_i32_171
  let v316 : BitVec 32 := Scalar.extui v315
  let v317 : BitVec 32 := Scalar.subi v314 v316
  let v318 : BitVec 1 := Scalar.cmpi .ne v312 v317
  let v319 : BitVec 32 := Scalar.remsi v101 c6_i32
  let c0_i32_172 : BitVec 32 := 0#32
  let v320 : BitVec 1 := Scalar.cmpi .ne v319 c0_i32_172
  let v321 : BitVec 1 := Scalar.andi v318 v320
  let v307 : BitVec 32 := Scalar.divsi v101 c6_i32
  let c1_i32_173 : BitVec 32 := 1#32
  let v322 : BitVec 32 := Scalar.subi v307 c1_i32_173
  let v323 : BitVec 32 := Scalar.select v321 v322 v307
  let v324 : BitVec 32 := Scalar.subi v323 c0_i32_175
  let c1_i32_176 : BitVec 32 := 1#32
  let v326 : BitVec 32 := Scalar.divsi v324 c1_i32_176
  let v327 : BitVec 32 := Scalar.muli v326 c1_i32_176
  let v328 : BitVec 32 := Scalar.addi c0_i32_175 v327
  let c1_i32_178 : BitVec 32 := 1#32
  let arg23 : BitVec 32 := Scf.iv v328 c1_i32_178 k0_t2
  let v582 : BitVec 32 := Scalar.muli c6_i32_327 arg23
  let c3_i32_328 : BitVec 32 := 3#32
  let v583 : BitVec 32 := Scalar.addi v582 c3_i32_328
  let v624 : BitVec 32 := Scalar.addi v583 c0_i32_354
  let v625 : Index := Scalar.indexCast v624
  let c0_356 : Index := 0#32
  let c0_357 : Index := 0#32
  ![0, v625.toNat, 0, 0]
def k0_mult19 (i : grid0.Coords) (k0_t2 : Fin (k0_t2_loop i).trips) : BitVec 32 :=
  let c6_i32_327 : BitVec 32 := 6#32
  let c0_i32_175 : BitVec 32 := 0#32
  let arg1 : BitVec 32 := BitVec.ofNat 32 (i 1).val
  let c1_i32 : BitVec 32 := 1#32
  let v80 : BitVec 32 := Scalar.subi arg1 c1_i32
  let c0_i32_38 : BitVec 32 := 0#32
  let v81 : BitVec 32 := Scalar.maxsi v80 c0_i32_38
  let c128_i32_39 : BitVec 32 := 128#32
  let v82 : BitVec 32 := Scalar.muli v81 c128_i32_39
  let c512_i32_40 : BitVec 32 := 512#32
  let v83 : BitVec 32 := Scalar.addi v82 c512_i32_40
  let c1_i32_41 : BitVec 32 := 1#32
  let v84 : BitVec 32 := Scalar.subi v83 c1_i32_41
  let c0_i32_43 : BitVec 32 := 0#32
  let v86 : BitVec 1 := Scalar.cmpi .sgt v84 c0_i32_43
  let v87 : BitVec 32 := Scalar.extui v86
  let c0_i32_44 : BitVec 32 := 0#32
  let v88 : BitVec 1 := Scalar.cmpi .slt v84 c0_i32_44
  let v89 : BitVec 32 := Scalar.extui v88
  let v90 : BitVec 32 := Scalar.subi v87 v89
  let c512_i32_42 : BitVec 32 := 512#32
  let c0_i32_45 : BitVec 32 := 0#32
  let v91 : BitVec 1 := Scalar.cmpi .sgt c512_i32_42 c0_i32_45
  let v92 : BitVec 32 := Scalar.extui v91
  let c0_i32_46 : BitVec 32 := 0#32
  let v93 : BitVec 1 := Scalar.cmpi .slt c512_i32_42 c0_i32_46
  let v94 : BitVec 32 := Scalar.extui v93
  let v95 : BitVec 32 := Scalar.subi v92 v94
  let v96 : BitVec 1 := Scalar.cmpi .ne v90 v95
  let v97 : BitVec 32 := Scalar.remsi v84 c512_i32_42
  let c0_i32_47 : BitVec 32 := 0#32
  let v98 : BitVec 1 := Scalar.cmpi .ne v97 c0_i32_47
  let v99 : BitVec 1 := Scalar.andi v96 v98
  let v85 : BitVec 32 := Scalar.divsi v84 c512_i32_42
  let c1_i32_48 : BitVec 32 := 1#32
  let v100 : BitVec 32 := Scalar.subi v85 c1_i32_48
  let v101 : BitVec 32 := Scalar.select v99 v100 v85
  let c0_i32_168 : BitVec 32 := 0#32
  let v308 : BitVec 1 := Scalar.cmpi .sgt v101 c0_i32_168
  let v309 : BitVec 32 := Scalar.extui v308
  let c0_i32_169 : BitVec 32 := 0#32
  let v310 : BitVec 1 := Scalar.cmpi .slt v101 c0_i32_169
  let v311 : BitVec 32 := Scalar.extui v310
  let v312 : BitVec 32 := Scalar.subi v309 v311
  let c6_i32 : BitVec 32 := 6#32
  let c0_i32_170 : BitVec 32 := 0#32
  let v313 : BitVec 1 := Scalar.cmpi .sgt c6_i32 c0_i32_170
  let v314 : BitVec 32 := Scalar.extui v313
  let c0_i32_171 : BitVec 32 := 0#32
  let v315 : BitVec 1 := Scalar.cmpi .slt c6_i32 c0_i32_171
  let v316 : BitVec 32 := Scalar.extui v315
  let v317 : BitVec 32 := Scalar.subi v314 v316
  let v318 : BitVec 1 := Scalar.cmpi .ne v312 v317
  let v319 : BitVec 32 := Scalar.remsi v101 c6_i32
  let c0_i32_172 : BitVec 32 := 0#32
  let v320 : BitVec 1 := Scalar.cmpi .ne v319 c0_i32_172
  let v321 : BitVec 1 := Scalar.andi v318 v320
  let v307 : BitVec 32 := Scalar.divsi v101 c6_i32
  let c1_i32_173 : BitVec 32 := 1#32
  let v322 : BitVec 32 := Scalar.subi v307 c1_i32_173
  let v323 : BitVec 32 := Scalar.select v321 v322 v307
  let v324 : BitVec 32 := Scalar.subi v323 c0_i32_175
  let c1_i32_176 : BitVec 32 := 1#32
  let v326 : BitVec 32 := Scalar.divsi v324 c1_i32_176
  let v327 : BitVec 32 := Scalar.muli v326 c1_i32_176
  let v328 : BitVec 32 := Scalar.addi c0_i32_175 v327
  let c1_i32_178 : BitVec 32 := 1#32
  let arg23 : BitVec 32 := Scf.iv v328 c1_i32_178 k0_t2
  let v582 : BitVec 32 := Scalar.muli c6_i32_327 arg23
  let c3_i32_328 : BitVec 32 := 3#32
  let v583 : BitVec 32 := Scalar.addi v582 c3_i32_328
  let c1_i32_367 : BitVec 32 := 1#32
  let v647 : BitVec 32 := Scalar.addi v583 c1_i32_367
  let c2_i32_368 : BitVec 32 := 2#32
  let v648 : BitVec 32 := Scalar.addi v647 c2_i32_368
  let c1_i32_94 : BitVec 32 := 1#32
  let v189 : BitVec 32 := Scalar.subi v101 c1_i32_94
  let c0_i32_95 : BitVec 32 := 0#32
  let v190 : BitVec 32 := Scalar.maxsi v189 c0_i32_95
  let v649 : BitVec 32 := Scalar.minsi v648 v190
  let c512_i32_369 : BitVec 32 := 512#32
  let v650 : BitVec 32 := Scalar.muli v649 c512_i32_369
  v650
def k0_mult20 (i : grid0.Coords) (k0_t2 : Fin (k0_t2_loop i).trips) : BitVec 32 :=
  let c6_i32_327 : BitVec 32 := 6#32
  let c0_i32_175 : BitVec 32 := 0#32
  let arg1 : BitVec 32 := BitVec.ofNat 32 (i 1).val
  let c1_i32 : BitVec 32 := 1#32
  let v80 : BitVec 32 := Scalar.subi arg1 c1_i32
  let c0_i32_38 : BitVec 32 := 0#32
  let v81 : BitVec 32 := Scalar.maxsi v80 c0_i32_38
  let c128_i32_39 : BitVec 32 := 128#32
  let v82 : BitVec 32 := Scalar.muli v81 c128_i32_39
  let c512_i32_40 : BitVec 32 := 512#32
  let v83 : BitVec 32 := Scalar.addi v82 c512_i32_40
  let c1_i32_41 : BitVec 32 := 1#32
  let v84 : BitVec 32 := Scalar.subi v83 c1_i32_41
  let c0_i32_43 : BitVec 32 := 0#32
  let v86 : BitVec 1 := Scalar.cmpi .sgt v84 c0_i32_43
  let v87 : BitVec 32 := Scalar.extui v86
  let c0_i32_44 : BitVec 32 := 0#32
  let v88 : BitVec 1 := Scalar.cmpi .slt v84 c0_i32_44
  let v89 : BitVec 32 := Scalar.extui v88
  let v90 : BitVec 32 := Scalar.subi v87 v89
  let c512_i32_42 : BitVec 32 := 512#32
  let c0_i32_45 : BitVec 32 := 0#32
  let v91 : BitVec 1 := Scalar.cmpi .sgt c512_i32_42 c0_i32_45
  let v92 : BitVec 32 := Scalar.extui v91
  let c0_i32_46 : BitVec 32 := 0#32
  let v93 : BitVec 1 := Scalar.cmpi .slt c512_i32_42 c0_i32_46
  let v94 : BitVec 32 := Scalar.extui v93
  let v95 : BitVec 32 := Scalar.subi v92 v94
  let v96 : BitVec 1 := Scalar.cmpi .ne v90 v95
  let v97 : BitVec 32 := Scalar.remsi v84 c512_i32_42
  let c0_i32_47 : BitVec 32 := 0#32
  let v98 : BitVec 1 := Scalar.cmpi .ne v97 c0_i32_47
  let v99 : BitVec 1 := Scalar.andi v96 v98
  let v85 : BitVec 32 := Scalar.divsi v84 c512_i32_42
  let c1_i32_48 : BitVec 32 := 1#32
  let v100 : BitVec 32 := Scalar.subi v85 c1_i32_48
  let v101 : BitVec 32 := Scalar.select v99 v100 v85
  let c0_i32_168 : BitVec 32 := 0#32
  let v308 : BitVec 1 := Scalar.cmpi .sgt v101 c0_i32_168
  let v309 : BitVec 32 := Scalar.extui v308
  let c0_i32_169 : BitVec 32 := 0#32
  let v310 : BitVec 1 := Scalar.cmpi .slt v101 c0_i32_169
  let v311 : BitVec 32 := Scalar.extui v310
  let v312 : BitVec 32 := Scalar.subi v309 v311
  let c6_i32 : BitVec 32 := 6#32
  let c0_i32_170 : BitVec 32 := 0#32
  let v313 : BitVec 1 := Scalar.cmpi .sgt c6_i32 c0_i32_170
  let v314 : BitVec 32 := Scalar.extui v313
  let c0_i32_171 : BitVec 32 := 0#32
  let v315 : BitVec 1 := Scalar.cmpi .slt c6_i32 c0_i32_171
  let v316 : BitVec 32 := Scalar.extui v315
  let v317 : BitVec 32 := Scalar.subi v314 v316
  let v318 : BitVec 1 := Scalar.cmpi .ne v312 v317
  let v319 : BitVec 32 := Scalar.remsi v101 c6_i32
  let c0_i32_172 : BitVec 32 := 0#32
  let v320 : BitVec 1 := Scalar.cmpi .ne v319 c0_i32_172
  let v321 : BitVec 1 := Scalar.andi v318 v320
  let v307 : BitVec 32 := Scalar.divsi v101 c6_i32
  let c1_i32_173 : BitVec 32 := 1#32
  let v322 : BitVec 32 := Scalar.subi v307 c1_i32_173
  let v323 : BitVec 32 := Scalar.select v321 v322 v307
  let v324 : BitVec 32 := Scalar.subi v323 c0_i32_175
  let c1_i32_176 : BitVec 32 := 1#32
  let v326 : BitVec 32 := Scalar.divsi v324 c1_i32_176
  let v327 : BitVec 32 := Scalar.muli v326 c1_i32_176
  let v328 : BitVec 32 := Scalar.addi c0_i32_175 v327
  let c1_i32_178 : BitVec 32 := 1#32
  let arg23 : BitVec 32 := Scf.iv v328 c1_i32_178 k0_t2
  let v582 : BitVec 32 := Scalar.muli c6_i32_327 arg23
  let c3_i32_328 : BitVec 32 := 3#32
  let v583 : BitVec 32 := Scalar.addi v582 c3_i32_328
  let c2_i32_405 : BitVec 32 := 2#32
  let v710 : BitVec 32 := Scalar.addi v583 c2_i32_405
  let c2_i32_406 : BitVec 32 := 2#32
  let v711 : BitVec 32 := Scalar.addi v710 c2_i32_406
  let c1_i32_94 : BitVec 32 := 1#32
  let v189 : BitVec 32 := Scalar.subi v101 c1_i32_94
  let c0_i32_95 : BitVec 32 := 0#32
  let v190 : BitVec 32 := Scalar.maxsi v189 c0_i32_95
  let v712 : BitVec 32 := Scalar.minsi v711 v190
  let c512_i32_407 : BitVec 32 := 512#32
  let v713 : BitVec 32 := Scalar.muli v712 c512_i32_407
  v713
def k0_cond1 (i : grid0.Coords) : BitVec 1 :=
  let arg1 : BitVec 32 := BitVec.ofNat 32 (i 1).val
  let c1_i32 : BitVec 32 := 1#32
  let v80 : BitVec 32 := Scalar.subi arg1 c1_i32
  let c0_i32_38 : BitVec 32 := 0#32
  let v81 : BitVec 32 := Scalar.maxsi v80 c0_i32_38
  let c128_i32_39 : BitVec 32 := 128#32
  let v82 : BitVec 32 := Scalar.muli v81 c128_i32_39
  let c512_i32_40 : BitVec 32 := 512#32
  let v83 : BitVec 32 := Scalar.addi v82 c512_i32_40
  let c1_i32_41 : BitVec 32 := 1#32
  let v84 : BitVec 32 := Scalar.subi v83 c1_i32_41
  let c0_i32_43 : BitVec 32 := 0#32
  let v86 : BitVec 1 := Scalar.cmpi .sgt v84 c0_i32_43
  let v87 : BitVec 32 := Scalar.extui v86
  let c0_i32_44 : BitVec 32 := 0#32
  let v88 : BitVec 1 := Scalar.cmpi .slt v84 c0_i32_44
  let v89 : BitVec 32 := Scalar.extui v88
  let v90 : BitVec 32 := Scalar.subi v87 v89
  let c512_i32_42 : BitVec 32 := 512#32
  let c0_i32_45 : BitVec 32 := 0#32
  let v91 : BitVec 1 := Scalar.cmpi .sgt c512_i32_42 c0_i32_45
  let v92 : BitVec 32 := Scalar.extui v91
  let c0_i32_46 : BitVec 32 := 0#32
  let v93 : BitVec 1 := Scalar.cmpi .slt c512_i32_42 c0_i32_46
  let v94 : BitVec 32 := Scalar.extui v93
  let v95 : BitVec 32 := Scalar.subi v92 v94
  let v96 : BitVec 1 := Scalar.cmpi .ne v90 v95
  let v97 : BitVec 32 := Scalar.remsi v84 c512_i32_42
  let c0_i32_47 : BitVec 32 := 0#32
  let v98 : BitVec 1 := Scalar.cmpi .ne v97 c0_i32_47
  let v99 : BitVec 1 := Scalar.andi v96 v98
  let v85 : BitVec 32 := Scalar.divsi v84 c512_i32_42
  let c1_i32_48 : BitVec 32 := 1#32
  let v100 : BitVec 32 := Scalar.subi v85 c1_i32_48
  let v101 : BitVec 32 := Scalar.select v99 v100 v85
  let c0_i32_180 : BitVec 32 := 0#32
  let v330 : BitVec 1 := Scalar.cmpi .sgt v101 c0_i32_180
  let v331 : BitVec 32 := Scalar.extui v330
  let c0_i32_181 : BitVec 32 := 0#32
  let v332 : BitVec 1 := Scalar.cmpi .slt v101 c0_i32_181
  let v333 : BitVec 32 := Scalar.extui v332
  let v334 : BitVec 32 := Scalar.subi v331 v333
  let c6_i32_179 : BitVec 32 := 6#32
  let c0_i32_182 : BitVec 32 := 0#32
  let v335 : BitVec 1 := Scalar.cmpi .sgt c6_i32_179 c0_i32_182
  let v336 : BitVec 32 := Scalar.extui v335
  let c0_i32_183 : BitVec 32 := 0#32
  let v337 : BitVec 1 := Scalar.cmpi .slt c6_i32_179 c0_i32_183
  let v338 : BitVec 32 := Scalar.extui v337
  let v339 : BitVec 32 := Scalar.subi v336 v338
  let v340 : BitVec 1 := Scalar.cmpi .ne v334 v339
  let v341 : BitVec 32 := Scalar.remsi v101 c6_i32_179
  let c0_i32_184 : BitVec 32 := 0#32
  let v342 : BitVec 1 := Scalar.cmpi .ne v341 c0_i32_184
  let v343 : BitVec 1 := Scalar.andi v340 v342
  let v329 : BitVec 32 := Scalar.divsi v101 c6_i32_179
  let c1_i32_185 : BitVec 32 := 1#32
  let v344 : BitVec 32 := Scalar.subi v329 c1_i32_185
  let v345 : BitVec 32 := Scalar.select v343 v344 v329
  let c6_i32_186 : BitVec 32 := 6#32
  let v346 : BitVec 32 := Scalar.muli v345 c6_i32_186
  let v347 : BitVec 32 := Scalar.subi v101 v346
  let c3_i32_187 : BitVec 32 := 3#32
  let v348 : BitVec 1 := Scalar.cmpi .sge v347 c3_i32_187
  let v349 : BitVec 32 := Scalar.extui v348
  let c0_i32_188 : BitVec 32 := 0#32
  let v350 : BitVec 1 := Scalar.cmpi .ne v349 c0_i32_188
  v350

def k0_mult21 (i : grid0.Coords) : BitVec 32 :=
  let arg1 : BitVec 32 := BitVec.ofNat 32 (i 1).val
  let c1_i32 : BitVec 32 := 1#32
  let v80 : BitVec 32 := Scalar.subi arg1 c1_i32
  let c0_i32_38 : BitVec 32 := 0#32
  let v81 : BitVec 32 := Scalar.maxsi v80 c0_i32_38
  let c128_i32_39 : BitVec 32 := 128#32
  let v82 : BitVec 32 := Scalar.muli v81 c128_i32_39
  let c512_i32_40 : BitVec 32 := 512#32
  let v83 : BitVec 32 := Scalar.addi v82 c512_i32_40
  let c1_i32_41 : BitVec 32 := 1#32
  let v84 : BitVec 32 := Scalar.subi v83 c1_i32_41
  let c0_i32_43 : BitVec 32 := 0#32
  let v86 : BitVec 1 := Scalar.cmpi .sgt v84 c0_i32_43
  let v87 : BitVec 32 := Scalar.extui v86
  let c0_i32_44 : BitVec 32 := 0#32
  let v88 : BitVec 1 := Scalar.cmpi .slt v84 c0_i32_44
  let v89 : BitVec 32 := Scalar.extui v88
  let v90 : BitVec 32 := Scalar.subi v87 v89
  let c512_i32_42 : BitVec 32 := 512#32
  let c0_i32_45 : BitVec 32 := 0#32
  let v91 : BitVec 1 := Scalar.cmpi .sgt c512_i32_42 c0_i32_45
  let v92 : BitVec 32 := Scalar.extui v91
  let c0_i32_46 : BitVec 32 := 0#32
  let v93 : BitVec 1 := Scalar.cmpi .slt c512_i32_42 c0_i32_46
  let v94 : BitVec 32 := Scalar.extui v93
  let v95 : BitVec 32 := Scalar.subi v92 v94
  let v96 : BitVec 1 := Scalar.cmpi .ne v90 v95
  let v97 : BitVec 32 := Scalar.remsi v84 c512_i32_42
  let c0_i32_47 : BitVec 32 := 0#32
  let v98 : BitVec 1 := Scalar.cmpi .ne v97 c0_i32_47
  let v99 : BitVec 1 := Scalar.andi v96 v98
  let v85 : BitVec 32 := Scalar.divsi v84 c512_i32_42
  let c1_i32_48 : BitVec 32 := 1#32
  let v100 : BitVec 32 := Scalar.subi v85 c1_i32_48
  let v101 : BitVec 32 := Scalar.select v99 v100 v85
  let c0_i32_180 : BitVec 32 := 0#32
  let v330 : BitVec 1 := Scalar.cmpi .sgt v101 c0_i32_180
  let v331 : BitVec 32 := Scalar.extui v330
  let c0_i32_181 : BitVec 32 := 0#32
  let v332 : BitVec 1 := Scalar.cmpi .slt v101 c0_i32_181
  let v333 : BitVec 32 := Scalar.extui v332
  let v334 : BitVec 32 := Scalar.subi v331 v333
  let c6_i32_179 : BitVec 32 := 6#32
  let c0_i32_182 : BitVec 32 := 0#32
  let v335 : BitVec 1 := Scalar.cmpi .sgt c6_i32_179 c0_i32_182
  let v336 : BitVec 32 := Scalar.extui v335
  let c0_i32_183 : BitVec 32 := 0#32
  let v337 : BitVec 1 := Scalar.cmpi .slt c6_i32_179 c0_i32_183
  let v338 : BitVec 32 := Scalar.extui v337
  let v339 : BitVec 32 := Scalar.subi v336 v338
  let v340 : BitVec 1 := Scalar.cmpi .ne v334 v339
  let v341 : BitVec 32 := Scalar.remsi v101 c6_i32_179
  let c0_i32_184 : BitVec 32 := 0#32
  let v342 : BitVec 1 := Scalar.cmpi .ne v341 c0_i32_184
  let v343 : BitVec 1 := Scalar.andi v340 v342
  let v329 : BitVec 32 := Scalar.divsi v101 c6_i32_179
  let c1_i32_185 : BitVec 32 := 1#32
  let v344 : BitVec 32 := Scalar.subi v329 c1_i32_185
  let v345 : BitVec 32 := Scalar.select v343 v344 v329
  let c6_i32_186 : BitVec 32 := 6#32
  let v346 : BitVec 32 := Scalar.muli v345 c6_i32_186
  let c0_i32_212 : BitVec 32 := 0#32
  let v392 : BitVec 32 := Scalar.addi v346 c0_i32_212
  let c2_i32_213 : BitVec 32 := 2#32
  let v393 : BitVec 32 := Scalar.addi v392 c2_i32_213
  let c1_i32_94 : BitVec 32 := 1#32
  let v189 : BitVec 32 := Scalar.subi v101 c1_i32_94
  let c0_i32_95 : BitVec 32 := 0#32
  let v190 : BitVec 32 := Scalar.maxsi v189 c0_i32_95
  let v394 : BitVec 32 := Scalar.minsi v393 v190
  let c512_i32_214 : BitVec 32 := 512#32
  let v395 : BitVec 32 := Scalar.muli v394 c512_i32_214
  v395
def k0_off29 (i : grid0.Coords) (c0_i32_212 : BitVec 32) : Fin 3 → Nat :=
  let c0_215 : Index := 0#32
  let arg1 : BitVec 32 := BitVec.ofNat 32 (i 1).val
  let c1_i32 : BitVec 32 := 1#32
  let v80 : BitVec 32 := Scalar.subi arg1 c1_i32
  let c0_i32_38 : BitVec 32 := 0#32
  let v81 : BitVec 32 := Scalar.maxsi v80 c0_i32_38
  let c128_i32_39 : BitVec 32 := 128#32
  let v82 : BitVec 32 := Scalar.muli v81 c128_i32_39
  let c512_i32_40 : BitVec 32 := 512#32
  let v83 : BitVec 32 := Scalar.addi v82 c512_i32_40
  let c1_i32_41 : BitVec 32 := 1#32
  let v84 : BitVec 32 := Scalar.subi v83 c1_i32_41
  let c0_i32_43 : BitVec 32 := 0#32
  let v86 : BitVec 1 := Scalar.cmpi .sgt v84 c0_i32_43
  let v87 : BitVec 32 := Scalar.extui v86
  let c0_i32_44 : BitVec 32 := 0#32
  let v88 : BitVec 1 := Scalar.cmpi .slt v84 c0_i32_44
  let v89 : BitVec 32 := Scalar.extui v88
  let v90 : BitVec 32 := Scalar.subi v87 v89
  let c512_i32_42 : BitVec 32 := 512#32
  let c0_i32_45 : BitVec 32 := 0#32
  let v91 : BitVec 1 := Scalar.cmpi .sgt c512_i32_42 c0_i32_45
  let v92 : BitVec 32 := Scalar.extui v91
  let c0_i32_46 : BitVec 32 := 0#32
  let v93 : BitVec 1 := Scalar.cmpi .slt c512_i32_42 c0_i32_46
  let v94 : BitVec 32 := Scalar.extui v93
  let v95 : BitVec 32 := Scalar.subi v92 v94
  let v96 : BitVec 1 := Scalar.cmpi .ne v90 v95
  let v97 : BitVec 32 := Scalar.remsi v84 c512_i32_42
  let c0_i32_47 : BitVec 32 := 0#32
  let v98 : BitVec 1 := Scalar.cmpi .ne v97 c0_i32_47
  let v99 : BitVec 1 := Scalar.andi v96 v98
  let v85 : BitVec 32 := Scalar.divsi v84 c512_i32_42
  let c1_i32_48 : BitVec 32 := 1#32
  let v100 : BitVec 32 := Scalar.subi v85 c1_i32_48
  let v101 : BitVec 32 := Scalar.select v99 v100 v85
  let c0_i32_180 : BitVec 32 := 0#32
  let v330 : BitVec 1 := Scalar.cmpi .sgt v101 c0_i32_180
  let v331 : BitVec 32 := Scalar.extui v330
  let c0_i32_181 : BitVec 32 := 0#32
  let v332 : BitVec 1 := Scalar.cmpi .slt v101 c0_i32_181
  let v333 : BitVec 32 := Scalar.extui v332
  let v334 : BitVec 32 := Scalar.subi v331 v333
  let c6_i32_179 : BitVec 32 := 6#32
  let c0_i32_182 : BitVec 32 := 0#32
  let v335 : BitVec 1 := Scalar.cmpi .sgt c6_i32_179 c0_i32_182
  let v336 : BitVec 32 := Scalar.extui v335
  let c0_i32_183 : BitVec 32 := 0#32
  let v337 : BitVec 1 := Scalar.cmpi .slt c6_i32_179 c0_i32_183
  let v338 : BitVec 32 := Scalar.extui v337
  let v339 : BitVec 32 := Scalar.subi v336 v338
  let v340 : BitVec 1 := Scalar.cmpi .ne v334 v339
  let v341 : BitVec 32 := Scalar.remsi v101 c6_i32_179
  let c0_i32_184 : BitVec 32 := 0#32
  let v342 : BitVec 1 := Scalar.cmpi .ne v341 c0_i32_184
  let v343 : BitVec 1 := Scalar.andi v340 v342
  let v329 : BitVec 32 := Scalar.divsi v101 c6_i32_179
  let c1_i32_185 : BitVec 32 := 1#32
  let v344 : BitVec 32 := Scalar.subi v329 c1_i32_185
  let v345 : BitVec 32 := Scalar.select v343 v344 v329
  let c6_i32_186 : BitVec 32 := 6#32
  let v346 : BitVec 32 := Scalar.muli v345 c6_i32_186
  let v392 : BitVec 32 := Scalar.addi v346 c0_i32_212
  let c2_i32_213 : BitVec 32 := 2#32
  let v393 : BitVec 32 := Scalar.addi v392 c2_i32_213
  let c1_i32_94 : BitVec 32 := 1#32
  let v189 : BitVec 32 := Scalar.subi v101 c1_i32_94
  let c0_i32_95 : BitVec 32 := 0#32
  let v190 : BitVec 32 := Scalar.maxsi v189 c0_i32_95
  let v394 : BitVec 32 := Scalar.minsi v393 v190
  let c512_i32_214 : BitVec 32 := 512#32
  let v395 : BitVec 32 := Scalar.muli v394 c512_i32_214
  let v396 : BitVec 32 := v395
  let v397 : Index := Scalar.indexCast v396
  let c0_216 : Index := 0#32
  ![0, v397.toNat, 0]
def k0_off30 (i : grid0.Coords) (c0_i32_212 : BitVec 32) : Fin 3 → Nat :=
  let arg1 : BitVec 32 := BitVec.ofNat 32 (i 1).val
  let c1_i32 : BitVec 32 := 1#32
  let v80 : BitVec 32 := Scalar.subi arg1 c1_i32
  let c0_i32_38 : BitVec 32 := 0#32
  let v81 : BitVec 32 := Scalar.maxsi v80 c0_i32_38
  let c128_i32_39 : BitVec 32 := 128#32
  let v82 : BitVec 32 := Scalar.muli v81 c128_i32_39
  let c512_i32_40 : BitVec 32 := 512#32
  let v83 : BitVec 32 := Scalar.addi v82 c512_i32_40
  let c1_i32_41 : BitVec 32 := 1#32
  let v84 : BitVec 32 := Scalar.subi v83 c1_i32_41
  let c0_i32_43 : BitVec 32 := 0#32
  let v86 : BitVec 1 := Scalar.cmpi .sgt v84 c0_i32_43
  let v87 : BitVec 32 := Scalar.extui v86
  let c0_i32_44 : BitVec 32 := 0#32
  let v88 : BitVec 1 := Scalar.cmpi .slt v84 c0_i32_44
  let v89 : BitVec 32 := Scalar.extui v88
  let v90 : BitVec 32 := Scalar.subi v87 v89
  let c512_i32_42 : BitVec 32 := 512#32
  let c0_i32_45 : BitVec 32 := 0#32
  let v91 : BitVec 1 := Scalar.cmpi .sgt c512_i32_42 c0_i32_45
  let v92 : BitVec 32 := Scalar.extui v91
  let c0_i32_46 : BitVec 32 := 0#32
  let v93 : BitVec 1 := Scalar.cmpi .slt c512_i32_42 c0_i32_46
  let v94 : BitVec 32 := Scalar.extui v93
  let v95 : BitVec 32 := Scalar.subi v92 v94
  let v96 : BitVec 1 := Scalar.cmpi .ne v90 v95
  let v97 : BitVec 32 := Scalar.remsi v84 c512_i32_42
  let c0_i32_47 : BitVec 32 := 0#32
  let v98 : BitVec 1 := Scalar.cmpi .ne v97 c0_i32_47
  let v99 : BitVec 1 := Scalar.andi v96 v98
  let v85 : BitVec 32 := Scalar.divsi v84 c512_i32_42
  let c1_i32_48 : BitVec 32 := 1#32
  let v100 : BitVec 32 := Scalar.subi v85 c1_i32_48
  let v101 : BitVec 32 := Scalar.select v99 v100 v85
  let c0_i32_180 : BitVec 32 := 0#32
  let v330 : BitVec 1 := Scalar.cmpi .sgt v101 c0_i32_180
  let v331 : BitVec 32 := Scalar.extui v330
  let c0_i32_181 : BitVec 32 := 0#32
  let v332 : BitVec 1 := Scalar.cmpi .slt v101 c0_i32_181
  let v333 : BitVec 32 := Scalar.extui v332
  let v334 : BitVec 32 := Scalar.subi v331 v333
  let c6_i32_179 : BitVec 32 := 6#32
  let c0_i32_182 : BitVec 32 := 0#32
  let v335 : BitVec 1 := Scalar.cmpi .sgt c6_i32_179 c0_i32_182
  let v336 : BitVec 32 := Scalar.extui v335
  let c0_i32_183 : BitVec 32 := 0#32
  let v337 : BitVec 1 := Scalar.cmpi .slt c6_i32_179 c0_i32_183
  let v338 : BitVec 32 := Scalar.extui v337
  let v339 : BitVec 32 := Scalar.subi v336 v338
  let v340 : BitVec 1 := Scalar.cmpi .ne v334 v339
  let v341 : BitVec 32 := Scalar.remsi v101 c6_i32_179
  let c0_i32_184 : BitVec 32 := 0#32
  let v342 : BitVec 1 := Scalar.cmpi .ne v341 c0_i32_184
  let v343 : BitVec 1 := Scalar.andi v340 v342
  let v329 : BitVec 32 := Scalar.divsi v101 c6_i32_179
  let c1_i32_185 : BitVec 32 := 1#32
  let v344 : BitVec 32 := Scalar.subi v329 c1_i32_185
  let v345 : BitVec 32 := Scalar.select v343 v344 v329
  let c6_i32_186 : BitVec 32 := 6#32
  let v346 : BitVec 32 := Scalar.muli v345 c6_i32_186
  let v392 : BitVec 32 := Scalar.addi v346 c0_i32_212
  let c2_i32_213 : BitVec 32 := 2#32
  let v393 : BitVec 32 := Scalar.addi v392 c2_i32_213
  let c1_i32_94 : BitVec 32 := 1#32
  let v189 : BitVec 32 := Scalar.subi v101 c1_i32_94
  let c0_i32_95 : BitVec 32 := 0#32
  let v190 : BitVec 32 := Scalar.maxsi v189 c0_i32_95
  let v394 : BitVec 32 := Scalar.minsi v393 v190
  let c8_i32_217 : BitVec 32 := 8#32
  let v400 : BitVec 32 := Scalar.muli v394 c8_i32_217
  let c0_i32_219 : BitVec 32 := 0#32
  let v402 : BitVec 1 := Scalar.cmpi .sgt v400 c0_i32_219
  let v403 : BitVec 32 := Scalar.extui v402
  let c0_i32_220 : BitVec 32 := 0#32
  let v404 : BitVec 1 := Scalar.cmpi .slt v400 c0_i32_220
  let v405 : BitVec 32 := Scalar.extui v404
  let v406 : BitVec 32 := Scalar.subi v403 v405
  let c128_i32_218 : BitVec 32 := 128#32
  let c0_i32_221 : BitVec 32 := 0#32
  let v407 : BitVec 1 := Scalar.cmpi .sgt c128_i32_218 c0_i32_221
  let v408 : BitVec 32 := Scalar.extui v407
  let c0_i32_222 : BitVec 32 := 0#32
  let v409 : BitVec 1 := Scalar.cmpi .slt c128_i32_218 c0_i32_222
  let v410 : BitVec 32 := Scalar.extui v409
  let v411 : BitVec 32 := Scalar.subi v408 v410
  let v412 : BitVec 1 := Scalar.cmpi .ne v406 v411
  let v413 : BitVec 32 := Scalar.remsi v400 c128_i32_218
  let c0_i32_223 : BitVec 32 := 0#32
  let v414 : BitVec 1 := Scalar.cmpi .ne v413 c0_i32_223
  let v415 : BitVec 1 := Scalar.andi v412 v414
  let v401 : BitVec 32 := Scalar.divsi v400 c128_i32_218
  let c1_i32_224 : BitVec 32 := 1#32
  let v416 : BitVec 32 := Scalar.subi v401 c1_i32_224
  let v417 : BitVec 32 := Scalar.select v415 v416 v401
  let v418 : Index := Scalar.indexCast v417
  let c0_225 : Index := 0#32
  let c0_226 : Index := 0#32
  ![v418.toNat, 0, 0]
def k0_off31 (i : grid0.Coords) (c0_i32_237 : BitVec 32) : Fin 4 → Nat :=
  let c0_238 : Index := 0#32
  let arg1 : BitVec 32 := BitVec.ofNat 32 (i 1).val
  let c1_i32 : BitVec 32 := 1#32
  let v80 : BitVec 32 := Scalar.subi arg1 c1_i32
  let c0_i32_38 : BitVec 32 := 0#32
  let v81 : BitVec 32 := Scalar.maxsi v80 c0_i32_38
  let c128_i32_39 : BitVec 32 := 128#32
  let v82 : BitVec 32 := Scalar.muli v81 c128_i32_39
  let c512_i32_40 : BitVec 32 := 512#32
  let v83 : BitVec 32 := Scalar.addi v82 c512_i32_40
  let c1_i32_41 : BitVec 32 := 1#32
  let v84 : BitVec 32 := Scalar.subi v83 c1_i32_41
  let c0_i32_43 : BitVec 32 := 0#32
  let v86 : BitVec 1 := Scalar.cmpi .sgt v84 c0_i32_43
  let v87 : BitVec 32 := Scalar.extui v86
  let c0_i32_44 : BitVec 32 := 0#32
  let v88 : BitVec 1 := Scalar.cmpi .slt v84 c0_i32_44
  let v89 : BitVec 32 := Scalar.extui v88
  let v90 : BitVec 32 := Scalar.subi v87 v89
  let c512_i32_42 : BitVec 32 := 512#32
  let c0_i32_45 : BitVec 32 := 0#32
  let v91 : BitVec 1 := Scalar.cmpi .sgt c512_i32_42 c0_i32_45
  let v92 : BitVec 32 := Scalar.extui v91
  let c0_i32_46 : BitVec 32 := 0#32
  let v93 : BitVec 1 := Scalar.cmpi .slt c512_i32_42 c0_i32_46
  let v94 : BitVec 32 := Scalar.extui v93
  let v95 : BitVec 32 := Scalar.subi v92 v94
  let v96 : BitVec 1 := Scalar.cmpi .ne v90 v95
  let v97 : BitVec 32 := Scalar.remsi v84 c512_i32_42
  let c0_i32_47 : BitVec 32 := 0#32
  let v98 : BitVec 1 := Scalar.cmpi .ne v97 c0_i32_47
  let v99 : BitVec 1 := Scalar.andi v96 v98
  let v85 : BitVec 32 := Scalar.divsi v84 c512_i32_42
  let c1_i32_48 : BitVec 32 := 1#32
  let v100 : BitVec 32 := Scalar.subi v85 c1_i32_48
  let v101 : BitVec 32 := Scalar.select v99 v100 v85
  let c0_i32_180 : BitVec 32 := 0#32
  let v330 : BitVec 1 := Scalar.cmpi .sgt v101 c0_i32_180
  let v331 : BitVec 32 := Scalar.extui v330
  let c0_i32_181 : BitVec 32 := 0#32
  let v332 : BitVec 1 := Scalar.cmpi .slt v101 c0_i32_181
  let v333 : BitVec 32 := Scalar.extui v332
  let v334 : BitVec 32 := Scalar.subi v331 v333
  let c6_i32_179 : BitVec 32 := 6#32
  let c0_i32_182 : BitVec 32 := 0#32
  let v335 : BitVec 1 := Scalar.cmpi .sgt c6_i32_179 c0_i32_182
  let v336 : BitVec 32 := Scalar.extui v335
  let c0_i32_183 : BitVec 32 := 0#32
  let v337 : BitVec 1 := Scalar.cmpi .slt c6_i32_179 c0_i32_183
  let v338 : BitVec 32 := Scalar.extui v337
  let v339 : BitVec 32 := Scalar.subi v336 v338
  let v340 : BitVec 1 := Scalar.cmpi .ne v334 v339
  let v341 : BitVec 32 := Scalar.remsi v101 c6_i32_179
  let c0_i32_184 : BitVec 32 := 0#32
  let v342 : BitVec 1 := Scalar.cmpi .ne v341 c0_i32_184
  let v343 : BitVec 1 := Scalar.andi v340 v342
  let v329 : BitVec 32 := Scalar.divsi v101 c6_i32_179
  let c1_i32_185 : BitVec 32 := 1#32
  let v344 : BitVec 32 := Scalar.subi v329 c1_i32_185
  let v345 : BitVec 32 := Scalar.select v343 v344 v329
  let c6_i32_186 : BitVec 32 := 6#32
  let v346 : BitVec 32 := Scalar.muli v345 c6_i32_186
  let v432 : BitVec 32 := Scalar.addi v346 c0_i32_237
  let v433 : Index := Scalar.indexCast v432
  let c0_239 : Index := 0#32
  let c0_240 : Index := 0#32
  ![0, v433.toNat, 0, 0]
def k0_mult22 (i : grid0.Coords) : BitVec 32 :=
  let arg1 : BitVec 32 := BitVec.ofNat 32 (i 1).val
  let c1_i32 : BitVec 32 := 1#32
  let v80 : BitVec 32 := Scalar.subi arg1 c1_i32
  let c0_i32_38 : BitVec 32 := 0#32
  let v81 : BitVec 32 := Scalar.maxsi v80 c0_i32_38
  let c128_i32_39 : BitVec 32 := 128#32
  let v82 : BitVec 32 := Scalar.muli v81 c128_i32_39
  let c512_i32_40 : BitVec 32 := 512#32
  let v83 : BitVec 32 := Scalar.addi v82 c512_i32_40
  let c1_i32_41 : BitVec 32 := 1#32
  let v84 : BitVec 32 := Scalar.subi v83 c1_i32_41
  let c0_i32_43 : BitVec 32 := 0#32
  let v86 : BitVec 1 := Scalar.cmpi .sgt v84 c0_i32_43
  let v87 : BitVec 32 := Scalar.extui v86
  let c0_i32_44 : BitVec 32 := 0#32
  let v88 : BitVec 1 := Scalar.cmpi .slt v84 c0_i32_44
  let v89 : BitVec 32 := Scalar.extui v88
  let v90 : BitVec 32 := Scalar.subi v87 v89
  let c512_i32_42 : BitVec 32 := 512#32
  let c0_i32_45 : BitVec 32 := 0#32
  let v91 : BitVec 1 := Scalar.cmpi .sgt c512_i32_42 c0_i32_45
  let v92 : BitVec 32 := Scalar.extui v91
  let c0_i32_46 : BitVec 32 := 0#32
  let v93 : BitVec 1 := Scalar.cmpi .slt c512_i32_42 c0_i32_46
  let v94 : BitVec 32 := Scalar.extui v93
  let v95 : BitVec 32 := Scalar.subi v92 v94
  let v96 : BitVec 1 := Scalar.cmpi .ne v90 v95
  let v97 : BitVec 32 := Scalar.remsi v84 c512_i32_42
  let c0_i32_47 : BitVec 32 := 0#32
  let v98 : BitVec 1 := Scalar.cmpi .ne v97 c0_i32_47
  let v99 : BitVec 1 := Scalar.andi v96 v98
  let v85 : BitVec 32 := Scalar.divsi v84 c512_i32_42
  let c1_i32_48 : BitVec 32 := 1#32
  let v100 : BitVec 32 := Scalar.subi v85 c1_i32_48
  let v101 : BitVec 32 := Scalar.select v99 v100 v85
  let c0_i32_180 : BitVec 32 := 0#32
  let v330 : BitVec 1 := Scalar.cmpi .sgt v101 c0_i32_180
  let v331 : BitVec 32 := Scalar.extui v330
  let c0_i32_181 : BitVec 32 := 0#32
  let v332 : BitVec 1 := Scalar.cmpi .slt v101 c0_i32_181
  let v333 : BitVec 32 := Scalar.extui v332
  let v334 : BitVec 32 := Scalar.subi v331 v333
  let c6_i32_179 : BitVec 32 := 6#32
  let c0_i32_182 : BitVec 32 := 0#32
  let v335 : BitVec 1 := Scalar.cmpi .sgt c6_i32_179 c0_i32_182
  let v336 : BitVec 32 := Scalar.extui v335
  let c0_i32_183 : BitVec 32 := 0#32
  let v337 : BitVec 1 := Scalar.cmpi .slt c6_i32_179 c0_i32_183
  let v338 : BitVec 32 := Scalar.extui v337
  let v339 : BitVec 32 := Scalar.subi v336 v338
  let v340 : BitVec 1 := Scalar.cmpi .ne v334 v339
  let v341 : BitVec 32 := Scalar.remsi v101 c6_i32_179
  let c0_i32_184 : BitVec 32 := 0#32
  let v342 : BitVec 1 := Scalar.cmpi .ne v341 c0_i32_184
  let v343 : BitVec 1 := Scalar.andi v340 v342
  let v329 : BitVec 32 := Scalar.divsi v101 c6_i32_179
  let c1_i32_185 : BitVec 32 := 1#32
  let v344 : BitVec 32 := Scalar.subi v329 c1_i32_185
  let v345 : BitVec 32 := Scalar.select v343 v344 v329
  let c6_i32_186 : BitVec 32 := 6#32
  let v346 : BitVec 32 := Scalar.muli v345 c6_i32_186
  let c1_i32_250 : BitVec 32 := 1#32
  let v455 : BitVec 32 := Scalar.addi v346 c1_i32_250
  let c2_i32_251 : BitVec 32 := 2#32
  let v456 : BitVec 32 := Scalar.addi v455 c2_i32_251
  let c1_i32_94 : BitVec 32 := 1#32
  let v189 : BitVec 32 := Scalar.subi v101 c1_i32_94
  let c0_i32_95 : BitVec 32 := 0#32
  let v190 : BitVec 32 := Scalar.maxsi v189 c0_i32_95
  let v457 : BitVec 32 := Scalar.minsi v456 v190
  let c512_i32_252 : BitVec 32 := 512#32
  let v458 : BitVec 32 := Scalar.muli v457 c512_i32_252
  v458
def k0_mult23 (i : grid0.Coords) : BitVec 32 :=
  let arg1 : BitVec 32 := BitVec.ofNat 32 (i 1).val
  let c1_i32 : BitVec 32 := 1#32
  let v80 : BitVec 32 := Scalar.subi arg1 c1_i32
  let c0_i32_38 : BitVec 32 := 0#32
  let v81 : BitVec 32 := Scalar.maxsi v80 c0_i32_38
  let c128_i32_39 : BitVec 32 := 128#32
  let v82 : BitVec 32 := Scalar.muli v81 c128_i32_39
  let c512_i32_40 : BitVec 32 := 512#32
  let v83 : BitVec 32 := Scalar.addi v82 c512_i32_40
  let c1_i32_41 : BitVec 32 := 1#32
  let v84 : BitVec 32 := Scalar.subi v83 c1_i32_41
  let c0_i32_43 : BitVec 32 := 0#32
  let v86 : BitVec 1 := Scalar.cmpi .sgt v84 c0_i32_43
  let v87 : BitVec 32 := Scalar.extui v86
  let c0_i32_44 : BitVec 32 := 0#32
  let v88 : BitVec 1 := Scalar.cmpi .slt v84 c0_i32_44
  let v89 : BitVec 32 := Scalar.extui v88
  let v90 : BitVec 32 := Scalar.subi v87 v89
  let c512_i32_42 : BitVec 32 := 512#32
  let c0_i32_45 : BitVec 32 := 0#32
  let v91 : BitVec 1 := Scalar.cmpi .sgt c512_i32_42 c0_i32_45
  let v92 : BitVec 32 := Scalar.extui v91
  let c0_i32_46 : BitVec 32 := 0#32
  let v93 : BitVec 1 := Scalar.cmpi .slt c512_i32_42 c0_i32_46
  let v94 : BitVec 32 := Scalar.extui v93
  let v95 : BitVec 32 := Scalar.subi v92 v94
  let v96 : BitVec 1 := Scalar.cmpi .ne v90 v95
  let v97 : BitVec 32 := Scalar.remsi v84 c512_i32_42
  let c0_i32_47 : BitVec 32 := 0#32
  let v98 : BitVec 1 := Scalar.cmpi .ne v97 c0_i32_47
  let v99 : BitVec 1 := Scalar.andi v96 v98
  let v85 : BitVec 32 := Scalar.divsi v84 c512_i32_42
  let c1_i32_48 : BitVec 32 := 1#32
  let v100 : BitVec 32 := Scalar.subi v85 c1_i32_48
  let v101 : BitVec 32 := Scalar.select v99 v100 v85
  let c0_i32_180 : BitVec 32 := 0#32
  let v330 : BitVec 1 := Scalar.cmpi .sgt v101 c0_i32_180
  let v331 : BitVec 32 := Scalar.extui v330
  let c0_i32_181 : BitVec 32 := 0#32
  let v332 : BitVec 1 := Scalar.cmpi .slt v101 c0_i32_181
  let v333 : BitVec 32 := Scalar.extui v332
  let v334 : BitVec 32 := Scalar.subi v331 v333
  let c6_i32_179 : BitVec 32 := 6#32
  let c0_i32_182 : BitVec 32 := 0#32
  let v335 : BitVec 1 := Scalar.cmpi .sgt c6_i32_179 c0_i32_182
  let v336 : BitVec 32 := Scalar.extui v335
  let c0_i32_183 : BitVec 32 := 0#32
  let v337 : BitVec 1 := Scalar.cmpi .slt c6_i32_179 c0_i32_183
  let v338 : BitVec 32 := Scalar.extui v337
  let v339 : BitVec 32 := Scalar.subi v336 v338
  let v340 : BitVec 1 := Scalar.cmpi .ne v334 v339
  let v341 : BitVec 32 := Scalar.remsi v101 c6_i32_179
  let c0_i32_184 : BitVec 32 := 0#32
  let v342 : BitVec 1 := Scalar.cmpi .ne v341 c0_i32_184
  let v343 : BitVec 1 := Scalar.andi v340 v342
  let v329 : BitVec 32 := Scalar.divsi v101 c6_i32_179
  let c1_i32_185 : BitVec 32 := 1#32
  let v344 : BitVec 32 := Scalar.subi v329 c1_i32_185
  let v345 : BitVec 32 := Scalar.select v343 v344 v329
  let c6_i32_186 : BitVec 32 := 6#32
  let v346 : BitVec 32 := Scalar.muli v345 c6_i32_186
  let c2_i32_288 : BitVec 32 := 2#32
  let v518 : BitVec 32 := Scalar.addi v346 c2_i32_288
  let c2_i32_289 : BitVec 32 := 2#32
  let v519 : BitVec 32 := Scalar.addi v518 c2_i32_289
  let c1_i32_94 : BitVec 32 := 1#32
  let v189 : BitVec 32 := Scalar.subi v101 c1_i32_94
  let c0_i32_95 : BitVec 32 := 0#32
  let v190 : BitVec 32 := Scalar.maxsi v189 c0_i32_95
  let v520 : BitVec 32 := Scalar.minsi v519 v190
  let c512_i32_290 : BitVec 32 := 512#32
  let v521 : BitVec 32 := Scalar.muli v520 c512_i32_290
  v521
def k0_cond2 (i : grid0.Coords) : BitVec 1 :=
  let arg1 : BitVec 32 := BitVec.ofNat 32 (i 1).val
  let c1_i32 : BitVec 32 := 1#32
  let v80 : BitVec 32 := Scalar.subi arg1 c1_i32
  let c0_i32_38 : BitVec 32 := 0#32
  let v81 : BitVec 32 := Scalar.maxsi v80 c0_i32_38
  let c128_i32_39 : BitVec 32 := 128#32
  let v82 : BitVec 32 := Scalar.muli v81 c128_i32_39
  let c512_i32_40 : BitVec 32 := 512#32
  let v83 : BitVec 32 := Scalar.addi v82 c512_i32_40
  let c1_i32_41 : BitVec 32 := 1#32
  let v84 : BitVec 32 := Scalar.subi v83 c1_i32_41
  let c0_i32_43 : BitVec 32 := 0#32
  let v86 : BitVec 1 := Scalar.cmpi .sgt v84 c0_i32_43
  let v87 : BitVec 32 := Scalar.extui v86
  let c0_i32_44 : BitVec 32 := 0#32
  let v88 : BitVec 1 := Scalar.cmpi .slt v84 c0_i32_44
  let v89 : BitVec 32 := Scalar.extui v88
  let v90 : BitVec 32 := Scalar.subi v87 v89
  let c512_i32_42 : BitVec 32 := 512#32
  let c0_i32_45 : BitVec 32 := 0#32
  let v91 : BitVec 1 := Scalar.cmpi .sgt c512_i32_42 c0_i32_45
  let v92 : BitVec 32 := Scalar.extui v91
  let c0_i32_46 : BitVec 32 := 0#32
  let v93 : BitVec 1 := Scalar.cmpi .slt c512_i32_42 c0_i32_46
  let v94 : BitVec 32 := Scalar.extui v93
  let v95 : BitVec 32 := Scalar.subi v92 v94
  let v96 : BitVec 1 := Scalar.cmpi .ne v90 v95
  let v97 : BitVec 32 := Scalar.remsi v84 c512_i32_42
  let c0_i32_47 : BitVec 32 := 0#32
  let v98 : BitVec 1 := Scalar.cmpi .ne v97 c0_i32_47
  let v99 : BitVec 1 := Scalar.andi v96 v98
  let v85 : BitVec 32 := Scalar.divsi v84 c512_i32_42
  let c1_i32_48 : BitVec 32 := 1#32
  let v100 : BitVec 32 := Scalar.subi v85 c1_i32_48
  let v101 : BitVec 32 := Scalar.select v99 v100 v85
  let c0_i32_190 : BitVec 32 := 0#32
  let v352 : BitVec 1 := Scalar.cmpi .sgt v101 c0_i32_190
  let v353 : BitVec 32 := Scalar.extui v352
  let c0_i32_191 : BitVec 32 := 0#32
  let v354 : BitVec 1 := Scalar.cmpi .slt v101 c0_i32_191
  let v355 : BitVec 32 := Scalar.extui v354
  let v356 : BitVec 32 := Scalar.subi v353 v355
  let c3_i32_189 : BitVec 32 := 3#32
  let c0_i32_192 : BitVec 32 := 0#32
  let v357 : BitVec 1 := Scalar.cmpi .sgt c3_i32_189 c0_i32_192
  let v358 : BitVec 32 := Scalar.extui v357
  let c0_i32_193 : BitVec 32 := 0#32
  let v359 : BitVec 1 := Scalar.cmpi .slt c3_i32_189 c0_i32_193
  let v360 : BitVec 32 := Scalar.extui v359
  let v361 : BitVec 32 := Scalar.subi v358 v360
  let v362 : BitVec 1 := Scalar.cmpi .ne v356 v361
  let v363 : BitVec 32 := Scalar.remsi v101 c3_i32_189
  let c0_i32_194 : BitVec 32 := 0#32
  let v364 : BitVec 1 := Scalar.cmpi .ne v363 c0_i32_194
  let v365 : BitVec 1 := Scalar.andi v362 v364
  let v351 : BitVec 32 := Scalar.divsi v101 c3_i32_189
  let c1_i32_195 : BitVec 32 := 1#32
  let v366 : BitVec 32 := Scalar.subi v351 c1_i32_195
  let v367 : BitVec 32 := Scalar.select v365 v366 v351
  let c3_i32_196 : BitVec 32 := 3#32
  let v368 : BitVec 32 := Scalar.muli v367 c3_i32_196
  let v369 : BitVec 32 := Scalar.subi v101 v368
  let c0_i32_197 : BitVec 32 := 0#32
  let v370 : BitVec 1 := Scalar.cmpi .sgt v369 c0_i32_197
  let v371 : BitVec 32 := Scalar.extui v370
  let c0_i32_198 : BitVec 32 := 0#32
  let v372 : BitVec 1 := Scalar.cmpi .ne v371 c0_i32_198
  v372

def k0_off32 (i : grid0.Coords) : Fin 4 → Nat :=
  let c0_217 : Index := 0#32
  let arg1 : BitVec 32 := BitVec.ofNat 32 (i 1).val
  let c1_i32 : BitVec 32 := 1#32
  let v80 : BitVec 32 := Scalar.subi arg1 c1_i32
  let c0_i32_38 : BitVec 32 := 0#32
  let v81 : BitVec 32 := Scalar.maxsi v80 c0_i32_38
  let c128_i32_39 : BitVec 32 := 128#32
  let v82 : BitVec 32 := Scalar.muli v81 c128_i32_39
  let c512_i32_40 : BitVec 32 := 512#32
  let v83 : BitVec 32 := Scalar.addi v82 c512_i32_40
  let c1_i32_41 : BitVec 32 := 1#32
  let v84 : BitVec 32 := Scalar.subi v83 c1_i32_41
  let c0_i32_43 : BitVec 32 := 0#32
  let v86 : BitVec 1 := Scalar.cmpi .sgt v84 c0_i32_43
  let v87 : BitVec 32 := Scalar.extui v86
  let c0_i32_44 : BitVec 32 := 0#32
  let v88 : BitVec 1 := Scalar.cmpi .slt v84 c0_i32_44
  let v89 : BitVec 32 := Scalar.extui v88
  let v90 : BitVec 32 := Scalar.subi v87 v89
  let c512_i32_42 : BitVec 32 := 512#32
  let c0_i32_45 : BitVec 32 := 0#32
  let v91 : BitVec 1 := Scalar.cmpi .sgt c512_i32_42 c0_i32_45
  let v92 : BitVec 32 := Scalar.extui v91
  let c0_i32_46 : BitVec 32 := 0#32
  let v93 : BitVec 1 := Scalar.cmpi .slt c512_i32_42 c0_i32_46
  let v94 : BitVec 32 := Scalar.extui v93
  let v95 : BitVec 32 := Scalar.subi v92 v94
  let v96 : BitVec 1 := Scalar.cmpi .ne v90 v95
  let v97 : BitVec 32 := Scalar.remsi v84 c512_i32_42
  let c0_i32_47 : BitVec 32 := 0#32
  let v98 : BitVec 1 := Scalar.cmpi .ne v97 c0_i32_47
  let v99 : BitVec 1 := Scalar.andi v96 v98
  let v85 : BitVec 32 := Scalar.divsi v84 c512_i32_42
  let c1_i32_48 : BitVec 32 := 1#32
  let v100 : BitVec 32 := Scalar.subi v85 c1_i32_48
  let v101 : BitVec 32 := Scalar.select v99 v100 v85
  let c0_i32_190 : BitVec 32 := 0#32
  let v352 : BitVec 1 := Scalar.cmpi .sgt v101 c0_i32_190
  let v353 : BitVec 32 := Scalar.extui v352
  let c0_i32_191 : BitVec 32 := 0#32
  let v354 : BitVec 1 := Scalar.cmpi .slt v101 c0_i32_191
  let v355 : BitVec 32 := Scalar.extui v354
  let v356 : BitVec 32 := Scalar.subi v353 v355
  let c3_i32_189 : BitVec 32 := 3#32
  let c0_i32_192 : BitVec 32 := 0#32
  let v357 : BitVec 1 := Scalar.cmpi .sgt c3_i32_189 c0_i32_192
  let v358 : BitVec 32 := Scalar.extui v357
  let c0_i32_193 : BitVec 32 := 0#32
  let v359 : BitVec 1 := Scalar.cmpi .slt c3_i32_189 c0_i32_193
  let v360 : BitVec 32 := Scalar.extui v359
  let v361 : BitVec 32 := Scalar.subi v358 v360
  let v362 : BitVec 1 := Scalar.cmpi .ne v356 v361
  let v363 : BitVec 32 := Scalar.remsi v101 c3_i32_189
  let c0_i32_194 : BitVec 32 := 0#32
  let v364 : BitVec 1 := Scalar.cmpi .ne v363 c0_i32_194
  let v365 : BitVec 1 := Scalar.andi v362 v364
  let v351 : BitVec 32 := Scalar.divsi v101 c3_i32_189
  let c1_i32_195 : BitVec 32 := 1#32
  let v366 : BitVec 32 := Scalar.subi v351 c1_i32_195
  let v367 : BitVec 32 := Scalar.select v365 v366 v351
  let c3_i32_196 : BitVec 32 := 3#32
  let v368 : BitVec 32 := Scalar.muli v367 c3_i32_196
  let c0_i32_216 : BitVec 32 := 0#32
  let v394 : BitVec 32 := Scalar.addi v368 c0_i32_216
  let v395 : Index := Scalar.indexCast v394
  let c0_218 : Index := 0#32
  let c0_219 : Index := 0#32
  ![0, v395.toNat, 0, 0]
def k0_cond3 (i : grid0.Coords) : BitVec 1 :=
  let arg1 : BitVec 32 := BitVec.ofNat 32 (i 1).val
  let c1_i32 : BitVec 32 := 1#32
  let v80 : BitVec 32 := Scalar.subi arg1 c1_i32
  let c0_i32_38 : BitVec 32 := 0#32
  let v81 : BitVec 32 := Scalar.maxsi v80 c0_i32_38
  let c128_i32_39 : BitVec 32 := 128#32
  let v82 : BitVec 32 := Scalar.muli v81 c128_i32_39
  let c512_i32_40 : BitVec 32 := 512#32
  let v83 : BitVec 32 := Scalar.addi v82 c512_i32_40
  let c1_i32_41 : BitVec 32 := 1#32
  let v84 : BitVec 32 := Scalar.subi v83 c1_i32_41
  let c0_i32_43 : BitVec 32 := 0#32
  let v86 : BitVec 1 := Scalar.cmpi .sgt v84 c0_i32_43
  let v87 : BitVec 32 := Scalar.extui v86
  let c0_i32_44 : BitVec 32 := 0#32
  let v88 : BitVec 1 := Scalar.cmpi .slt v84 c0_i32_44
  let v89 : BitVec 32 := Scalar.extui v88
  let v90 : BitVec 32 := Scalar.subi v87 v89
  let c512_i32_42 : BitVec 32 := 512#32
  let c0_i32_45 : BitVec 32 := 0#32
  let v91 : BitVec 1 := Scalar.cmpi .sgt c512_i32_42 c0_i32_45
  let v92 : BitVec 32 := Scalar.extui v91
  let c0_i32_46 : BitVec 32 := 0#32
  let v93 : BitVec 1 := Scalar.cmpi .slt c512_i32_42 c0_i32_46
  let v94 : BitVec 32 := Scalar.extui v93
  let v95 : BitVec 32 := Scalar.subi v92 v94
  let v96 : BitVec 1 := Scalar.cmpi .ne v90 v95
  let v97 : BitVec 32 := Scalar.remsi v84 c512_i32_42
  let c0_i32_47 : BitVec 32 := 0#32
  let v98 : BitVec 1 := Scalar.cmpi .ne v97 c0_i32_47
  let v99 : BitVec 1 := Scalar.andi v96 v98
  let v85 : BitVec 32 := Scalar.divsi v84 c512_i32_42
  let c1_i32_48 : BitVec 32 := 1#32
  let v100 : BitVec 32 := Scalar.subi v85 c1_i32_48
  let v101 : BitVec 32 := Scalar.select v99 v100 v85
  let c0_i32_190 : BitVec 32 := 0#32
  let v352 : BitVec 1 := Scalar.cmpi .sgt v101 c0_i32_190
  let v353 : BitVec 32 := Scalar.extui v352
  let c0_i32_191 : BitVec 32 := 0#32
  let v354 : BitVec 1 := Scalar.cmpi .slt v101 c0_i32_191
  let v355 : BitVec 32 := Scalar.extui v354
  let v356 : BitVec 32 := Scalar.subi v353 v355
  let c3_i32_189 : BitVec 32 := 3#32
  let c0_i32_192 : BitVec 32 := 0#32
  let v357 : BitVec 1 := Scalar.cmpi .sgt c3_i32_189 c0_i32_192
  let v358 : BitVec 32 := Scalar.extui v357
  let c0_i32_193 : BitVec 32 := 0#32
  let v359 : BitVec 1 := Scalar.cmpi .slt c3_i32_189 c0_i32_193
  let v360 : BitVec 32 := Scalar.extui v359
  let v361 : BitVec 32 := Scalar.subi v358 v360
  let v362 : BitVec 1 := Scalar.cmpi .ne v356 v361
  let v363 : BitVec 32 := Scalar.remsi v101 c3_i32_189
  let c0_i32_194 : BitVec 32 := 0#32
  let v364 : BitVec 1 := Scalar.cmpi .ne v363 c0_i32_194
  let v365 : BitVec 1 := Scalar.andi v362 v364
  let v351 : BitVec 32 := Scalar.divsi v101 c3_i32_189
  let c1_i32_195 : BitVec 32 := 1#32
  let v366 : BitVec 32 := Scalar.subi v351 c1_i32_195
  let v367 : BitVec 32 := Scalar.select v365 v366 v351
  let c3_i32_196 : BitVec 32 := 3#32
  let v368 : BitVec 32 := Scalar.muli v367 c3_i32_196
  let v373 : BitVec 32 := Scalar.subi v101 v368
  let c1_i32_199 : BitVec 32 := 1#32
  let v374 : BitVec 1 := Scalar.cmpi .sgt v373 c1_i32_199
  let v375 : BitVec 32 := Scalar.extui v374
  let c0_i32_200 : BitVec 32 := 0#32
  let v376 : BitVec 1 := Scalar.cmpi .ne v375 c0_i32_200
  v376

def k0_off33 (i : grid0.Coords) : Fin 4 → Nat :=
  let c0_217 : Index := 0#32
  let arg1 : BitVec 32 := BitVec.ofNat 32 (i 1).val
  let c1_i32 : BitVec 32 := 1#32
  let v80 : BitVec 32 := Scalar.subi arg1 c1_i32
  let c0_i32_38 : BitVec 32 := 0#32
  let v81 : BitVec 32 := Scalar.maxsi v80 c0_i32_38
  let c128_i32_39 : BitVec 32 := 128#32
  let v82 : BitVec 32 := Scalar.muli v81 c128_i32_39
  let c512_i32_40 : BitVec 32 := 512#32
  let v83 : BitVec 32 := Scalar.addi v82 c512_i32_40
  let c1_i32_41 : BitVec 32 := 1#32
  let v84 : BitVec 32 := Scalar.subi v83 c1_i32_41
  let c0_i32_43 : BitVec 32 := 0#32
  let v86 : BitVec 1 := Scalar.cmpi .sgt v84 c0_i32_43
  let v87 : BitVec 32 := Scalar.extui v86
  let c0_i32_44 : BitVec 32 := 0#32
  let v88 : BitVec 1 := Scalar.cmpi .slt v84 c0_i32_44
  let v89 : BitVec 32 := Scalar.extui v88
  let v90 : BitVec 32 := Scalar.subi v87 v89
  let c512_i32_42 : BitVec 32 := 512#32
  let c0_i32_45 : BitVec 32 := 0#32
  let v91 : BitVec 1 := Scalar.cmpi .sgt c512_i32_42 c0_i32_45
  let v92 : BitVec 32 := Scalar.extui v91
  let c0_i32_46 : BitVec 32 := 0#32
  let v93 : BitVec 1 := Scalar.cmpi .slt c512_i32_42 c0_i32_46
  let v94 : BitVec 32 := Scalar.extui v93
  let v95 : BitVec 32 := Scalar.subi v92 v94
  let v96 : BitVec 1 := Scalar.cmpi .ne v90 v95
  let v97 : BitVec 32 := Scalar.remsi v84 c512_i32_42
  let c0_i32_47 : BitVec 32 := 0#32
  let v98 : BitVec 1 := Scalar.cmpi .ne v97 c0_i32_47
  let v99 : BitVec 1 := Scalar.andi v96 v98
  let v85 : BitVec 32 := Scalar.divsi v84 c512_i32_42
  let c1_i32_48 : BitVec 32 := 1#32
  let v100 : BitVec 32 := Scalar.subi v85 c1_i32_48
  let v101 : BitVec 32 := Scalar.select v99 v100 v85
  let c0_i32_190 : BitVec 32 := 0#32
  let v352 : BitVec 1 := Scalar.cmpi .sgt v101 c0_i32_190
  let v353 : BitVec 32 := Scalar.extui v352
  let c0_i32_191 : BitVec 32 := 0#32
  let v354 : BitVec 1 := Scalar.cmpi .slt v101 c0_i32_191
  let v355 : BitVec 32 := Scalar.extui v354
  let v356 : BitVec 32 := Scalar.subi v353 v355
  let c3_i32_189 : BitVec 32 := 3#32
  let c0_i32_192 : BitVec 32 := 0#32
  let v357 : BitVec 1 := Scalar.cmpi .sgt c3_i32_189 c0_i32_192
  let v358 : BitVec 32 := Scalar.extui v357
  let c0_i32_193 : BitVec 32 := 0#32
  let v359 : BitVec 1 := Scalar.cmpi .slt c3_i32_189 c0_i32_193
  let v360 : BitVec 32 := Scalar.extui v359
  let v361 : BitVec 32 := Scalar.subi v358 v360
  let v362 : BitVec 1 := Scalar.cmpi .ne v356 v361
  let v363 : BitVec 32 := Scalar.remsi v101 c3_i32_189
  let c0_i32_194 : BitVec 32 := 0#32
  let v364 : BitVec 1 := Scalar.cmpi .ne v363 c0_i32_194
  let v365 : BitVec 1 := Scalar.andi v362 v364
  let v351 : BitVec 32 := Scalar.divsi v101 c3_i32_189
  let c1_i32_195 : BitVec 32 := 1#32
  let v366 : BitVec 32 := Scalar.subi v351 c1_i32_195
  let v367 : BitVec 32 := Scalar.select v365 v366 v351
  let c3_i32_196 : BitVec 32 := 3#32
  let v368 : BitVec 32 := Scalar.muli v367 c3_i32_196
  let c1_i32_216 : BitVec 32 := 1#32
  let v394 : BitVec 32 := Scalar.addi v368 c1_i32_216
  let v395 : Index := Scalar.indexCast v394
  let c0_218 : Index := 0#32
  let c0_219 : Index := 0#32
  ![0, v395.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x32x80x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x128x80x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S4x384x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x16384x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1x128x80x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 2 → Memref sig .tc .vmem S4x1152x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Kernel5.lean ====
abbrev S32x8 : Shape := ⟨2, ![32, 8]⟩
abbrev S1152x128 : Shape := ⟨2, ![1152, 128]⟩
abbrev S384x128 : Shape := ⟨2, ![384, 128]⟩
abbrev S40x128 : Shape := ⟨2, ![40, 128]⟩
abbrev S8x1152x128 : Shape := ⟨3, ![8, 1152, 128]⟩
abbrev S8x384x128 : Shape := ⟨3, ![8, 384, 128]⟩
abbrev S8x40x128 : Shape := ⟨3, ![8, 40, 128]⟩
abbrev S1x1152x128 : Shape := ⟨3, ![1, 1152, 128]⟩
abbrev S1x384x128 : Shape := ⟨3, ![1, 384, 128]⟩
abbrev S1x40x128 : Shape := ⟨3, ![1, 40, 128]⟩
abbrev S1x1 : Shape := ⟨2, ![1, 1]⟩

abbrev nBuf : Space → Nat
  | .hbm => 7
  | .vmem => 9
  | .smem => 1
  | _ => 0

abbrev bufTy : (tb : Table) → Fin (tcTables nBuf tb) → BufTy
  | .hbm, ⟨0, _⟩ => ⟨S32x8, .f32⟩
  | .hbm, ⟨1, _⟩ => ⟨S1152x128, .i32⟩
  | .hbm, ⟨2, _⟩ => ⟨S384x128, .i32⟩
  | .hbm, ⟨3, _⟩ => ⟨S40x128, .i32⟩
  | .hbm, ⟨4, _⟩ => ⟨S8x1152x128, .f32⟩
  | .hbm, ⟨5, _⟩ => ⟨S8x384x128, .f32⟩
  | .hbm, ⟨6, _⟩ => ⟨S8x40x128, .f32⟩
  | .local _ .vmem, ⟨0, _⟩ => ⟨S1152x128, .i32⟩
  | .local _ .vmem, ⟨1, _⟩ => ⟨S384x128, .i32⟩
  | .local _ .vmem, ⟨2, _⟩ => ⟨S40x128, .i32⟩
  | .local _ .vmem, ⟨3, _⟩ => ⟨S1x1152x128, .f32⟩
  | .local _ .vmem, ⟨4, _⟩ => ⟨S1x1152x128, .f32⟩
  | .local _ .vmem, ⟨5, _⟩ => ⟨S1x384x128, .f32⟩
  | .local _ .vmem, ⟨6, _⟩ => ⟨S1x384x128, .f32⟩
  | .local _ .vmem, ⟨7, _⟩ => ⟨S1x40x128, .f32⟩
  | .local _ .vmem, ⟨8, _⟩ => ⟨S1x40x128, .f32⟩
  | .local _ .smem, ⟨0, _⟩ => ⟨S32x8, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c31 : Index := 31#32
  let arg0 : BitVec 32 := BitVec.ofNat 32 (i 0).val
  let v0 : Index := Scalar.indexCast arg0
  ![31, v0.toNat]
def k0_off2 (i : grid0.Coords) : Fin 2 → Nat :=
  let c0_1 : Index := 0#32
  let arg0 : BitVec 32 := BitVec.ofNat 32 (i 0).val
  let v4 : Index := Scalar.indexCast arg0
  ![0, v4.toNat]
def k0_off3 (i : grid0.Coords) : Fin 2 → Nat :=
  let c1 : Index := 1#32
  let arg0 : BitVec 32 := BitVec.ofNat 32 (i 0).val
  let v11 : Index := Scalar.indexCast arg0
  ![1, v11.toNat]
def k0_off4 (i : grid0.Coords) : Fin 2 → Nat :=
  let c2 : Index := 2#32
  let arg0 : BitVec 32 := BitVec.ofNat 32 (i 0).val
  let v18 : Index := Scalar.indexCast arg0
  ![2, v18.toNat]
def k0_off5 (i : grid0.Coords) : Fin 2 → Nat :=
  let c3 : Index := 3#32
  let arg0 : BitVec 32 := BitVec.ofNat 32 (i 0).val
  let v25 : Index := Scalar.indexCast arg0
  ![3, v25.toNat]
def k0_off6 (i : grid0.Coords) : Fin 2 → Nat :=
  let c4 : Index := 4#32
  let arg0 : BitVec 32 := BitVec.ofNat 32 (i 0).val
  let v32 : Index := Scalar.indexCast arg0
  ![4, v32.toNat]
def k0_off7 (i : grid0.Coords) : Fin 2 → Nat :=
  let c5 : Index := 5#32
  let arg0 : BitVec 32 := BitVec.ofNat 32 (i 0).val
  let v39 : Index := Scalar.indexCast arg0
  ![5, v39.toNat]
def k0_off8 (i : grid0.Coords) : Fin 2 → Nat :=
  let c6 : Index := 6#32
  let arg0 : BitVec 32 := BitVec.ofNat 32 (i 0).val
  let v46 : Index := Scalar.indexCast arg0
  ![6, v46.toNat]
def k0_off9 (i : grid0.Coords) : Fin 2 → Nat :=
  let c7 : Index := 7#32
  let arg0 : BitVec 32 := BitVec.ofNat 32 (i 0).val
  let v53 : Index := Scalar.indexCast arg0
  ![7, v53.toNat]
def k0_off10 (i : grid0.Coords) : Fin 2 → Nat :=
  let c8 : Index := 8#32
  let arg0 : BitVec 32 := BitVec.ofNat 32 (i 0).val
  let v60 : Index := Scalar.indexCast arg0
  ![8, v60.toNat]
def k0_off11 (i : grid0.Coords) : Fin 2 → Nat :=
  let c9 : Index := 9#32
  let arg0 : BitVec 32 := BitVec.ofNat 32 (i 0).val
  let v67 : Index := Scalar.indexCast arg0
  ![9, v67.toNat]
def k0_off12 (i : grid0.Coords) : Fin 2 → Nat :=
  let c10 : Index := 10#32
  let arg0 : BitVec 32 := BitVec.ofNat 32 (i 0).val
  let v74 : Index := Scalar.indexCast arg0
  ![10, v74.toNat]
def k0_off13 (i : grid0.Coords) : Fin 2 → Nat :=
  let c11 : Index := 11#32
  let arg0 : BitVec 32 := BitVec.ofNat 32 (i 0).val
  let v81 : Index := Scalar.indexCast arg0
  ![11, v81.toNat]
def k0_off14 (i : grid0.Coords) : Fin 2 → Nat :=
  let c12 : Index := 12#32
  let arg0 : BitVec 32 := BitVec.ofNat 32 (i 0).val
  let v88 : Index := Scalar.indexCast arg0
  ![12, v88.toNat]
def k0_off15 (i : grid0.Coords) : Fin 2 → Nat :=
  let c13 : Index := 13#32
  let arg0 : BitVec 32 := BitVec.ofNat 32 (i 0).val
  let v95 : Index := Scalar.indexCast arg0
  ![13, v95.toNat]
def k0_off16 (i : grid0.Coords) : Fin 2 → Nat :=
  let c14 : Index := 14#32
  let arg0 : BitVec 32 := BitVec.ofNat 32 (i 0).val
  let v102 : Index := Scalar.indexCast arg0
  ![14, v102.toNat]
def k0_off17 (i : grid0.Coords) : Fin 2 → Nat :=
  let c15 : Index := 15#32
  let arg0 : BitVec 32 := BitVec.ofNat 32 (i 0).val
  let v109 : Index := Scalar.indexCast arg0
  ![15, v109.toNat]
def k0_off18 (i : grid0.Coords) : Fin 2 → Nat :=
  let c16 : Index := 16#32
  let arg0 : BitVec 32 := BitVec.ofNat 32 (i 0).val
  let v116 : Index := Scalar.indexCast arg0
  ![16, v116.toNat]
def k0_off19 (i : grid0.Coords) : Fin 2 → Nat :=
  let c17 : Index := 17#32
  let arg0 : BitVec 32 := BitVec.ofNat 32 (i 0).val
  let v123 : Index := Scalar.indexCast arg0
  ![17, v123.toNat]
def k0_off20 (i : grid0.Coords) : Fin 2 → Nat :=
  let c18 : Index := 18#32
  let arg0 : BitVec 32 := BitVec.ofNat 32 (i 0).val
  let v130 : Index := Scalar.indexCast arg0
  ![18, v130.toNat]
def k0_off21 (i : grid0.Coords) : Fin 2 → Nat :=
  let c19 : Index := 19#32
  let arg0 : BitVec 32 := BitVec.ofNat 32 (i 0).val
  let v137 : Index := Scalar.indexCast arg0
  ![19, v137.toNat]
def k0_off22 (i : grid0.Coords) : Fin 2 → Nat :=
  let c20 : Index := 20#32
  let arg0 : BitVec 32 := BitVec.ofNat 32 (i 0).val
  let v144 : Index := Scalar.indexCast arg0
  ![20, v144.toNat]
def k0_off23 (i : grid0.Coords) : Fin 2 → Nat :=
  let c21 : Index := 21#32
  let arg0 : BitVec 32 := BitVec.ofNat 32 (i 0).val
  let v151 : Index := Scalar.indexCast arg0
  ![21, v151.toNat]
def k0_off24 (i : grid0.Coords) : Fin 2 → Nat :=
  let c22 : Index := 22#32
  let arg0 : BitVec 32 := BitVec.ofNat 32 (i 0).val
  let v158 : Index := Scalar.indexCast arg0
  ![22, v158.toNat]
def k0_off25 (i : grid0.Coords) : Fin 2 → Nat :=
  let c23 : Index := 23#32
  let arg0 : BitVec 32 := BitVec.ofNat 32 (i 0).val
  let v165 : Index := Scalar.indexCast arg0
  ![23, v165.toNat]
def k0_off26 (i : grid0.Coords) : Fin 2 → Nat :=
  let c24 : Index := 24#32
  let arg0 : BitVec 32 := BitVec.ofNat 32 (i 0).val
  let v172 : Index := Scalar.indexCast arg0
  ![24, v172.toNat]
def k0_off27 (i : grid0.Coords) : Fin 2 → Nat :=
  let c25 : Index := 25#32
  let arg0 : BitVec 32 := BitVec.ofNat 32 (i 0).val
  let v179 : Index := Scalar.indexCast arg0
  ![25, v179.toNat]
def k0_off28 (i : grid0.Coords) : Fin 2 → Nat :=
  let c26 : Index := 26#32
  let arg0 : BitVec 32 := BitVec.ofNat 32 (i 0).val
  let v186 : Index := Scalar.indexCast arg0
  ![26, v186.toNat]
def k0_off29 (i : grid0.Coords) : Fin 2 → Nat :=
  let c27 : Index := 27#32
  let arg0 : BitVec 32 := BitVec.ofNat 32 (i 0).val
  let v193 : Index := Scalar.indexCast arg0
  ![27, v193.toNat]
def k0_off30 (i : grid0.Coords) : Fin 2 → Nat :=
  let c28 : Index := 28#32
  let arg0 : BitVec 32 := BitVec.ofNat 32 (i 0).val
  let v200 : Index := Scalar.indexCast arg0
  ![28, v200.toNat]
def k0_off31 (i : grid0.Coords) : Fin 2 → Nat :=
  let c29 : Index := 29#32
  let arg0 : BitVec 32 := BitVec.ofNat 32 (i 0).val
  let v207 : Index := Scalar.indexCast arg0
  ![29, v207.toNat]
def k0_off32 (i : grid0.Coords) : Fin 2 → Nat :=
  let c30 : Index := 30#32
  let arg0 : BitVec 32 := BitVec.ofNat 32 (i 0).val
  let v214 : Index := Scalar.indexCast arg0
  ![30, v214.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1152x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S40x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1152x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x384x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x40x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S32x8 : Shape := ⟨2, ![32, 8]⟩
abbrev S1152x128 : Shape := ⟨2, ![1152, 128]⟩
abbrev S384x128 : Shape := ⟨2, ![384, 128]⟩
abbrev S40x128 : Shape := ⟨2, ![40, 128]⟩
abbrev S1x8 : Shape := ⟨2, ![1, 8]⟩
abbrev S8 : Shape := ⟨1, ![8]⟩
abbrev S_ : Shape := ⟨0, ![]⟩
abbrev S1152x128x1 : Shape := ⟨3, ![1152, 128, 1]⟩
abbrev S1152x128x8 : Shape := ⟨3, ![1152, 128, 8]⟩
abbrev S8x1152x128 : Shape := ⟨3, ![8, 1152, 128]⟩
abbrev S384x128x1 : Shape := ⟨3, ![384, 128, 1]⟩
abbrev S384x128x8 : Shape := ⟨3, ![384, 128, 8]⟩
abbrev S8x384x128 : Shape := ⟨3, ![8, 384, 128]⟩
abbrev S40x128x1 : Shape := ⟨3, ![40, 128, 1]⟩
abbrev S40x128x8 : Shape := ⟨3, ![40, 128, 8]⟩
abbrev S8x40x128 : Shape := ⟨3, ![8, 40, 128]⟩

abbrev nBuf : Space → Nat
  | .hbm => 96
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S1152x128, .i32⟩
  | .hbm, ⟨2, _⟩ => ⟨S384x128, .i32⟩
  | .hbm, ⟨3, _⟩ => ⟨S40x128, .i32⟩
  | .hbm, ⟨4, _⟩ => ⟨S1x8, .f32⟩
  | .hbm, ⟨5, _⟩ => ⟨S8, .f32⟩
  | .hbm, ⟨6, _⟩ => ⟨S1x8, .f32⟩
  | .hbm, ⟨7, _⟩ => ⟨S32x8, .f32⟩
  | .hbm, ⟨8, _⟩ => ⟨S32x8, .f32⟩
  | .hbm, ⟨9, _⟩ => ⟨S_, .i32⟩
  | .hbm, ⟨10, _⟩ => ⟨S1152x128, .i32⟩
  | .hbm, ⟨11, _⟩ => ⟨S1152x128, .i1⟩
  | .hbm, ⟨12, _⟩ => ⟨S_, .i32⟩
  | .hbm, ⟨13, _⟩ => ⟨S1152x128, .i32⟩
  | .hbm, ⟨14, _⟩ => ⟨S1152x128, .i1⟩
  | .hbm, ⟨15, _⟩ => ⟨S1152x128, .i1⟩
  | .hbm, ⟨16, _⟩ => ⟨S_, .i32⟩
  | .hbm, ⟨17, _⟩ => ⟨S_, .i32⟩
  | .hbm, ⟨18, _⟩ => ⟨S1152x128, .i32⟩
  | .hbm, ⟨19, _⟩ => ⟨S1152x128, .i32⟩
  | .hbm, ⟨20, _⟩ => ⟨S_, .i32⟩
  | .hbm, ⟨21, _⟩ => ⟨S1152x128, .i32⟩
  | .hbm, ⟨22, _⟩ => ⟨S1152x128, .i1⟩
  | .hbm, ⟨23, _⟩ => ⟨S_, .i32⟩
  | .hbm, ⟨24, _⟩ => ⟨S1152x128, .i32⟩
  | .hbm, ⟨25, _⟩ => ⟨S1152x128, .i32⟩
  | .hbm, ⟨26, _⟩ => ⟨S1152x128, .i32⟩
  | .hbm, ⟨27, _⟩ => ⟨S1152x128x1, .i32⟩
  | .hbm, ⟨28, _⟩ => ⟨S1152x128x8, .f32⟩
  | .hbm, ⟨29, _⟩ => ⟨S8x1152x128, .f32⟩
  | .hbm, ⟨30, _⟩ => ⟨S_, .f32⟩
  | .hbm, ⟨31, _⟩ => ⟨S8x1152x128, .f32⟩
  | .hbm, ⟨32, _⟩ => ⟨S8x1152x128, .f32⟩
  | .hbm, ⟨33, _⟩ => ⟨S_, .f32⟩
  | .hbm, ⟨34, _⟩ => ⟨S_, .f32⟩
  | .hbm, ⟨35, _⟩ => ⟨S8x1152x128, .i1⟩
  | .hbm, ⟨36, _⟩ => ⟨S8x1152x128, .f32⟩
  | .hbm, ⟨37, _⟩ => ⟨S8x1152x128, .f32⟩
  | .hbm, ⟨38, _⟩ => ⟨S_, .i32⟩
  | .hbm, ⟨39, _⟩ => ⟨S384x128, .i32⟩
  | .hbm, ⟨40, _⟩ => ⟨S384x128, .i1⟩
  | .hbm, ⟨41, _⟩ => ⟨S_, .i32⟩
  | .hbm, ⟨42, _⟩ => ⟨S384x128, .i32⟩
  | .hbm, ⟨43, _⟩ => ⟨S384x128, .i1⟩
  | .hbm, ⟨44, _⟩ => ⟨S384x128, .i1⟩
  | .hbm, ⟨45, _⟩ => ⟨S_, .i32⟩
  | .hbm, ⟨46, _⟩ => ⟨S_, .i32⟩
  | .hbm, ⟨47, _⟩ => ⟨S384x128, .i32⟩
  | .hbm, ⟨48, _⟩ => ⟨S384x128, .i32⟩
  | .hbm, ⟨49, _⟩ => ⟨S_, .i32⟩
  | .hbm, ⟨50, _⟩ => ⟨S384x128, .i32⟩
  | .hbm, ⟨51, _⟩ => ⟨S384x128, .i1⟩
  | .hbm, ⟨52, _⟩ => ⟨S_, .i32⟩
  | .hbm, ⟨53, _⟩ => ⟨S384x128, .i32⟩
  | .hbm, ⟨54, _⟩ => ⟨S384x128, .i32⟩
  | .hbm, ⟨55, _⟩ => ⟨S384x128, .i32⟩
  | .hbm, ⟨56, _⟩ => ⟨S384x128x1, .i32⟩
  | .hbm, ⟨57, _⟩ => ⟨S384x128x8, .f32⟩
  | .hbm, ⟨58, _⟩ => ⟨S8x384x128, .f32⟩
  | .hbm, ⟨59, _⟩ => ⟨S_, .f32⟩
  | .hbm, ⟨60, _⟩ => ⟨S8x384x128, .f32⟩
  | .hbm, ⟨61, _⟩ => ⟨S8x384x128, .f32⟩
  | .hbm, ⟨62, _⟩ => ⟨S_, .f32⟩
  | .hbm, ⟨63, _⟩ => ⟨S_, .f32⟩
  | .hbm, ⟨64, _⟩ => ⟨S8x384x128, .i1⟩
  | .hbm, ⟨65, _⟩ => ⟨S8x384x128, .f32⟩
  | .hbm, ⟨66, _⟩ => ⟨S8x384x128, .f32⟩
  | .hbm, ⟨67, _⟩ => ⟨S_, .i32⟩
  | .hbm, ⟨68, _⟩ => ⟨S40x128, .i32⟩
  | .hbm, ⟨69, _⟩ => ⟨S40x128, .i1⟩
  | .hbm, ⟨70, _⟩ => ⟨S_, .i32⟩
  | .hbm, ⟨71, _⟩ => ⟨S40x128, .i32⟩
  | .hbm, ⟨72, _⟩ => ⟨S40x128, .i1⟩
  | .hbm, ⟨73, _⟩ => ⟨S40x128, .i1⟩
  | .hbm, ⟨74, _⟩ => ⟨S_, .i32⟩
  | .hbm, ⟨75, _⟩ => ⟨S_, .i32⟩
  | .hbm, ⟨76, _⟩ => ⟨S40x128, .i32⟩
  | .hbm, ⟨77, _⟩ => ⟨S40x128, .i32⟩
  | .hbm, ⟨78, _⟩ => ⟨S_, .i32⟩
  | .hbm, ⟨79, _⟩ => ⟨S40x128, .i32⟩
  | .hbm, ⟨80, _⟩ => ⟨S40x128, .i1⟩
  | .hbm, ⟨81, _⟩ => ⟨S_, .i32⟩
  | .hbm, ⟨82, _⟩ => ⟨S40x128, .i32⟩
  | .hbm, ⟨83, _⟩ => ⟨S40x128, .i32⟩
  | .hbm, ⟨84, _⟩ => ⟨S40x128, .i32⟩
  | .hbm, ⟨85, _⟩ => ⟨S40x128x1, .i32⟩
  | .hbm, ⟨86, _⟩ => ⟨S40x128x8, .f32⟩
  | .hbm, ⟨87, _⟩ => ⟨S8x40x128, .f32⟩
  | .hbm, ⟨88, _⟩ => ⟨S_, .f32⟩
  | .hbm, ⟨89, _⟩ => ⟨S8x40x128, .f32⟩
  | .hbm, ⟨90, _⟩ => ⟨S8x40x128, .f32⟩
  | .hbm, ⟨91, _⟩ => ⟨S_, .f32⟩
  | .hbm, ⟨92, _⟩ => ⟨S_, .f32⟩
  | .hbm, ⟨93, _⟩ => ⟨S8x40x128, .i1⟩
  | .hbm, ⟨94, _⟩ => ⟨S8x40x128, .f32⟩
  | .hbm, ⟨95, _⟩ => ⟨S8x40x128, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_7 : Ref sig .tc := ⟨.hbm, 45, rfl⟩
abbrev main_call2_v0 : Ref sig .tc := ⟨.hbm, 46, rfl⟩
abbrev main_call2_v1 : Ref sig .tc := ⟨.hbm, 47, rfl⟩
abbrev main_v27 : Ref sig .tc := ⟨.hbm, 48, rfl⟩
abbrev main_c_8 : Ref sig .tc := ⟨.hbm, 49, rfl⟩
abbrev main_v28 : Ref sig .tc := ⟨.hbm, 50, rfl⟩
abbrev main_v29 : Ref sig .tc := ⟨.hbm, 51, rfl⟩
abbrev main_c_9 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_10 : Ref sig .tc := ⟨.hbm, 59, rfl⟩
abbrev main_v36 : Ref sig .tc := ⟨.hbm, 60, rfl⟩
abbrev main_v37 : Ref sig .tc := ⟨.hbm, 61, rfl⟩
abbrev main_cst_11 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_v38 : Ref sig .tc := ⟨.hbm, 66, rfl⟩
abbrev main_c_12 : Ref sig .tc := ⟨.hbm, 67, rfl⟩
abbrev main_v39 : Ref sig .tc := ⟨.hbm, 68, rfl⟩
abbrev main_v40 : Ref sig .tc := ⟨.hbm, 69, rfl⟩
abbrev main_c_13 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_c_14 : Ref sig .tc := ⟨.hbm, 74, rfl⟩
abbrev main_call4_v0 : Ref sig .tc := ⟨.hbm, 75, rfl⟩
abbrev main_call4_v1 : Ref sig .tc := ⟨.hbm, 76, rfl⟩
abbrev main_v44 : Ref sig .tc := ⟨.hbm, 77, rfl⟩
abbrev main_c_15 : Ref sig .tc := ⟨.hbm, 78, rfl⟩
abbrev main_v45 : Ref sig .tc := ⟨.hbm, 79, rfl⟩
abbrev main_v46 : Ref sig .tc := ⟨.hbm, 80, rfl⟩
abbrev main_c_16 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_17 : Ref sig .tc := ⟨.hbm, 88, rfl⟩
abbrev main_v53 : Ref sig .tc := ⟨.hbm, 89, rfl⟩
abbrev main_v54 : Ref sig .tc := ⟨.hbm, 90, rfl⟩
abbrev main_cst_18 : Ref sig .tc := ⟨.hbm, 91, rfl⟩
abbrev main_call5_v0 : Ref sig .tc := ⟨.hbm, 92, rfl⟩
abbrev main_call5_v1 : Ref sig .tc := ⟨.hbm, 93, rfl⟩
abbrev main_call5_v2 : Ref sig .tc := ⟨.hbm, 94, rfl⟩
abbrev main_v55 : Ref sig .tc := ⟨.hbm, 95, rfl⟩

abbrev nD : Nat := 1
abbrev τ : Topo := Topo.v7x

variable {F : FTy → Type} [FloatOps F]
-- ==== Proof.Scalars.lean ====
/-
  Scalar facts over the extended reals that the output call's kernel and its reference meet in: the two spellings of the
  logistic function, of softplus and of the recurrence's input scale; the range of the recurrence's decay; and the law by
  which a composed affine step distributes over the carried state.
-/
module

public import Idealize.ShloMosaic.PureOps.Ideal
public import Idealize.ShloMosaic.Lib.Pointwise

@[expose] public section

noncomputable section

open Idealize.ShloMosaic

namespace Cert.Proof.Scalars

/-- The logistic function as the kernel computes it: `½·tanh(½·x) + ½`. -/
def sigK (x : EReal) : EReal := Ideal.ofBits .f32 0x3F000000#32 * Ideal.tanh (Ideal.ofBits .f32 0x3F000000#32 * x) + Ideal.ofBits .f32 0x3F000000#32

/-- The pattern `0x3F000000` denotes one half. -/
theorem half_eq : Ideal.ofBits .f32 0x3F000000#32 = ((1 / 2 : ℝ) : EReal) := by
  simp [Ideal.ofBits, Ideal.ieee]; rw [← EReal.coe_mul]; norm_num

/-- The pattern `0x3F800000` denotes one. -/
theorem one_eq : Ideal.ofBits .f32 0x3F800000#32 = (1 : EReal) := by
  simp [Ideal.ofBits, Ideal.ieee]; rw [← EReal.coe_mul, ← EReal.coe_one]; norm_num

/-- The pattern `0x40000000` denotes two. -/
theorem two_eq : Ideal.ofBits .f32 0x40000000#32 = ((2 : ℝ) : EReal) := by
  simp [Ideal.ofBits, Ideal.ieee]; rw [← EReal.coe_mul]; norm_num

/-- The pattern `0xC1000000` denotes minus eight. -/
theorem neg_eight_eq : Ideal.ofBits .f32 0xC1000000#32 = ((-8 : ℝ) : EReal) := by
  simp [Ideal.ofBits, Ideal.ieee]; rw [← EReal.coe_mul]; norm_num

/-- The kernel's `½·tanh(½·x) + ½` is the logistic function at every extended real. -/
theorem sigK_eq (x : EReal) : sigK x = Ideal.logistic x := by
  unfold sigK
  rw [half_eq]
  induction x with
  | bot =>
    rw [EReal.coe_mul_bot_of_pos (by norm_num), Ideal.tanh_bot, Ideal.logistic_bot]
    have : (-1 : EReal) = ((-1 : ℝ) : EReal) := by simp
    rw [this, ← EReal.coe_mul, ← EReal.coe_add]; norm_num
  | top =>
    rw [EReal.coe_mul_top_of_pos (by norm_num), Ideal.tanh_top, Ideal.logistic_top, mul_one, ← EReal.coe_add]; norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have h1 : Real.exp (-r) = Real.exp (-(1 / 2 * r)) * Real.exp (-(1 / 2 * r)) := by
      rw [← Real.exp_add]; congr 1; ring
    have h2 : Real.exp (1 / 2 * r) * Real.exp (-(1 / 2 * r)) = 1 := by
      rw [← Real.exp_add]; simp
    rw [h1]
    have p1 := Real.exp_pos (1 / 2 * r)
    have p2 := Real.exp_pos (-(1 / 2 * r))
    generalize Real.exp (1 / 2 * r) = p at *
    generalize Real.exp (-(1 / 2 * r)) = q at *
    have hq : p = q⁻¹ := eq_inv_of_mul_eq_one_left h2
    subst hq
    have : 1 + q * q ≠ 0 := by positivity
    have : q⁻¹ + q ≠ 0 := by positivity
    field_simp
    ring

/-- The logistic function's values lie in `[0, 1]`. -/
theorem logistic_range (x : EReal) : ∃ r : ℝ, Ideal.logistic x = (r : EReal) ∧ 0 ≤ r := by
  induction x with
  | bot => exact ⟨0, by simp, le_refl _⟩
  | top => exact ⟨1, by simp, zero_le_one⟩
  | coe r => exact ⟨(1 + Real.exp (-r))⁻¹, by simp, by positivity⟩

/-- Softplus of `-x` as the kernel computes it. -/
def spK (x : EReal) : EReal := max (0 - x) 0 + Ideal.log (1 + Ideal.exp (0 - FloatOps.absf (F := Ideal) (φ := .f32) (0 - x)))

/-- Softplus is never negative. -/
theorem spK_nonneg (x : EReal) : 0 ≤ spK x := by
  unfold spK
  refine add_nonneg (le_max_right _ _) ?_
  have key : ∀ y : EReal, 0 ≤ y → 0 ≤ Ideal.log (1 + y) := by
    intro y hy
    induction y with
    | bot => exact absurd hy (by simp)
    | top => rw [show (1 : EReal) + ⊤ = ⊤ from rfl]; simp
    | coe r =>
      have hr : 0 ≤ r := by exact_mod_cast hy
      have : (1 : EReal) + (r : EReal) = ((1 + r : ℝ) : EReal) := by simp
      rw [this, Ideal.log_coe, if_neg (by linarith)]
      exact_mod_cast Real.log_nonneg (by linarith)
  refine key _ ?_
  generalize (0 - FloatOps.absf (F := Ideal) (φ := .f32) (0 - x) : EReal) = z
  induction z with
  | bot => simp
  | top => simp
  | coe r => rw [Ideal.exp_coe]; exact_mod_cast (Real.exp_pos r).le

/-- The recurrence's decay `exp((-8·r)·s)` for a gate `r` and a softplus `s`. -/
def decay (g s : EReal) : EReal := Ideal.exp (Ideal.ofBits .f32 0xC1000000#32 * g * s)

/-- The decay of a logistic gate is a nonnegative real. -/
theorem decay_range (x s : EReal) (hs : 0 ≤ s) : 0 ≤ decay (Ideal.logistic x) s ∧ decay (Ideal.logistic x) s ≠ ⊤ := by
  obtain ⟨r, hr, h0⟩ := logistic_range x
  unfold decay
  rw [hr, neg_eight_eq, ← EReal.coe_mul]
  have hle : ((-8 * r : ℝ) : EReal) * s ≤ 0 := by
    have : ((-8 * r : ℝ) : EReal) ≤ 0 := EReal.coe_nonpos.mpr (by linarith)
    exact mul_nonpos_of_nonpos_of_nonneg this hs
  generalize ((-8 * r : ℝ) : EReal) * s = z at hle
  induction z with
  | bot => simp
  | top => simp at hle
  | coe z => rw [Ideal.exp_coe]; exact ⟨by exact_mod_cast (Real.exp_pos z).le, EReal.coe_ne_top _⟩

/-- The input scale: the kernel's `√(1 - a·a)` at `a = exp z` is the reference's `√(-(exp(2·z) - 1))`. -/
theorem scale_eq (z : EReal) : Ideal.sqrt (1 - Ideal.exp z * Ideal.exp z) = Ideal.sqrt (-(Ideal.exp (Ideal.ofBits .f32 0x40000000#32 * z) - 1)) := by
  rw [two_eq]
  induction z with
  | bot => rw [EReal.coe_mul_bot_of_pos (by norm_num)]; simp
  | top =>
    rw [EReal.coe_mul_top_of_pos (by norm_num), Ideal.exp_top, EReal.top_mul_top, sub_eq_add_neg, EReal.neg_top, sub_eq_add_neg, EReal.top_add_of_ne_bot (by decide), EReal.neg_top, EReal.add_bot]
  | coe r =>
    rw [← EReal.coe_mul, Ideal.exp_coe, Ideal.exp_coe, ← EReal.coe_mul, ← Real.exp_add, two_mul]
    congr 1
    have : (1 : EReal) = ((1 : ℝ) : EReal) := rfl
    rw [this, ← EReal.coe_sub, ← EReal.coe_sub, ← EReal.coe_neg]
    congr 1; ring

/-- A composed affine step distributes: for a nonnegative real `A₂`, `A₂·(A₁·h + B₁) + B₂ = (A₂·A₁)·h + (A₂·B₁ + B₂)`. -/
theorem affine_comp {A₂ : EReal} (h0 : 0 ≤ A₂) (ht : A₂ ≠ ⊤) (A₁ B₁ B₂ h : EReal) :
    A₂ * (A₁ * h + B₁) + B₂ = A₂ * A₁ * h + (A₂ * B₁ + B₂) := by
  rw [EReal.left_distrib_of_nonneg_of_ne_top h0 ht, mul_assoc, add_assoc]

end Cert.Proof.Scalars

end
-- ==== Proof.Scan.lean ====
/-
  The recurrence `h ← a·h + b` and the kernel's way to run it: three doubling steps inside groups of eight rows make each
  row the pair `(A, B)` of the affine map that carries the group's first state to the state after that row; one step per
  group then carries the state from group to group.
-/
module

public import proofs.«01_k».proof.Proof.Scalars
public import proofs.«01_k».proof.Proof.Gen.KernelIdeal.Skeleton
public import Idealize.ShloMosaic.Lib.Pointwise
public import Idealize.ShloMosaic.Lib.ValueIdx

@[expose] public section

noncomputable section

open Idealize.ShloMosaic Idealize.ShloMosaic.TcCoe

namespace Cert.Proof.Scan

open Cert.Proof.Scalars

/-- The recurrence run for `n` rows from row `lo` on: each row `i` takes `h` to `a i · h + b i`. -/
def seg (a b : ℕ → EReal) (lo : ℕ) : ℕ → EReal → EReal
  | 0, h => h
  | n + 1, h => a (lo + n) * seg a b lo n h + b (lo + n)

/-- A run of `m + n` rows is the run of the first `m` followed by the run of the next `n`. -/
theorem seg_add (a b : ℕ → EReal) (lo m : ℕ) (h : EReal) : ∀ n, seg a b lo (m + n) h = seg a b (lo + m) n (seg a b lo m h)
  | 0 => rfl
  | n + 1 => by
    show a (lo + (m + n)) * seg a b lo (m + n) h + b (lo + (m + n)) = a (lo + m + n) * _ + b (lo + m + n)
    rw [seg_add a b lo m h n, Nat.add_assoc]

/-- Two runs over rows whose coefficients agree are equal. -/
theorem seg_congr {a b a' b' : ℕ → EReal} {lo lo' : ℕ} (h : EReal) : ∀ n,
    (∀ i < n, a (lo + i) = a' (lo' + i) ∧ b (lo + i) = b' (lo' + i)) → seg a b lo n h = seg a' b' lo' n h
  | 0, _ => rfl
  | n + 1, e => by
    show a (lo + n) * seg a b lo n h + b (lo + n) = a' (lo' + n) * seg a' b' lo' n h + b' (lo' + n)
    rw [seg_congr h n fun i hi => e i (by omega), (e n (by omega)).1, (e n (by omega)).2]

/-- `(A, B)` is the affine map of the `n` rows from `lo` on, with `A` a nonnegative real. -/
def Win (a b : ℕ → EReal) (lo n : ℕ) (A B : EReal) : Prop := 0 ≤ A ∧ A ≠ ⊤ ∧ ∀ h, seg a b lo n h = A * h + B

/-- The affine maps of two adjoining stretches of rows compose. -/
theorem Win.comp {a b : ℕ → EReal} {lo m n : ℕ} {A₁ B₁ A₂ B₂ : EReal} (w₁ : Win a b lo m A₁ B₁) (w₂ : Win a b (lo + m) n A₂ B₂) :
    Win a b lo (m + n) (A₂ * A₁) (A₂ * B₁ + B₂) := by
  refine ⟨mul_nonneg w₂.1 w₁.1, ?_, fun h => ?_⟩
  · have h1 := w₁.2.1; have h2 := w₂.2.1; have p1 := w₁.1; have p2 := w₂.1
    lift A₁ to ℝ using ⟨h1, fun e => by simp [e] at p1⟩
    lift A₂ to ℝ using ⟨h2, fun e => by simp [e] at p2⟩
    rw [← EReal.coe_mul]; exact EReal.coe_ne_top _
  · rw [seg_add, w₁.2.2, w₂.2.2, affine_comp w₂.1 w₂.2.1]

/-- The row `d` before row `s` of a group of eight, cyclically. -/
def back (d : ℕ) (s : Fin 8) : Fin 8 := ⟨(s.val + 8 - d) % 8, Nat.mod_lt _ (by decide)⟩

/-- One doubling step: pairs that cover the last `d` rows up to their own (fewer at the group's start) become pairs that
    cover the last `2·d`. -/
theorem win_step {a b : ℕ → EReal} {base d : ℕ} (hd : 1 ≤ d ∧ d ≤ 7) {A B : Fin 8 → EReal}
    (w : ∀ s : Fin 8, Win a b (base + s.val + 1 - min (s.val + 1) d) (min (s.val + 1) d) (A s) (B s)) (s : Fin 8) :
    Win a b (base + s.val + 1 - min (s.val + 1) (2 * d)) (min (s.val + 1) (2 * d))
      (if d ≤ s.val then A s * A (back d s) else A s) (if d ≤ s.val then A s * B (back d s) + B s else B s) := by
  have hs := s.isLt
  by_cases h : d ≤ s.val
  · rw [if_pos h, if_pos h]
    have hb : (back d s).val = s.val - d := by
      show (s.val + 8 - d) % 8 = _
      rw [show s.val + 8 - d = (s.val - d) + 8 by omega, Nat.add_mod_right, Nat.mod_eq_of_lt (by omega)]
    have w1 := w (back d s)
    have w2 := w s
    rw [hb] at w1
    have key := Win.comp (n := d) w1 (A₂ := A s) (B₂ := B s) (by
      convert w2 using 1 <;> omega)
    convert key using 1 <;> omega
  · rw [if_neg h, if_neg h]
    have w2 := w s
    convert w2 using 1 <;> omega

/-- After three doubling steps each row's pair covers its group from the first row on. -/
theorem win_group {a b : ℕ → EReal} {base : ℕ} {A₀ B₀ A₁ B₁ A₂ B₂ A₃ B₃ : Fin 8 → EReal}
    (w : ∀ s : Fin 8, 0 ≤ A₀ s ∧ A₀ s ≠ ⊤ ∧ a (base + s.val) = A₀ s ∧ b (base + s.val) = B₀ s)
    (hA₁ : ∀ s : Fin 8, A₁ s = if 1 ≤ s.val then A₀ s * A₀ (back 1 s) else A₀ s)
    (hB₁ : ∀ s : Fin 8, B₁ s = if 1 ≤ s.val then A₀ s * B₀ (back 1 s) + B₀ s else B₀ s)
    (hA₂ : ∀ s : Fin 8, A₂ s = if 2 ≤ s.val then A₁ s * A₁ (back 2 s) else A₁ s)
    (hB₂ : ∀ s : Fin 8, B₂ s = if 2 ≤ s.val then A₁ s * B₁ (back 2 s) + B₁ s else B₁ s)
    (hA₃ : ∀ s : Fin 8, A₃ s = if 4 ≤ s.val then A₂ s * A₂ (back 4 s) else A₂ s)
    (hB₃ : ∀ s : Fin 8, B₃ s = if 4 ≤ s.val then A₂ s * B₂ (back 4 s) + B₂ s else B₂ s) (s : Fin 8) (h : EReal) :
    seg a b base (s.val + 1) h = A₃ s * h + B₃ s := by
  have w0 : ∀ s : Fin 8, Win a b (base + s.val + 1 - min (s.val + 1) 1) (min (s.val + 1) 1) (A₀ s) (B₀ s) := fun s => by
    obtain ⟨p, q, ea, eb⟩ := w s
    rw [show min (s.val + 1) 1 = 0 + 1 by omega, show base + s.val + 1 - (0 + 1) = base + s.val by omega]
    refine ⟨p, q, fun h => ?_⟩
    show a (base + s.val + 0) * h + b (base + s.val + 0) = _
    rw [Nat.add_zero, ea, eb]
  have w1 := win_step (d := 1) (by decide) w0
  have w2 := win_step (d := 2) (by decide) (A := A₁) (B := B₁) (fun s => by rw [hA₁, hB₁]; exact w1 s)
  have w3 := win_step (d := 4) (by decide) (A := A₂) (B := B₂) (fun s => by rw [hA₂, hB₂]; exact w2 s) s
  have hs := s.isLt
  rw [hA₃, hB₃]
  have e : min (s.val + 1) (2 * 4) = s.val + 1 := by omega
  rw [e, show base + s.val + 1 - (s.val + 1) = base by omega] at w3
  exact w3.2.2 h

section Kernel
open Cert.KernelIdeal Cert.KernelIdeal.Gen

/-- The test "row `s` of its group is at least `d`" as the kernel's word comparison, for the three distances used. -/
theorem ge_word : ∀ s : Fin 8, IntOp.cmpi .sge (BitVec.ofNat 32 s.val) 1#32 = (if 1 ≤ s.val then 1#1 else 0#1)
    ∧ IntOp.cmpi .sge (BitVec.ofNat 32 s.val) 2#32 = (if 2 ≤ s.val then 1#1 else 0#1)
    ∧ IntOp.cmpi .sge (BitVec.ofNat 32 s.val) 4#32 = (if 4 ≤ s.val then 1#1 else 0#1) := by decide

/-- A selection on a decided word. -/
theorem select_word {α : Type} (p : Prop) [Decidable p] (x y : α) : Scalar.select (if p then 1#1 else 0#1) x y = if p then x else y := by
  by_cases h : p <;> simp [h, Scalar.select]

/-- Column `c` of a 512-row block, as a function of the row. -/
def col (v : FVec Ideal S512x512 .f32) (c : Fin 512) (n : ℕ) : EReal := if h : n < 512 then v (ix2 ⟨n, h⟩ c) else 0

/-- A row of the block inside group `j` at place `s`. -/
theorem col_group (v : FVec Ideal S512x512 .f32) (c : Fin 512) (j : Fin 64) (s : Fin 8) (h : 8 * j.val + s.val < 512) :
    col v c (8 * j.val + s.val) = v (ix2 ⟨8 * j.val + s.val, h⟩ c) := by unfold col; rw [dif_pos h]

/-- The additive parts after the first doubling step. -/
def add1 (v111 v117 : FVec Ideal S512x512 .f32) : FVec Ideal S64x8x512 .f32 :=
  select k0_pay20 (addf (mulf (k0_pay19 v111) (dynamicRotate 1 1#32 none (k0_pay19 v117) rotates_S64x8x512_d1)) (k0_pay19 v117)) (k0_pay19 v117)

/-- The additive parts after the second doubling step. -/
def add2 (v111 v117 : FVec Ideal S512x512 .f32) : FVec Ideal S64x8x512 .f32 :=
  select k0_pay22 (addf (mulf (k0_pay21 v111) (dynamicRotate 1 2#32 none (add1 v111 v117) rotates_S64x8x512_d1)) (add1 v111 v117)) (add1 v111 v117)

/-- The additive parts after the third doubling step, from those after the second. -/
theorem pay25_eq (v111 v117 : FVec Ideal S512x512 .f32) : k0_pay25 v111 v117 =
    select k0_pay24 (addf (mulf (k0_pay23 v111) (dynamicRotate 1 4#32 none (add2 v111 v117) rotates_S64x8x512_d1)) (add2 v111 v117)) (add2 v111 v117) := rfl

/-- Regrouping the block's rows by eight: row `s` of group `j` is row `8·j + s`. -/
theorem pay19_apply (v : FVec Ideal S512x512 .f32) (j : Fin 64) (s : Fin 8) (c : Fin 512) (h : 8 * j.val + s.val < 512) :
    k0_pay19 v (ix3 j s c) = v (ix2 ⟨8 * j.val + s.val, h⟩ c) := by
  unfold k0_pay19
  pointwise
  simp only [Nat.mul_comm j.val 8]

/-- The pairs the kernel has after its three doubling steps: row `s` of group `j` carries the group's first state `h` to
    the state after that row. -/
theorem group_eq (v111 v117 : FVec Ideal S512x512 .f32) (c : Fin 512)
    (hnn : ∀ r : Fin 512, 0 ≤ v111 (ix2 r c) ∧ v111 (ix2 r c) ≠ ⊤) (j : Fin 64) (s : Fin 8) (h : EReal) :
    seg (col v111 c) (col v117 c) (8 * j.val) (s.val + 1) h
      = k0_pay26 v111 (ix3 j s c) * h + k0_pay25 v111 v117 (ix3 j s c) := by
  have hj := j.isLt
  have r0 : ∀ (v : FVec Ideal S512x512 .f32) (s : Fin 8), col v c (8 * j.val + s.val) = k0_pay19 v (ix3 j s c) := fun v s =>
    (col_group v c j s (by omega)).trans (pay19_apply v j s c (by omega)).symm
  refine win_group (a := col v111 c) (b := col v117 c) (base := 8 * j.val) (A₀ := fun s => k0_pay19 v111 (ix3 j s c))
    (B₀ := fun s => k0_pay19 v117 (ix3 j s c))
    (A₁ := fun s => k0_pay21 v111 (ix3 j s c)) (A₂ := fun s => k0_pay23 v111 (ix3 j s c)) (A₃ := fun s => k0_pay26 v111 (ix3 j s c))
    (B₁ := fun s => add1 v111 v117 (ix3 j s c)) (B₂ := fun s => add2 v111 v117 (ix3 j s c)) (B₃ := fun s => k0_pay25 v111 v117 (ix3 j s c))
    (fun s => ⟨?_, ?_, r0 v111 s, r0 v117 s⟩) ?_ ?_ ?_ ?_ ?_ ?_ s h
  · show 0 ≤ k0_pay19 v111 (ix3 j s c); rw [← r0, col_group _ _ _ _ (by omega)]; exact (hnn _).1
  · show k0_pay19 v111 (ix3 j s c) ≠ ⊤; rw [← r0, col_group _ _ _ _ (by omega)]; exact (hnn _).2
  · intro s; unfold k0_pay21 k0_pay20; pointwise; rw [(ge_word s).1, select_word]; rfl
  · intro s; unfold add1 k0_pay20; pointwise; rw [(ge_word s).1, select_word]; rfl
  · intro s; unfold k0_pay23 k0_pay22; pointwise; rw [(ge_word s).2.1, select_word]; rfl
  · intro s; unfold add2 k0_pay22; pointwise; rw [(ge_word s).2.1, select_word]; rfl
  · intro s; unfold k0_pay26 k0_pay24; pointwise; rw [(ge_word s).2.2, select_word]; rfl
  · intro s; rw [pay25_eq]; unfold k0_pay24; pointwise; rw [(ge_word s).2.2, select_word]; rfl

end Kernel

end Cert.Proof.Scan

end
-- ==== Proof.Block.lean ====
/-
  What one grid point of the output call computes from its blocks, as plain functions of the blocks: the convolved input,
  the recurrence's coefficients, the 64 groups of eight states, and the output rows. Both of the kernel's cases (the first
  point, which clears the two carried scratch buffers, and every later point) leave these values.
-/
module

public import proofs.«01_k».proof.Proof.Scan
public import proofs.«01_k».proof.Proof.Gen.KernelIdeal.Value
public import Idealize.ShloMosaic.Lib.Pipeline.ValueKit

@[expose] public section

noncomputable section

open Idealize.ShloMosaic Idealize.ShloMosaic.TcCoe

namespace Cert.Proof.Block

open Cert.KernelIdeal Cert.KernelIdeal.Gen

/-- The convolved input block: the whole block's convolution, its first eight rows taken again with the carried rows. -/
def uc (x6 : Vec Ideal S512x512 .f32) (x7 : Vec Ideal S4x512 .f32) (x8 : Vec Ideal S1x512 .f32) (tail : Vec Ideal S8x512 .f32) :
    Vec Ideal S512x512 .f32 :=
  View.canon (Val := Elt Ideal)
    [⟨Rect.unit ![0, 0] S8x512.size inb_S512x512_S8x512_0_0,
      k0_pay14 x6 tail (iota .tc S8x512 32 [0] iota_S8x512_d0_w32)
        (k0_pay6 x6 tail x8 (View.ld x7 (Rect.unit ![3, 0] S1x512.size inb_S4x512_S1x512_3_0))
          (View.ld x7 (Rect.unit ![2, 0] S1x512.size inb_S4x512_S1x512_2_0)))
        (k0_pay9 x6 tail) (k0_pay10 (View.ld x7 (Rect.unit ![1, 0] S1x512.size inb_S4x512_S1x512_1_0)))
        (View.ld x7 (Rect.unit ![0, 0] S1x512.size inb_S4x512_S1x512_0_0))⟩,
     ⟨Rect.unit ![0, 0] S512x512.size inb_S512x512_S512x512_0_0,
      k0_pay13 x6 (k0_pay8 x6 x8 (View.ld x7 (Rect.unit ![3, 0] S1x512.size inb_S4x512_S1x512_3_0))
          (View.ld x7 (Rect.unit ![2, 0] S1x512.size inb_S4x512_S1x512_2_0))
          (View.ld x7 (Rect.unit ![1, 0] S1x512.size inb_S4x512_S1x512_1_0)))
        (View.ld x7 (Rect.unit ![0, 0] S1x512.size inb_S4x512_S1x512_0_0))⟩]

/-- The recurrence's decay at every row and channel of the block, of the convolved input. -/
def decayB (u : Vec Ideal S512x512 .f32) (x9 : Vec Ideal S512x512 .bf16) (x10 x13 : Vec Ideal S1x512 .f32) : FVec Ideal S512x512 .f32 :=
  k0_pay17 (k0_pay16 u x9 x10) (Scalar.ofBits .f32 0x3F000000#32) x13

/-- The recurrence's input at every row and channel of the block, of the convolved input. -/
def driveB (u : Vec Ideal S512x512 .f32) (x9 : Vec Ideal S512x512 .bf16) (x10 : Vec Ideal S1x512 .f32) (x11 : Vec Ideal S512x512 .bf16)
    (x12 x13 : Vec Ideal S1x512 .f32) : FVec Ideal S512x512 .f32 :=
  k0_pay18 u (k0_pay15 u) (k0_pay16 u x9 x10) (Scalar.ofBits .f32 0x3F000000#32) x11 x12 x13

/-- The slice of group `j` is inside the regrouped block. -/
theorem slices_group (j : Fin 64) : S64x8x512.Slices ![j.val, 0, 0] S1x8x512 := by
  revert j; decide

/-- One group's eight states from the state before it. -/
def stepG (A B : FVec Ideal S64x8x512 .f32) (j : Fin 64) (carry : FVec Ideal S1x512 .f32) : FVec Ideal S8x512 .f32 :=
  addf (mulf (shapeCast S8x512 (extractStridedSlice S1x8x512 ![j.val, 0, 0] A (slices_group j)) shapeCasts_S1x8x512_S8x512)
      (broadcastTo S8x512 carry broadcasts_S1x512_S8x512))
    (shapeCast S8x512 (extractStridedSlice S1x8x512 ![j.val, 0, 0] B (slices_group j)) shapeCasts_S1x8x512_S8x512)

/-- Group `j`'s eight states, each group starting from the last state of the one before, the first from `c₀`. -/
def grp (A B : FVec Ideal S64x8x512 .f32) (c₀ : FVec Ideal S1x512 .f32) : ℕ → FVec Ideal S8x512 .f32
  | 0 => stepG A B 0 c₀
  | j + 1 => stepG A B ⟨(j + 1) % 64, Nat.mod_lt _ (by decide)⟩
      (extractStridedSlice S1x512 ![7, 0] (grp A B c₀ j) slices_S8x512_o7_0_S1x512)

/-- Group `k`'s eight rows are inside the block. -/
theorem inb_group (k : Fin 64) : ∀ a : Fin 2, (![8 * (63 - k.val), 0] : Fin 2 → ℕ) a + S8x512.size a ≤ S512x512.size a := by
  revert k; decide

/-- The 64 stores of the states, last group first. -/
def hPieces (A B : FVec Ideal S64x8x512 .f32) (c₀ : FVec Ideal S1x512 .f32) : List (View.Piece (Elt Ideal) S512x512 .f32) :=
  List.ofFn fun k : Fin 64 => ⟨Rect.unit ![8 * (63 - k.val), 0] S8x512.size (inb_group k),
    shapeCast S8x512 (grp A B c₀ (63 - k.val)) shapeCasts_S8x512_S8x512⟩

/-- The block of states. -/
def hB (a b : FVec Ideal S512x512 .f32) (c₀ : FVec Ideal S1x512 .f32) : Vec Ideal S512x512 .f32 :=
  View.canon (Val := Elt Ideal) (hPieces (k0_pay26 a) (k0_pay25 a b) c₀)

/-- The last state of the block, which the next grid point starts from. -/
def lastB (a b : FVec Ideal S512x512 .f32) (c₀ : FVec Ideal S1x512 .f32) : FVec Ideal S1x512 .f32 :=
  shapeCast S1x512 (extractStridedSlice S1x512 ![7, 0] (grp (k0_pay26 a) (k0_pay25 a b) c₀ 63) slices_S8x512_o7_0_S1x512) shapeCasts_S1x512_S1x512

/-- The output block, of the states and the other input blocks. -/
def outB (x0 : Vec Ideal S512x1024 .f32) (x1 : Vec Ideal S1x1024 .f32) (x2 x3 x4 : Vec Ideal S512x512 .f32) (x5 : Vec Ideal S32x512 .f32)
    (h : Vec Ideal S512x512 .f32) (x14 : Vec Ideal S1024x3072 .bf16) (x15 x16 : Vec Ideal S512x1024 .bf16) (x17 : Vec Ideal S1024x1024 .bf16) :
    FVec Ideal S512x1024 .f32 :=
  k0_pay1 (k0_pay172 (k0_pay169 x0) (k0_pay170 x0) x1 (View.ld x14 (Rect.unit ![0, 1024] S1024x2048.size inb_S1024x3072_S1024x2048_0_1024)))
    (k0_pay183 (k0_pay171 (k0_pay169 x0) (k0_pay170 x0) x1)
      (k0_pay173 x5 (View.ld x2 (Rect.unit ![0, 0] S64x512.size inb_S512x512_S64x512_0_0))
        (View.ld x3 (Rect.unit ![0, 0] S64x512.size inb_S512x512_S64x512_0_0)) (View.ld x4 (Rect.unit ![0, 0] S64x512.size inb_S512x512_S64x512_0_0)))
      (k0_pay174 x5 (View.ld x2 (Rect.unit ![64, 0] S64x512.size inb_S512x512_S64x512_64_0))
        (View.ld x3 (Rect.unit ![64, 0] S64x512.size inb_S512x512_S64x512_64_0)) (View.ld x4 (Rect.unit ![64, 0] S64x512.size inb_S512x512_S64x512_64_0)))
      (k0_pay176 x5 (k0_pay175 x5) (View.ld x2 (Rect.unit ![128, 0] S64x512.size inb_S512x512_S64x512_128_0))
        (View.ld x3 (Rect.unit ![128, 0] S64x512.size inb_S512x512_S64x512_128_0)) (View.ld x4 (Rect.unit ![128, 0] S64x512.size inb_S512x512_S64x512_128_0)))
      (k0_pay177 x5 (View.ld x2 (Rect.unit ![192, 0] S64x512.size inb_S512x512_S64x512_192_0))
        (View.ld x3 (Rect.unit ![192, 0] S64x512.size inb_S512x512_S64x512_192_0)) (View.ld x4 (Rect.unit ![192, 0] S64x512.size inb_S512x512_S64x512_192_0)))
      (k0_pay178 x5 (View.ld x2 (Rect.unit ![256, 0] S64x512.size inb_S512x512_S64x512_256_0))
        (View.ld x3 (Rect.unit ![256, 0] S64x512.size inb_S512x512_S64x512_256_0)) (View.ld x4 (Rect.unit ![256, 0] S64x512.size inb_S512x512_S64x512_256_0)))
      (k0_pay180 x5 (k0_pay179 x5) (View.ld x2 (Rect.unit ![320, 0] S64x512.size inb_S512x512_S64x512_320_0))
        (View.ld x3 (Rect.unit ![320, 0] S64x512.size inb_S512x512_S64x512_320_0)) (View.ld x4 (Rect.unit ![320, 0] S64x512.size inb_S512x512_S64x512_320_0)))
      (k0_pay181 x5 (View.ld x2 (Rect.unit ![384, 0] S64x512.size inb_S512x512_S64x512_384_0))
        (View.ld x3 (Rect.unit ![384, 0] S64x512.size inb_S512x512_S64x512_384_0)) (View.ld x4 (Rect.unit ![384, 0] S64x512.size inb_S512x512_S64x512_384_0)))
      (k0_pay182 x5 (View.ld x2 (Rect.unit ![448, 0] S64x512.size inb_S512x512_S64x512_448_0))
        (View.ld x3 (Rect.unit ![448, 0] S64x512.size inb_S512x512_S64x512_448_0)) (View.ld x4 (Rect.unit ![448, 0] S64x512.size inb_S512x512_S64x512_448_0)))
      (View.ld x14 (Rect.unit ![0, 0] S1024x512.size inb_S1024x3072_S1024x512_0_0)) x15)
    (k0_pay184 (k0_pay171 (k0_pay169 x0) (k0_pay170 x0) x1) (View.ld x14 (Rect.unit ![0, 512] S1024x512.size inb_S1024x3072_S1024x512_0_512)) h x16)
    (k0_pay185 (k0_pay172 (k0_pay169 x0) (k0_pay170 x0) x1 (View.ld x14 (Rect.unit ![0, 1024] S1024x2048.size inb_S1024x3072_S1024x2048_0_1024))))
    x0 x17

/-! ## The kernel's own run leaves these -/

/-- A load from a buffer that holds a block's contents reads the block. -/
theorem readAt_unread {sp : Space} {s : Shape} {e : EltTy} (M : Memref sig .tc sp s e) (h : M.IsWhole) (X : Vec Ideal s e) (r : Rect s) :
    View.readAt (Elt Ideal) M.view r.toLoadRect (h.unread X) = View.ld X r := by
  rw [View.readAt_eq_ld, h.read_unread]

theorem zero2 : (![0, 0] : Fin 2 → ℕ) = fun _ => 0 := by
  funext a; fin_cases a <;> rfl

/-- A load of a whole block from a buffer that holds it. -/
theorem readAt_whole {sp : Space} {s : Shape} {e : EltTy} (M : Memref sig .tc sp s e) (h : M.IsWhole) (X : Vec Ideal s e)
    {off : Fin s.rank → ℕ} (ho : off = fun _ => 0) (inb : ∀ a, off a + s.size a ≤ s.size a) :
    View.readAt (Elt Ideal) M.view (Rect.unit off s.size inb).toLoadRect (h.unread X) = X := by
  rw [readAt_unread, View.ld_unit_zero ho]

/-- A load of a whole block of what a list of stores left. -/
theorem readCov_whole {sp : Space} {s : Shape} {e : EltTy} (v : View sig .tc sp s e) (L : List (View.Piece (Elt Ideal) s e))
    {off : Fin s.rank → ℕ} (ho : off = fun _ => 0) (inb : ∀ a, off a + s.size a ≤ s.size a) :
    v.readCov L (Rect.unit off s.size inb).toLoadRect = View.canon L := by
  rw [View.readCov_eq_canon']; exact View.ld_unit_zero ho inb (View.canon L)

set_option maxRecDepth 100000
set_option maxHeartbeats 1000000

/-! ### A later point -/

/-- The convolved input of a later point, from the carried rows. -/
theorem uc_B {c arg7 harg7 arg8 harg8 arg9 harg9 arg21 harg21 arg23 x6 x7 x8 xs1} :
    kernelRun0_B.sl.v63 (F := Ideal) c arg7 harg7 arg8 harg8 arg9 harg9 arg21 harg21 arg23 x6 x7 x8 xs1 = uc x6 x7 x8 xs1 := by
  unfold kernelRun0_B.sl.v63
  rw [readCov_whole _ _ zero2]
  unfold uc kernelRun0_B.sl.HS3_2 kernelRun0_B.sl.r_2 kernelRun0_B.sl.r_3 kernelRun0_B.sl.r_4 kernelRun0_B.sl.r_5 kernelRun0_B.sl.r kernelRun0_B.sl.r_1
  simp (disch := decide) only [readAt_unread, View.ld_unit_lit]
  rfl

/-- The decay of a later point. -/
theorem decay_B {c arg7 harg7 arg8 harg8 arg9 harg9 arg10 harg10 arg11 harg11 arg14 harg14 arg21 harg21 arg23 x6 x7 x8 x9 x10 x13 xs1} :
    kernelRun0_B.sl.r_8 (F := Ideal) c arg7 harg7 arg8 harg8 arg9 harg9 arg10 harg10 arg11 harg11 arg14 harg14 arg21 harg21 arg23 x6 x7 x8 x9 x10 x13 xs1
      = decayB (uc x6 x7 x8 xs1) x9 x10 x13 := by
  unfold kernelRun0_B.sl.r_8 kernelRun0_B.sl.r_7 decayB
  simp (disch := decide) only [readAt_unread, View.ld_unit_lit, uc_B]
  rfl

/-- The recurrence's input of a later point. -/
theorem drive_B {c arg7 harg7 arg8 harg8 arg9 harg9 arg10 harg10 arg11 harg11 arg12 harg12 arg13 harg13 arg14 harg14 arg21 harg21 arg23 x6 x7 x8 x9 x10 x11 x12 x13 xs1} :
    kernelRun0_B.sl.r_9 (F := Ideal) c arg7 harg7 arg8 harg8 arg9 harg9 arg10 harg10 arg11 harg11 arg12 harg12 arg13 harg13 arg14 harg14 arg21 harg21 arg23 x6 x7 x8 x9 x10 x11 x12 x13 xs1
      = driveB (uc x6 x7 x8 xs1) x9 x10 x11 x12 x13 := by
  unfold kernelRun0_B.sl.r_9 kernelRun0_B.sl.r_7 kernelRun0_B.sl.r_6 driveB
  simp (disch := decide) only [readAt_unread, View.ld_unit_lit, uc_B]
  rfl

/-- The stores of a later point's states, as the groups. -/
theorem pieces_B {c arg7 harg7 arg8 harg8 arg9 harg9 arg10 harg10 arg11 harg11 arg12 harg12 arg13 harg13 arg14 harg14 arg21 harg21 arg22 harg22 arg23 x6 x7 x8 x9 x10 x11 x12 x13 xs1 xs2} :
    kernelRun0_B.sl.HS0_64 (F := Ideal) c arg7 harg7 arg8 harg8 arg9 harg9 arg10 harg10 arg11 harg11 arg12 harg12 arg13 harg13 arg14 harg14 arg21 harg21 arg22 harg22 arg23 x6 x7 x8 x9 x10 x11 x12 x13 xs1 xs2
      = hPieces (k0_pay26 (kernelRun0_B.sl.r_8 (F := Ideal) c arg7 harg7 arg8 harg8 arg9 harg9 arg10 harg10 arg11 harg11 arg14 harg14 arg21 harg21 arg23 x6 x7 x8 x9 x10 x13 xs1)) (k0_pay25 (kernelRun0_B.sl.r_8 (F := Ideal) c arg7 harg7 arg8 harg8 arg9 harg9 arg10 harg10 arg11 harg11 arg14 harg14 arg21 harg21 arg23 x6 x7 x8 x9 x10 x13 xs1) (kernelRun0_B.sl.r_9 (F := Ideal) c arg7 harg7 arg8 harg8 arg9 harg9 arg10 harg10 arg11 harg11 arg12 harg12 arg13 harg13 arg14 harg14 arg21 harg21 arg23 x6 x7 x8 x9 x10 x11 x12 x13 xs1)) (View.readAt (Elt Ideal) arg22.view (Rect.unit ![0, 0] S1x512.size inb_S1x512_S1x512_0_0).toLoadRect (harg22.unread xs2)) := rfl

/-- The state word a later point stores for the next one, as the last group's last state. -/
theorem lastWord_B {c arg7 harg7 arg8 harg8 arg9 harg9 arg10 harg10 arg11 harg11 arg12 harg12 arg13 harg13 arg14 harg14 arg21 harg21 arg22 harg22 arg23 x6 x7 x8 x9 x10 x11 x12 x13 xs1 xs2} :
    k0_pay168 (kernelRun0_B.sl.r_10 (F := Ideal) c arg7 harg7 arg8 harg8 arg9 harg9 arg10 harg10 arg11 harg11 arg12 harg12 arg13 harg13 arg14 harg14 arg21 harg21 arg23 x6 x7 x8 x9 x10 x11 x12 x13 xs1) (kernelRun0_B.sl.r_11 (F := Ideal) c arg7 harg7 arg8 harg8 arg9 harg9 arg10 harg10 arg11 harg11 arg14 harg14 arg21 harg21 arg23 x6 x7 x8 x9 x10 x13 xs1) (kernelRun0_B.sl.r_32 (F := Ideal) c arg7 harg7 arg8 harg8 arg9 harg9 arg10 harg10 arg11 harg11 arg12 harg12 arg13 harg13 arg14 harg14 arg21 harg21 arg22 harg22 arg23 x6 x7 x8 x9 x10 x11 x12 x13 xs1 xs2)
      = lastB (kernelRun0_B.sl.r_8 (F := Ideal) c arg7 harg7 arg8 harg8 arg9 harg9 arg10 harg10 arg11 harg11 arg14 harg14 arg21 harg21 arg23 x6 x7 x8 x9 x10 x13 xs1) (kernelRun0_B.sl.r_9 (F := Ideal) c arg7 harg7 arg8 harg8 arg9 harg9 arg10 harg10 arg11 harg11 arg12 harg12 arg13 harg13 arg14 harg14 arg21 harg21 arg23 x6 x7 x8 x9 x10 x11 x12 x13 xs1) (View.readAt (Elt Ideal) arg22.view (Rect.unit ![0, 0] S1x512.size inb_S1x512_S1x512_0_0).toLoadRect (harg22.unread xs2)) := rfl

/-- The states a later point stores, from the carried state. -/
theorem states_B {c arg7 harg7 arg8 harg8 arg9 harg9 arg10 harg10 arg11 harg11 arg12 harg12 arg13 harg13 arg14 harg14 arg20 arg21 harg21 arg22 harg22 arg23 x6 x7 x8 x9 x10 x11 x12 x13 xs1 xs2} :
    kernelRun0_B.sl.v1010 (F := Ideal) c arg7 harg7 arg8 harg8 arg9 harg9 arg10 harg10 arg11 harg11 arg12 harg12 arg13 harg13 arg14 harg14 arg20 arg21 harg21 arg22 harg22 arg23 x6 x7 x8 x9 x10 x11 x12 x13 xs1 xs2
      = hB (decayB (uc x6 x7 x8 xs1) x9 x10 x13) (driveB (uc x6 x7 x8 xs1) x9 x10 x11 x12 x13) xs2 := by
  unfold kernelRun0_B.sl.v1010
  rw [readCov_whole _ _ zero2]
  rw [pieces_B, decay_B, drive_B]
  simp (disch := decide) only [readAt_unread, View.ld_unit_lit]
  rfl

/-- A later point's output block. -/
theorem out_B {c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17 xs1 xs2} :
    out0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17 xs1 xs2
      = outB x0 x1 x2 x3 x4 x5 (hB (decayB (uc x6 x7 x8 xs1) x9 x10 x13) (driveB (uc x6 x7 x8 xs1) x9 x10 x11 x12 x13) xs2) x14 x15 x16 x17 := by
  unfold out0_B_18
  rw [View.read_writes_junk_eq_canon]
  unfold kernelRun0_B outB
  refine (View.canon_unit_zero zero2 _ _).trans ?_
  unfold kernelRun0_B.sl.r_51 kernelRun0_B.sl.r_50 kernelRun0_B.sl.r_49 kernelRun0_B.sl.r_48 kernelRun0_B.sl.r_47 kernelRun0_B.sl.r_46
    kernelRun0_B.sl.r_45 kernelRun0_B.sl.r_44 kernelRun0_B.sl.r_43 kernelRun0_B.sl.r_42 kernelRun0_B.sl.r_41 kernelRun0_B.sl.r_40 kernelRun0_B.sl.r_39
    kernelRun0_B.sl.r_38 kernelRun0_B.sl.r_37 kernelRun0_B.sl.r_36 kernelRun0_B.sl.r_35 kernelRun0_B.sl.r_34 kernelRun0_B.sl.r_33
  simp (disch := decide) only [readAt_unread, View.ld_unit_lit, states_B]

/-- The rows a later point carries on for the next point's convolution. -/
theorem tail_B {c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17 xs1 xs2} :
    sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17 xs1 xs2 = k0_pay12 x6 := by
  unfold sout0_B_1
  rw [View.read_writes_junk_eq_canon]
  unfold kernelRun0_B
  refine (View.canon_unit_zero zero2 _ _).trans ?_
  unfold kernelRun0_B.sl.r
  simp (disch := decide) only [readAt_unread, View.ld_unit_lit]

/-- The state a later point carries on. -/
theorem last_B {c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17 xs1 xs2} :
    sout0_B_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17 xs1 xs2
      = lastB (decayB (uc x6 x7 x8 xs1) x9 x10 x13) (driveB (uc x6 x7 x8 xs1) x9 x10 x11 x12 x13) xs2 := by
  unfold sout0_B_2
  rw [View.read_writes_junk_eq_canon]
  unfold kernelRun0_B
  refine (View.canon_unit_zero zero2 _ _).trans ?_
  refine (lastWord_B (harg22 := harg22)).trans ?_
  rw [decay_B, drive_B]
  simp (disch := decide) only [readAt_unread, View.ld_unit_lit]

/-! ### The first point -/

/-- The first point's carried rows, which it has just cleared. -/
theorem clear_tail {c arg21} : kernelRun0_A.sl.v4 (F := Ideal) c arg21 = k0_pay2 (F := Ideal) := by
  unfold kernelRun0_A.sl.v4
  rw [readCov_whole _ _ zero2]
  exact View.canon_unit_zero zero2 _ _

/-- The first point's carried state, which it has just cleared. -/
theorem clear_state {c arg22} : kernelRun0_A.sl.v148 (F := Ideal) c arg22 = (k0_pay3 (F := Ideal)) := by
  unfold kernelRun0_A.sl.v148
  rw [readCov_whole _ _ zero2]
  exact View.canon_unit_zero zero2 _ _

/-- The convolved input of the first point, from the carried rows. -/
theorem uc_A {c arg7 harg7 arg8 harg8 arg9 harg9 arg21 arg23 x6 x7 x8} :
    kernelRun0_A.sl.v63 (F := Ideal) c arg7 harg7 arg8 harg8 arg9 harg9 arg21 arg23 x6 x7 x8 = uc x6 x7 x8 (k0_pay2 (F := Ideal)) := by
  unfold kernelRun0_A.sl.v63
  rw [readCov_whole _ _ zero2]
  unfold uc kernelRun0_A.sl.HS3_2 kernelRun0_A.sl.r_1 kernelRun0_A.sl.r_2 kernelRun0_A.sl.r_3 kernelRun0_A.sl.r_4 kernelRun0_A.sl.r
  simp (disch := decide) only [clear_tail, readAt_unread, View.ld_unit_lit]
  rfl

/-- The decay of the first point. -/
theorem decay_A {c arg7 harg7 arg8 harg8 arg9 harg9 arg10 harg10 arg11 harg11 arg14 harg14 arg21 arg23 x6 x7 x8 x9 x10 x13} :
    kernelRun0_A.sl.r_7 (F := Ideal) c arg7 harg7 arg8 harg8 arg9 harg9 arg10 harg10 arg11 harg11 arg14 harg14 arg21 arg23 x6 x7 x8 x9 x10 x13
      = decayB (uc x6 x7 x8 (k0_pay2 (F := Ideal))) x9 x10 x13 := by
  unfold kernelRun0_A.sl.r_7 kernelRun0_A.sl.r_6 decayB
  simp (disch := decide) only [readAt_unread, View.ld_unit_lit, uc_A]
  rfl

/-- The recurrence's input of the first point. -/
theorem drive_A {c arg7 harg7 arg8 harg8 arg9 harg9 arg10 harg10 arg11 harg11 arg12 harg12 arg13 harg13 arg14 harg14 arg21 arg23 x6 x7 x8 x9 x10 x11 x12 x13} :
    kernelRun0_A.sl.r_8 (F := Ideal) c arg7 harg7 arg8 harg8 arg9 harg9 arg10 harg10 arg11 harg11 arg12 harg12 arg13 harg13 arg14 harg14 arg21 arg23 x6 x7 x8 x9 x10 x11 x12 x13
      = driveB (uc x6 x7 x8 (k0_pay2 (F := Ideal))) x9 x10 x11 x12 x13 := by
  unfold kernelRun0_A.sl.r_8 kernelRun0_A.sl.r_6 kernelRun0_A.sl.r_5 driveB
  simp (disch := decide) only [readAt_unread, View.ld_unit_lit, uc_A]
  rfl

/-- The stores of the first point's states, as the groups. -/
theorem pieces_A {c arg7 harg7 arg8 harg8 arg9 harg9 arg10 harg10 arg11 harg11 arg12 harg12 arg13 harg13 arg14 harg14 arg21 arg22 arg23 x6 x7 x8 x9 x10 x11 x12 x13} :
    kernelRun0_A.sl.HS0_64 (F := Ideal) c arg7 harg7 arg8 harg8 arg9 harg9 arg10 harg10 arg11 harg11 arg12 harg12 arg13 harg13 arg14 harg14 arg21 arg22 arg23 x6 x7 x8 x9 x10 x11 x12 x13
      = hPieces (k0_pay26 (kernelRun0_A.sl.r_7 (F := Ideal) c arg7 harg7 arg8 harg8 arg9 harg9 arg10 harg10 arg11 harg11 arg14 harg14 arg21 arg23 x6 x7 x8 x9 x10 x13)) (k0_pay25 (kernelRun0_A.sl.r_7 (F := Ideal) c arg7 harg7 arg8 harg8 arg9 harg9 arg10 harg10 arg11 harg11 arg14 harg14 arg21 arg23 x6 x7 x8 x9 x10 x13) (kernelRun0_A.sl.r_8 (F := Ideal) c arg7 harg7 arg8 harg8 arg9 harg9 arg10 harg10 arg11 harg11 arg12 harg12 arg13 harg13 arg14 harg14 arg21 arg23 x6 x7 x8 x9 x10 x11 x12 x13)) (kernelRun0_A.sl.v148 (F := Ideal) c arg22) := rfl

/-- The state word the first point stores for the next one, as the last group's last state. -/
theorem lastWord_A {c arg7 harg7 arg8 harg8 arg9 harg9 arg10 harg10 arg11 harg11 arg12 harg12 arg13 harg13 arg14 harg14 arg21 arg22 arg23 x6 x7 x8 x9 x10 x11 x12 x13} :
    k0_pay168 (kernelRun0_A.sl.r_9 (F := Ideal) c arg7 harg7 arg8 harg8 arg9 harg9 arg10 harg10 arg11 harg11 arg12 harg12 arg13 harg13 arg14 harg14 arg21 arg23 x6 x7 x8 x9 x10 x11 x12 x13) (kernelRun0_A.sl.r_10 (F := Ideal) c arg7 harg7 arg8 harg8 arg9 harg9 arg10 harg10 arg11 harg11 arg14 harg14 arg21 arg23 x6 x7 x8 x9 x10 x13) (kernelRun0_A.sl.r_31 (F := Ideal) c arg7 harg7 arg8 harg8 arg9 harg9 arg10 harg10 arg11 harg11 arg12 harg12 arg13 harg13 arg14 harg14 arg21 arg22 arg23 x6 x7 x8 x9 x10 x11 x12 x13)
      = lastB (kernelRun0_A.sl.r_7 (F := Ideal) c arg7 harg7 arg8 harg8 arg9 harg9 arg10 harg10 arg11 harg11 arg14 harg14 arg21 arg23 x6 x7 x8 x9 x10 x13) (kernelRun0_A.sl.r_8 (F := Ideal) c arg7 harg7 arg8 harg8 arg9 harg9 arg10 harg10 arg11 harg11 arg12 harg12 arg13 harg13 arg14 harg14 arg21 arg23 x6 x7 x8 x9 x10 x11 x12 x13) (kernelRun0_A.sl.v148 (F := Ideal) c arg22) := rfl

/-- The states the first point stores, from the carried state. -/
theorem states_A {c arg7 harg7 arg8 harg8 arg9 harg9 arg10 harg10 arg11 harg11 arg12 harg12 arg13 harg13 arg14 harg14 arg20 arg21 arg22 arg23 x6 x7 x8 x9 x10 x11 x12 x13} :
    kernelRun0_A.sl.v1010 (F := Ideal) c arg7 harg7 arg8 harg8 arg9 harg9 arg10 harg10 arg11 harg11 arg12 harg12 arg13 harg13 arg14 harg14 arg20 arg21 arg22 arg23 x6 x7 x8 x9 x10 x11 x12 x13
      = hB (decayB (uc x6 x7 x8 (k0_pay2 (F := Ideal))) x9 x10 x13) (driveB (uc x6 x7 x8 (k0_pay2 (F := Ideal))) x9 x10 x11 x12 x13) (k0_pay3 (F := Ideal)) := by
  unfold kernelRun0_A.sl.v1010
  rw [readCov_whole _ _ zero2]
  rw [pieces_A, decay_A, drive_A, clear_state]
  simp (disch := decide) only [readAt_unread, View.ld_unit_lit]
  rfl

/-- The first point's output block. -/
theorem out_A {c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17} :
    out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17
      = outB x0 x1 x2 x3 x4 x5 (hB (decayB (uc x6 x7 x8 (k0_pay2 (F := Ideal))) x9 x10 x13) (driveB (uc x6 x7 x8 (k0_pay2 (F := Ideal))) x9 x10 x11 x12 x13) (k0_pay3 (F := Ideal))) x14 x15 x16 x17 := by
  unfold out0_A_18
  rw [View.read_writes_junk_eq_canon]
  unfold kernelRun0_A outB
  refine (View.canon_unit_zero zero2 _ _).trans ?_
  unfold kernelRun0_A.sl.r_50 kernelRun0_A.sl.r_49 kernelRun0_A.sl.r_48 kernelRun0_A.sl.r_47 kernelRun0_A.sl.r_46 kernelRun0_A.sl.r_45
    kernelRun0_A.sl.r_44 kernelRun0_A.sl.r_43 kernelRun0_A.sl.r_42 kernelRun0_A.sl.r_41 kernelRun0_A.sl.r_40 kernelRun0_A.sl.r_39 kernelRun0_A.sl.r_38
    kernelRun0_A.sl.r_37 kernelRun0_A.sl.r_36 kernelRun0_A.sl.r_35 kernelRun0_A.sl.r_34 kernelRun0_A.sl.r_33 kernelRun0_A.sl.r_32
  simp (disch := decide) only [readAt_unread, View.ld_unit_lit, states_A]

/-- The rows the first point carries on for the next point's convolution. -/
theorem tail_A {c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17} :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17 = k0_pay12 x6 := by
  unfold sout0_A_1
  rw [View.read_writes_junk_eq_canon]
  unfold kernelRun0_A
  refine (View.canon_cons_unit_zero zero2 _ _ _).trans ?_
  unfold kernelRun0_A.sl.r
  simp (disch := decide) only [readAt_unread, View.ld_unit_lit]

/-- The state the first point carries on. -/
theorem last_A {c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17} :
    sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17
      = lastB (decayB (uc x6 x7 x8 (k0_pay2 (F := Ideal))) x9 x10 x13) (driveB (uc x6 x7 x8 (k0_pay2 (F := Ideal))) x9 x10 x11 x12 x13) (k0_pay3 (F := Ideal)) := by
  unfold sout0_A_2
  rw [View.read_writes_junk_eq_canon]
  unfold kernelRun0_A
  refine (View.canon_cons_unit_zero zero2 _ _ _).trans ?_
  refine (lastWord_A ).trans ?_
  rw [decay_A, drive_A, clear_state]

end Cert.Proof.Block

end
-- ==== Proof.BlockMath.lean ====
/-
  The block functions read at an index: the convolved input, the recurrence's coefficients, the states and the output rows of
  one grid point, each as ordinary sums and products over the extended reals.
-/
module

public import proofs.«01_k».proof.Proof.Block
public import proofs.«01_k».proof.Proof.Scalars
public import Idealize.ShloMosaic.Lib.Pointwise

@[expose] public section

noncomputable section

open Idealize.ShloMosaic Idealize.ShloMosaic.TcCoe

namespace Cert.Proof.Block

open Cert.KernelIdeal Cert.KernelIdeal.Gen
open Cert.Proof.Scan Cert.Proof.Scalars

/-- Row `r - k` of the block, counting back into the carried rows. -/
def past (x6 : Vec Ideal S512x512 .f32) (tail : Vec Ideal S8x512 .f32) (r : Fin 512) (k : ℕ) (c : Fin 512) : EReal :=
  if r.val < k then tail (ix2 ⟨(r.val + 8 - k) % 8, Nat.mod_lt _ (by decide)⟩ c) else x6 (ix2 ⟨r.val - k, by omega⟩ c)

/-- The convolution at a row and channel of the block: the bias and the last four rows by their weights. -/
def convB (x6 : Vec Ideal S512x512 .f32) (x7 : Vec Ideal S4x512 .f32) (x8 : Vec Ideal S1x512 .f32) (tail : Vec Ideal S8x512 .f32)
    (r : Fin 512) (c : Fin 512) : EReal :=
  x8 (ix2 0 c) + past x6 tail r 0 c * x7 (ix2 3 c) + past x6 tail r 1 c * x7 (ix2 2 c) + past x6 tail r 2 c * x7 (ix2 1 c)
    + past x6 tail r 3 c * x7 (ix2 0 c)

/-- The kernel's choice between a carried row and a row of the block. -/
theorem select_past (r : Fin 8) (k : ℕ) (hk : k < 4) (x y : EReal) :
    Scalar.select (IntOp.cmpi .slt (BitVec.ofNat 32 r.val) (BitVec.ofNat 32 k)) x y = if r.val < k then x else y := by
  have h : ∀ (r : Fin 8) (k : Fin 4), IntOp.cmpi .slt (BitVec.ofNat 32 r.val) (BitVec.ofNat 32 k.val) = if r.val < k.val then 1#1 else 0#1 := by decide
  rw [h r ⟨k, hk⟩, select_word]

/-- The first eight rows, taken with the carried rows, at an index. -/
theorem pay14_at (x6 : Vec Ideal S512x512 .f32) (x7 : Vec Ideal S4x512 .f32) (x8 : Vec Ideal S1x512 .f32) (tail : Vec Ideal S8x512 .f32)
    (r : Fin 8) (c : Fin 512) :
    k0_pay14 x6 tail (iota .tc S8x512 32 [0] iota_S8x512_d0_w32)
        (k0_pay6 x6 tail x8 (View.ld x7 (Rect.unit ![3, 0] S1x512.size inb_S4x512_S1x512_3_0))
          (View.ld x7 (Rect.unit ![2, 0] S1x512.size inb_S4x512_S1x512_2_0)))
        (k0_pay9 x6 tail) (k0_pay10 (View.ld x7 (Rect.unit ![1, 0] S1x512.size inb_S4x512_S1x512_1_0)))
        (View.ld x7 (Rect.unit ![0, 0] S1x512.size inb_S4x512_S1x512_0_0)) (ix2 r c) = convB x6 x7 x8 tail ⟨r.val, by omega⟩ c := by
  unfold k0_pay14 k0_pay6 k0_pay9 k0_pay10
  pointwise
  unfold k0_pay4 k0_pay5 k0_pay7 k0_pay11
  pointwise
  have e (k : ℕ) (hk : k < 4) (h : ¬ r.val < k) : (r.val + 512 - k) % 512 = r.val - k := by omega
  rw [select_past r 1 (by decide), select_past r 2 (by decide), select_past r 3 (by decide)]
  unfold convB past
  have h0 : ∀ (k : ℕ) (hk : k < 4) (t : EReal) (h1) (h2), (if r.val < k then t else x6 (ix2 ⟨(r.val + 512 - k) % 512, h1⟩ c))
      = if r.val < k then t else x6 (ix2 ⟨r.val - k, h2⟩ c) := by
    intro k hk t h1 h2
    split
    · rfl
    · rename_i h; simp only [e k hk h]
  rw [h0 1 (by decide) _ _ (by omega), h0 2 (by decide) _ _ (by omega), h0 3 (by decide) _ _ (by omega)]
  simp only [Nat.not_lt_zero, if_false, Nat.sub_zero]

/-- The other rows, taken with the block's own rows, at an index. -/
theorem pay13_at (x6 : Vec Ideal S512x512 .f32) (x7 : Vec Ideal S4x512 .f32) (x8 : Vec Ideal S1x512 .f32) (tail : Vec Ideal S8x512 .f32)
    (r : Fin 512) (c : Fin 512) (hr : 8 ≤ r.val) :
      k0_pay13 x6 (k0_pay8 x6 x8 (View.ld x7 (Rect.unit ![3, 0] S1x512.size inb_S4x512_S1x512_3_0))
          (View.ld x7 (Rect.unit ![2, 0] S1x512.size inb_S4x512_S1x512_2_0))
          (View.ld x7 (Rect.unit ![1, 0] S1x512.size inb_S4x512_S1x512_1_0)))
        (View.ld x7 (Rect.unit ![0, 0] S1x512.size inb_S4x512_S1x512_0_0)) (ix2 r c) = convB x6 x7 x8 tail r c := by
  unfold k0_pay13 k0_pay8
  pointwise
  unfold k0_pay4 k0_pay5 k0_pay7 k0_pay11
  pointwise
  have e (k : ℕ) (hk : k < 4) : (r.val + 512 - k) % 512 = r.val - k := by omega
  unfold convB past
  simp only [e 1 (by decide), e 2 (by decide), e 3 (by decide), if_neg (show ¬ r.val < 0 by omega), if_neg (show ¬ r.val < 1 by omega),
    if_neg (show ¬ r.val < 2 by omega), if_neg (show ¬ r.val < 3 by omega), Nat.sub_zero]

/-- The convolved input block at an index. -/
theorem uc_at (x6 : Vec Ideal S512x512 .f32) (x7 : Vec Ideal S4x512 .f32) (x8 : Vec Ideal S1x512 .f32) (tail : Vec Ideal S8x512 .f32)
    (r c : Fin 512) : uc x6 x7 x8 tail (ix2 r c) = convB x6 x7 x8 tail r c := by
  unfold uc
  by_cases hr : r.val < 8
  · have e : (ix2 r c : S512x512.Idx) = (Rect.unit (s := S512x512) ![0, 0] S8x512.size inb_S512x512_S8x512_0_0).emb (ix2 ⟨r.val, hr⟩ c) := by
      funext a
      apply Fin.ext
      fin_cases a
      · show r.val = 0 + 1 * r.val; omega
      · show c.val = 0 + 1 * c.val; omega
    rw [e, View.canon_cons_emb]
    exact pay14_at x6 x7 x8 tail ⟨r.val, hr⟩ c
  · rw [View.canon_cons_of_not_mem]
    · rw [View.canon_unit_zero zero2]
      exact pay13_at x6 x7 x8 tail r c (by omega)
    · rw [Rect.mem_set_unit]
      intro h
      have h2 : r.val < 0 + 8 := (h 0).2
      omega

/-- A gate's argument at a row and channel of the block: the row by the channel's column of the gate's matrix, and its bias. -/
def gateB (u : Vec Ideal S512x512 .f32) (w : Vec Ideal S512x512 .bf16) (b : Vec Ideal S1x512 .f32) (r c : Fin 512) : EReal :=
  ∑ k : Fin 512, u (ix2 r k) * w (ix2 k c) + b (ix2 0 c)

/-- The decay at a row and channel. -/
theorem decayB_at (u : Vec Ideal S512x512 .f32) (x9 : Vec Ideal S512x512 .bf16) (x10 x13 : Vec Ideal S1x512 .f32) (r c : Fin 512) :
    decayB u x9 x10 x13 (ix2 r c) = decay (sigK (gateB u x9 x10 r c)) (spK (x13 (ix2 0 c))) := by
  unfold decayB k0_pay17 k0_pay16
  pointwise
  rfl

/-- The recurrence's input at a row and channel. -/
theorem driveB_at (u : Vec Ideal S512x512 .f32) (x9 : Vec Ideal S512x512 .bf16) (x10 : Vec Ideal S1x512 .f32) (x11 : Vec Ideal S512x512 .bf16)
    (x12 x13 : Vec Ideal S1x512 .f32) (r c : Fin 512) :
    driveB u x9 x10 x11 x12 x13 (ix2 r c)
      = Ideal.sqrt (1 - decayB u x9 x10 x13 (ix2 r c) * decayB u x9 x10 x13 (ix2 r c)) * (sigK (gateB u x11 x12 r c) * u (ix2 r c)) := by
  unfold driveB k0_pay18 k0_pay15
  pointwise
  rfl

/-- A decay is at least 0 and finite. -/
theorem decayB_range (u : Vec Ideal S512x512 .f32) (x9 : Vec Ideal S512x512 .bf16) (x10 x13 : Vec Ideal S1x512 .f32) (r c : Fin 512) :
    0 ≤ decayB u x9 x10 x13 (ix2 r c) ∧ decayB u x9 x10 x13 (ix2 r c) ≠ ⊤ := by
  rw [decayB_at, sigK_eq]
  exact decay_range _ _ (spK_nonneg _)

/-- One state of a group is the decay times the carried state plus the input. -/
theorem stepG_at (A B : FVec Ideal S64x8x512 .f32) (j : Fin 64) (carry : FVec Ideal S1x512 .f32) (s : Fin 8) (c : Fin 512) :
    stepG A B j carry (ix2 s c) = A (ix3 j s c) * carry (ix2 0 c) + B (ix3 j s c) := by
  unfold stepG
  pointwise

/-- Group `j`'s state `s` is the recurrence run from the block's first row to row `8 j + s`. -/
theorem grp_at (a b : FVec Ideal S512x512 .f32) (c₀ : FVec Ideal S1x512 .f32) (c : Fin 512)
    (hnn : ∀ r, 0 ≤ a (ix2 r c) ∧ a (ix2 r c) ≠ ⊤) : ∀ (j : ℕ) (_ : j < 64) (s : Fin 8),
    grp (k0_pay26 a) (k0_pay25 a b) c₀ j (ix2 s c) = seg (col a c) (col b c) 0 (8 * j + (s.val + 1)) (c₀ (ix2 0 c))
  | 0, _, s => by
    show stepG _ _ 0 c₀ (ix2 s c) = _
    rw [stepG_at, ← group_eq a b c hnn 0 s]
    simp
  | j + 1, hj, s => by
    show stepG _ _ ⟨(j + 1) % 64, _⟩ _ (ix2 s c) = _
    have e : (⟨(j + 1) % 64, Nat.mod_lt _ (by decide)⟩ : Fin 64) = ⟨j + 1, hj⟩ := Fin.ext (Nat.mod_eq_of_lt hj)
    rw [e, stepG_at, ← group_eq a b c hnn ⟨j + 1, hj⟩ s]
    have h := grp_at a b c₀ c hnn j (by omega) 7
    have h2 : extractStridedSlice S1x512 ![7, 0] (grp (k0_pay26 a) (k0_pay25 a b) c₀ j) slices_S8x512_o7_0_S1x512 (ix2 0 c)
        = grp (k0_pay26 a) (k0_pay25 a b) c₀ j (ix2 7 c) := by pointwise
    have h3 := seg_add (col a c) (col b c) 0 (8 * (j + 1)) (c₀ (ix2 0 c)) (s.val + 1)
    rw [h2, h, h3, Nat.zero_add]
    rfl

/-- The block's states: the recurrence run from the carried state. -/
theorem hB_at (a b : FVec Ideal S512x512 .f32) (c₀ : FVec Ideal S1x512 .f32) (r c : Fin 512)
    (hnn : ∀ r, 0 ≤ a (ix2 r c) ∧ a (ix2 r c) ≠ ⊤) :
    hB a b c₀ (ix2 r c) = seg (col a c) (col b c) 0 (r.val + 1) (c₀ (ix2 0 c)) := by
  unfold hB hPieces
  refine View.canon_ofFn_unit_eq_of_forall (Val := Elt Ideal) (S := S512x512) _ _ _ _ _ _ ?_ ?_
  · refine ⟨⟨63 - r.val / 8, by omega⟩, fun a => ?_⟩
    fin_cases a
    · show 8 * (63 - (63 - r.val / 8)) ≤ r.val ∧ r.val < 8 * (63 - (63 - r.val / 8)) + 8
      omega
    · show 0 ≤ c.val ∧ c.val < 0 + 512
      omega
  · intro k x hx
    have e0 : r.val = 8 * (63 - k.val) + (x 0).val := hx 0
    have e1 : c.val = 0 + (x 1).val := hx 1
    have ex : x = ix2 (x 0 : Fin 8) c := by
      funext a
      apply Fin.ext
      fin_cases a
      · rfl
      · show (x 1).val = c.val; omega
    have hs : shapeCast S8x512 (grp (k0_pay26 a) (k0_pay25 a b) c₀ (63 - k.val)) shapeCasts_S8x512_S8x512 (ix2 (x 0 : Fin 8) c)
        = grp (k0_pay26 a) (k0_pay25 a b) c₀ (63 - k.val) (ix2 (x 0 : Fin 8) c) := by pointwise
    rw [ex]
    refine hs.trans ?_
    refine (grp_at a b c₀ c hnn (63 - k.val) (by omega) (x 0)).trans ?_
    congr 1
    show 8 * (63 - k.val) + ((x 0).val + 1) = r.val + 1
    omega

/-- The last state of the block. -/
theorem lastB_at (a b : FVec Ideal S512x512 .f32) (c₀ : FVec Ideal S1x512 .f32) (c : Fin 512)
    (hnn : ∀ r, 0 ≤ a (ix2 r c) ∧ a (ix2 r c) ≠ ⊤) :
    lastB a b c₀ (ix2 0 c) = seg (col a c) (col b c) 0 512 (c₀ (ix2 0 c)) := by
  unfold lastB
  have h := grp_at a b c₀ c hnn 63 (by decide) 7
  refine Eq.trans ?_ h
  pointwise

end Cert.Proof.Block

end
-- ==== Proof.Spec.lean ====
/-
  The output call's mathematics, as plain functions of extended reals: the causal convolution, the gates by head, the recurrence's
  decays, drives and states, then on one row the normalised row, the weighted sum of the three attention outputs, the two gated
  projections, their merge and the residual. Both programs are read as this.
-/
module

public import proofs.«01_k».proof.Proof.Scalars
public import proofs.«01_k».proof.Proof.Scan

@[expose] public section

noncomputable section

open Idealize.ShloMosaic

namespace Cert.Proof.Spec

open Cert.Proof.Scan Cert.Proof.Scalars

/-- Channel `c` of row `r` of `u` counted back by `k` rows, zero before the first. -/
def rowBack (u : Fin 16384 → Fin 512 → EReal) (r : Fin 16384) (k : ℕ) (c : Fin 512) : EReal :=
  if k ≤ r.val then u ⟨r.val - k, by omega⟩ c else 0

/-- The causal convolution of width four. -/
def conv (u : Fin 16384 → Fin 512 → EReal) (w : Fin 4 → Fin 512 → EReal) (b : Fin 512 → EReal) (r : Fin 16384) (c : Fin 512) : EReal :=
  b c + (rowBack u r 3 c * w 0 c + rowBack u r 2 c * w 1 c + rowBack u r 1 c * w 2 c + u r c * w 3 c)

/-- A gate's argument: the channels of `c`'s own head by the head's matrix, and the bias. -/
def gate (v : Fin 512 → EReal) (w : Fin 8 → Fin 64 → Fin 64 → EReal) (b : Fin 512 → EReal) (c : Fin 512) : EReal :=
  ∑ x : Fin 64, w ⟨c.val / 64, by omega⟩ x ⟨c.val % 64, by omega⟩ * v ⟨c.val / 64 * 64 + x.val, by omega⟩ + b c

/-- The recurrence's parameters: the convolution's weights and bias, the two gates' matrices and biases, the decay's parameter. -/
structure Params where
  cw : Fin 4 → Fin 512 → EReal
  cb : Fin 512 → EReal
  wa : Fin 8 → Fin 64 → Fin 64 → EReal
  ba : Fin 512 → EReal
  wx : Fin 8 → Fin 64 → Fin 64 → EReal
  bx : Fin 512 → EReal
  lam : Fin 512 → EReal

/-- The decay of channel `c` at row `r`. -/
def decayAt (u : Fin 16384 → Fin 512 → EReal) (p : Params) (r : Fin 16384) (c : Fin 512) : EReal :=
  decay (Ideal.logistic (gate (conv u p.cw p.cb r) p.wa p.ba c)) (spK (p.lam c))

/-- The drive of channel `c` at row `r`. -/
def driveAt (u : Fin 16384 → Fin 512 → EReal) (p : Params) (r : Fin 16384) (c : Fin 512) : EReal :=
  Ideal.sqrt (1 - decayAt u p r c * decayAt u p r c) * (Ideal.logistic (gate (conv u p.cw p.cb r) p.wx p.bx c) * conv u p.cw p.cb r c)

/-- A function of the rows as a sequence, zero past its end. -/
def tall (f : Fin 16384 → Fin 512 → EReal) (c : Fin 512) (n : ℕ) : EReal := if h : n < 16384 then f ⟨n, h⟩ c else 0

/-- The state of channel `c` after the first `n` rows. -/
def stateAt (u : Fin 16384 → Fin 512 → EReal) (p : Params) (n : ℕ) (c : Fin 512) : EReal :=
  seg (tall (decayAt u p) c) (tall (driveAt u p) c) 0 n 0

/-- The row scaled by the reciprocal root of its mean square, times the gain. -/
def normed (x g : Fin 1024 → EReal) (k : Fin 1024) : EReal :=
  x k * Ideal.rsqrt (Ideal.div (∑ i, x i * x i) (Ideal.ofBits .f32 0x44800000#32) + Ideal.ofBits .f32 0x358637BD#32) * g k

/-- A row by a matrix's column. -/
def dot {n m : ℕ} (x : Fin n → EReal) (w : Fin n → Fin m → EReal) (c : Fin m) : EReal := ∑ k, x k * w k c

/-- A row times the silu of its gate, by a matrix's column. -/
def gated (o p : Fin 512 → EReal) (w : Fin 512 → Fin 1024 → EReal) (i : Fin 1024) : EReal :=
  ∑ c, o c * (p c * Ideal.logistic (p c)) * w c i

/-- The three attention outputs of channel `c`, weighted by its head's branch weights. -/
def combined (b : Fin 32 → EReal) (o₁ o₂ o₃ : Fin 512 → EReal) (c : Fin 512) : EReal :=
  b ⟨c.val / 64, by omega⟩ * o₁ c + b ⟨8 + c.val / 64, by omega⟩ * o₂ c + b ⟨16 + c.val / 64, by omega⟩ * o₃ c

/-- One row of the result. -/
def outRow (x g : Fin 1024 → EReal) (o h : Fin 512 → EReal) (wn wl : Fin 1024 → Fin 512 → EReal) (wm : Fin 1024 → Fin 2048 → EReal)
    (wa wb : Fin 512 → Fin 1024 → EReal) (wo : Fin 1024 → Fin 1024 → EReal) (j : Fin 1024) : EReal :=
  x j + ∑ i : Fin 1024,
    (Ideal.logistic (dot (normed x g) wm ⟨i.val, by omega⟩) * gated o (dot (normed x g) wn) wa i
      + Ideal.logistic (dot (normed x g) wm ⟨1024 + i.val, by omega⟩) * gated h (dot (normed x g) wl) wb i) * wo i j

end Cert.Proof.Spec

end
-- ==== Proof.BlockRow.lean ====
/-
  One grid point of the kernel against the rows it stands for: when the point's blocks hold rows `512 n, …` of the recurrence's
  input, its carried tail the eight rows before them and its carried state the state after `512 n` rows, the recurrence
  inside the block is the recurrence over the whole sequence.
-/
module

public import proofs.«01_k».proof.Proof.BlockMath
public import proofs.«01_k».proof.Proof.Spec

@[expose] public section

noncomputable section

open Idealize.ShloMosaic Idealize.ShloMosaic.TcCoe

namespace Cert.Proof.Block

open Cert.KernelIdeal Cert.KernelIdeal.Gen Cert.Proof.Scan Cert.Proof.Scalars Cert.Proof.Spec

/-- A sum over all channels of a matrix that is zero off its diagonal blocks is the sum over the channel's own block. -/
theorem sum_block (v : Fin 512 → EReal) (w : Fin 8 → Fin 64 → Fin 64 → EReal) (c : Fin 512) :
    ∑ k : Fin 512, v k * ((if k.val / 64 = c.val / 64 then 1 else 0) * w ⟨k.val / 64, by omega⟩ ⟨k.val % 64, by omega⟩ ⟨c.val % 64, by omega⟩)
      = ∑ x : Fin 64, w ⟨c.val / 64, by omega⟩ x ⟨c.val % 64, by omega⟩ * v ⟨c.val / 64 * 64 + x.val, by omega⟩ := by
  rw [← Equiv.sum_comp (finProdFinEquiv : Fin 8 × Fin 64 ≃ Fin 512), Fintype.sum_prod_type,
    Finset.sum_eq_single (⟨c.val / 64, by omega⟩ : Fin 8)]
  · refine Finset.sum_congr rfl fun x _ => ?_
    have e : (finProdFinEquiv ((⟨c.val / 64, by omega⟩ : Fin 8), x) : Fin 512).val = x.val + 64 * (c.val / 64) := rfl
    have d : (finProdFinEquiv ((⟨c.val / 64, by omega⟩ : Fin 8), x) : Fin 512).val / 64 = c.val / 64 := by rw [e]; omega
    have r : (finProdFinEquiv ((⟨c.val / 64, by omega⟩ : Fin 8), x) : Fin 512).val % 64 = x.val := by rw [e]; omega
    have f : (finProdFinEquiv ((⟨c.val / 64, by omega⟩ : Fin 8), x) : Fin 512) = ⟨c.val / 64 * 64 + x.val, by omega⟩ := Fin.ext (by rw [e]; show _ = c.val / 64 * 64 + x.val; omega)
    rw [if_pos d, one_mul, mul_comm]
    congr 1
    · exact congrArg₂ (fun a b => w a b ⟨c.val % 64, by omega⟩) (Fin.ext d) (Fin.ext r)
    · exact congrArg v f
  · intro h _ hh
    refine Finset.sum_eq_zero fun x _ => ?_
    have e : (finProdFinEquiv (h, x) : Fin 512).val = x.val + 64 * h.val := rfl
    rw [if_neg (by rw [e]; intro q; exact hh (Fin.ext (by show h.val = c.val / 64; omega))), zero_mul, mul_zero]
  · exact fun h => absurd (Finset.mem_univ _) h

/-- What a grid point's blocks and carried arrays hold at point `n`: rows `512 n, …` of `u`, the recurrence's parameters, the
    eight rows before the block (zero at the first point), the state after `512 n` rows. -/
structure Holds (u : Fin 16384 → Fin 512 → EReal) (p : Params) (n : ℕ) (hn : n < 32) (x6 : Vec Ideal S512x512 .f32) (x7 : Vec Ideal S4x512 .f32)
    (x8 : Vec Ideal S1x512 .f32) (x9 : Vec Ideal S512x512 .bf16) (x10 : Vec Ideal S1x512 .f32) (x11 : Vec Ideal S512x512 .bf16)
    (x12 x13 : Vec Ideal S1x512 .f32) (tail : Vec Ideal S8x512 .f32) (h : Vec Ideal S1x512 .f32) : Prop where
  rows : ∀ r c : Fin 512, x6 (ix2 r c) = u ⟨512 * n + r.val, by omega⟩ c
  cw : ∀ (k : Fin 4) (c : Fin 512), x7 (ix2 k c) = p.cw k c
  cb : ∀ c : Fin 512, x8 (ix2 0 c) = p.cb c
  wa : ∀ i j : Fin 512, x9 (ix2 i j) = (if i.val / 64 = j.val / 64 then 1 else 0) * p.wa ⟨i.val / 64, by omega⟩ ⟨i.val % 64, by omega⟩ ⟨j.val % 64, by omega⟩
  ba : ∀ c : Fin 512, x10 (ix2 0 c) = p.ba c
  wx : ∀ i j : Fin 512, x11 (ix2 i j) = (if i.val / 64 = j.val / 64 then 1 else 0) * p.wx ⟨i.val / 64, by omega⟩ ⟨i.val % 64, by omega⟩ ⟨j.val % 64, by omega⟩
  bx : ∀ c : Fin 512, x12 (ix2 0 c) = p.bx c
  lam : ∀ c : Fin 512, x13 (ix2 0 c) = p.lam c
  tail : ∀ (q : Fin 8) (c : Fin 512), tail (ix2 q c) = rowBack u ⟨512 * n + q.val, by omega⟩ 8 c
  state : ∀ c : Fin 512, h (ix2 0 c) = stateAt u p (512 * n) c

section

variable {u : Fin 16384 → Fin 512 → EReal} {p : Params} {n : ℕ} {hn : n < 32} {x6 : Vec Ideal S512x512 .f32} {x7 : Vec Ideal S4x512 .f32}
    {x8 : Vec Ideal S1x512 .f32} {x9 : Vec Ideal S512x512 .bf16} {x10 : Vec Ideal S1x512 .f32} {x11 : Vec Ideal S512x512 .bf16}
    {x12 x13 : Vec Ideal S1x512 .f32} {tail : Vec Ideal S8x512 .f32} {h : Vec Ideal S1x512 .f32}

/-- A row counted back from one of the block's, in the block or in the carried tail. -/
theorem past_eq (H : Holds u p n hn x6 x7 x8 x9 x10 x11 x12 x13 tail h) (r : Fin 512) (k : ℕ) (hk : k ≤ 3) (c : Fin 512) :
    past x6 tail r k c = rowBack u ⟨512 * n + r.val, by omega⟩ k c := by
  unfold past
  split
  · rename_i hr
    rw [H.tail]
    unfold rowBack
    by_cases h0 : n = 0
    · rw [if_neg, if_neg]
      · show ¬ k ≤ 512 * n + r.val; omega
      · show ¬ 8 ≤ 512 * n + (r.val + 8 - k) % 8; omega
    · rw [if_pos, if_pos]
      · exact congrArg (fun i => u i c) (Fin.ext (by show 512 * n + (r.val + 8 - k) % 8 - 8 = 512 * n + r.val - k; omega))
      · show k ≤ 512 * n + r.val; omega
      · show 8 ≤ 512 * n + (r.val + 8 - k) % 8; omega
  · rename_i hr
    rw [H.rows]
    unfold rowBack
    rw [if_pos (show k ≤ 512 * n + r.val by omega)]
    exact congrArg (fun i => u i c) (Fin.ext (by show 512 * n + (r.val - k) = 512 * n + r.val - k; omega))

/-- The block's convolution is the sequence's. -/
theorem uc_eq (H : Holds u p n hn x6 x7 x8 x9 x10 x11 x12 x13 tail h) (r c : Fin 512) :
    uc x6 x7 x8 tail (ix2 r c) = conv u p.cw p.cb ⟨512 * n + r.val, by omega⟩ c := by
  rw [uc_at]
  unfold convB conv
  rw [past_eq H r 0 (by decide), past_eq H r 1 (by decide), past_eq H r 2 (by decide), past_eq H r 3 (by decide),
    H.cw, H.cw, H.cw, H.cw, H.cb]
  have e : rowBack u ⟨512 * n + r.val, by omega⟩ 0 c = u ⟨512 * n + r.val, by omega⟩ c := if_pos (Nat.zero_le _)
  rw [e]
  abel

/-- A gate's argument in the block is the sequence's. -/
theorem gate_eq (H : Holds u p n hn x6 x7 x8 x9 x10 x11 x12 x13 tail h) (r c : Fin 512) :
    gateB (uc x6 x7 x8 tail) x9 x10 r c = gate (conv u p.cw p.cb ⟨512 * n + r.val, by omega⟩) p.wa p.ba c
    ∧ gateB (uc x6 x7 x8 tail) x11 x12 r c = gate (conv u p.cw p.cb ⟨512 * n + r.val, by omega⟩) p.wx p.bx c := by
  unfold gateB gate
  rw [H.ba, H.bx, ← sum_block, ← sum_block]
  exact ⟨congrArg (· + p.ba c) (Finset.sum_congr rfl fun k _ => by rw [uc_eq H, H.wa]),
    congrArg (· + p.bx c) (Finset.sum_congr rfl fun k _ => by rw [uc_eq H, H.wx])⟩

/-- The block's decays are the sequence's. -/
theorem decay_eq (H : Holds u p n hn x6 x7 x8 x9 x10 x11 x12 x13 tail h) (r c : Fin 512) :
    decayB (uc x6 x7 x8 tail) x9 x10 x13 (ix2 r c) = decayAt u p ⟨512 * n + r.val, by omega⟩ c := by
  rw [decayB_at, sigK_eq, (gate_eq H r c).1, H.lam]
  rfl

/-- The block's drives are the sequence's. -/
theorem drive_eq (H : Holds u p n hn x6 x7 x8 x9 x10 x11 x12 x13 tail h) (r c : Fin 512) :
    driveB (uc x6 x7 x8 tail) x9 x10 x11 x12 x13 (ix2 r c) = driveAt u p ⟨512 * n + r.val, by omega⟩ c := by
  rw [driveB_at, decay_eq H, sigK_eq, (gate_eq H r c).2, uc_eq H]
  rfl

/-- Running the recurrence over the block's first rows from the carried state runs it over the sequence. -/
theorem seg_eq (H : Holds u p n hn x6 x7 x8 x9 x10 x11 x12 x13 tail h) (k : ℕ) (hk : k ≤ 512) (c : Fin 512) :
    seg (col (decayB (uc x6 x7 x8 tail) x9 x10 x13) c) (col (driveB (uc x6 x7 x8 tail) x9 x10 x11 x12 x13) c) 0 k (h (ix2 0 c))
      = stateAt u p (512 * n + k) c := by
  rw [H.state]
  unfold stateAt
  rw [seg_add]
  refine seg_congr _ k fun i hi => ?_
  have h1 : 0 + i < 512 := by omega
  have h2 : 0 + 512 * n + i < 16384 := by omega
  have e : (⟨0 + 512 * n + i, h2⟩ : Fin 16384) = ⟨512 * n + (⟨0 + i, h1⟩ : Fin 512).val, by show 512 * n + (0 + i) < 16384; omega⟩ :=
    Fin.ext (by show 0 + 512 * n + i = 512 * n + (0 + i); omega)
  unfold col tall
  rw [dif_pos h1, dif_pos h1, dif_pos h2, dif_pos h2, e, decay_eq H, drive_eq H]
  exact ⟨rfl, rfl⟩

/-- The block's states are the sequence's. -/
theorem states_eq (H : Holds u p n hn x6 x7 x8 x9 x10 x11 x12 x13 tail h) (r c : Fin 512) :
    hB (decayB (uc x6 x7 x8 tail) x9 x10 x13) (driveB (uc x6 x7 x8 tail) x9 x10 x11 x12 x13) h (ix2 r c)
      = stateAt u p (512 * n + (r.val + 1)) c :=
  (hB_at _ _ _ r c fun r => decayB_range _ _ _ _ r c).trans (seg_eq H _ (by omega) c)

/-- The state the block leaves is the sequence's after its rows. -/
theorem last_eq (H : Holds u p n hn x6 x7 x8 x9 x10 x11 x12 x13 tail h) (c : Fin 512) :
    lastB (decayB (uc x6 x7 x8 tail) x9 x10 x13) (driveB (uc x6 x7 x8 tail) x9 x10 x11 x12 x13) h (ix2 0 c)
      = stateAt u p (512 * (n + 1)) c :=
  (lastB_at _ _ _ c fun r => decayB_range _ _ _ _ r c).trans (seg_eq H 512 le_rfl c)

/-- The tail the block leaves is its last eight rows. -/
theorem tail_eq (H : Holds u p n hn x6 x7 x8 x9 x10 x11 x12 x13 tail h) (hn' : n + 1 < 32) (q : Fin 8) (c : Fin 512) :
    k0_pay12 x6 (ix2 q c) = rowBack u ⟨512 * (n + 1) + q.val, by omega⟩ 8 c := by
  have e : k0_pay12 x6 (ix2 q c) = x6 (ix2 ⟨504 + q.val, by omega⟩ c) := by
    unfold k0_pay12
    pointwise
  rw [e, H.rows]
  unfold rowBack
  rw [if_pos (show 8 ≤ 512 * (n + 1) + q.val by omega)]
  exact congrArg (fun i => u i c) (Fin.ext (by show 512 * n + (504 + q.val) = 512 * (n + 1) + q.val - 8; omega))

end

/-- The first point's carried arrays are zero. -/
theorem zeros_at (q : Fin 8) (c : Fin 512) : (k0_pay2 (F := Ideal)) (ix2 q c) = 0 ∧ (k0_pay3 (F := Ideal)) (ix2 0 c) = 0 := by
  unfold k0_pay2 k0_pay3
  constructor <;> pointwise

end Cert.Proof.Block

end
-- ==== Proof.BlockOut.lean ====
/-
  The output rows of one grid point read at an index: the block function is the one-row mathematics of the point's blocks.
-/
module

public import proofs.«01_k».proof.Proof.BlockMath
public import proofs.«01_k».proof.Proof.Spec

@[expose] public section

noncomputable section

open Idealize.ShloMosaic Idealize.ShloMosaic.TcCoe

namespace Cert.Proof.Block

open Cert.KernelIdeal Cert.KernelIdeal.Gen
open Cert.Proof.Scan Cert.Proof.Scalars Cert.Proof.Spec

/-- The normalised row. -/
theorem normed_at (x0 : Vec Ideal S512x1024 .f32) (x1 : Vec Ideal S1x1024 .f32) (r : Fin 512) (k : Fin 1024) :
    k0_pay171 (k0_pay169 x0) (k0_pay170 x0) x1 (ix2 r k) = normed (fun k => x0 (ix2 r k)) (fun k => x1 (ix2 0 k)) k := by
  unfold k0_pay171 k0_pay170 k0_pay169 normed
  pointwise

/-- The merge gates' arguments. -/
theorem merge_at (x0 : Vec Ideal S512x1024 .f32) (x1 : Vec Ideal S1x1024 .f32) (w : Vec Ideal S1024x2048 .bf16) (r : Fin 512) (c : Fin 2048) :
    k0_pay172 (k0_pay169 x0) (k0_pay170 x0) x1 w (ix2 r c)
      = dot (normed (fun k => x0 (ix2 r k)) (fun k => x1 (ix2 0 k))) (fun k c => w (ix2 k c)) c := by
  unfold k0_pay172 dot
  pointwise
  simp only [normed_at]

/-- The eight heads' weighted attention outputs, as the kernel makes them. -/
def heads (x2 x3 x4 : Vec Ideal S512x512 .f32) (x5 : Vec Ideal S32x512 .f32) : Fin 8 → FVec Ideal S64x512 .f32 :=
  ![k0_pay173 x5 (View.ld x2 (Rect.unit ![0, 0] S64x512.size inb_S512x512_S64x512_0_0))
        (View.ld x3 (Rect.unit ![0, 0] S64x512.size inb_S512x512_S64x512_0_0)) (View.ld x4 (Rect.unit ![0, 0] S64x512.size inb_S512x512_S64x512_0_0)),
    k0_pay174 x5 (View.ld x2 (Rect.unit ![64, 0] S64x512.size inb_S512x512_S64x512_64_0))
        (View.ld x3 (Rect.unit ![64, 0] S64x512.size inb_S512x512_S64x512_64_0)) (View.ld x4 (Rect.unit ![64, 0] S64x512.size inb_S512x512_S64x512_64_0)),
    k0_pay176 x5 (k0_pay175 x5) (View.ld x2 (Rect.unit ![128, 0] S64x512.size inb_S512x512_S64x512_128_0))
        (View.ld x3 (Rect.unit ![128, 0] S64x512.size inb_S512x512_S64x512_128_0)) (View.ld x4 (Rect.unit ![128, 0] S64x512.size inb_S512x512_S64x512_128_0)),
    k0_pay177 x5 (View.ld x2 (Rect.unit ![192, 0] S64x512.size inb_S512x512_S64x512_192_0))
        (View.ld x3 (Rect.unit ![192, 0] S64x512.size inb_S512x512_S64x512_192_0)) (View.ld x4 (Rect.unit ![192, 0] S64x512.size inb_S512x512_S64x512_192_0)),
    k0_pay178 x5 (View.ld x2 (Rect.unit ![256, 0] S64x512.size inb_S512x512_S64x512_256_0))
        (View.ld x3 (Rect.unit ![256, 0] S64x512.size inb_S512x512_S64x512_256_0)) (View.ld x4 (Rect.unit ![256, 0] S64x512.size inb_S512x512_S64x512_256_0)),
    k0_pay180 x5 (k0_pay179 x5) (View.ld x2 (Rect.unit ![320, 0] S64x512.size inb_S512x512_S64x512_320_0))
        (View.ld x3 (Rect.unit ![320, 0] S64x512.size inb_S512x512_S64x512_320_0)) (View.ld x4 (Rect.unit ![320, 0] S64x512.size inb_S512x512_S64x512_320_0)),
    k0_pay181 x5 (View.ld x2 (Rect.unit ![384, 0] S64x512.size inb_S512x512_S64x512_384_0))
        (View.ld x3 (Rect.unit ![384, 0] S64x512.size inb_S512x512_S64x512_384_0)) (View.ld x4 (Rect.unit ![384, 0] S64x512.size inb_S512x512_S64x512_384_0)),
    k0_pay182 x5 (View.ld x2 (Rect.unit ![448, 0] S64x512.size inb_S512x512_S64x512_448_0))
        (View.ld x3 (Rect.unit ![448, 0] S64x512.size inb_S512x512_S64x512_448_0)) (View.ld x4 (Rect.unit ![448, 0] S64x512.size inb_S512x512_S64x512_448_0))]

/-- One head's weighted attention outputs. -/
theorem heads_at (x2 x3 x4 : Vec Ideal S512x512 .f32) (x5 : Vec Ideal S32x512 .f32) (h : Fin 8) (q : Fin 64) (r : Fin 512) :
    heads x2 x3 x4 x5 h (ix2 q r) = x5 (ix2 ⟨h.val, by omega⟩ r) * x2 (ix2 ⟨64 * h.val + q.val, by omega⟩ r)
      + x5 (ix2 ⟨8 + h.val, by omega⟩ r) * x3 (ix2 ⟨64 * h.val + q.val, by omega⟩ r)
      + x5 (ix2 ⟨16 + h.val, by omega⟩ r) * x4 (ix2 ⟨64 * h.val + q.val, by omega⟩ r) := by
  fin_cases h
  · show k0_pay173 _ _ _ _ _ = _
    unfold k0_pay173; pointwise
  · show k0_pay174 _ _ _ _ _ = _
    unfold k0_pay174; pointwise
  · show k0_pay176 _ _ _ _ _ _ = _
    unfold k0_pay176 k0_pay175; pointwise
  · show k0_pay177 _ _ _ _ _ = _
    unfold k0_pay177; pointwise
  · show k0_pay178 _ _ _ _ _ = _
    unfold k0_pay178; pointwise
  · show k0_pay180 _ _ _ _ _ _ = _
    unfold k0_pay180 k0_pay179; pointwise
  · show k0_pay181 _ _ _ _ _ = _
    unfold k0_pay181; pointwise
  · show k0_pay182 _ _ _ _ _ = _
    unfold k0_pay182; pointwise

theorem same_head (v : Fin 8 → FVec Ideal S64x512 .f32) (r : Fin 512) {i j : Fin 8} {p q : Fin 64} (hi : i.val = j.val) (hp : p.val = q.val) :
    v i (ix2 p r) = v j (ix2 q r) := by rw [Fin.ext hi, Fin.ext hp]

/-- The heads one below the other, at a channel. -/
theorem stacked (v : Fin 8 → FVec Ideal S64x512 .f32) (x r : Fin 512) :
    concatenate S512x512 0 [⟨S64x512, v 0⟩, ⟨S64x512, v 1⟩, ⟨S64x512, v 2⟩, ⟨S64x512, v 3⟩, ⟨S64x512, v 4⟩, ⟨S64x512, v 5⟩, ⟨S64x512, v 6⟩, ⟨S64x512, v 7⟩]
      concatenates_S64x512_S64x512_S64x512_S64x512_S64x512_S64x512_S64x512_S64x512_S512x512_d0 (ix2 x r)
      = v ⟨x.val / 64, by omega⟩ (ix2 ⟨x.val % 64, by omega⟩ r) := by
  pointwise
  split_ifs
  all_goals
    refine same_head v r ?_ ?_
    all_goals
      dsimp
      omega

/-- The three attention outputs combined, at a channel. -/
theorem combined_at (x2 x3 x4 : Vec Ideal S512x512 .f32) (x5 : Vec Ideal S32x512 .f32) (x r : Fin 512) :
    heads x2 x3 x4 x5 ⟨x.val / 64, by omega⟩ (ix2 ⟨x.val % 64, by omega⟩ r)
      = combined (fun k => x5 (ix2 k r)) (fun c => x2 (ix2 c r)) (fun c => x3 (ix2 c r)) (fun c => x4 (ix2 c r)) x := by
  rw [heads_at]
  unfold combined
  simp only [Nat.div_add_mod]

/-- The attention side's gated projection. -/
theorem nsa_at (xn : FVec Ideal S512x1024 .f32) (v : Fin 8 → FVec Ideal S64x512 .f32) (w : Vec Ideal S1024x512 .bf16) (q : Vec Ideal S512x1024 .bf16)
    (r : Fin 512) (j : Fin 1024) :
    k0_pay183 xn (v 0) (v 1) (v 2) (v 3) (v 4) (v 5) (v 6) (v 7) w q (ix2 r j)
      = gated (fun c => v ⟨c.val / 64, by omega⟩ (ix2 ⟨c.val % 64, by omega⟩ r)) (dot (fun k => xn (ix2 r k)) (fun k c => w (ix2 k c))) (fun c j => q (ix2 c j)) j := by
  unfold gated
  simp only [← stacked, ← sigK_eq]
  unfold k0_pay183 dot sigK
  pointwise

/-- The recurrent side's gated projection. -/
theorem lru_at (xn : FVec Ideal S512x1024 .f32) (h : Vec Ideal S512x512 .f32) (w : Vec Ideal S1024x512 .bf16) (q : Vec Ideal S512x1024 .bf16)
    (r : Fin 512) (j : Fin 1024) :
    k0_pay184 xn w h q (ix2 r j)
      = gated (fun c => h (ix2 r c)) (dot (fun k => xn (ix2 r k)) (fun k c => w (ix2 k c))) (fun c j => q (ix2 c j)) j := by
  unfold gated
  simp only [← sigK_eq]
  unfold k0_pay184 dot sigK
  pointwise

/-- The merge, the output projection and the residual. -/
theorem merged_at (a : FVec Ideal S512x2048 .f32) (b c : FVec Ideal S512x1024 .f32) (x0 : Vec Ideal S512x1024 .f32) (w : Vec Ideal S1024x1024 .bf16)
    (r : Fin 512) (j : Fin 1024) :
    k0_pay1 a b c (k0_pay185 a) x0 w (ix2 r j)
      = x0 (ix2 r j) + ∑ i : Fin 1024, (Ideal.logistic (a (ix2 r ⟨i.val, by omega⟩)) * b (ix2 r i)
          + Ideal.logistic (a (ix2 r ⟨1024 + i.val, by omega⟩)) * c (ix2 r i)) * w (ix2 i j) := by
  simp only [← sigK_eq]
  unfold k0_pay1 k0_pay185 sigK
  pointwise

/-- One output row of a grid point. -/
theorem outB_at (x0 : Vec Ideal S512x1024 .f32) (x1 : Vec Ideal S1x1024 .f32) (x2 x3 x4 : Vec Ideal S512x512 .f32) (x5 : Vec Ideal S32x512 .f32)
    (h : Vec Ideal S512x512 .f32) (x14 : Vec Ideal S1024x3072 .bf16) (x15 x16 : Vec Ideal S512x1024 .bf16) (x17 : Vec Ideal S1024x1024 .bf16)
    (r : Fin 512) (j : Fin 1024) :
    outB x0 x1 x2 x3 x4 x5 h x14 x15 x16 x17 (ix2 r j)
      = outRow (fun k => x0 (ix2 r k)) (fun k => x1 (ix2 0 k))
          (combined (fun k => x5 (ix2 k r)) (fun c => x2 (ix2 c r)) (fun c => x3 (ix2 c r)) (fun c => x4 (ix2 c r)))
          (fun c => h (ix2 r c))
          (fun k c => x14 (ix2 k ⟨c.val, by omega⟩)) (fun k c => x14 (ix2 k ⟨512 + c.val, by omega⟩)) (fun k c => x14 (ix2 k ⟨1024 + c.val, by omega⟩))
          (fun c j => x15 (ix2 c j)) (fun c j => x16 (ix2 c j)) (fun i j => x17 (ix2 i j)) j := by
  unfold outB
  refine (merged_at _ _ _ x0 x17 r j).trans ?_
  unfold outRow
  refine congrArg (x0 (ix2 r j) + ·) (Finset.sum_congr rfl fun i _ => congrArg (· * x17 (ix2 i j)) ?_)
  refine congrArg₂ (· + ·) (congrArg₂ (· * ·) (congrArg Ideal.logistic ?_) ?_) (congrArg₂ (· * ·) (congrArg Ideal.logistic ?_) ?_)
  · rw [merge_at]; unfold dot; pointwise
  · refine (nsa_at _ (heads x2 x3 x4 x5) _ x15 r i).trans ?_
    simp only [combined_at, normed_at]
    unfold gated dot; pointwise
  · rw [merge_at]; unfold dot; pointwise
  · rw [lru_at]
    simp only [normed_at]
    unfold gated dot; pointwise

end Cert.Proof.Block

end
-- ==== Proof.KernelHost.lean ====
/-
  What the kernel's host operations leave in the arrays its windows read: rows reshaped, casts that change nothing, the gate
  columns taken side by side out of the input projection, and the two gates' matrices laid out block by block on the diagonal.
-/
module

public import proofs.«01_k».proof.Proof.Gen.KernelIdeal.Value
public import Idealize.ShloMosaic.Lib.StableHlo.RunRead
public import Idealize.ShloMosaic.Lib.Pointwise

@[expose] public section

noncomputable section

open Idealize.ShloMosaic Idealize.ShloMosaic.TcCoe Idealize.ShloMosaic.StableHlo

namespace Cert.Proof.KernelHost

open Cert.KernelIdeal Cert.KernelIdeal.Gen

/-- The unit of the two head indices, as the host makes it. -/
def eye : FVec Ideal S8x8 .f32 :=
  uitofp .f32 (cmpi .eq (addi (iotaInDim S8x8 32 0) (broadcastInDim S8x8 ![] bcast_S_S8x8 (constantI S_ 32 0#32))) (iotaInDim S8x8 32 1))

theorem eye_at (i j : Fin 8) : eye (ix2 i j) = if i = j then 1 else 0 := by
  unfold eye
  pointwise
  have e : IntOp.cmpi CmpIPredicate.eq (IntOp.addi (BitVec.ofNat 32 i.val) 0#32) (BitVec.ofNat 32 j.val) = if i = j then 1#1 else 0#1 := by
    revert i j; decide
  rw [e]
  split
  · show (((1#1 : BitVec 1).toNat : ℝ) : EReal) = 1
    simp
  · show (((0#1 : BitVec 1).toNat : ℝ) : EReal) = 0
    simp

/-- Eight square matrices on the diagonal of a large one. -/
def blockDiag (w : FVec Ideal S8x64x64 .f32) : FVec Ideal S512x512 .bf16 :=
  truncf .bf16 (shapeCast S512x512 (mulf
    (broadcastInDim S8x64x8x64 ![0, 1, 2, 3] bcast_S8x1x8x1_S8x64x8x64_0_1_2_3 (broadcastInDim S8x1x8x1 ![0, 2] bcast_S8x8_S8x1x8x1_0_2 eye))
    (broadcastInDim S8x64x8x64 ![0, 1, 2, 3] bcast_S8x64x1x64_S8x64x8x64_0_1_2_3 (broadcastInDim S8x64x1x64 ![0, 1, 3] bcast_S8x64x64_S8x64x1x64_0_1_3 w)))
    shapeCasts_S8x64x8x64_S512x512) bitsLt_bf16_f32

theorem blockDiag_at (w : FVec Ideal S8x64x64 .f32) (i j : Fin 512) :
    blockDiag w (ix2 i j) = (if i.val / 64 = j.val / 64 then 1 else 0) * w (ix3 ⟨i.val / 64, by omega⟩ ⟨i.val % 64, by omega⟩ ⟨j.val % 64, by omega⟩) := by
  have e : blockDiag w (ix2 i j) = eye (ix2 ⟨i.val / 64, by omega⟩ ⟨j.val / 64, by omega⟩) * w (ix3 ⟨i.val / 64, by omega⟩ ⟨i.val % 64, by omega⟩ ⟨j.val % 64, by omega⟩) := by
    unfold blockDiag
    pointwise
  rw [e, eye_at]
  simp only [Fin.mk.injEq]

variable (m : (ℓ : Loc nD τ sig) → Buf (Elt Ideal) ℓ) (c : Dev nD)

theorem v9 : V m c main_v18 = blockDiag (m (c.tc.loc main_arg10)) := by
  unfold blockDiag eye V
  after_reads_simp
  rfl

theorem v11 : V m c main_v32 = blockDiag (m (c.tc.loc main_arg12)) := by
  unfold blockDiag eye V
  after_reads_simp
  rfl

theorem v0 (r : Fin 16384) (k : Fin 1024) : (V m c main_v0 : FVec Ideal S16384x1024 .f32) (ix2 r k) = (m (c.tc.loc main_arg0) : FVec Ideal S1x16384x1024 .f32) (ix3 0 r k) := by
  unfold V
  after_reads_simp
  pointwise
theorem v1 (k : Fin 1024) : (V m c main_v38 : FVec Ideal S1x1024 .f32) (ix2 0 k) = (m (c.tc.loc main_arg1) : FVec Ideal S1024 .f32) (ix1 k) := by
  unfold V
  after_reads_simp
  pointwise
theorem v8 (k : Fin 512) : (V m c main_v5 : FVec Ideal S1x512 .f32) (ix2 0 k) = (m (c.tc.loc main_arg9) : FVec Ideal S512 .f32) (ix1 k) := by
  unfold V
  after_reads_simp
  pointwise
theorem v10 (k : Fin 512) : (V m c main_v19 : FVec Ideal S1x512 .f32) (ix2 0 k) = (m (c.tc.loc main_arg11) : FVec Ideal S512 .f32) (ix1 k) := by
  unfold V
  after_reads_simp
  pointwise
theorem v12 (k : Fin 512) : (V m c main_v33 : FVec Ideal S1x512 .f32) (ix2 0 k) = (m (c.tc.loc main_arg13) : FVec Ideal S512 .f32) (ix1 k) := by
  unfold V
  after_reads_simp
  pointwise
theorem v13 (k : Fin 512) : (V m c main_v34 : FVec Ideal S1x512 .f32) (ix2 0 k) = (m (c.tc.loc main_arg14) : FVec Ideal S512 .f32) (ix1 k) := by
  unfold V
  after_reads_simp
  pointwise
theorem v15 (i : Fin 512) (j : Fin 1024) : (V m c main_v35 : FVec Ideal S512x1024 .bf16) (ix2 i j) = (m (c.tc.loc main_arg15) : FVec Ideal S512x1024 .f32) (ix2 i j) := by
  unfold V
  after_reads_simp
  pointwise
theorem v16 (i : Fin 512) (j : Fin 1024) : (V m c main_v36 : FVec Ideal S512x1024 .bf16) (ix2 i j) = (m (c.tc.loc main_arg16) : FVec Ideal S512x1024 .f32) (ix2 i j) := by
  unfold V
  after_reads_simp
  pointwise
theorem v17 (i : Fin 1024) (j : Fin 1024) : (V m c main_v37 : FVec Ideal S1024x1024 .bf16) (ix2 i j) = (m (c.tc.loc main_arg17) : FVec Ideal S1024x1024 .f32) (ix2 i j) := by
  unfold V
  after_reads_simp
  pointwise
/-- The attention gate's columns of the gates' weights, -/
theorem v14_nsa (k : Fin 1024) (j : Fin 512) : (V m c main_v4 : FVec Ideal S1024x3072 .bf16) (ix2 k ⟨j.val, by omega⟩)
    = (m (c.tc.loc main_arg7) : FVec Ideal S1024x4888 .f32) (ix2 k ⟨1280 + j.val, by omega⟩) := by
  unfold V
  after_reads_simp
  pointwise

/-- and the columns after them, which lie together in the input projection too: the recurrent gate's and the merge's. -/
theorem v14_rest (k : Fin 1024) (j : Fin 2560) : (V m c main_v4 : FVec Ideal S1024x3072 .bf16) (ix2 k ⟨512 + j.val, by omega⟩)
    = (m (c.tc.loc main_arg7) : FVec Ideal S1024x4888 .f32) (ix2 k ⟨2328 + j.val, by omega⟩) := by
  unfold V
  after_reads_simp
  pointwise

end Cert.Proof.KernelHost

end
-- ==== Proof.KernelBlocks.lean ====
/-
  The blocks the kernel's windows read at grid point `t`, entry by entry: the rows `512 t, …` of the row-tiled arrays, the
  columns `512 t, …` of the column-tiled ones, and the whole of each array that is not tiled.
-/
module

public import proofs.«01_k».proof.Proof.KernelHost

@[expose] public section

noncomputable section

open Idealize.ShloMosaic Idealize.ShloMosaic.TcCoe

namespace Cert.Proof.KernelBlocks

open Cert.KernelIdeal Cert.KernelIdeal.Gen

variable (m : (ℓ : Loc nD τ sig) → Buf (Elt Ideal) ℓ) (c : Dev nD) (t : Fin cfg0.N)

/-- The tiled windows' block indices at point `t`. -/
theorem idx_tiled : ∀ t : Fin cfg0.N, (win0_0.index t 0 = t.val ∧ win0_0.index t 1 = 0) ∧ (win0_2.index t 0 = 0 ∧ win0_2.index t 1 = t.val)
    ∧ (win0_3.index t 0 = 0 ∧ win0_3.index t 1 = t.val) ∧ (win0_4.index t 0 = 0 ∧ win0_4.index t 1 = t.val)
    ∧ (win0_5.index t 0 = 0 ∧ win0_5.index t 1 = t.val) ∧ (win0_6.index t 0 = t.val ∧ win0_6.index t 1 = 0) := by decide +kernel

/-- An index into an array whose coordinates are a block's offset and an index into the block. -/
theorem at_block {n₀ n₁ k₀ k₁ : ℕ} {a : Fin n₀} {b : Fin n₁} (f : (⟨2, ![n₀, n₁]⟩ : Shape).Idx) (h₀ : (f 0).val = k₀) (h₁ : (f 1).val = k₁)
    (ha : a.val = k₀) (hb : b.val = k₁) : f = ix2 a b := by
  funext x
  match x with
  | ⟨0, _⟩ => exact Fin.ext (h₀.trans ha.symm)
  | ⟨1, _⟩ => exact Fin.ext (h₁.trans hb.symm)

/-- A read of the array's own sizes at block index zero reads the array. -/
theorem whole (b : Ref sig .tc) {ix : Fin b.ty.shape.rank → ℕ} (h : ∀ a, ix a = 0) (inb : ∀ a, ix a * b.ty.shape.size a + b.ty.shape.size a ≤ b.ty.shape.size a)
    (f : b.ty.Contents (Elt Ideal)) :
    ((Memref.whole b).access (Rect.unit (fun a => ix a * b.ty.shape.size a) b.ty.shape.size inb) : View sig .tc _ _ _).read (Elt Ideal) f = f :=
  Memref.read_access_unit_zero (Elt Ideal) b (funext fun a => by rw [h a, Nat.zero_mul]) inb f

/-! The windows tiled by rows. -/

theorem b0 (r : Fin 512) (k : Fin 1024) (h : 512 * t.val + r.val < 16384) :
    (iblk m c 0 t : Vec Ideal S512x1024 .f32) (ix2 r k) = (V m c main_v0 : FVec Ideal S16384x1024 .f32) (ix2 ⟨512 * t.val + r.val, h⟩ k) := by
  unfold iblk
  rw [View.read_apply]
  exact congrArg (V m c main_v0) (at_block _ (k₀ := win0_0.index t 0 * 512 + 1 * r.val) (k₁ := win0_0.index t 1 * 1024 + 1 * k.val) rfl rfl
    (by rw [(idx_tiled t).1.1, Nat.one_mul, Nat.mul_comm t.val]) (by rw [(idx_tiled t).1.2, Nat.one_mul, Nat.zero_mul, Nat.zero_add]))
theorem b6 (r : Fin 512) (k : Fin 512) (h : 512 * t.val + r.val < 16384) :
    (iblk m c 6 t : Vec Ideal S512x512 .f32) (ix2 r k) = (V m c main_arg6 : FVec Ideal S16384x512 .f32) (ix2 ⟨512 * t.val + r.val, h⟩ k) := by
  unfold iblk
  rw [View.read_apply]
  exact congrArg (V m c main_arg6) (at_block _ (k₀ := win0_6.index t 0 * 512 + 1 * r.val) (k₁ := win0_6.index t 1 * 512 + 1 * k.val) rfl rfl
    (by rw [(idx_tiled t).2.2.2.2.2.1, Nat.one_mul, Nat.mul_comm t.val]) (by rw [(idx_tiled t).2.2.2.2.2.2, Nat.one_mul, Nat.zero_mul, Nat.zero_add]))

/-! The windows tiled by columns. -/

theorem b2 (k : Fin 512) (r : Fin 512) (h : 512 * t.val + r.val < 16384) :
    (iblk m c 2 t : Vec Ideal S512x512 .f32) (ix2 k r) = (V m c main_arg2 : FVec Ideal S512x16384 .f32) (ix2 k ⟨512 * t.val + r.val, h⟩) := by
  unfold iblk
  rw [View.read_apply]
  exact congrArg (V m c main_arg2) (at_block _ (k₀ := win0_2.index t 0 * 512 + 1 * k.val) (k₁ := win0_2.index t 1 * 512 + 1 * r.val) rfl rfl
    (by rw [(idx_tiled t).2.1.1, Nat.one_mul, Nat.zero_mul, Nat.zero_add]) (by rw [(idx_tiled t).2.1.2, Nat.one_mul, Nat.mul_comm t.val]))
theorem b3 (k : Fin 512) (r : Fin 512) (h : 512 * t.val + r.val < 16384) :
    (iblk m c 3 t : Vec Ideal S512x512 .f32) (ix2 k r) = (V m c main_arg3 : FVec Ideal S512x16384 .f32) (ix2 k ⟨512 * t.val + r.val, h⟩) := by
  unfold iblk
  rw [View.read_apply]
  exact congrArg (V m c main_arg3) (at_block _ (k₀ := win0_3.index t 0 * 512 + 1 * k.val) (k₁ := win0_3.index t 1 * 512 + 1 * r.val) rfl rfl
    (by rw [(idx_tiled t).2.2.1.1, Nat.one_mul, Nat.zero_mul, Nat.zero_add]) (by rw [(idx_tiled t).2.2.1.2, Nat.one_mul, Nat.mul_comm t.val]))
theorem b4 (k : Fin 512) (r : Fin 512) (h : 512 * t.val + r.val < 16384) :
    (iblk m c 4 t : Vec Ideal S512x512 .f32) (ix2 k r) = (V m c main_arg4 : FVec Ideal S512x16384 .f32) (ix2 k ⟨512 * t.val + r.val, h⟩) := by
  unfold iblk
  rw [View.read_apply]
  exact congrArg (V m c main_arg4) (at_block _ (k₀ := win0_4.index t 0 * 512 + 1 * k.val) (k₁ := win0_4.index t 1 * 512 + 1 * r.val) rfl rfl
    (by rw [(idx_tiled t).2.2.2.1.1, Nat.one_mul, Nat.zero_mul, Nat.zero_add]) (by rw [(idx_tiled t).2.2.2.1.2, Nat.one_mul, Nat.mul_comm t.val]))
theorem b5 (k : Fin 32) (r : Fin 512) (h : 512 * t.val + r.val < 16384) :
    (iblk m c 5 t : Vec Ideal S32x512 .f32) (ix2 k r) = (V m c main_arg5 : FVec Ideal S32x16384 .f32) (ix2 k ⟨512 * t.val + r.val, h⟩) := by
  unfold iblk
  rw [View.read_apply]
  exact congrArg (V m c main_arg5) (at_block _ (k₀ := win0_5.index t 0 * 32 + 1 * k.val) (k₁ := win0_5.index t 1 * 512 + 1 * r.val) rfl rfl
    (by rw [(idx_tiled t).2.2.2.2.1.1, Nat.one_mul, Nat.zero_mul, Nat.zero_add]) (by rw [(idx_tiled t).2.2.2.2.1.2, Nat.one_mul, Nat.mul_comm t.val]))

/-! The windows that are their whole arrays. -/

theorem b1 : (iblk m c 1 t : Vec Ideal S1x1024 .f32) = V m c main_v38 := whole main_v38 (ix := win0_1.index t) (fun a => by fin_cases a <;> rfl) _ _
theorem b7 : (iblk m c 7 t : Vec Ideal S4x512 .f32) = V m c main_arg8 := whole main_arg8 (ix := win0_7.index t) (fun a => by fin_cases a <;> rfl) _ _
theorem b8 : (iblk m c 8 t : Vec Ideal S1x512 .f32) = V m c main_v5 := whole main_v5 (ix := win0_8.index t) (fun a => by fin_cases a <;> rfl) _ _
theorem b9 : (iblk m c 9 t : Vec Ideal S512x512 .bf16) = V m c main_v18 := whole main_v18 (ix := win0_9.index t) (fun a => by fin_cases a <;> rfl) _ _
theorem b10 : (iblk m c 10 t : Vec Ideal S1x512 .f32) = V m c main_v19 := whole main_v19 (ix := win0_10.index t) (fun a => by fin_cases a <;> rfl) _ _
theorem b11 : (iblk m c 11 t : Vec Ideal S512x512 .bf16) = V m c main_v32 := whole main_v32 (ix := win0_11.index t) (fun a => by fin_cases a <;> rfl) _ _
theorem b12 : (iblk m c 12 t : Vec Ideal S1x512 .f32) = V m c main_v33 := whole main_v33 (ix := win0_12.index t) (fun a => by fin_cases a <;> rfl) _ _
theorem b13 : (iblk m c 13 t : Vec Ideal S1x512 .f32) = V m c main_v34 := whole main_v34 (ix := win0_13.index t) (fun a => by fin_cases a <;> rfl) _ _
theorem b14 : (iblk m c 14 t : Vec Ideal S1024x3072 .bf16) = V m c main_v4 := whole main_v4 (ix := win0_14.index t) (fun a => by fin_cases a <;> rfl) _ _
theorem b15 : (iblk m c 15 t : Vec Ideal S512x1024 .bf16) = V m c main_v35 := whole main_v35 (ix := win0_15.index t) (fun a => by fin_cases a <;> rfl) _ _
theorem b16 : (iblk m c 16 t : Vec Ideal S512x1024 .bf16) = V m c main_v36 := whole main_v36 (ix := win0_16.index t) (fun a => by fin_cases a <;> rfl) _ _
theorem b17 : (iblk m c 17 t : Vec Ideal S1024x1024 .bf16) = V m c main_v37 := whole main_v37 (ix := win0_17.index t) (fun a => by fin_cases a <;> rfl) _ _

end Cert.Proof.KernelBlocks

end
-- ==== Proof.KernelRun.lean ====
/-
  The kernel's result, row by row: by induction over the 32 grid points, what each point leaves in its block of the result is
  the layer's output for the block's rows, and what it carries on is the recurrence's state and the last eight input rows.
-/
module

public import proofs.«01_k».proof.Proof.BlockRow
public import proofs.«01_k».proof.Proof.BlockOut
public import proofs.«01_k».proof.Proof.KernelBlocks

@[expose] public section

noncomputable section

open Idealize.ShloMosaic Idealize.ShloMosaic.TcCoe

namespace Cert.Proof.KernelRun

open Cert.KernelIdeal Cert.KernelIdeal.Gen Cert.KernelIdeal.Value Cert.Proof.Block Cert.Proof.Spec

variable (m : (ℓ : Loc nD τ sig) → Buf (Elt Ideal) ℓ) (c : Dev nD)

/-- The recurrence's input, of the argument arrays. -/
def input (r : Fin 16384) (k : Fin 512) : EReal := (m (c.tc.loc main_arg6) : FVec Ideal S16384x512 .f32) (ix2 r k)

/-- The recurrence's parameters, of the argument arrays. -/
def params : Params where
  cw k j := (m (c.tc.loc main_arg8) : FVec Ideal S4x512 .f32) (ix2 k j)
  cb j := (m (c.tc.loc main_arg9) : FVec Ideal S512 .f32) (ix1 j)
  wa h i j := (m (c.tc.loc main_arg10) : FVec Ideal S8x64x64 .f32) (ix3 h i j)
  ba j := (m (c.tc.loc main_arg11) : FVec Ideal S512 .f32) (ix1 j)
  wx h i j := (m (c.tc.loc main_arg12) : FVec Ideal S8x64x64 .f32) (ix3 h i j)
  bx j := (m (c.tc.loc main_arg13) : FVec Ideal S512 .f32) (ix1 j)
  lam j := (m (c.tc.loc main_arg14) : FVec Ideal S512 .f32) (ix1 j)

/-- The result at a row and column: the layer's output for that row, the recurrence run up to it. -/
def value (r : Fin 16384) (j : Fin 1024) : EReal :=
  outRow (fun k => (m (c.tc.loc main_arg0) : FVec Ideal S1x16384x1024 .f32) (ix3 0 r k))
    (fun k => (m (c.tc.loc main_arg1) : FVec Ideal S1024 .f32) (ix1 k))
    (combined (fun k => (m (c.tc.loc main_arg5) : FVec Ideal S32x16384 .f32) (ix2 k r))
      (fun k => (m (c.tc.loc main_arg2) : FVec Ideal S512x16384 .f32) (ix2 k r))
      (fun k => (m (c.tc.loc main_arg3) : FVec Ideal S512x16384 .f32) (ix2 k r))
      (fun k => (m (c.tc.loc main_arg4) : FVec Ideal S512x16384 .f32) (ix2 k r)))
    (fun k => stateAt (input m c) (params m c) (r.val + 1) k)
    (fun k i => (m (c.tc.loc main_arg7) : FVec Ideal S1024x4888 .f32) (ix2 k ⟨1280 + i.val, by omega⟩))
    (fun k i => (m (c.tc.loc main_arg7) : FVec Ideal S1024x4888 .f32) (ix2 k ⟨2328 + i.val, by omega⟩))
    (fun k i => (m (c.tc.loc main_arg7) : FVec Ideal S1024x4888 .f32) (ix2 k ⟨2840 + i.val, by omega⟩))
    (fun k i => (m (c.tc.loc main_arg15) : FVec Ideal S512x1024 .f32) (ix2 k i))
    (fun k i => (m (c.tc.loc main_arg16) : FVec Ideal S512x1024 .f32) (ix2 k i))
    (fun k i => (m (c.tc.loc main_arg17) : FVec Ideal S1024x1024 .f32) (ix2 k i)) j

/-- What the blocks at point `t` hold, over any carried tail and state that hold what they should. -/
theorem holds (t : Fin cfg0.N) (ht : t.val < 32) (tail : Vec Ideal S8x512 .f32) (h : Vec Ideal S1x512 .f32)
    (htail : ∀ (q : Fin 8) (k : Fin 512), tail (ix2 q k) = rowBack (input m c) ⟨512 * t.val + q.val, by omega⟩ 8 k)
    (hstate : ∀ k : Fin 512, h (ix2 0 k) = stateAt (input m c) (params m c) (512 * t.val) k) :
    Holds (input m c) (params m c) t.val ht (iblk m c 6 t) (iblk m c 7 t) (iblk m c 8 t) (iblk m c 9 t) (iblk m c 10 t) (iblk m c 11 t)
      (iblk m c 12 t) (iblk m c 13 t) tail h where
  rows r k := by rw [KernelBlocks.b6 m c t r k (by omega), V_main_arg6]; rfl
  cw k j := by rw [KernelBlocks.b7, V_main_arg8]; rfl
  cb j := by rw [KernelBlocks.b8]; exact KernelHost.v8 m c j
  wa i j := by rw [KernelBlocks.b9, KernelHost.v9]; exact KernelHost.blockDiag_at _ i j
  ba j := by rw [KernelBlocks.b10]; exact KernelHost.v10 m c j
  wx i j := by rw [KernelBlocks.b11, KernelHost.v11]; exact KernelHost.blockDiag_at _ i j
  bx j := by rw [KernelBlocks.b12]; exact KernelHost.v12 m c j
  lam j := by rw [KernelBlocks.b13]; exact KernelHost.v13 m c j
  tail := htail
  state := hstate

set_option maxHeartbeats 2000000 in
/-- The block's output over the states of its rows is the layer's output for them. -/
theorem out_eq (t : Fin cfg0.N) (ht : t.val < 32) (h : FVec Ideal S512x512 .f32)
    (hh : ∀ r k : Fin 512, h (ix2 r k) = stateAt (input m c) (params m c) (512 * t.val + (r.val + 1)) k) (r : Fin 512) (j : Fin 1024) :
    outB (iblk m c 0 t) (iblk m c 1 t) (iblk m c 2 t) (iblk m c 3 t) (iblk m c 4 t) (iblk m c 5 t) h (iblk m c 14 t) (iblk m c 15 t)
      (iblk m c 16 t) (iblk m c 17 t) (ix2 r j) = value m c ⟨512 * t.val + r.val, by omega⟩ j := by
  have hr : 512 * t.val + r.val < 16384 := by omega
  rw [outB_at]
  unfold value
  congr 1
  · funext k
    rw [KernelBlocks.b0 m c t r k hr]
    exact KernelHost.v0 m c _ k
  · funext k
    rw [KernelBlocks.b1]
    exact KernelHost.v1 m c k
  · congr 1
    · funext k; rw [KernelBlocks.b5 m c t k r hr, V_main_arg5]
    · funext k; rw [KernelBlocks.b2 m c t k r hr, V_main_arg2]
    · funext k; rw [KernelBlocks.b3 m c t k r hr, V_main_arg3]
    · funext k; rw [KernelBlocks.b4 m c t k r hr, V_main_arg4]
  · funext k; exact hh r k
  · funext k i
    rw [KernelBlocks.b14]
    exact KernelHost.v14_nsa m c k i
  · funext k i
    rw [KernelBlocks.b14]
    exact KernelHost.v14_rest m c k ⟨i.val, by omega⟩
  · funext k i
    rw [KernelBlocks.b14]
    have e := KernelHost.v14_rest m c k ⟨512 + i.val, by omega⟩
    refine Eq.trans (congrArg (fun a => (V m c main_v4 : FVec Ideal S1024x3072 .bf16) (ix2 k a)) (Fin.ext ?_)) (e.trans ?_)
    · show 1024 + i.val = 512 + (512 + i.val); omega
    · exact congrArg (fun a => (m (c.tc.loc main_arg7) : FVec Ideal S1024x4888 .f32) (ix2 k a)) (Fin.ext (by show 2328 + (512 + i.val) = 2840 + i.val; omega))
  · funext k i
    rw [KernelBlocks.b15]
    exact KernelHost.v15 m c k i
  · funext k i
    rw [KernelBlocks.b16]
    exact KernelHost.v16 m c k i
  · funext k i
    rw [KernelBlocks.b17]
    exact KernelHost.v17 m c k i

/-- What a point leaves: the layer's output for its rows, the recurrence's state after them, and the last eight input rows. -/
structure Leaves (n : ℕ) (hn : n < 32) (a : Vec Ideal S512x1024 .f32 × Vec Ideal S8x512 .f32 × Vec Ideal S1x512 .f32) : Prop where
  out : ∀ (r : Fin 512) (j : Fin 1024), a.1 (ix2 r j) = value m c ⟨512 * n + r.val, by omega⟩ j
  tail : ∀ (_ : n + 1 < 32) (q : Fin 8) (k : Fin 512), a.2.1 (ix2 q k) = rowBack (input m c) ⟨512 * (n + 1) + q.val, by omega⟩ 8 k
  state : ∀ k : Fin 512, a.2.2 (ix2 0 k) = stateAt (input m c) (params m c) (512 * (n + 1)) k

/-- The first point leaves it. -/
theorem leaves_first (t : Fin cfg0.N) (h0 : t.val = 0) (acc : Vec Ideal S512x1024 .f32 × Vec Ideal S8x512 .f32 × Vec Ideal S1x512 .f32) :
    Leaves m c t.val (by omega) (stAt0 m c t.val t.isLt acc) := by
  have ht : t.val < 32 := by omega
  have H := holds m c t ht (k0_pay2 (F := Ideal)) (k0_pay3 (F := Ideal))
    (fun q k => by
      rw [(zeros_at q k).1]
      unfold rowBack
      rw [if_neg (show ¬ 8 ≤ 512 * t.val + q.val by omega)])
    (fun k => by rw [(zeros_at 0 k).2, h0]; rfl)
  rw [stAt0_A m c t acc (by omega), out_A, tail_A, last_A]
  exact ⟨out_eq m c t ht _ (states_eq H), tail_eq H, last_eq H⟩

/-- A later point leaves it when the point before has. -/
theorem leaves_next (t : Fin cfg0.N) (n : ℕ) (h0 : t.val = n + 1) (hn : n + 1 < 32) (acc : Vec Ideal S512x1024 .f32 × Vec Ideal S8x512 .f32 × Vec Ideal S1x512 .f32)
    (L : Leaves m c n (by omega) acc) : Leaves m c t.val (by omega) (stAt0 m c t.val t.isLt acc) := by
  have ht : t.val < 32 := by omega
  have H := holds m c t ht acc.2.1 acc.2.2
    (fun q k => (L.tail hn q k).trans (congrArg (fun i => rowBack (input m c) i 8 k) (Fin.ext (by show 512 * (n + 1) + q.val = 512 * t.val + q.val; omega))))
    (fun k => by rw [L.state, h0])
  rw [stAt0_B m c t acc (by omega), out_B, tail_B, last_B]
  exact ⟨out_eq m c t ht _ (states_eq H), tail_eq H, last_eq H⟩

/-- Every point leaves it. -/
theorem leaves : ∀ (n : ℕ) (hn : n < cfg0.N) (hn' : n < 32), Leaves m c n hn' (outsAt0 m c n hn)
  | 0, hn, _ => by
    rw [outsAt0_zero]
    exact leaves_first m c ⟨0, hn⟩ rfl junk0
  | n + 1, hn, hn' => by
    rw [outsAt0_succ]
    exact leaves_next m c ⟨n + 1, hn⟩ n rfl hn' _ (leaves n (Nat.lt_of_succ_lt hn) (by omega))

/-- The result's array ends holding the layer's output. -/
theorem result_at (r : Fin 16384) (j : Fin 1024) : (G18 m c : FVec Ideal S16384x1024 .f32) (ix2 r j) = value m c r j := by
  have e : pt18Of (ix2 r j) = r.val / 512 := by show 1 * (r.val / 512 - 0) + 1 * (j.val / 1024 - 0) = r.val / 512; omega
  have hp : pt18Of (ix2 r j) < 32 := by rw [e]; omega
  have hN : pt18Of (ix2 r j) < cfg0.N := hp.trans_eq N_0.symm
  have l : loc18Of (ix2 r j) = ix2 ⟨r.val % 512, by omega⟩ j := by
    funext a
    match a with
    | ⟨0, _⟩ => rfl
    | ⟨1, _⟩ => exact Fin.ext (Nat.mod_eq_of_lt j.isLt)
  unfold G18
  rw [dif_pos hN, ← outsAt0_sweep m c _ hN, l]
  refine ((leaves m c _ hN hp).out ⟨r.val % 512, by omega⟩ j).trans (congrArg (fun i => value m c i j) (Fin.ext ?_))
  show 512 * pt18Of (ix2 r j) + r.val % 512 = r.val
  rw [e]; omega

end Cert.Proof.KernelRun

end
-- ==== Proof.RefIter.lean ====
/-
  The reference's loop over the 16384 rows: before trip `n` the carried state of channel `c` is the recurrence run over the
  first `n` rows, and the rows of states written so far are its earlier states.
-/
module

public import proofs.«01_k».proof.Proof.Scan
public import proofs.«01_k».proof.Proof.Gen.ReferenceIdeal.Run
public import proofs.«01_k».proof.Proof.Gen.ReferenceIdeal.Step
public import Idealize.ShloMosaic.Lib.WordCmp
public import Idealize.ShloMosaic.Lib.Pointwise

@[expose] public section

noncomputable section

open Idealize.ShloMosaic Idealize.ShloMosaic.TcCoe Idealize.SL.Sem Idealize.ShloMosaic.StableHlo

namespace Cert.Proof.RefIter

open Idealize.ShloMosaic.WordCmp
open Cert.ReferenceIdeal Cert.ReferenceIdeal.Gen Cert.ReferenceIdeal.Value
open Cert.Proof.Scan

/-- Channel `c` of a tall array as a sequence of rows, zero past its end. -/
def tcol (v : FVec Ideal S16384x512 .f32) (c : Fin 512) (n : ℕ) : EReal := if h : n < 16384 then v (ix2 ⟨n, h⟩ c) else 0

/-- What the loop's buffers hold before trip `n`, of the recurrence's coefficients `a` and `b`. -/
structure Inv (a b : FVec Ideal S16384x512 .f32) (n : ℕ) (V : Valuation τ sig (Elt Ideal)) : Prop where
  f_0 : V (Proc.devRef .tc main_v78_0) = a
  f_1 : V (Proc.devRef .tc main_v78_1) = b
  n_2 : V (Proc.devRef .tc main_v78_2) = constantI S_ 32 (BitVec.ofNat 32 n)
  h_3 : ∀ c : Fin 512, (V (Proc.devRef .tc main_v78_3) : FVec Ideal S512 .f32) (ix1 c) = seg (tcol a c) (tcol b c) 0 n 0
  y_4 : ∀ (r : Fin 16384) (c : Fin 512), r.val < n →
    (V (Proc.devRef .tc main_v78_4) : FVec Ideal S16384x512 .f32) (ix2 r c) = seg (tcol a c) (tcol b c) 0 (r.val + 1) 0

theorem toInt_word (n : ℕ) (h : n < 16384) : (BitVec.ofNat 32 n).toInt = (n : ℤ) := by
  rw [BitVec.toInt_eq_toNat_of_lt] <;> simp <;> omega

/-- Row `n` of a tall array as a one-row slice is inside it. -/
theorem slices_row (n : ℕ) (h : n < 16384) : S16384x512.Slices ![n, 0] S1x512 := by
  refine ⟨rfl, fun a => ?_⟩
  fin_cases a
  · show n + 1 ≤ 16384; omega
  · show 0 + 512 ≤ 512; omega

/-- The loop's start words name row `n`. -/
theorem start_word (n : ℕ) (h : n < 16384) (k : Fin 2) :
    (((![(constantI S_ 32 (BitVec.ofNat 32 n)), constantI S_ 32 0#32] : Fin 2 → (⟨S_, .i32⟩ : BufTy).Contents (Elt Ideal))) k (Shape.Idx.first h_S_)).toInt
      = ((![n, 0] k : ℕ) : ℤ) := by
  fin_cases k
  · exact toInt_word n h
  · rfl

/-- The row a trip loads, at a channel. -/
theorem row_at (v : FVec Ideal S16384x512 .f32) (n : ℕ) (h : n < 16384) (c : Fin 512) :
    shapeCast S512 (Host.dynamicSlice S1x512 v (fun k => (((![(constantI S_ 32 (BitVec.ofNat 32 n)), constantI S_ 32 0#32] : Fin 2 → (⟨S_, .i32⟩ : BufTy).Contents (Elt Ideal))) k (Shape.Idx.first h_S_)).toInt) sliceFits_S16384x512_S1x512) shapeCasts_S1x512_S512 (ix1 c)
      = tcol v c n := by
  rw [dynamicSlice_eq_extract S1x512 v _ _ ![n, 0] (slices_row n h) (start_word n h)]
  unfold tcol
  rw [dif_pos h]
  pointwise

/-- The state after a trip, at a channel. -/
theorem h_next {a b : FVec Ideal S16384x512 .f32} {n : ℕ} {V : Valuation τ sig (Elt Ideal)} (h : Inv a b n V) (hn : n < 16384) (c : Fin 512) :
    (res_main_while0b_v144 V : FVec Ideal S512 .f32) (ix1 c) = seg (tcol a c) (tcol b c) 0 (n + 1) 0 := by
  unfold res_main_while0b_v144
  rw [h.f_0, h.f_1, h.n_2]
  refine (congrArg₂ (· + ·) (congrArg₂ (· * ·) (row_at a n hn c) (h.h_3 c)) (row_at b n hn c)).trans ?_
  show _ = tcol a c (0 + n) * seg (tcol a c) (tcol b c) 0 n 0 + tcol b c (0 + n)
  rw [Nat.zero_add]

theorem inv_step {a b : FVec Ideal S16384x512 .f32} {n : ℕ} {V : Valuation τ sig (Elt Ideal)} (h : Inv a b n V) (hn : n < 16384) :
    Inv a b (n + 1) (STEP V) where
  f_0 := (STEP_main_v78_0 V).trans h.f_0
  f_1 := (STEP_main_v78_1 V).trans h.f_1
  n_2 := by
    rw [STEP_main_v78_2]; unfold step_main_v78_2; rw [h.n_2]; funext i
    show BitVec.ofNat 32 n + 1#32 = BitVec.ofNat 32 (n + 1)
    simp only [BitVec.ofNat_add]
  h_3 := fun c => by
    rw [STEP_main_v78_3]; exact h_next h hn c
  y_4 := fun r c hr => by
    rw [STEP_main_v78_4]; unfold step_main_v78_4; rw [h.n_2]
    show Host.dynamicUpdateSlice _ _ _ _ (ix2 r c) = _
    rw [dynamicUpdateSlice_eq_update _ _ _ _ ![n, 0] (slices_row n hn) (start_word n hn)]
    by_cases e : r.val = n
    · have := h_next h hn c
      subst e
      rw [← this]
      pointwise
      rw [dif_pos ⟨le_refl _, Nat.lt_succ_self _⟩]
    · have := h.y_4 r c (by omega)
      rw [← this]
      pointwise
      rw [dif_neg (by omega)]

end Cert.Proof.RefIter

end
-- ==== Proof.RefRun.lean ====
/-
  The reference's loop from its entry to its end: what holds before trip `n` for every `n` up to the last, and with it the
  program's result in terms of the recurrence.
-/
module

public import proofs.«01_k».proof.Proof.RefIter

@[expose] public section

noncomputable section

open Idealize.ShloMosaic Idealize.ShloMosaic.TcCoe Idealize.SL.Sem Idealize.ShloMosaic.StableHlo

namespace Cert.Proof.RefIter

open Cert.ReferenceIdeal Cert.ReferenceIdeal.Gen Cert.ReferenceIdeal.Value
open Cert.Proof.Scan

variable (m : (ℓ : Loc nD τ sig) → Buf (Elt Ideal) ℓ) (c : Dev nD)

/-- The decays the loop reads, of the starting memory. -/
abbrev decays : FVec Ideal S16384x512 .f32 :=
  Step.A_main_v75 (m (c.tc.loc main_arg6)) (m (c.tc.loc main_arg8)) (m (c.tc.loc main_arg9)) (m (c.tc.loc main_arg10))
    (m (c.tc.loc main_arg11)) (m (c.tc.loc main_arg12)) (m (c.tc.loc main_arg13)) (m (c.tc.loc main_arg14))

/-- The drives the loop reads, of the starting memory. -/
abbrev drives : FVec Ideal S16384x512 .f32 :=
  Step.A_main_v76 (m (c.tc.loc main_arg6)) (m (c.tc.loc main_arg8)) (m (c.tc.loc main_arg9)) (m (c.tc.loc main_arg10))
    (m (c.tc.loc main_arg11)) (m (c.tc.loc main_arg12)) (m (c.tc.loc main_arg13)) (m (c.tc.loc main_arg14))

/-- The loop's first state is zero. -/
theorem state_zero (x : Fin 512) : (Step.K_main_v74 (F := Ideal) : FVec Ideal S512 .f32) (ix1 x) = 0 := by
  unfold Step.K_main_v74 Step.K_main_cst_6
  pointwise

set_option maxRecDepth 65536 in
set_option maxHeartbeats 500000 in
/-- What holds before the first trip. -/
theorem inv_entry : Inv (decays m c) (drives m c) 0 (entryContents preI m c) where
  f_0 := by (simp only [entryContents, afterL_cons, afterL_nil]; after_reads_simp) <;> rfl
  f_1 := by (simp only [entryContents, afterL_cons, afterL_nil]; after_reads_simp) <;> rfl
  n_2 := by (simp only [entryContents, afterL_cons, afterL_nil]; after_reads_simp) <;> rfl
  h_3 := fun x => by
    have e : entryContents preI m c (Proc.devRef .tc main_v78_3) = Step.K_main_v74 (F := Ideal) := by
      (simp only [entryContents, afterL_cons, afterL_nil]; after_reads_simp) <;> rfl
    rw [e]
    exact state_zero x
  y_4 := fun r _ hr => absurd hr (Nat.not_lt_zero _)

/-- What holds before trip `n`. -/
theorem inv_iter : ∀ n ≤ 16384, Inv (decays m c) (drives m c) n (STEP^[n] (entryContents preI m c))
  | 0, _ => inv_entry m c
  | n + 1, hn => by
    rw [Function.iterate_succ_apply']
    exact inv_step (inv_iter n (by omega)) (by omega)

/-- The rows of states written before trip `n`. -/
def states (n : ℕ) : FVec Ideal S16384x512 .f32 := STEP^[n] (entryContents preI m c) (Proc.devRef .tc main_v78_4)

theorem states_at {n : ℕ} (hn : n ≤ 16384) (r : Fin 16384) (hr : r.val < n) (x : Fin 512) :
    states m c n (ix2 r x) = seg (tcol (decays m c) x) (tcol (drives m c) x) 0 (r.val + 1) 0 :=
  (inv_iter m c n hn).y_4 r x hr

/-- The result as a function of the rows of states and the arguments. -/
abbrev result (y : FVec Ideal S16384x512 .f32) : FVec Ideal S16384x1024 .f32 :=
  Step.R_main_v140 ⟨Step.K_main_v74, y, decays m c, drives m c⟩
    (m (c.tc.loc main_arg0)) (m (c.tc.loc main_arg1)) (m (c.tc.loc main_arg2)) (m (c.tc.loc main_arg3)) (m (c.tc.loc main_arg4))
    (m (c.tc.loc main_arg5)) (m (c.tc.loc main_arg7)) (m (c.tc.loc main_arg15)) (m (c.tc.loc main_arg16)) (m (c.tc.loc main_arg17))

set_option maxRecDepth 65536 in
/-- The program's result over any contents of the buffers it reads. -/
theorem out_of (V : Valuation τ sig (Elt Ideal)) (s : Step.State Ideal) (hs : V (Proc.devRef .tc main_v78_4) = s.main_v78_4) :
    out_main_v140 V = Step.R_main_v140 s (V (Proc.devRef .tc main_arg0)) (V (Proc.devRef .tc main_arg1)) (V (Proc.devRef .tc main_arg2))
      (V (Proc.devRef .tc main_arg3)) (V (Proc.devRef .tc main_arg4)) (V (Proc.devRef .tc main_arg5)) (V (Proc.devRef .tc main_arg7))
      (V (Proc.devRef .tc main_arg15)) (V (Proc.devRef .tc main_arg16)) (V (Proc.devRef .tc main_arg17)) := by
  unfold out_main_v140 Step.R_main_v140
  rw [hs]
  rfl

/-- The program's result is that function of the loop's states. -/
theorem out_eq (n : ℕ) : out_main_v140 (STEP^[n] (entryContents preI m c)) = result m c (states m c n) := by
  refine (out_of _ ⟨Step.K_main_v74, states m c n, decays m c, drives m c⟩ rfl).trans ?_
  unfold result
  rw [iter_main_arg0 m c, iter_main_arg1 m c, iter_main_arg2 m c, iter_main_arg3 m c, iter_main_arg4 m c, iter_main_arg5 m c,
    iter_main_arg7 m c, iter_main_arg15 m c, iter_main_arg16 m c, iter_main_arg17 m c]

end Cert.Proof.RefIter

end
-- ==== Proof.RefComb.lean ====
/-
  The reference's weighted sum of the three attention outputs, read at an index.
-/
module

public import proofs.«01_k».proof.Proof.RefRun
public import proofs.«01_k».proof.Proof.Spec

@[expose] public section

noncomputable section

open Idealize.ShloMosaic Idealize.ShloMosaic.TcCoe

namespace Cert.Proof.RefRead

open Cert.ReferenceIdeal Cert.ReferenceIdeal.Gen
open Cert.Proof.Spec

variable (o₁ o₂ o₃ : FVec Ideal S512x16384 .f32) (b : FVec Ideal S32x16384 .f32)

/-- The three outputs, one after the other. -/
def catR : FVec Ideal S3x512x16384 .f32 :=
  concatenate S3x512x16384 0
          [⟨S1x512x16384, ((broadcastInDim S1x512x16384 ![1, 2] bcast_S512x16384_S1x512x16384_1_2 o₁) : (⟨S1x512x16384, .f32⟩ : BufTy).Contents (Elt Ideal))⟩,
           ⟨S1x512x16384, ((broadcastInDim S1x512x16384 ![1, 2] bcast_S512x16384_S1x512x16384_1_2 o₂) : (⟨S1x512x16384, .f32⟩ : BufTy).Contents (Elt Ideal))⟩,
           ⟨S1x512x16384, ((broadcastInDim S1x512x16384 ![1, 2] bcast_S512x16384_S1x512x16384_1_2 o₃) : (⟨S1x512x16384, .f32⟩ : BufTy).Contents (Elt Ideal))⟩]
          concatenates_S1x512x16384_S1x512x16384_S1x512x16384_S3x512x16384_d0

theorem cat_at (i : Fin 3) (c : Fin 512) (r : Fin 16384) : catR o₁ o₂ o₃ (ix3 i c r) = ![o₁ (ix2 c r), o₂ (ix2 c r), o₃ (ix2 c r)] i := by
  unfold catR
  fin_cases i
  all_goals
    pointwise

/-- The outputs by row, output, head and channel of the head. -/
def byHead (v : FVec Ideal S3x512x16384 .f32) : FVec Ideal S16384x3x8x64 .f32 :=
  transpose S16384x3x8x64 [3, 0, 1, 2] (shapeCast _ v shapeCasts_S3x512x16384_S3x8x64x16384) transposes_S3x8x64x16384_S16384x3x8x64_3_0_1_2

theorem byHead_at (v : FVec Ideal S3x512x16384 .f32) (r : Fin 16384) (i : Fin 3) (h : Fin 8) (q : Fin 64) :
    byHead v (ix4 r i h q) = v (ix3 i ⟨h.val * 64 + q.val, by omega⟩ r) := by
  unfold byHead
  pointwise

/-- The branch weights by row, output and head. -/
def weights : FVec Ideal S1x16384x3x8x1 .f32 :=
  shapeCast _ (transpose S16384x24 [1, 0] (extractStridedSlice S24x16384 ![0, 0] b slices_S32x16384_S24x16384_0_0) transposes_S24x16384_S16384x24_1_0)
    shapeCasts_S16384x24_S1x16384x3x8x1

theorem weights_at (r : Fin 16384) (i : Fin 3) (h : Fin 8) : weights b (ix5 0 r i h 0) = b (ix2 ⟨i.val * 8 + h.val, by omega⟩ r) := by
  unfold weights
  pointwise

/-- The weighted sum over the three outputs, as rows of channels. -/
def summed (v : FVec Ideal S16384x3x8x64 .f32) (wt : FVec Ideal S1x16384x3x8x1 .f32) : FVec Ideal S1x16384x512 .f32 :=
  shapeCast _ (Host.reduceAdd (mulf
    (broadcastInDim S1x16384x3x8x64 ![0, 1, 2, 3, 4] bcast_S1x16384x3x8x1_S1x16384x3x8x64_0_1_2_3_4 wt)
    (broadcastInDim S1x16384x3x8x64 ![1, 2, 3, 4] bcast_S16384x3x8x64_S1x16384x3x8x64_1_2_3_4 v))
    (constant S_ .f32 0x00000000#32) reducesTo_S1x16384x3x8x64_S1x16384x8x64_d2 h_S_) shapeCasts_S1x16384x8x64_S1x16384x512

theorem summed_at (v : FVec Ideal S16384x3x8x64 .f32) (wt : FVec Ideal S1x16384x3x8x1 .f32) (r : Fin 16384) (c : Fin 512) :
    summed v wt (ix3 0 r c) = ∑ i : Fin 3, wt (ix5 0 r i ⟨c.val / 64, by omega⟩ 0) * v (ix4 r i ⟨c.val / 64, by omega⟩ ⟨c.val % 64, by omega⟩) := by
  unfold summed
  pointwise

/-- The three attention outputs combined. -/
def combR : FVec Ideal S1x16384x512 .f32 := summed (byHead (catR o₁ o₂ o₃)) (weights b)

/-- At row `r` and channel `c` they are the three outputs weighted by the head's branch weights. -/
theorem comb_ref (r : Fin 16384) (c : Fin 512) :
    combR o₁ o₂ o₃ b (ix3 0 r c)
      = combined (fun k => b (ix2 k r)) (fun c => o₁ (ix2 c r)) (fun c => o₂ (ix2 c r)) (fun c => o₃ (ix2 c r)) c := by
  have hc : (⟨c.val / 64 * 64 + c.val % 64, by omega⟩ : Fin 512) = c := Fin.ext (Nat.div_add_mod' c.val 64)
  unfold combR combined
  rw [summed_at, Fin.sum_univ_three]
  simp only [weights_at, byHead_at, cat_at, hc]
  have e0 : (⟨(0 : Fin 3).val * 8 + c.val / 64, by show 0 * 8 + c.val / 64 < 32; omega⟩ : Fin 32) = ⟨c.val / 64, by omega⟩ :=
    Fin.ext (by show 0 * 8 + c.val / 64 = c.val / 64; omega)
  simp only [e0]
  rfl

end Cert.Proof.RefRead

end
-- ==== Proof.RefRead.lean ====
/-
  The reference read at an index: the convolution, the gates, the decays and drives its loop reads, and the result over the
  loop's states.
-/
module

public import proofs.«01_k».proof.Proof.RefRun
public import proofs.«01_k».proof.Proof.RefComb

@[expose] public section

noncomputable section

open Idealize.ShloMosaic Idealize.ShloMosaic.TcCoe

namespace Cert.Proof.RefRead

open Cert.ReferenceIdeal Cert.ReferenceIdeal.Gen Cert.ReferenceIdeal.Step
open Cert.Proof.Spec Cert.Proof.Scalars Cert.Proof.Scan

section Recurrence

variable (u : FVec Ideal S16384x512 .f32) (w : FVec Ideal S4x512 .f32) (b : FVec Ideal S512 .f32) (wa : FVec Ideal S8x64x64 .f32)
  (ba : FVec Ideal S512 .f32) (wx : FVec Ideal S8x64x64 .f32) (bx : FVec Ideal S512 .f32) (lam : FVec Ideal S512 .f32)

/-- The recurrence's parameters of the argument arrays. -/
def params : Params where
  cw k c := w (ix2 k c)
  cb c := b (ix1 c)
  wa h i j := wa (ix3 h i j)
  ba c := ba (ix1 c)
  wx h i j := wx (ix3 h i j)
  bx c := bx (ix1 c)
  lam c := lam (ix1 c)

theorem back_pad (r : Fin 16384) (c : Fin 512) (k j : ℕ) (hj : j + k = 3) :
    (if h : 3 ≤ j + r.val ∧ j + r.val - 3 < 16384 then u (ix2 ⟨j + r.val - 3, h.2⟩ c) else 0) = rowBack (fun r c => u (ix2 r c)) r k c := by
  unfold rowBack
  by_cases h : k ≤ r.val
  · rw [if_pos h, dif_pos ⟨by omega, by omega⟩]
    exact congrArg (fun i => u (ix2 i c)) (Fin.ext (by show j + r.val - 3 = r.val - k; omega))
  · rw [if_neg h, dif_neg (fun e => h (by omega))]

theorem sitofp_zero : (FloatOps.sitofp FTy.f32 (0#32) : Ideal .f32) = 0 := by
  show ((((0#32 : BitVec 32).toInt : ℝ)) : EReal) = 0
  simp

/-- The convolution. -/
theorem conv_ref (r : Fin 16384) (c : Fin 512) :
    A_main_v33 (F := Ideal) u w b wa ba wx bx lam (ix3 0 r c) = conv (fun r c => u (ix2 r c)) (fun k c => w (ix2 k c)) (fun c => b (ix1 c)) r c := by
  unfold conv
  unfold A_main_v33 A_main_v32 A_main_v31 A_main_v30 A_main_v29 A_main_v28 A_main_v27 A_main_v26 A_main_v25 A_main_v24 A_main_v23 A_main_v22
    A_main_v21 A_main_v20 A_main_v19 A_main_v18 A_main_v17 A_main_v16 A_main_v15 A_main_v14 A_main_v13 A_main_v12 A_main_v11 A_main_v10
    A_main_v9 A_main_v7 A_main_v6 A_main_v5 A_main_v4 A_main_v3 A_main_v2 A_main_v1 A_main_v0 K_main_v8 K_main_cst K_main_call0_v0 K_main_c
  pointwise
  rw [sitofp_zero]
  refine congrArg (b (ix1 c) + ·) (congrArg (· + u (ix2 r c) * w (ix2 3 c)) ?_)
  refine congrArg₂ (· + ·) (congrArg₂ (· + ·) (congrArg (· * w (ix2 0 c)) ?_) (congrArg (· * w (ix2 1 c)) ?_)) (congrArg (· * w (ix2 2 c)) ?_)
  · rw [← back_pad u r c 3 0 rfl]; simp only [Nat.zero_add]
  · exact back_pad u r c 2 1 rfl
  · exact back_pad u r c 1 2 rfl

/-- The first gate's argument. -/
theorem gate_a (r : Fin 16384) (c : Fin 512) :
    A_main_v40 (F := Ideal) u w b wa ba wx bx lam (ix3 0 r c)
      = gate (conv (fun r c => u (ix2 r c)) (fun k c => w (ix2 k c)) (fun c => b (ix1 c)) r) (fun h i j => wa (ix3 h i j)) (fun c => ba (ix1 c)) c := by
  unfold gate
  simp only [← conv_ref u w b wa ba wx bx lam]
  unfold A_main_v40 A_main_v39 A_main_v38 A_main_v37 A_main_v36 A_main_v35 A_main_v34
  pointwise

/-- The second gate's argument. -/
theorem gate_x (r : Fin 16384) (c : Fin 512) :
    A_main_v52 (F := Ideal) u w b wa ba wx bx lam (ix3 0 r c)
      = gate (conv (fun r c => u (ix2 r c)) (fun k c => w (ix2 k c)) (fun c => b (ix1 c)) r) (fun h i j => wx (ix3 h i j)) (fun c => bx (ix1 c)) c := by
  unfold gate
  simp only [← conv_ref u w b wa ba wx bx lam]
  unfold A_main_v52 A_main_v51 A_main_v50 A_main_v49 A_main_v48 A_main_v47 A_main_v34
  pointwise

/-- The reference's softplus of the negated parameter. -/
theorem softplus_ref (c : Fin 512) : A_main_v62 (F := Ideal) u w b wa ba wx bx lam (ix1 c) = spK (lam (ix1 c)) := by
  unfold A_main_v62 A_main_call1_v11 A_main_call1_v10 A_main_call1_v9 A_main_call1_v8 A_main_call1_v7 A_main_call1_v6 A_main_call1_v4
    A_main_call1_v3 A_main_call1_v1 A_main_v61 K_main_call1_v5 K_main_call1_v2 K_main_call1_v0 K_main_call1_cst
  pointwise
  rw [if_neg (fun h => h rfl)]
  unfold spK
  rw [zero_sub, zero_sub]
  rfl

/-- The decay's exponent. -/
theorem exponent_ref (r : Fin 16384) (c : Fin 512) :
    A_main_v65 (F := Ideal) u w b wa ba wx bx lam (ix3 0 r c)
      = Ideal.ofBits .f32 0xC1000000#32 * Ideal.logistic (gate (conv (fun r c => u (ix2 r c)) (fun k c => w (ix2 k c)) (fun c => b (ix1 c)) r) (fun h i j => wa (ix3 h i j)) (fun c => ba (ix1 c)) c)
        * spK (lam (ix1 c)) := by
  rw [← gate_a u w b wa ba wx bx lam, ← softplus_ref u w b wa ba wx bx lam]
  unfold A_main_v65 A_main_v64 A_main_v63 A_main_v60 A_main_v46 A_main_v44 A_main_v42 A_main_v41 K_main_v59 K_main_cst_4 K_main_v45
    K_main_v43 K_main_cst_1 K_main_cst_0
  pointwise
  rfl

/-- The decays the loop reads. -/
theorem decay_ref (r : Fin 16384) (c : Fin 512) :
    A_main_v75 (F := Ideal) u w b wa ba wx bx lam (ix2 r c) = decayAt (fun r c => u (ix2 r c)) (params w b wa ba wx bx lam) r c := by
  refine Eq.trans ?_ (congrArg Ideal.exp (exponent_ref u w b wa ba wx bx lam r c))
  unfold A_main_v75 A_main_v66
  pointwise

/-- The drives the loop reads. -/
theorem drive_ref (r : Fin 16384) (c : Fin 512) :
    A_main_v76 (F := Ideal) u w b wa ba wx bx lam (ix2 r c) = driveAt (fun r c => u (ix2 r c)) (params w b wa ba wx bx lam) r c := by
  have e : A_main_v76 (F := Ideal) u w b wa ba wx bx lam (ix2 r c)
      = Ideal.sqrt (-(Ideal.exp (Ideal.ofBits .f32 0x40000000#32 * A_main_v65 (F := Ideal) u w b wa ba wx bx lam (ix3 0 r c)) - 1))
        * (Ideal.logistic (A_main_v52 (F := Ideal) u w b wa ba wx bx lam (ix3 0 r c)) * A_main_v33 (F := Ideal) u w b wa ba wx bx lam (ix3 0 r c)) := by
    unfold A_main_v76 A_main_v73 A_main_v72 A_main_v71 A_main_v70 A_main_v69 A_main_v68 A_main_v58 A_main_v56 A_main_v54 A_main_v53
      K_main_v67 K_main_cst_5 K_main_v55 K_main_cst_2 K_main_v57 K_main_cst_3
    pointwise
    rfl
  rw [e, ← scale_eq, exponent_ref, gate_x, conv_ref]
  rfl

end Recurrence

section Result

/-- The normalised rows, as the reference makes them. -/
def normR (x : FVec Ideal S1x16384x1024 .f32) (g : FVec Ideal S1024 .f32) : FVec Ideal S1x16384x1024 .f32 :=
  mulf (mulf x (broadcastInDim S1x16384x1024 ![0, 1, 2] bcast_S1x16384x1_S1x16384x1024_0_1_2
    (Host.rsqrt (addf (Host.divf (broadcastInDim S1x16384x1 ![0, 1] bcast_S1x16384_S1x16384x1_0_1
        (Host.reduceAdd (mulf x x) (constant S_ .f32 0x00000000#32) reducesTo_S1x16384x1024_S1x16384_d2 h_S_))
      (broadcastInDim S1x16384x1 ![] bcast_S_S1x16384x1 (constant S_ .f32 0x44800000#32)))
      (broadcastInDim S1x16384x1 ![] bcast_S_S1x16384x1 (constant S_ .f32 0x358637BD#32))))))
    (broadcastInDim S1x16384x1024 ![0, 1, 2] bcast_S1x1x1024_S1x16384x1024_0_1_2 (broadcastInDim S1x1x1024 ![2] bcast_S1024_S1x1x1024_2 g))

/-- The input projection. -/
def projR (x : FVec Ideal S1x16384x1024 .f32) (g : FVec Ideal S1024 .f32) (w : FVec Ideal S1024x4888 .f32) : FVec Ideal S1x16384x4888 .f32 :=
  Host.dotGeneral dot_S1x16384x1024_S1024x4888_S1x16384x4888_2_0_01_1_n_n none (normR x g) w

/-- Rows times the silu of their gates, projected. -/
def gatedR (o p : FVec Ideal S1x16384x512 .f32) (w : FVec Ideal S512x1024 .f32) : FVec Ideal S1x16384x1024 .f32 :=
  Host.dotGeneral dot_S1x16384x512_S512x1024_S1x16384x1024_2_0_01_1_n_n none
    (mulf o (mulf p (Host.divf (broadcastInDim S1x16384x512 ![] bcast_S_S1x16384x512 (constant S_ .f32 0x3F800000#32))
      (addf (broadcastInDim S1x16384x512 ![] bcast_S_S1x16384x512 (constant S_ .f32 0x3F800000#32)) (Host.exp (Host.negf p)))))) w

/-- Rows scaled by the logistic of their merge gates. -/
def scaledR (p a : FVec Ideal S1x16384x1024 .f32) : FVec Ideal S1x16384x1024 .f32 :=
  mulf (Host.divf (broadcastInDim S1x16384x1024 ![] bcast_S_S1x16384x1024 (constant S_ .f32 0x3F800000#32))
    (addf (broadcastInDim S1x16384x1024 ![] bcast_S_S1x16384x1024 (constant S_ .f32 0x3F800000#32)) (Host.exp (Host.negf p)))) a

/-- The residual sum. -/
def residualR (x y : FVec Ideal S1x16384x1024 .f32) (w : FVec Ideal S1024x1024 .f32) : FVec Ideal S16384x1024 .f32 :=
  shapeCast _ (addf x (Host.dotGeneral dot_S1x16384x1024_S1024x1024_S1x16384x1024_2_0_01_1_n_n none y w)) shapeCasts_S1x16384x1024_S16384x1024

variable (s : State Ideal) (x : FVec Ideal S1x16384x1024 .f32) (g : FVec Ideal S1024 .f32) (o₁ o₂ o₃ : FVec Ideal S512x16384 .f32)
  (b : FVec Ideal S32x16384 .f32) (w : FVec Ideal S1024x4888 .f32) (wa wb : FVec Ideal S512x1024 .f32) (wo : FVec Ideal S1024x1024 .f32)

/-- The result in those parts. -/
theorem result_parts :
    R_main_v140 (F := Ideal) s x g o₁ o₂ o₃ b w wa wb wo
      = residualR x (addf
          (scaledR (extractStridedSlice S1x16384x1024 ![0, 0, 0] (extractStridedSlice S1x16384x2048 ![0, 0, 2840] (projR x g w) slices_S1x16384x4888_S1x16384x2048_0_0_2840) slices_S1x16384x2048_S1x16384x1024_0_0_0)
            (gatedR (combR o₁ o₂ o₃ b) (extractStridedSlice S1x16384x512 ![0, 0, 1280] (projR x g w) slices_S1x16384x4888_S1x16384x512_0_0_1280) wa))
          (scaledR (extractStridedSlice S1x16384x1024 ![0, 0, 1024] (extractStridedSlice S1x16384x2048 ![0, 0, 2840] (projR x g w) slices_S1x16384x4888_S1x16384x2048_0_0_2840) slices_S1x16384x2048_S1x16384x1024_0_0_1024)
            (gatedR (broadcastInDim S1x16384x512 ![1, 2] bcast_S16384x512_S1x16384x512_1_2 s.main_v78_4) (extractStridedSlice S1x16384x512 ![0, 0, 2328] (projR x g w) slices_S1x16384x4888_S1x16384x512_0_0_2328) wb))) wo := by
  unfold R_main_v140 residualR scaledR gatedR combR projR normR
  rfl

theorem norm_ref (r : Fin 16384) (k : Fin 1024) : normR x g (ix3 0 r k) = normed (fun k => x (ix3 0 r k)) (fun k => g (ix1 k)) k := by
  unfold normR normed
  pointwise

theorem proj_ref (r : Fin 16384) (c : Fin 4888) :
    projR x g w (ix3 0 r c) = dot (normed (fun k => x (ix3 0 r k)) (fun k => g (ix1 k))) (fun k c => w (ix2 k c)) c := by
  unfold dot
  simp only [← norm_ref]
  unfold projR
  pointwise

theorem gated_ref (o p : FVec Ideal S1x16384x512 .f32) (r : Fin 16384) (j : Fin 1024) :
    gatedR o p wa (ix3 0 r j) = gated (fun c => o (ix3 0 r c)) (fun c => p (ix3 0 r c)) (fun c j => wa (ix2 c j)) j := by
  unfold gatedR gated
  pointwise
  rfl

theorem scaled_ref (p a : FVec Ideal S1x16384x1024 .f32) (r : Fin 16384) (j : Fin 1024) :
    scaledR p a (ix3 0 r j) = Ideal.logistic (p (ix3 0 r j)) * a (ix3 0 r j) := by
  unfold scaledR
  pointwise
  rfl

theorem residual_ref (y : FVec Ideal S1x16384x1024 .f32) (r : Fin 16384) (j : Fin 1024) :
    residualR x y wo (ix2 r j) = x (ix3 0 r j) + ∑ i, y (ix3 0 r i) * wo (ix2 i j) := by
  unfold residualR
  pointwise

/-- The result's row `r` over the states' row `r`. -/
theorem result_ref (r : Fin 16384) (j : Fin 1024) :
    R_main_v140 (F := Ideal) s x g o₁ o₂ o₃ b w wa wb wo (ix2 r j)
      = outRow (fun k => x (ix3 0 r k)) (fun k => g (ix1 k))
          (combined (fun k => b (ix2 k r)) (fun c => o₁ (ix2 c r)) (fun c => o₂ (ix2 c r)) (fun c => o₃ (ix2 c r)))
          (fun c => (s.main_v78_4 : FVec Ideal S16384x512 .f32) (ix2 r c))
          (fun k c => w (ix2 k ⟨1280 + c.val, by omega⟩)) (fun k c => w (ix2 k ⟨2328 + c.val, by omega⟩)) (fun k c => w (ix2 k ⟨2840 + c.val, by omega⟩))
          (fun c j => wa (ix2 c j)) (fun c j => wb (ix2 c j)) (fun i j => wo (ix2 i j)) j := by
  rw [result_parts, residual_ref]
  unfold outRow
  refine congrArg (x (ix3 0 r j) + ·) (Finset.sum_congr rfl fun i _ => congrArg (· * wo (ix2 i j)) ?_)
  refine congrArg₂ (· + ·) ((scaled_ref _ _ r i).trans (congrArg₂ (· * ·) (congrArg Ideal.logistic ?_) ?_))
    ((scaled_ref _ _ r i).trans (congrArg₂ (· * ·) (congrArg Ideal.logistic ?_) ?_))
  · refine Eq.trans (b := projR x g w (ix3 0 r ⟨2840 + i.val, by omega⟩)) (by pointwise) ?_
    rw [proj_ref]; rfl
  · rw [gated_ref]
    unfold gated
    refine Finset.sum_congr rfl fun c _ => congrArg (· * wa (ix2 c i)) ?_
    refine congrArg₂ (· * ·) (comb_ref o₁ o₂ o₃ b r c) ?_
    have e : extractStridedSlice S1x16384x512 ![0, 0, 1280] (projR x g w) slices_S1x16384x4888_S1x16384x512_0_0_1280 (ix3 0 r c) = projR x g w (ix3 0 r ⟨1280 + c.val, by omega⟩) := by pointwise
    beta_reduce
    rw [e, proj_ref]; rfl
  · refine Eq.trans (b := projR x g w (ix3 0 r ⟨2840 + (1024 + i.val), by omega⟩)) (by pointwise) ?_
    rw [proj_ref]; rfl
  · rw [gated_ref]
    unfold gated
    refine Finset.sum_congr rfl fun c _ => congrArg (· * wb (ix2 c i)) ?_
    refine congrArg₂ (· * ·) (by pointwise) ?_
    have e : extractStridedSlice S1x16384x512 ![0, 0, 2328] (projR x g w) slices_S1x16384x4888_S1x16384x512_0_0_2328 (ix3 0 r c) = projR x g w (ix3 0 r ⟨2328 + c.val, by omega⟩) := by pointwise
    beta_reduce
    rw [e, proj_ref]; rfl

end Result

end Cert.Proof.RefRead

end
-- ==== Proof.RefValue.lean ====
/-
  The reference's result, row by row: the layer's output for each row, its loop's states those of the recurrence.
-/
module

public import proofs.«01_k».proof.Proof.RefRead

@[expose] public section

noncomputable section

open Idealize.ShloMosaic Idealize.ShloMosaic.TcCoe Idealize.SL.Sem Idealize.ShloMosaic.StableHlo

namespace Cert.Proof.RefValue

open Cert.ReferenceIdeal Cert.ReferenceIdeal.Gen Cert.ReferenceIdeal.Value
open Cert.Proof.Spec Cert.Proof.Scan Cert.Proof.RefIter

variable (m : (ℓ : Loc nD τ sig) → Buf (Elt Ideal) ℓ) (c : Dev nD)

/-- The recurrence's input, of the argument arrays. -/
def input (r : Fin 16384) (k : Fin 512) : EReal := (m (c.tc.loc main_arg6) : FVec Ideal S16384x512 .f32) (ix2 r k)

/-- The recurrence's parameters, of the argument arrays. -/
def params : Params :=
  RefRead.params (m (c.tc.loc main_arg8)) (m (c.tc.loc main_arg9)) (m (c.tc.loc main_arg10)) (m (c.tc.loc main_arg11))
    (m (c.tc.loc main_arg12)) (m (c.tc.loc main_arg13)) (m (c.tc.loc main_arg14))

/-- A row the loop has passed holds the recurrence's state after it. -/
theorem state_at {n : ℕ} (hn : n ≤ 16384) (r : Fin 16384) (hr : r.val < n) (k : Fin 512) :
    states m c n (ix2 r k) = stateAt (input m c) (params m c) (r.val + 1) k := by
  rw [states_at m c hn r hr k]
  unfold stateAt
  refine seg_congr _ _ fun i hi => ?_
  have h : 0 + i < 16384 := by omega
  unfold tcol tall
  rw [dif_pos h, dif_pos h, dif_pos h, dif_pos h]
  exact ⟨RefRead.decay_ref _ _ _ _ _ _ _ _ _ _, RefRead.drive_ref _ _ _ _ _ _ _ _ _ _⟩

/-- The result at a row and column: the layer's output for that row, the recurrence run up to it. -/
def value (r : Fin 16384) (j : Fin 1024) : EReal :=
  outRow (fun k => (m (c.tc.loc main_arg0) : FVec Ideal S1x16384x1024 .f32) (ix3 0 r k))
    (fun k => (m (c.tc.loc main_arg1) : FVec Ideal S1024 .f32) (ix1 k))
    (combined (fun k => (m (c.tc.loc main_arg5) : FVec Ideal S32x16384 .f32) (ix2 k r))
      (fun k => (m (c.tc.loc main_arg2) : FVec Ideal S512x16384 .f32) (ix2 k r))
      (fun k => (m (c.tc.loc main_arg3) : FVec Ideal S512x16384 .f32) (ix2 k r))
      (fun k => (m (c.tc.loc main_arg4) : FVec Ideal S512x16384 .f32) (ix2 k r)))
    (fun k => stateAt (input m c) (params m c) (r.val + 1) k)
    (fun k i => (m (c.tc.loc main_arg7) : FVec Ideal S1024x4888 .f32) (ix2 k ⟨1280 + i.val, by omega⟩))
    (fun k i => (m (c.tc.loc main_arg7) : FVec Ideal S1024x4888 .f32) (ix2 k ⟨2328 + i.val, by omega⟩))
    (fun k i => (m (c.tc.loc main_arg7) : FVec Ideal S1024x4888 .f32) (ix2 k ⟨2840 + i.val, by omega⟩))
    (fun k i => (m (c.tc.loc main_arg15) : FVec Ideal S512x1024 .f32) (ix2 k i))
    (fun k i => (m (c.tc.loc main_arg16) : FVec Ideal S512x1024 .f32) (ix2 k i))
    (fun k i => (m (c.tc.loc main_arg17) : FVec Ideal S1024x1024 .f32) (ix2 k i)) j

/-- The rows of the result the loop has passed hold the layer's output. -/
theorem result_at {n : ℕ} (hn : n ≤ 16384) (r : Fin 16384) (hr : r.val < n) (j : Fin 1024) :
    (out_main_v140 (STEP^[n] (entryContents preI m c)) : FVec Ideal S16384x1024 .f32) (ix2 r j) = value m c r j := by
  rw [out_eq]
  refine (RefRead.result_ref _ _ _ _ _ _ _ _ _ _ _ r j).trans ?_
  unfold value
  have e : (fun k => states m c n (ix2 r k)) = fun k => stateAt (input m c) (params m c) (r.val + 1) k :=
    funext fun k => state_at m c hn r hr k
  rw [← e]

end Cert.Proof.RefValue

end
-- ==== Proof.FrontSpec.lean ====
/-
  The front call's mathematics, as plain functions of extended reals: the queries of a row, each head's 64 channels divided by
  the root of their mean square and multiplied by the gain.
-/
module

public import proofs.«01_k».proof.Proof.Spec

@[expose] public section

noncomputable section

open Idealize.ShloMosaic

namespace Cert.Proof.FrontSpec

/-- Channel `c` of a row of queries `p`: scaled by the reciprocal root of its head's mean square, times the gain. -/
def query (p g : Fin 512 → EReal) (c : Fin 512) : EReal :=
  p c * Ideal.rsqrt (Ideal.div (∑ x : Fin 64, p ⟨64 * (c.val / 64) + x.val, by omega⟩ * p ⟨64 * (c.val / 64) + x.val, by omega⟩)
    (Ideal.ofBits .f32 0x42800000#32) + Ideal.ofBits .f32 0x358637BD#32) * g c

/-- Column `c` of row `r` of the input projection. -/
def column (x : Fin 16384 → Fin 1024 → EReal) (g : Fin 1024 → EReal) (w : Fin 1024 → Fin 4888 → EReal) (r : Fin 16384) (c : Fin 4888) : EReal :=
  Spec.dot (Spec.normed (x r) g) w c

/-- The branch gates' columns, and zero for the eight rows after them. -/
def branch (p : Fin 4888 → EReal) (k : Fin 32) : EReal := if k.val < 24 then p ⟨1792 + k.val, by omega⟩ else 0

/-- The queries' gain: the learned one, by the scale. -/
def gain (q : Fin 64 → EReal) (c : Fin 512) : EReal := q ⟨c.val % 64, by omega⟩ * Ideal.ofBits .f32 0x3E38AA3B#32

/-- Channel `c` of a row of two groups' keys `p`: scaled by the reciprocal root of its group's mean square, times the gain. -/
def key (p g : Fin 128 → EReal) (c : Fin 128) : EReal :=
  p c * Ideal.rsqrt (Ideal.div (∑ x : Fin 64, p ⟨64 * (c.val / 64) + x.val, by omega⟩ * p ⟨64 * (c.val / 64) + x.val, by omega⟩)
    (Ideal.ofBits .f32 0x42800000#32) + Ideal.ofBits .f32 0x358637BD#32) * g c

/-- Channel `d` of group `h`. -/
def lane (h : Fin 2) (d : Fin 64) : Fin 128 := ⟨64 * h.val + d.val, by omega⟩

/-- Row `q` of the `n`-th chunk of 512, -/
def row512 (n : Fin 32) (q : Fin 512) : Fin 16384 := ⟨512 * n.val + q.val, by omega⟩

/-- and of 128. -/
def row128 (n : Fin 128) (q : Fin 128) : Fin 16384 := ⟨128 * n.val + q.val, by omega⟩

/-- Column `l` of a row of the selected attention's keys of a group: the row's block, one-hot, the group's keys `k`, two ones. -/
def augmented (k : Fin 64 → EReal) (r : Fin 16384) (l : Fin 256) : EReal :=
  if h : l.val < 128 then if l.val = r.val / 64 % 128 then 1 else 0
  else if h' : l.val - 128 < 64 then k ⟨l.val - 128, h'⟩ else if l.val - 128 < 66 then 1 else 0

/-- Column `l` of a row of the window attention's keys of a group: the group's keys `k`, and zeros. -/
def widened (k : Fin 64 → EReal) (l : Fin 128) : EReal := if h : l.val < 64 then k ⟨l.val, h⟩ else 0

/-- Row `l` of a column of a group's values: the group's values `v`, a one, and zeros. -/
def heightened (v : Fin 64 → EReal) (l : Fin 80) : EReal := if h : l.val < 64 then v ⟨l.val, h⟩ else if l.val = 64 then 1 else 0

end Cert.Proof.FrontSpec

end
-- ==== Proof.FrontBlock.lean ====
/-
  The front call's block functions read at an index: what one grid point leaves in each output block, from its input blocks.
-/
module

public import proofs.«01_k».proof.Proof.Gen.Kernel2Ideal.Value
public import proofs.«01_k».proof.Proof.FrontSpec
public import Idealize.ShloMosaic.Lib.Pointwise
public import Idealize.ShloMosaic.Lib.Pipeline.ValueKit

@[expose] public section

noncomputable section

open Idealize.ShloMosaic Idealize.ShloMosaic.TcCoe

namespace Cert.Proof.FrontBlock

open Cert.Kernel2Ideal Cert.Kernel2Ideal.Gen
open Cert.Proof.Spec Cert.Proof.Scalars Cert.Proof.FrontSpec

variable (i : grid0.Coords) (x0 : Vec Ideal S512x1024 .f32) (x1 : Vec Ideal S1x1024 .f32) (x2 : Vec Ideal S1024x1920 .bf16)
  (x3 : Vec Ideal S512x1 .f32) (x4 : Vec Ideal S3x128 .f32)

/-- The block's rows of the input projection. -/
def proj (r : Fin 512) (c : Fin 1920) : EReal :=
  dot (normed (fun k => x0 (ix2 r k)) (fun k => x1 (ix2 0 k))) (fun k c => x2 (ix2 k c)) c

theorem zero2 : (![0, 0] : Fin 2 → ℕ) = fun _ => 0 := by funext a; fin_cases a <;> rfl

/-- The normalised rows. -/
theorem normed_at (r : Fin 512) (k : Fin 1024) :
    k0_pay84 i x0 x1 x2 x3 x4 (ix2 r k) = normed (fun k => x0 (ix2 r k)) (fun k => x1 (ix2 0 k)) k := by
  unfold k0_pay84 k0_pay3 normed
  pointwise

/-- The recurrence's input. -/
theorem out14_at (r j : Fin 512) : out0_14 i x0 x1 x2 x3 x4 (ix2 r j) = proj x0 x1 x2 r ⟨1408 + j.val, by omega⟩ := by
  unfold out0_14 proj dot
  rw [View.canon_unit_zero zero2]
  simp only [← normed_at i x0 x1 x2 x3 x4]
  unfold k0_pay2
  pointwise

/-- The branch gates. -/
theorem out7_at (k : Fin 32) (r : Fin 512) : out0_7 i x0 x1 x2 x3 x4 (ix2 k r) = Ideal.logistic (proj x0 x1 x2 r ⟨1280 + k.val, by omega⟩) := by
  unfold out0_7 proj dot
  rw [View.canon_unit_zero zero2, ← sigK_eq]
  simp only [← normed_at i x0 x1 x2 x3 x4]
  unfold k0_pay1 sigK
  pointwise

/-- The keys' and values' columns. -/
theorem kv_at (r : Fin 512) (c : Fin 768) : k0_pay85 i x0 x1 x2 x3 x4 (ix2 r c) = proj x0 x1 x2 r ⟨512 + c.val, by omega⟩ := by
  unfold proj dot
  simp only [← normed_at i x0 x1 x2 x3 x4]
  unfold k0_pay85 k0_pay4 k0_pay84
  pointwise

/-- The keys and the values to be compressed. -/
theorem out13_at (j : Fin 2) (r : Fin 512) (k : Fin 128) :
    out0_13 i x0 x1 x2 x3 x4 (ix3 j r k) = proj x0 x1 x2 r ⟨512 + (128 * j.val + k.val), by omega⟩ := by
  rw [← kv_at i x0 x1 x2 x3 x4 r ⟨128 * j.val + k.val, by omega⟩]
  unfold out0_13
  canon_tiles x h
  · have ex : x = ix3 0 r k := by
      funext a
      apply Fin.ext
      fin_cases a
      · show (x 0).val = 0; omega
      · exact h1.symm
      · exact h2.symm
    have ej : 128 * j.val + k.val = 128 + k.val := by
      have e : j.val = 1 + (x 0).val := h0
      omega
    rw [ex]
    refine Eq.trans (?_ : _ = k0_pay85 i x0 x1 x2 x3 x4 (ix2 r ⟨128 + k.val, by omega⟩)) (congrArg (fun c => k0_pay85 i x0 x1 x2 x3 x4 (ix2 r c)) (Fin.ext ej.symm))
    unfold k0_pay12
    pointwise
  · have ex : x = ix3 0 r k := by
      funext a
      apply Fin.ext
      fin_cases a
      · show (x 0).val = 0; omega
      · exact h1.symm
      · exact h2.symm
    have ej : 128 * j.val + k.val = k.val := by
      have e : j.val = (x 0).val := h0
      omega
    rw [ex]
    refine Eq.trans (?_ : _ = k0_pay85 i x0 x1 x2 x3 x4 (ix2 r ⟨k.val, by omega⟩)) (congrArg (fun c => k0_pay85 i x0 x1 x2 x3 x4 (ix2 r c)) (Fin.ext ej.symm))
    unfold k0_pay11
    pointwise

/-- The queries' columns, channels by rows. -/
theorem q_at (c r : Fin 512) : k0_pay98 i x0 x1 x2 x3 x4 (ix2 c r) = proj x0 x1 x2 r ⟨c.val, by omega⟩ := by
  unfold proj dot
  simp only [← normed_at i x0 x1 x2 x3 x4]
  unfold k0_pay98 k0_pay52
  pointwise

/-- The eight heads' queries, as the kernel makes them. -/
def heads : Fin 8 → FVec Ideal S64x512 .bf16 :=
  ![k0_pay55 (k0_pay99 i x0 x1 x2 x3 x4) (View.ld x3 r0_22),
    k0_pay58 (k0_pay98 i x0 x1 x2 x3 x4) (View.ld x3 r0_24),
    k0_pay63 (k0_pay100 i x0 x1 x2 x3 x4) (k0_pay101 i x0 x1 x2 x3 x4) (View.ld x3 r0_26),
    k0_pay66 (k0_pay98 i x0 x1 x2 x3 x4) (View.ld x3 r0_28),
    k0_pay71 (k0_pay102 i x0 x1 x2 x3 x4) (k0_pay103 i x0 x1 x2 x3 x4) (View.ld x3 r0_30),
    k0_pay74 (k0_pay98 i x0 x1 x2 x3 x4) (View.ld x3 r0_32),
    k0_pay79 (k0_pay104 i x0 x1 x2 x3 x4) (k0_pay105 i x0 x1 x2 x3 x4) (View.ld x3 r0_34),
    k0_pay82 (k0_pay98 i x0 x1 x2 x3 x4) (View.ld x3 r0_36)]

/-- One head's queries. -/
theorem heads_at (h : Fin 8) (q : Fin 64) (r : Fin 512) :
    heads i x0 x1 x2 x3 x4 h (ix2 q r) = k0_pay98 i x0 x1 x2 x3 x4 (ix2 ⟨64 * h.val + q.val, by omega⟩ r)
      * Ideal.rsqrt (Ideal.div (∑ x : Fin 64, k0_pay98 i x0 x1 x2 x3 x4 (ix2 ⟨64 * h.val + x.val, by omega⟩ r) * k0_pay98 i x0 x1 x2 x3 x4 (ix2 ⟨64 * h.val + x.val, by omega⟩ r))
          (Ideal.ofBits .f32 0x42800000#32) + Ideal.ofBits .f32 0x358637BD#32) * x3 (ix2 ⟨64 * h.val + q.val, by omega⟩ 0) := by
  fin_cases h
  · show k0_pay55 _ _ _ = _
    unfold k0_pay55 k0_pay54 k0_pay99 k0_pay53 k0_pay98
    pointwise
  · show k0_pay58 _ _ _ = _
    unfold k0_pay58 k0_pay57
    pointwise
  · show k0_pay63 _ _ _ _ = _
    unfold k0_pay63 k0_pay62 k0_pay101 k0_pay61 k0_pay100 k0_pay60
    pointwise
  · show k0_pay66 _ _ _ = _
    unfold k0_pay66 k0_pay65
    pointwise
  · show k0_pay71 _ _ _ _ = _
    unfold k0_pay71 k0_pay70 k0_pay103 k0_pay69 k0_pay102 k0_pay68
    pointwise
  · show k0_pay74 _ _ _ = _
    unfold k0_pay74 k0_pay73
    pointwise
  · show k0_pay79 _ _ _ _ = _
    unfold k0_pay79 k0_pay78 k0_pay105 k0_pay77 k0_pay104 k0_pay76
    pointwise
  · show k0_pay82 _ _ _ = _
    unfold k0_pay82 k0_pay81
    pointwise

/-- What the narrower format leaves of the eight heads' queries, as the kernel makes it. -/
def rests : Fin 8 → FVec Ideal S64x512 .bf16 :=
  ![k0_pay56 (k0_pay99 i x0 x1 x2 x3 x4) (View.ld x3 r0_22),
    k0_pay59 (k0_pay98 i x0 x1 x2 x3 x4) (View.ld x3 r0_24),
    k0_pay64 (k0_pay100 i x0 x1 x2 x3 x4) (k0_pay101 i x0 x1 x2 x3 x4) (View.ld x3 r0_26),
    k0_pay67 (k0_pay98 i x0 x1 x2 x3 x4) (View.ld x3 r0_28),
    k0_pay72 (k0_pay102 i x0 x1 x2 x3 x4) (k0_pay103 i x0 x1 x2 x3 x4) (View.ld x3 r0_30),
    k0_pay75 (k0_pay98 i x0 x1 x2 x3 x4) (View.ld x3 r0_32),
    k0_pay80 (k0_pay104 i x0 x1 x2 x3 x4) (k0_pay105 i x0 x1 x2 x3 x4) (View.ld x3 r0_34),
    k0_pay83 (k0_pay98 i x0 x1 x2 x3 x4) (View.ld x3 r0_36)]

/-- One head's queries less themselves. -/
theorem rests_at (h : Fin 8) (q : Fin 64) (r : Fin 512) :
    rests i x0 x1 x2 x3 x4 h (ix2 q r) = heads i x0 x1 x2 x3 x4 h (ix2 q r) - heads i x0 x1 x2 x3 x4 h (ix2 q r) := by
  fin_cases h
  · show k0_pay56 _ _ _ = k0_pay55 _ _ _ - k0_pay55 _ _ _
    unfold k0_pay56 k0_pay55
    pointwise
  · show k0_pay59 _ _ _ = k0_pay58 _ _ _ - k0_pay58 _ _ _
    unfold k0_pay59 k0_pay58
    pointwise
  · show k0_pay64 _ _ _ _ = k0_pay63 _ _ _ _ - k0_pay63 _ _ _ _
    unfold k0_pay64 k0_pay63
    pointwise
  · show k0_pay67 _ _ _ = k0_pay66 _ _ _ - k0_pay66 _ _ _
    unfold k0_pay67 k0_pay66
    pointwise
  · show k0_pay72 _ _ _ _ = k0_pay71 _ _ _ _ - k0_pay71 _ _ _ _
    unfold k0_pay72 k0_pay71
    pointwise
  · show k0_pay75 _ _ _ = k0_pay74 _ _ _ - k0_pay74 _ _ _
    unfold k0_pay75 k0_pay74
    pointwise
  · show k0_pay80 _ _ _ _ = k0_pay79 _ _ _ _ - k0_pay79 _ _ _ _
    unfold k0_pay80 k0_pay79
    pointwise
  · show k0_pay83 _ _ _ = k0_pay82 _ _ _ - k0_pay82 _ _ _
    unfold k0_pay83 k0_pay82
    pointwise

theorem inb_head (k : Fin 8) : ∀ a, (![64 * (7 - k.val), 0] : Fin 2 → ℕ) a + S64x512.size a ≤ S512x512.size a := by
  intro a
  fin_cases a
  · show 64 * (7 - k.val) + 64 ≤ 512; omega
  · show 0 + 512 ≤ 512; omega

/-- Eight blocks of 64 rows stored one below the other, last first, read at an index. -/
theorem stacked (v : Fin 8 → FVec Ideal S64x512 .bf16) (c r : Fin 512) :
    View.canon (Val := Elt Ideal) (List.ofFn fun k : Fin 8 =>
      (⟨Rect.unit ![64 * (7 - k.val), 0] S64x512.size (inb_head k), v ⟨7 - k.val, by omega⟩⟩ : View.Piece (Elt Ideal) S512x512 .bf16)) (ix2 c r)
      = v ⟨c.val / 64, by omega⟩ (ix2 ⟨c.val % 64, by omega⟩ r) := by
  refine View.canon_ofFn_unit_eq_of_forall (Val := Elt Ideal) (S := S512x512) _ _ _ _ _ _ ?_ ?_
  · refine ⟨⟨7 - c.val / 64, by omega⟩, fun a => ?_⟩
    fin_cases a
    · show 64 * (7 - (7 - c.val / 64)) ≤ c.val ∧ c.val < 64 * (7 - (7 - c.val / 64)) + 64
      omega
    · show 0 ≤ r.val ∧ r.val < 0 + 512
      omega
  · intro k x hx
    have e0 : c.val = 64 * (7 - k.val) + (x 0).val := hx 0
    have e1 : r.val = 0 + (x 1).val := hx 1
    have hb : (x 0).val < 64 := (x 0).isLt
    have ex : x = ix2 ⟨c.val % 64, by omega⟩ r := by
      funext a
      apply Fin.ext
      fin_cases a
      · show (x 0).val = c.val % 64; omega
      · show (x 1).val = r.val; omega
    have ek : (⟨7 - k.val, by omega⟩ : Fin 8) = ⟨c.val / 64, by omega⟩ := Fin.ext (by show 7 - k.val = c.val / 64; omega)
    rw [ex]
    exact congrFun (congrArg v ek) _

/-- The queries. -/
theorem out5_at (c r : Fin 512) :
    out0_5 i x0 x1 x2 x3 x4 (ix2 c r) = query (fun c => proj x0 x1 x2 r ⟨c.val, by omega⟩) (fun c => x3 (ix2 c 0)) c := by
  refine (stacked (heads i x0 x1 x2 x3 x4) c r).trans ?_
  rw [heads_at]
  unfold query
  simp only [q_at, Nat.div_add_mod]

/-- What the narrower format leaves of them. -/
theorem out6_at (c r : Fin 512) :
    out0_6 i x0 x1 x2 x3 x4 (ix2 c r) = query (fun c => proj x0 x1 x2 r ⟨c.val, by omega⟩) (fun c => x3 (ix2 c 0)) c
      - query (fun c => proj x0 x1 x2 r ⟨c.val, by omega⟩) (fun c => x3 (ix2 c 0)) c := by
  refine (stacked (rests i x0 x1 x2 x3 x4) c r).trans ?_
  rw [rests_at, heads_at]
  unfold query
  simp only [q_at, Nat.div_add_mod]

end Cert.Proof.FrontBlock

end
-- ==== Proof.FrontHost.lean ====
/-
  What the front call's host operations leave in the arrays its windows read, and the blocks its windows read at a grid point.
-/
module

public import proofs.«01_k».proof.Proof.FrontBlock
public import proofs.«01_k».proof.Proof.KernelBlocks
public import Idealize.ShloMosaic.Lib.StableHlo.RunRead

@[expose] public section

noncomputable section

open Idealize.ShloMosaic Idealize.ShloMosaic.TcCoe Idealize.ShloMosaic.StableHlo

namespace Cert.Proof.FrontHost

open Cert.Kernel2Ideal Cert.Kernel2Ideal.Gen Cert.Proof.FrontSpec
open Cert.Proof.KernelBlocks (at_block)

variable (m : (ℓ : Loc nD τ sig) → Buf (Elt Ideal) ℓ) (c : Dev nD) (t : Fin cfg0.N)

theorem v0 (r : Fin 16384) (k : Fin 1024) : (V m c main_v0 : FVec Ideal S16384x1024 .f32) (ix2 r k) = (m (c.tc.loc main_arg0) : FVec Ideal S1x16384x1024 .f32) (ix3 0 r k) := by
  unfold V
  after_reads_simp
  pointwise
theorem v1 (k : Fin 1024) : (V m c main_v16 : FVec Ideal S1x1024 .f32) (ix2 0 k) = (m (c.tc.loc main_arg1) : FVec Ideal S1024 .f32) (ix1 k) := by
  unfold V
  after_reads_simp
  pointwise
/-- The columns the call projects onto, taken side by side out of the input projection's weights, with zeros among them. -/
def weights (w : FVec Ideal S1024x4888 .f32) : FVec Ideal S1024x1920 .bf16 :=
  concatenate S1024x1920 1 [⟨S1024x1280, extractStridedSlice S1024x1280 ![0, 0] (truncf .bf16 w bitsLt_bf16_f32) slices_S1024x4888_S1024x1280_0_0⟩,
    ⟨S1024x24, extractStridedSlice S1024x24 ![0, 1792] (truncf .bf16 w bitsLt_bf16_f32) slices_S1024x4888_S1024x24_0_1792⟩,
    ⟨S1024x104, broadcastInDim S1024x104 ![] bcast_S_S1024x104 (constant S_ .bf16 0x0000#16)⟩,
    ⟨S1024x512, extractStridedSlice S1024x512 ![0, 1816] (truncf .bf16 w bitsLt_bf16_f32) slices_S1024x4888_S1024x512_0_1816⟩]
    concatenates_S1024x1280_S1024x24_S1024x104_S1024x512_S1024x1920_d1

theorem v2 : V m c main_v6 = weights (m (c.tc.loc main_arg2)) := by
  unfold weights V
  after_reads_simp
  rfl

/-- The queries', the keys' and the values' columns of the weights, -/
theorem v2_qkv (k : Fin 1024) (j : Fin 1280) : (V m c main_v6 : FVec Ideal S1024x1920 .bf16) (ix2 k ⟨j.val, by omega⟩)
    = (m (c.tc.loc main_arg2) : FVec Ideal S1024x4888 .f32) (ix2 k ⟨j.val, by omega⟩) := by
  rw [v2]
  unfold weights
  pointwise
/-- the branch gates', -/
theorem v2_br (k : Fin 1024) (j : Fin 24) : (V m c main_v6 : FVec Ideal S1024x1920 .bf16) (ix2 k ⟨1280 + j.val, by omega⟩)
    = (m (c.tc.loc main_arg2) : FVec Ideal S1024x4888 .f32) (ix2 k ⟨1792 + j.val, by omega⟩) := by
  rw [v2]
  unfold weights
  pointwise
/-- the zeros after them, -/
theorem v2_pad (k : Fin 1024) (j : Fin 104) : (V m c main_v6 : FVec Ideal S1024x1920 .bf16) (ix2 k ⟨1304 + j.val, by omega⟩) = (0 : EReal) := by
  rw [v2]
  unfold weights
  pointwise
  rw [dif_neg (by omega), dif_neg (by omega), dif_pos (by omega)]
/-- and the recurrence's input's. -/
theorem v2_u (k : Fin 1024) (j : Fin 512) : (V m c main_v6 : FVec Ideal S1024x1920 .bf16) (ix2 k ⟨1408 + j.val, by omega⟩)
    = (m (c.tc.loc main_arg2) : FVec Ideal S1024x4888 .f32) (ix2 k ⟨1816 + j.val, by omega⟩) := by
  rw [v2]
  unfold weights
  pointwise
  rw [dif_neg (by omega), dif_neg (by omega), dif_neg (by omega)]
  exact congrArg (fun a => (m (c.tc.loc main_arg2) : FVec Ideal S1024x4888 .f32) (ix2 k a)) (Fin.ext (by show 1816 + (1408 + j.val - 1280 - 24 - 104) = 1816 + j.val; omega))
/-- The queries' gain. -/
theorem v3 (j : Fin 512) : (V m c main_v12 : FVec Ideal S512x1 .f32) (ix2 j 0) = gain (fun q => (m (c.tc.loc main_arg3) : FVec Ideal S64 .f32) (ix1 q)) j := by
  unfold V gain
  after_reads_simp
  pointwise

/-- The keys' gains. -/
theorem v4 (j : Fin 3) (k : Fin 128) : (V m c main_v15 : FVec Ideal S3x128 .f32) (ix2 j k) = (m (c.tc.loc main_arg4) : FVec Ideal S3x64 .f32) (ix2 j ⟨k.val % 64, by omega⟩) := by
  unfold V
  after_reads_simp
  pointwise

/-! The blocks. -/

theorem idx_rows : ∀ t : Fin cfg0.N, win0_0.index t 0 = t.val ∧ win0_0.index t 1 = 0 := by decide +kernel

theorem whole (b : Ref sig .tc) {ix : Fin b.ty.shape.rank → ℕ} (h : ∀ a, ix a = 0) (inb : ∀ a, ix a * b.ty.shape.size a + b.ty.shape.size a ≤ b.ty.shape.size a)
    (f : b.ty.Contents (Elt Ideal)) :
    ((Memref.whole b).access (Rect.unit (fun a => ix a * b.ty.shape.size a) b.ty.shape.size inb) : View sig .tc _ _ _).read (Elt Ideal) f = f :=
  Memref.read_access_unit_zero (Elt Ideal) b (funext fun a => by rw [h a, Nat.zero_mul]) inb f

theorem b0 (r : Fin 512) (k : Fin 1024) (h : 512 * t.val + r.val < 16384) :
    (iblk m c 0 t : Vec Ideal S512x1024 .f32) (ix2 r k) = (V m c main_v0 : FVec Ideal S16384x1024 .f32) (ix2 ⟨512 * t.val + r.val, h⟩ k) := by
  unfold iblk
  rw [View.read_apply]
  exact congrArg (V m c main_v0) (at_block _ (k₀ := win0_0.index t 0 * 512 + 1 * r.val) (k₁ := win0_0.index t 1 * 1024 + 1 * k.val) rfl rfl
    (by rw [(idx_rows t).1, Nat.one_mul, Nat.mul_comm t.val]) (by rw [(idx_rows t).2, Nat.one_mul, Nat.zero_mul, Nat.zero_add]))

theorem b1 : (iblk m c 1 t : Vec Ideal S1x1024 .f32) = V m c main_v16 := whole main_v16 (ix := win0_1.index t) (fun a => by fin_cases a <;> rfl) _ _
theorem b2 : (iblk m c 2 t : Vec Ideal S1024x1920 .bf16) = V m c main_v6 := whole main_v6 (ix := win0_2.index t) (fun a => by fin_cases a <;> rfl) _ _
theorem b3 : (iblk m c 3 t : Vec Ideal S512x1 .f32) = V m c main_v12 := whole main_v12 (ix := win0_3.index t) (fun a => by fin_cases a <;> rfl) _ _
theorem b4 : (iblk m c 4 t : Vec Ideal S3x128 .f32) = V m c main_v15 := whole main_v15 (ix := win0_4.index t) (fun a => by fin_cases a <;> rfl) _ _

/-- Row `r`, column `j` of the input projection, of the argument arrays. -/
def col (r : Fin 16384) (j : Fin 4888) : EReal :=
  column (fun r k => (m (c.tc.loc main_arg0) : FVec Ideal S1x16384x1024 .f32) (ix3 0 r k)) (fun k => (m (c.tc.loc main_arg1) : FVec Ideal S1024 .f32) (ix1 k))
    (fun k j => (m (c.tc.loc main_arg2) : FVec Ideal S1024x4888 .f32) (ix2 k j)) r j

/-- A column of a block's rows whose weights are a column of the input projection's is that column. -/
theorem proj_eq (r : Fin 512) (h : 512 * t.val + r.val < 16384) (a : Fin 1920) (b : Fin 4888)
    (hw : ∀ k, (V m c main_v6 : FVec Ideal S1024x1920 .bf16) (ix2 k a) = (m (c.tc.loc main_arg2) : FVec Ideal S1024x4888 .f32) (ix2 k b)) :
    FrontBlock.proj (iblk m c 0 t) (iblk m c 1 t) (iblk m c 2 t) r a = col m c ⟨512 * t.val + r.val, h⟩ b := by
  unfold FrontBlock.proj col column Spec.dot
  refine Finset.sum_congr rfl fun k _ => congrArg₂ (· * ·) ?_ ?_
  · congr 1
    · funext k
      rw [b0 m c t r k h]
      exact v0 m c _ k
    · funext k
      rw [b1]
      exact v1 m c k
  · rw [b2]
    exact hw k

/-- A column of a block's rows among the keys' and the values'. -/
theorem proj_kv (r : Fin 512) (h : 512 * t.val + r.val < 16384) (j : Fin 6) (k : Fin 128) (a : Fin 1920) (e : a.val = 512 + (128 * j.val + k.val)) :
    FrontBlock.proj (iblk m c 0 t) (iblk m c 1 t) (iblk m c 2 t) r a = col m c ⟨512 * t.val + r.val, h⟩ ⟨512 + (128 * j.val + k.val), by omega⟩ := by
  obtain rfl : a = ⟨512 + (128 * j.val + k.val), by clear e; omega⟩ := Fin.ext e
  exact proj_eq m c t r h _ _ fun x => v2_qkv m c x ⟨512 + (128 * j.val + k.val), by omega⟩

/-- A column of zero weights is zero. -/
theorem proj_zero (r : Fin 512) (a : Fin 1920) (hw : ∀ k, (V m c main_v6 : FVec Ideal S1024x1920 .bf16) (ix2 k a) = (0 : EReal)) :
    FrontBlock.proj (iblk m c 0 t) (iblk m c 1 t) (iblk m c 2 t) r a = 0 := by
  unfold FrontBlock.proj Spec.dot
  refine Finset.sum_eq_zero fun k _ => ?_
  rw [b2]
  exact (congrArg _ (hw k)).trans (mul_zero _)

end Cert.Proof.FrontHost

end
-- ==== Proof.FrontRun.lean ====
/-
  The front call's results as functions of its arguments: each result's array is what the grid points leave in its blocks.
-/
module

public import proofs.«01_k».proof.Proof.FrontHost

@[expose] public section

noncomputable section

open Idealize.ShloMosaic Idealize.ShloMosaic.TcCoe

namespace Cert.Proof.FrontRun

open Cert.Kernel2Ideal Cert.Kernel2Ideal.Gen Cert.Kernel2Ideal.Value Cert.Proof.FrontSpec Cert.Proof.FrontHost
open Cert.Proof.KernelBlocks (at_block)

variable (m : (ℓ : Loc nD τ sig) → Buf (Elt Ideal) ℓ) (c : Dev nD)

/-- The queries of row `r`. -/
def queryOf (r : Fin 16384) (k : Fin 512) : EReal :=
  query (fun k => col m c r ⟨k.val, by omega⟩) (gain fun q => (m (c.tc.loc main_arg3) : FVec Ideal S64 .f32) (ix1 q)) k

theorem pt_lt (t : Fin cfg0.N) : t.val < 32 := t.isLt.trans_eq N_0

theorem idx14 : ∀ t : Fin cfg0.N, win0_14.index t 0 = t.val ∧ win0_14.index t 1 = 0 := by decide +kernel
theorem idx13 : ∀ t : Fin cfg0.N, win0_13.index t 0 = 0 ∧ win0_13.index t 1 = t.val ∧ win0_13.index t 2 = 0 := by decide +kernel
theorem idx7 : ∀ t : Fin cfg0.N, win0_7.index t 0 = 0 ∧ win0_7.index t 1 = t.val := by decide +kernel
theorem idx6 : ∀ t : Fin cfg0.N, win0_6.index t 0 = 0 ∧ win0_6.index t 1 = t.val := by decide +kernel
theorem idx5 : ∀ t : Fin cfg0.N, win0_5.index t 0 = 0 ∧ win0_5.index t 1 = t.val := by decide +kernel

theorem split2 {n₀ n₁ : ℕ} (y : (⟨2, ![n₀, n₁]⟩ : Shape).Idx) : ∃ (a : Fin n₀) (b : Fin n₁), y = ix2 a b :=
  ⟨y 0, y 1, funext fun a => match a with | ⟨0, _⟩ => rfl | ⟨1, _⟩ => rfl⟩

theorem split3 {n₀ n₁ n₂ : ℕ} (y : (⟨3, ![n₀, n₁, n₂]⟩ : Shape).Idx) : ∃ (a : Fin n₀) (b : Fin n₁) (d : Fin n₂), y = ix3 a b d :=
  ⟨y 0, y 1, y 2, funext fun a => match a with | ⟨0, _⟩ => rfl | ⟨1, _⟩ => rfl | ⟨2, _⟩ => rfl⟩

/-- The recurrence's input. -/
def res14 : FVec Ideal S16384x512 .f32 := fun i => col m c (i 0) ⟨1816 + (i 1).val, Nat.add_lt_add_left (i 1).isLt 1816 |>.trans (by decide)⟩

theorem final14 : (dats m 0 c).arrAt 14 cfg0.N = res14 m c := by
  refine (dats m 0 c).arrAt_eq_of_covers 14 _ (by decide +kernel) fun t hf y => ?_
  have ht := pt_lt t
  obtain ⟨a, b, rfl⟩ := split2 (n₀ := 512) (n₁ := 512) y
  refine (congrFun (after0_14 m c t) (ix2 a b)).trans ((FrontBlock.out14_at _ _ _ _ _ _ a b).trans ?_)
  refine Eq.trans ?_ (congrArg (res14 m c) (at_block ((win0_14.blk t).view.emb (ix2 a b)) (k₀ := win0_14.index t 0 * 512 + 1 * a.val) (k₁ := win0_14.index t 1 * 512 + 1 * b.val) rfl rfl
    (a := ⟨512 * t.val + a.val, by omega⟩) (b := b)
    (by rw [(idx14 t).1, Nat.one_mul, Nat.mul_comm t.val]) (by rw [(idx14 t).2, Nat.one_mul, Nat.zero_mul, Nat.zero_add]))).symm
  exact proj_eq m c t a (by omega) ⟨1408 + b.val, by omega⟩ ⟨1816 + b.val, by omega⟩ fun k => v2_u m c k b

/-- The branch gates, gates by rows. -/
def res7 : FVec Ideal S32x16384 .f32 := fun i => Ideal.logistic (branch (col m c (i 1)) (i 0))

theorem final7 : (dats m 0 c).arrAt 7 cfg0.N = res7 m c := by
  refine (dats m 0 c).arrAt_eq_of_covers 7 _ (by decide +kernel) fun t hf y => ?_
  have ht := pt_lt t
  obtain ⟨a, b, rfl⟩ := split2 (n₀ := 32) (n₁ := 512) y
  refine (congrFun (after0_7 m c t) (ix2 a b)).trans ((FrontBlock.out7_at _ _ _ _ _ _ a b).trans ?_)
  refine Eq.trans ?_ (congrArg (res7 m c) (at_block ((win0_7.blk t).view.emb (ix2 a b)) (k₀ := win0_7.index t 0 * 32 + 1 * a.val) (k₁ := win0_7.index t 1 * 512 + 1 * b.val) rfl rfl
    (a := a) (b := ⟨512 * t.val + b.val, by omega⟩)
    (by rw [(idx7 t).1, Nat.one_mul, Nat.zero_mul, Nat.zero_add]) (by rw [(idx7 t).2, Nat.one_mul, Nat.mul_comm t.val]))).symm
  refine congrArg Ideal.logistic ?_
  show _ = branch (col m c ⟨512 * t.val + b.val, _⟩) a
  unfold branch
  split
  · exact proj_eq m c t b (by omega) ⟨1280 + a.val, by omega⟩ ⟨1792 + a.val, by omega⟩ fun k => v2_br m c k ⟨a.val, by omega⟩
  · refine proj_zero m c t b _ fun k => Eq.trans (congrArg (fun x => (V m c main_v6 : FVec Ideal S1024x1920 .bf16) (ix2 k x)) (Fin.ext ?_)) (v2_pad m c k ⟨a.val - 24, by omega⟩)
    show 1280 + a.val = 1304 + (a.val - 24)
    omega

/-- The queries of a block's row. -/
theorem query_eq (t : Fin cfg0.N) (a b : Fin 512) (h : 512 * t.val + b.val < 16384) :
    query (fun c' => FrontBlock.proj (iblk m c 0 t) (iblk m c 1 t) (iblk m c 2 t) b ⟨c'.val, by omega⟩) (fun c' => (iblk m c 3 t : Vec Ideal S512x1 .f32) (ix2 c' 0)) a
      = queryOf m c ⟨512 * t.val + b.val, h⟩ a := by
  refine congrArg₂ (fun p g => query p g a) (funext fun k => ?_) (funext fun k => ?_)
  · exact proj_eq m c t b h ⟨k.val, by omega⟩ ⟨k.val, by omega⟩ fun x => v2_qkv m c x ⟨k.val, by omega⟩
  · rw [b3]
    exact v3 m c k

/-- The queries, channels by rows. -/
def res5 : FVec Ideal S512x16384 .bf16 := fun i => queryOf m c (i 1) (i 0)

theorem final5 : (dats m 0 c).arrAt 5 cfg0.N = res5 m c := by
  refine (dats m 0 c).arrAt_eq_of_covers 5 _ (by decide +kernel) fun t hf y => ?_
  have ht := pt_lt t
  obtain ⟨a, b, rfl⟩ := split2 (n₀ := 512) (n₁ := 512) y
  refine (congrFun (after0_5 m c t) (ix2 a b)).trans ((FrontBlock.out5_at _ _ _ _ _ _ a b).trans ?_)
  refine Eq.trans ?_ (congrArg (res5 m c) (at_block ((win0_5.blk t).view.emb (ix2 a b)) (k₀ := win0_5.index t 0 * 512 + 1 * a.val) (k₁ := win0_5.index t 1 * 512 + 1 * b.val) rfl rfl
    (a := a) (b := ⟨512 * t.val + b.val, by omega⟩)
    (by rw [(idx5 t).1, Nat.one_mul, Nat.zero_mul, Nat.zero_add]) (by rw [(idx5 t).2, Nat.one_mul, Nat.mul_comm t.val]))).symm
  exact query_eq m c t a b (by omega)

/-- The queries less themselves: what the narrower format leaves of them. -/
def res6 : FVec Ideal S512x16384 .bf16 := fun i => queryOf m c (i 1) (i 0) - queryOf m c (i 1) (i 0)

theorem final6 : (dats m 0 c).arrAt 6 cfg0.N = res6 m c := by
  refine (dats m 0 c).arrAt_eq_of_covers 6 _ (by decide +kernel) fun t hf y => ?_
  have ht := pt_lt t
  obtain ⟨a, b, rfl⟩ := split2 (n₀ := 512) (n₁ := 512) y
  refine (congrFun (after0_6 m c t) (ix2 a b)).trans ((FrontBlock.out6_at _ _ _ _ _ _ a b).trans ?_)
  refine Eq.trans ?_ (congrArg (res6 m c) (at_block ((win0_6.blk t).view.emb (ix2 a b)) (k₀ := win0_6.index t 0 * 512 + 1 * a.val) (k₁ := win0_6.index t 1 * 512 + 1 * b.val) rfl rfl
    (a := a) (b := ⟨512 * t.val + b.val, by omega⟩)
    (by rw [(idx6 t).1, Nat.one_mul, Nat.zero_mul, Nat.zero_add]) (by rw [(idx6 t).2, Nat.one_mul, Nat.mul_comm t.val]))).symm
  exact congrArg₂ (· - ·) (query_eq m c t a b (by omega)) (query_eq m c t a b (by omega))

/-- The keys and the values to be compressed. -/
def res13 : FVec Ideal S2x16384x128 .f32 := fun i =>
  col m c (i 1) ⟨512 + (128 * (i 0).val + (i 2).val), by
    have h0 : (i 0).val < 2 := (i 0).isLt
    have h2 : (i 2).val < 128 := (i 2).isLt
    omega⟩

theorem final13 : (dats m 0 c).arrAt 13 cfg0.N = res13 m c := by
  refine (dats m 0 c).arrAt_eq_of_covers 13 _ (by decide +kernel) fun t hf y => ?_
  have ht := pt_lt t
  obtain ⟨j, a, k, rfl⟩ := split3 (n₀ := 2) (n₁ := 512) (n₂ := 128) y
  refine (congrFun (after0_13 m c t) (ix3 j a k)).trans ((FrontBlock.out13_at _ _ _ _ _ _ j a k).trans ?_)
  have e : (win0_13.blk t).view.emb (ix3 j a k) = ix3 j ⟨512 * t.val + a.val, by omega⟩ k := by
    funext x
    match x with
    | ⟨0, _⟩ => exact Fin.ext (by show win0_13.index t 0 * 2 + 1 * j.val = j.val; rw [(idx13 t).1]; omega)
    | ⟨1, _⟩ => exact Fin.ext (by show win0_13.index t 1 * 512 + 1 * a.val = 512 * t.val + a.val; rw [(idx13 t).2.1]; omega)
    | ⟨2, _⟩ => exact Fin.ext (by show win0_13.index t 2 * 128 + 1 * k.val = k.val; rw [(idx13 t).2.2]; omega)
  refine Eq.trans ?_ (congrArg (res13 m c) e).symm
  exact proj_eq m c t a (by omega) ⟨512 + (128 * j.val + k.val), by omega⟩ ⟨512 + (128 * j.val + k.val), by omega⟩ fun x => v2_qkv m c x ⟨512 + (128 * j.val + k.val), by omega⟩

end Cert.Proof.FrontRun

end
-- ==== Proof.FrontWords.lean ====
/-
  The words of the front call's masks and of the place of a row's block.
-/
module

public import Idealize.ShloMosaic.Lib.Pointwise
public import Idealize.ShloMosaic.Lib.WordCmp
public import Idealize.ShloMosaic.PureOps.Ideal

@[expose] public section

noncomputable section

open Idealize.ShloMosaic

namespace Cert.Proof.FrontWords

theorem select_ite {α : Type} (p : Prop) [Decidable p] (x y : α) : Scalar.select (if p then 1#1 else 0#1) x y = if p then x else y := by
  split <;> rfl

theorem word_lt : ∀ c : Fin 128, IntOp.cmpi .slt (BitVec.ofNat 32 c.val) 64#32 = if c.val < 64 then 1#1 else 0#1 := by decide +kernel

theorem word_ones : ∀ c : Fin 128, IntOp.ori (IntOp.cmpi .eq (BitVec.ofNat 32 c.val) 64#32) (IntOp.cmpi .eq (BitVec.ofNat 32 c.val) 65#32)
    = if c.val = 64 ∨ c.val = 65 then 1#1 else 0#1 := by decide +kernel

theorem word_zero : ∀ c : Fin 16, IntOp.cmpi .eq (BitVec.ofNat 32 c.val) 0#32 = if c.val = 0 then 1#1 else 0#1 := by decide +kernel

theorem word_eq (a b : ℕ) (ha : a < 128) (hb : b < 128) : IntOp.cmpi .eq (BitVec.ofNat 32 a) (BitVec.ofNat 32 b) = if a = b then 1#1 else 0#1 := by
  rw [WordCmp.cmpi_eq_eq_toNat, BitVec.toNat_ofNat, BitVec.toNat_ofNat, Nat.mod_eq_of_lt (by omega), Nat.mod_eq_of_lt (by omega)]
  by_cases h : a = b <;> simp [h]

/-! The place of a row's block among 128, as the kernel computes it. -/

/-- The row's quotient by 64, rounded down. -/
def quotient (w : BitVec 32) : BitVec 32 :=
  Scalar.select (IntOp.andi (IntOp.cmpi .ne (IntOp.subi (BitVec.setWidth 32 (IntOp.cmpi .sgt w 0#32)) (BitVec.setWidth 32 (IntOp.cmpi .slt w 0#32)))
      (Scalar.subi (Scalar.extui (Scalar.cmpi .sgt 64#32 0#32)) (Scalar.extui (Scalar.cmpi .slt 64#32 0#32))))
    (IntOp.cmpi .ne (IntOp.remsi .vector w 64#32) 0#32)) (IntOp.subi (IntOp.divsi .vector w 64#32) 1#32) (IntOp.divsi .vector w 64#32)

theorem quotient_eq : ∀ a b : Fin 128, quotient (BitVec.ofNat 32 (128 * a.val + b.val)) = BitVec.ofNat 32 ((128 * a.val + b.val) / 64) := by decide +kernel

/-- Its remainder by 128, not negative. -/
def remainder (q : BitVec 32) : BitVec 32 :=
  Scalar.select (IntOp.andi (IntOp.xori (IntOp.cmpi .slt (IntOp.remsi .vector q (Scalar.select (Scalar.cmpi .eq 128#32 0#32) 1#32 128#32)) 0#32)
      (Scalar.cmpi .slt (Scalar.select (Scalar.cmpi .eq 128#32 0#32) 1#32 128#32) 0#32))
    (IntOp.cmpi .ne (IntOp.remsi .vector q (Scalar.select (Scalar.cmpi .eq 128#32 0#32) 1#32 128#32)) 0#32))
    (IntOp.addi (IntOp.remsi .vector q (Scalar.select (Scalar.cmpi .eq 128#32 0#32) 1#32 128#32)) (Scalar.select (Scalar.cmpi .eq 128#32 0#32) 1#32 128#32))
    (IntOp.remsi .vector q (Scalar.select (Scalar.cmpi .eq 128#32 0#32) 1#32 128#32))

theorem remainder_eq : ∀ q : Fin 256, remainder (BitVec.ofNat 32 q.val) = BitVec.ofNat 32 (q.val % 128) := by decide +kernel

end Cert.Proof.FrontWords

end
-- ==== Proof.FrontKeys.lean ====
/-
  The front call's block functions read at an index, continued: the keys and the values of the selected and of the window
  attention.
-/
module

public import proofs.«01_k».proof.Proof.FrontBlock
public import proofs.«01_k».proof.Proof.FrontWords

@[expose] public section

noncomputable section

open Idealize.ShloMosaic Idealize.ShloMosaic.TcCoe

namespace Cert.Proof.FrontKeys

open Cert.Kernel2Ideal Cert.Kernel2Ideal.Gen
open Cert.Proof.FrontWords Cert.Proof.Spec Cert.Proof.FrontSpec Cert.Proof.FrontBlock

variable (i : grid0.Coords) (x0 : Vec Ideal S512x1024 .f32) (x1 : Vec Ideal S1x1024 .f32) (x2 : Vec Ideal S1024x1920 .bf16)
  (x3 : Vec Ideal S512x1 .f32) (x4 : Vec Ideal S3x128 .f32)

/-! A group's mean square, as the kernel takes it from the row of both. -/

theorem lower_sum (f : Fin 128 → EReal) : (∑ x : Fin 128, if x.val < 64 then f x else 0) = ∑ x : Fin 64, f ⟨0 + x.val, by omega⟩ := by
  refine (Fin.sum_univ_add (a := 64) (b := 64) (fun x : Fin 128 => if x.val < 64 then f x else 0)).trans ?_
  refine (congrArg₂ (· + ·) (Finset.sum_congr rfl fun x _ => ?_) (Finset.sum_eq_zero fun x _ => ?_)).trans (add_zero _)
  · exact (if_pos (show x.val < 64 from x.isLt)).trans (congrArg f (Fin.ext (Nat.zero_add _).symm))
  · exact if_neg (show ¬ 64 + x.val < 64 by omega)

theorem upper_sum (f : Fin 128 → EReal) : (∑ x : Fin 128, if x.val < 64 then 0 else f x) = ∑ x : Fin 64, f ⟨64 + x.val, by omega⟩ := by
  refine (Fin.sum_univ_add (a := 64) (b := 64) (fun x : Fin 128 => if x.val < 64 then 0 else f x)).trans ?_
  refine (congrArg₂ (· + ·) (Finset.sum_eq_zero fun x _ => ?_) (Finset.sum_congr rfl fun x _ => ?_)).trans (zero_add _)
  · exact if_pos (show x.val < 64 from x.isLt)
  · exact if_neg (show ¬ 64 + x.val < 64 by omega)

/-- The two groups' norm, as the kernel makes it. -/
theorem key_eq (p g : Fin 128 → EReal) (c : Fin 128) :
    p c * (if c.val < 64 then Ideal.rsqrt (Ideal.div (∑ x : Fin 128, if x.val < 64 then p x * p x else 0) (Ideal.ofBits .f32 0x42800000#32) + Ideal.ofBits .f32 0x358637BD#32)
      else Ideal.rsqrt (Ideal.div (∑ x : Fin 128, if x.val < 64 then 0 else p x * p x) (Ideal.ofBits .f32 0x42800000#32) + Ideal.ofBits .f32 0x358637BD#32)) * g c = key p g c := by
  rw [lower_sum fun x => p x * p x, upper_sum fun x => p x * p x]
  unfold key
  split
  · rename_i h
    simp only [show 64 * (c.val / 64) = 0 by omega]
  · rename_i h
    simp only [show 64 * (c.val / 64) = 64 by omega]

/-! The block's values. -/

theorem slc_at (r : Fin 512) (c : Fin 128) :
    k0_pay89 i x0 x1 x2 x3 x4 (ix2 r c) = key (fun c => proj x0 x1 x2 r ⟨768 + c.val, by omega⟩) (fun c => x4 (ix2 1 c)) c := by
  have e (c : Fin 128) : k0_pay85 i x0 x1 x2 x3 x4 (ix2 r ⟨256 + c.val, by omega⟩) = proj x0 x1 x2 r ⟨768 + c.val, by omega⟩ :=
    (kv_at i x0 x1 x2 x3 x4 r ⟨256 + c.val, by omega⟩).trans (congrArg (proj x0 x1 x2 r) (Fin.ext (by show 512 + (256 + c.val) = 768 + c.val; omega)))
  unfold k0_pay89 k0_pay13
  pointwise
  simp only [word_lt, select_ite, e]
  exact key_eq (fun c => proj x0 x1 x2 r ⟨768 + c.val, by omega⟩) (fun c => x4 (ix2 1 c)) c

theorem win_at (r : Fin 512) (c : Fin 128) :
    k0_pay90 i x0 x1 x2 x3 x4 (ix2 r c) = key (fun c => proj x0 x1 x2 r ⟨1024 + c.val, by omega⟩) (fun c => x4 (ix2 2 c)) c := by
  have e (c : Fin 128) : k0_pay85 i x0 x1 x2 x3 x4 (ix2 r ⟨512 + c.val, by omega⟩) = proj x0 x1 x2 r ⟨1024 + c.val, by omega⟩ :=
    (kv_at i x0 x1 x2 x3 x4 r ⟨512 + c.val, by omega⟩).trans (congrArg (proj x0 x1 x2 r) (Fin.ext (by show 512 + (512 + c.val) = 1024 + c.val; omega)))
  unfold k0_pay90 k0_pay17 k0_pay16 k0_pay15 k0_pay14
  pointwise
  simp only [word_lt, select_ite, e]
  exact key_eq (fun c => proj x0 x1 x2 r ⟨1024 + c.val, by omega⟩) (fun c => x4 (ix2 2 c)) c

theorem mask_at (r : Fin 512) (c : Fin 128) : k0_pay86 i x0 x1 x2 x3 x4 (ix2 r c) = if c.val < 64 then 1#1 else 0#1 := by
  unfold k0_pay86 k0_pay6
  pointwise
  exact word_lt c

theorem ones_at (r : Fin 512) (c : Fin 128) : k0_pay87 i x0 x1 x2 x3 x4 (ix2 r c) = if c.val = 64 ∨ c.val = 65 then (1 : EReal) else 0 := by
  unfold k0_pay87 k0_pay7
  pointwise
  rw [word_ones, select_ite]

theorem bottom_at (r : Fin 16) (c : Fin 512) : k0_pay93 i x0 x1 x2 x3 x4 (ix2 r c) = if r.val = 0 then (1 : EReal) else 0 := by
  unfold k0_pay93 k0_pay20
  pointwise
  rw [word_zero, select_ite]

theorem vs_at (r : Fin 128) (c : Fin 512) : k0_pay91 i x0 x1 x2 x3 x4 (ix2 r c) = proj x0 x1 x2 c ⟨896 + r.val, by omega⟩ := by
  refine Eq.trans ?_ ((kv_at i x0 x1 x2 x3 x4 c ⟨384 + r.val, by omega⟩).trans (congrArg (proj x0 x1 x2 c) (Fin.ext (by show 512 + (384 + r.val) = 896 + r.val; omega))))
  unfold k0_pay91 k0_pay18
  pointwise

theorem vw_at (r : Fin 128) (c : Fin 512) : k0_pay92 i x0 x1 x2 x3 x4 (ix2 r c) = proj x0 x1 x2 c ⟨1152 + r.val, by omega⟩ := by
  refine Eq.trans ?_ ((kv_at i x0 x1 x2 x3 x4 c ⟨640 + r.val, by omega⟩).trans (congrArg (proj x0 x1 x2 c) (Fin.ext (by show 512 + (640 + r.val) = 1152 + r.val; omega))))
  unfold k0_pay92 k0_pay19
  pointwise

theorem place_at (r : Fin 512) (c : Fin 128) (h : 512 * (i 0).val + r.val < 16384) :
    k0_pay88 i x0 x1 x2 x3 x4 (ix2 r c) = if c.val = (512 * (i 0).val + r.val) / 64 % 128 then (1 : EReal) else 0 := by
  have hw : IntOp.addi (BitVec.ofNat 32 r.val) (Scalar.muli (BitVec.ofNat 32 (i 0).val) 512#32) = BitVec.ofNat 32 (512 * (i 0).val + r.val) := by
    rw [BitVec.ofNat_add, BitVec.ofNat_mul, BitVec.add_comm, BitVec.mul_comm]
    rfl
  have hq := quotient_eq ⟨(512 * (i 0).val + r.val) / 128, by omega⟩ ⟨(512 * (i 0).val + r.val) % 128, by omega⟩
  rw [Nat.div_add_mod] at hq
  refine Eq.trans (?_ : _ = Scalar.select (IntOp.cmpi .eq (BitVec.ofNat 32 c.val)
    (remainder (quotient (IntOp.addi (BitVec.ofNat 32 r.val) (Scalar.muli (BitVec.ofNat 32 (i 0).val) 512#32))))) (1 : EReal) 0) ?_
  · unfold k0_pay88 k0_pay10 k0_pay5 k0_pay8 k0_pay9 k0_pay5
    pointwise
    rfl
  · rw [hw, hq]
    refine (congrArg (fun w => Scalar.select (IntOp.cmpi .eq (BitVec.ofNat 32 c.val) w) (1 : EReal) 0) (remainder_eq ⟨(512 * (i 0).val + r.val) / 64, by omega⟩)).trans ?_
    rw [word_eq c.val _ c.isLt (Nat.mod_lt _ (by decide)), select_ite]

/-! The outputs. -/

theorem first3 {n₁ n₂ : ℕ} (x : (⟨3, ![1, n₁, n₂]⟩ : Shape).Idx) : ∃ (a : Fin n₁) (b : Fin n₂), x = ix3 (0 : Fin 1) a b :=
  ⟨x 1, x 2, funext fun a => match a with | ⟨0, _⟩ => Subsingleton.elim (α := Fin 1) _ _ | ⟨1, _⟩ => rfl | ⟨2, _⟩ => rfl⟩

theorem first4 {n₁ n₂ : ℕ} (x : (⟨4, ![1, 1, n₁, n₂]⟩ : Shape).Idx) : ∃ (a : Fin n₁) (b : Fin n₂), x = ix4 (0 : Fin 1) (0 : Fin 1) a b :=
  ⟨x 2, x 3, funext fun a => match a with
    | ⟨0, _⟩ => Subsingleton.elim (α := Fin 1) _ _ | ⟨1, _⟩ => Subsingleton.elim (α := Fin 1) _ _ | ⟨2, _⟩ => rfl | ⟨3, _⟩ => rfl⟩

/-- The keys of the window attention. -/
theorem out11_at (g : Fin 2) (r : Fin 512) (l : Fin 128) :
    out0_11 i x0 x1 x2 x3 x4 (ix3 g r l)
      = widened (fun d => key (fun c => proj x0 x1 x2 r ⟨1024 + c.val, by omega⟩) (fun c => x4 (ix2 2 c)) ⟨64 * g.val + d.val, by omega⟩) l := by
  refine Eq.trans ?_ (congrArg (fun k => widened k l) (funext fun d => win_at i x0 x1 x2 x3 x4 r ⟨64 * g.val + d.val, by omega⟩))
  unfold out0_11
  canon_tiles x h
  · obtain ⟨a, b, rfl⟩ := first3 x
    obtain rfl : r = a := Fin.ext h1
    obtain rfl : l = b := Fin.ext h2
    obtain rfl : g = 1 := Fin.ext h0
    unfold k0_pay40 k0_pay39 widened
    pointwise
    rw [mask_at, select_ite]
    split
    · exact congrArg (fun c => k0_pay90 i x0 x1 x2 x3 x4 (ix2 r c)) (Fin.ext (by show (l.val + 128 - 64) % 128 = 64 * 1 + l.val; omega))
    · rfl
  · obtain ⟨a, b, rfl⟩ := first3 x
    obtain rfl : r = a := Fin.ext h1
    obtain rfl : l = b := Fin.ext h2
    obtain rfl : g = 0 := Fin.ext h0
    unfold k0_pay24 widened
    pointwise
    rw [mask_at, select_ite]
    split
    · exact congrArg (fun c => k0_pay90 i x0 x1 x2 x3 x4 (ix2 r c)) (Fin.ext rfl)
    · rfl

theorem augmented_low (k : Fin 64 → EReal) (ρ : Fin 16384) (l : Fin 128) : augmented k ρ ⟨l.val, by omega⟩ = if l.val = ρ.val / 64 % 128 then 1 else 0 := by
  unfold augmented
  exact dif_pos l.isLt

theorem augmented_high (k : Fin 64 → EReal) (ρ : Fin 16384) (l : Fin 128) :
    augmented k ρ ⟨128 + l.val, by omega⟩ = if h : l.val < 64 then k ⟨l.val, h⟩ else if l.val = 64 ∨ l.val = 65 then 1 else 0 := by
  unfold augmented
  refine (dif_neg (show ¬ 128 + l.val < 128 by omega)).trans ?_
  simp only [Nat.add_sub_cancel_left]
  split
  · rfl
  · exact if_congr (by omega) rfl rfl

/-- The keys of the selected attention. -/
theorem out8_at (g : Fin 2) (r : Fin 512) (l : Fin 256) (hr : 512 * (i 0).val + r.val < 16384) :
    out0_8 i x0 x1 x2 x3 x4 (ix3 g r l)
      = augmented (fun d => key (fun c => proj x0 x1 x2 r ⟨768 + c.val, by omega⟩) (fun c => x4 (ix2 1 c)) ⟨64 * g.val + d.val, by omega⟩) ⟨512 * (i 0).val + r.val, hr⟩ l := by
  refine Eq.trans ?_ (congrArg (fun k => augmented k ⟨512 * (i 0).val + r.val, hr⟩ l) (funext fun d => slc_at i x0 x1 x2 x3 x4 r ⟨64 * g.val + d.val, by omega⟩))
  unfold out0_8
  canon_tiles x h
  · obtain ⟨a, b, rfl⟩ := first3 x
    obtain rfl : r = a := Fin.ext h1
    obtain rfl : l = ⟨128 + b.val, Nat.add_lt_add_left b.isLt 128⟩ := Fin.ext h2
    obtain rfl : g = 1 := Fin.ext h0
    rw [augmented_high]
    unfold k0_pay38
    pointwise
    rw [mask_at, select_ite, ones_at]
    split
    · exact congrArg (fun c => k0_pay89 i x0 x1 x2 x3 x4 (ix2 r c)) (Fin.ext (by show (b.val + 128 - 64) % 128 = 64 * 1 + b.val; omega))
    · rfl
  · obtain ⟨a, b, rfl⟩ := first3 x
    obtain rfl : r = a := Fin.ext h1
    obtain rfl : l = ⟨b.val, b.isLt.trans (by decide)⟩ := Fin.ext h2
    rw [augmented_low]
    unfold k0_pay37
    pointwise
    exact place_at i x0 x1 x2 x3 x4 r b hr
  · obtain ⟨a, b, rfl⟩ := first3 x
    obtain rfl : r = a := Fin.ext h1
    obtain rfl : l = ⟨128 + b.val, Nat.add_lt_add_left b.isLt 128⟩ := Fin.ext h2
    obtain rfl : g = 0 := Fin.ext h0
    rw [augmented_high]
    unfold k0_pay23 k0_pay22
    pointwise
    rw [mask_at, select_ite, ones_at]
    split
    · exact congrArg (fun c => k0_pay89 i x0 x1 x2 x3 x4 (ix2 r c)) (Fin.ext rfl)
    · rfl
  · obtain ⟨a, b, rfl⟩ := first3 x
    obtain rfl : r = a := Fin.ext h1
    obtain rfl : l = ⟨b.val, b.isLt.trans (by decide)⟩ := Fin.ext h2
    rw [augmented_low]
    unfold k0_pay21
    pointwise
    exact place_at i x0 x1 x2 x3 x4 r b hr

/-- A group's values, channels by rows, with the ones and the zeros below. -/
theorem tall_at (v : FVec Ideal S64x512 .f32) (d : Fin 80) (q : Fin 512) :
    (truncf .bf16 (concatenate S80x512 0 [⟨S64x512, v⟩, ⟨S16x512, k0_pay93 i x0 x1 x2 x3 x4⟩] concatenates_S64x512_S16x512_S80x512_d0) bitsLt_bf16_f32 : FVec Ideal S80x512 .bf16) (ix2 d q)
      = heightened (fun e => v (ix2 e q)) d := by
  unfold heightened
  pointwise
  split
  · rfl
  · rw [bottom_at]
    exact if_congr (by show d.val - 64 = 0 ↔ d.val = 64; omega) rfl rfl

/-- The two groups' values of the selected attention, -/
def slcs : Fin 2 → FVec Ideal S80x512 .bf16 := ![k0_pay94 i x0 x1 x2 x3 x4, k0_pay96 i x0 x1 x2 x3 x4]

theorem slcs_at (g : Fin 2) (d : Fin 80) (q : Fin 512) :
    slcs i x0 x1 x2 x3 x4 g (ix2 d q) = heightened (fun e => proj x0 x1 x2 q ⟨896 + (64 * g.val + e.val), by omega⟩) d := by
  refine Eq.trans ?_ (congrArg (fun v => heightened v d) (funext fun e => vs_at i x0 x1 x2 x3 x4 ⟨64 * g.val + e.val, by omega⟩ q))
  fin_cases g
  · refine (tall_at i x0 x1 x2 x3 x4 _ d q).trans (congrArg (fun v => heightened v d) (funext fun e => ?_))
    pointwise
  · refine (tall_at i x0 x1 x2 x3 x4 _ d q).trans (congrArg (fun v => heightened v d) (funext fun e => ?_))
    pointwise

/-- and of the window attention. -/
def wins : Fin 2 → FVec Ideal S80x512 .bf16 := ![k0_pay95 i x0 x1 x2 x3 x4, k0_pay97 i x0 x1 x2 x3 x4]

theorem wins_at (g : Fin 2) (d : Fin 80) (q : Fin 512) :
    wins i x0 x1 x2 x3 x4 g (ix2 d q) = heightened (fun e => proj x0 x1 x2 q ⟨1152 + (64 * g.val + e.val), by omega⟩) d := by
  refine Eq.trans ?_ (congrArg (fun v => heightened v d) (funext fun e => vw_at i x0 x1 x2 x3 x4 ⟨64 * g.val + e.val, by omega⟩ q))
  fin_cases g
  · refine (tall_at i x0 x1 x2 x3 x4 _ d q).trans (congrArg (fun v => heightened v d) (funext fun e => ?_))
    pointwise
  · refine (tall_at i x0 x1 x2 x3 x4 _ d q).trans (congrArg (fun v => heightened v d) (funext fun e => ?_))
    pointwise

/-- The values of the selected attention, in one chunk. -/
theorem out9_at (g : Fin 2) (d : Fin 80) (q : Fin 512) : out0_9 i x0 x1 x2 x3 x4 (ix4 g 0 d q) = slcs i x0 x1 x2 x3 x4 g (ix2 d q) := by
  unfold out0_9
  canon_tiles x h
  · obtain ⟨a, b, rfl⟩ := first4 x
    obtain rfl : d = a := Fin.ext h2
    obtain rfl : q = b := Fin.ext h3
    obtain rfl : g = 1 := Fin.ext h0
    show _ = k0_pay41 _ _ _
    unfold k0_pay43
    pointwise
  · obtain ⟨a, b, rfl⟩ := first4 x
    obtain rfl : d = a := Fin.ext h2
    obtain rfl : q = b := Fin.ext h3
    obtain rfl : g = 0 := Fin.ext h0
    show _ = k0_pay25 _ _ _
    unfold k0_pay27
    pointwise

theorem slices_chunk (k : Fin 4) : S80x512.Slices ![0, 128 * k.val] S80x128 := by
  revert k
  decide

/-- A chunk of 128 rows of a group's values. -/
def chunk (v : Fin 2 → FVec Ideal S80x512 .bf16) (k : Fin 8) : FVec Ideal S1x1x80x128 .bf16 :=
  shapeCast S1x1x80x128 (extractStridedSlice S80x128 ![0, 128 * (k.val % 4)] (v ⟨k.val / 4, by omega⟩) (slices_chunk ⟨k.val % 4, by omega⟩)) shapeCasts_S80x128_S1x1x80x128

theorem chunk_at (v : Fin 2 → FVec Ideal S80x512 .bf16) (k : Fin 8) (d : Fin 80) (q : Fin 128) :
    chunk v k (ix4 0 0 d q) = v ⟨k.val / 4, by omega⟩ (ix2 d ⟨128 * (k.val % 4) + q.val, by omega⟩) := by
  unfold chunk
  pointwise

theorem inb_chunk (k : Fin 8) : ∀ a, (![(7 - k.val) / 4, (7 - k.val) % 4, 0, 0] : Fin 4 → ℕ) a + S1x1x80x128.size a ≤ S2x4x80x128.size a := by
  revert k
  decide

/-- Eight chunks stored one after the other, last first, read at an index. -/
theorem chunked (v : Fin 2 → FVec Ideal S80x512 .bf16) (g : Fin 2) (j : Fin 4) (d : Fin 80) (q : Fin 128) :
    View.canon (Val := Elt Ideal) (List.ofFn fun k : Fin 8 =>
      (⟨Rect.unit ![(7 - k.val) / 4, (7 - k.val) % 4, 0, 0] S1x1x80x128.size (inb_chunk k), chunk v ⟨7 - k.val, by omega⟩⟩ : View.Piece (Elt Ideal) S2x4x80x128 .bf16)) (ix4 g j d q)
      = v g (ix2 d ⟨128 * j.val + q.val, by omega⟩) := by
  refine View.canon_ofFn_unit_eq_of_forall (Val := Elt Ideal) (S := S2x4x80x128) _ _ _ _ _ _ ?_ ?_
  · refine ⟨⟨7 - (4 * g.val + j.val), by omega⟩, fun a => ?_⟩
    fin_cases a
    · show (7 - (7 - (4 * g.val + j.val))) / 4 ≤ g.val ∧ g.val < (7 - (7 - (4 * g.val + j.val))) / 4 + 1
      omega
    · show (7 - (7 - (4 * g.val + j.val))) % 4 ≤ j.val ∧ j.val < (7 - (7 - (4 * g.val + j.val))) % 4 + 1
      omega
    · show 0 ≤ d.val ∧ d.val < 0 + 80
      omega
    · show 0 ≤ q.val ∧ q.val < 0 + 128
      omega
  · intro k x hx
    obtain ⟨a, b, rfl⟩ := first4 x
    have e0 : g.val = (7 - k.val) / 4 + 0 := hx 0
    have e1 : j.val = (7 - k.val) % 4 + 0 := hx 1
    have e2 : d.val = 0 + a.val := hx 2
    have e3 : q.val = 0 + b.val := hx 3
    obtain rfl : d = a := Fin.ext (by omega)
    obtain rfl : q = b := Fin.ext (by omega)
    exact (chunk_at v _ d q).trans (congrArg₂ (fun a b => v a (ix2 d b)) (Fin.ext e0.symm) (Fin.ext (by show 128 * ((7 - k.val) % 4) + q.val = 128 * j.val + q.val; omega)))

/-- The values of the selected attention, in four chunks, -/
theorem out10_at (g : Fin 2) (j : Fin 4) (d : Fin 80) (q : Fin 128) :
    out0_10 i x0 x1 x2 x3 x4 (ix4 g j d q) = slcs i x0 x1 x2 x3 x4 g (ix2 d ⟨128 * j.val + q.val, by omega⟩) :=
  chunked (slcs i x0 x1 x2 x3 x4) g j d q

/-- and of the window attention. -/
theorem out12_at (g : Fin 2) (j : Fin 4) (d : Fin 80) (q : Fin 128) :
    out0_12 i x0 x1 x2 x3 x4 (ix4 g j d q) = wins i x0 x1 x2 x3 x4 g (ix2 d ⟨128 * j.val + q.val, by omega⟩) :=
  chunked (wins i x0 x1 x2 x3 x4) g j d q

end Cert.Proof.FrontKeys

end
-- ==== Proof.FrontRunKeys.lean ====
/-
  The front call's keys and values as functions of its arguments.
-/
module

public import proofs.«01_k».proof.Proof.FrontRun
public import proofs.«01_k».proof.Proof.FrontKeys

@[expose] public section

noncomputable section

open Idealize.ShloMosaic Idealize.ShloMosaic.TcCoe

namespace Cert.Proof.FrontRunKeys

open Cert.Kernel2Ideal Cert.Kernel2Ideal.Gen Cert.Kernel2Ideal.Value Cert.Proof.FrontSpec Cert.Proof.FrontHost Cert.Proof.FrontRun

variable (m : (ℓ : Loc nD τ sig) → Buf (Elt Ideal) ℓ) (c : Dev nD)

theorem idx8 : ∀ t : Fin cfg0.N, win0_8.index t 0 = 0 ∧ win0_8.index t 1 = t.val ∧ win0_8.index t 2 = 0 := by decide +kernel
theorem idx9 : ∀ t : Fin cfg0.N, win0_9.index t 0 = 0 ∧ win0_9.index t 1 = t.val ∧ win0_9.index t 2 = 0 ∧ win0_9.index t 3 = 0 := by decide +kernel
theorem idx10 : ∀ t : Fin cfg0.N, win0_10.index t 0 = 0 ∧ win0_10.index t 1 = t.val ∧ win0_10.index t 2 = 0 ∧ win0_10.index t 3 = 0 := by decide +kernel
theorem idx11 : ∀ t : Fin cfg0.N, win0_11.index t 0 = 0 ∧ win0_11.index t 1 = t.val ∧ win0_11.index t 2 = 0 := by decide +kernel
theorem idx12 : ∀ t : Fin cfg0.N, win0_12.index t 0 = 0 ∧ win0_12.index t 1 = t.val ∧ win0_12.index t 2 = 0 ∧ win0_12.index t 3 = 0 := by decide +kernel

/-- A grid point's first coordinate. -/
theorem coord : ∀ t : Fin cfg0.N, ((grid0.coords t) 0).val = t.val := by decide +kernel

theorem split4 {n₀ n₁ n₂ n₃ : ℕ} (y : (⟨4, ![n₀, n₁, n₂, n₃]⟩ : Shape).Idx) : ∃ (a : Fin n₀) (b : Fin n₁) (d : Fin n₂) (e : Fin n₃), y = ix4 a b d e :=
  ⟨y 0, y 1, y 2, y 3, funext fun a => match a with | ⟨0, _⟩ => rfl | ⟨1, _⟩ => rfl | ⟨2, _⟩ => rfl | ⟨3, _⟩ => rfl⟩

/-- Channel `k` of the keys of kind `j` of row `r`, normalised by row `n` of the gains. -/
def keyOf (j : Fin 6) (n : Fin 3) (r : Fin 16384) (k : Fin 128) : EReal :=
  key (fun a => col m c r ⟨512 + (128 * j.val + a.val), by omega⟩) (fun a => (m (c.tc.loc main_arg4) : FVec Ideal S3x64 .f32) (ix2 n ⟨a.val % 64, by omega⟩)) k

/-- Channel `k` of the values of kind `j` of row `r`. -/
def valueOf (j : Fin 6) (r : Fin 16384) (k : Fin 128) : EReal := col m c r ⟨512 + (128 * j.val + k.val), by omega⟩

theorem key_eq (t : Fin cfg0.N) (j : Fin 6) (n : Fin 3) (r : Fin 512) (h : 512 * t.val + r.val < 16384) (o : Fin 128 → Fin 1920) (ho : ∀ a, (o a).val = 512 + (128 * j.val + a.val)) (k : Fin 128) :
    key (fun a => FrontBlock.proj (iblk m c 0 t) (iblk m c 1 t) (iblk m c 2 t) r (o a)) (fun a => (iblk m c 4 t : Vec Ideal S3x128 .f32) (ix2 n a)) k
      = keyOf m c j n ⟨512 * t.val + r.val, h⟩ k := by
  refine congrArg₂ (fun p g => key p g k) (funext fun a => ?_) (funext fun a => ?_)
  · exact proj_kv m c t r h j a (o a) (ho a)
  · rw [b4]
    exact v4 m c n a

/-- The keys of the selected attention. -/
def res8 : FVec Ideal S2x16384x256 .bf16 := fun i => augmented (fun d => keyOf m c 2 1 (i 1) (lane (i 0) d)) (i 1) (i 2)

theorem final8 : (dats m 0 c).arrAt 8 cfg0.N = res8 m c := by
  refine (dats m 0 c).arrAt_eq_of_covers 8 _ (by decide +kernel) fun t hf y => ?_
  have ht := pt_lt t
  have hc := coord t
  obtain ⟨j, a, k, rfl⟩ := split3 (n₀ := 2) (n₁ := 512) (n₂ := 256) y
  refine (congrFun (after0_8 m c t) (ix3 j a k)).trans ((FrontKeys.out8_at _ _ _ _ _ _ j a k (by rw [hc]; omega)).trans ?_)
  have e : (win0_8.blk t).view.emb (ix3 j a k) = ix3 j ⟨512 * t.val + a.val, by omega⟩ k := by
    funext x
    match x with
    | ⟨0, _⟩ => exact Fin.ext (by show win0_8.index t 0 * 2 + 1 * j.val = j.val; rw [(idx8 t).1]; omega)
    | ⟨1, _⟩ => exact Fin.ext (by show win0_8.index t 1 * 512 + 1 * a.val = 512 * t.val + a.val; rw [(idx8 t).2.1]; omega)
    | ⟨2, _⟩ => exact Fin.ext (by show win0_8.index t 2 * 256 + 1 * k.val = k.val; rw [(idx8 t).2.2]; omega)
  refine Eq.trans ?_ (congrArg (res8 m c) e).symm
  refine congrArg₂ (fun p q => augmented p q k) (funext fun d => ?_) (Fin.ext (by show 512 * ((grid0.coords t) 0).val + a.val = 512 * t.val + a.val; rw [hc]))
  exact key_eq m c t 2 1 a (by omega) (fun b => ⟨768 + b.val, by omega⟩) (fun b => by show 768 + b.val = 512 + (128 * 2 + b.val); omega) (lane j d)

/-- The keys of the window attention. -/
def res11 : FVec Ideal S2x16384x128 .bf16 := fun i => widened (fun d => keyOf m c 4 2 (i 1) (lane (i 0) d)) (i 2)

theorem final11 : (dats m 0 c).arrAt 11 cfg0.N = res11 m c := by
  refine (dats m 0 c).arrAt_eq_of_covers 11 _ (by decide +kernel) fun t hf y => ?_
  have ht := pt_lt t
  obtain ⟨j, a, k, rfl⟩ := split3 (n₀ := 2) (n₁ := 512) (n₂ := 128) y
  refine (congrFun (after0_11 m c t) (ix3 j a k)).trans ((FrontKeys.out11_at _ _ _ _ _ _ j a k).trans ?_)
  have e : (win0_11.blk t).view.emb (ix3 j a k) = ix3 j ⟨512 * t.val + a.val, by omega⟩ k := by
    funext x
    match x with
    | ⟨0, _⟩ => exact Fin.ext (by show win0_11.index t 0 * 2 + 1 * j.val = j.val; rw [(idx11 t).1]; omega)
    | ⟨1, _⟩ => exact Fin.ext (by show win0_11.index t 1 * 512 + 1 * a.val = 512 * t.val + a.val; rw [(idx11 t).2.1]; omega)
    | ⟨2, _⟩ => exact Fin.ext (by show win0_11.index t 2 * 128 + 1 * k.val = k.val; rw [(idx11 t).2.2]; omega)
  refine Eq.trans ?_ (congrArg (res11 m c) e).symm
  refine congrArg (fun p => widened p k) (funext fun d => ?_)
  exact key_eq m c t 4 2 a (by omega) (fun b => ⟨1024 + b.val, by omega⟩) (fun b => by show 1024 + b.val = 512 + (128 * 4 + b.val); omega) (lane j d)

/-- The values of the selected attention, in chunks of 512 rows. -/
def res9 : FVec Ideal S2x32x80x512 .bf16 := fun i => heightened (fun d => valueOf m c 3 (row512 (i 1) (i 3)) (lane (i 0) d)) (i 2)

theorem final9 : (dats m 0 c).arrAt 9 cfg0.N = res9 m c := by
  refine (dats m 0 c).arrAt_eq_of_covers 9 _ (by decide +kernel) fun t hf y => ?_
  have ht := pt_lt t
  obtain ⟨j, z, k, q, rfl⟩ := split4 (n₀ := 2) (n₁ := 1) (n₂ := 80) (n₃ := 512) y
  obtain rfl : z = 0 := Subsingleton.elim _ _
  refine (congrFun (after0_9 m c t) (ix4 j 0 k q)).trans ((FrontKeys.out9_at _ _ _ _ _ _ j k q).trans ((FrontKeys.slcs_at _ _ _ _ _ _ j k q).trans ?_))
  have e : (win0_9.blk t).view.emb (ix4 j 0 k q) = ix4 j ⟨t.val, ht⟩ k q := by
    funext x
    match x with
    | ⟨0, _⟩ => exact Fin.ext (by show win0_9.index t 0 * 2 + 1 * j.val = j.val; rw [(idx9 t).1]; omega)
    | ⟨1, _⟩ => exact Fin.ext (by show win0_9.index t 1 * 1 + 1 * 0 = t.val; rw [(idx9 t).2.1]; omega)
    | ⟨2, _⟩ => exact Fin.ext (by show win0_9.index t 2 * 80 + 1 * k.val = k.val; rw [(idx9 t).2.2.1]; omega)
    | ⟨3, _⟩ => exact Fin.ext (by show win0_9.index t 3 * 512 + 1 * q.val = q.val; rw [(idx9 t).2.2.2]; omega)
  refine Eq.trans ?_ (congrArg (res9 m c) e).symm
  refine congrArg (fun v => heightened v k) (funext fun d => ?_)
  exact proj_kv m c t q (by omega) 3 (lane j d) _ (by show 896 + (64 * j.val + d.val) = 512 + (128 * 3 + (64 * j.val + d.val)); omega)

/-- The values of kind `k`, in chunks of 128 rows. -/
def res128 (k : Fin 6) : FVec Ideal S2x128x80x128 .bf16 := fun i => heightened (fun d => valueOf m c k (row128 (i 1) (i 3)) (lane (i 0) d)) (i 2)

/-- A chunk of a block's rows is a chunk of the array's. -/
theorem chunk_eq (t : Fin cfg0.N) (n : Fin 6) (j : Fin 2) (b : Fin 4) (k : Fin 80) (q : Fin 128) (o : Fin 64 → Fin 1920) (ho : ∀ d, (o d).val = 512 + (128 * n.val + (64 * j.val + d.val)))
    (h : 4 * t.val + b.val < 128) (h' : 128 * b.val + q.val < 512) :
    heightened (fun d => FrontBlock.proj (iblk m c 0 t) (iblk m c 1 t) (iblk m c 2 t) ⟨128 * b.val + q.val, h'⟩ (o d)) k = res128 m c n (ix4 j ⟨4 * t.val + b.val, h⟩ k q) := by
  have ht := pt_lt t
  refine congrArg (fun v => heightened v k) (funext fun d => ?_)
  refine (proj_kv m c t ⟨128 * b.val + q.val, h'⟩ (by show 512 * t.val + (128 * b.val + q.val) < 16384; omega) n (lane j d) (o d) (ho d)).trans ?_
  exact congrArg (fun r => valueOf m c n r (lane j d)) (Fin.ext (by show 512 * t.val + (128 * b.val + q.val) = 128 * (4 * t.val + b.val) + q.val; omega))

theorem final10 : (dats m 0 c).arrAt 10 cfg0.N = res128 m c 3 := by
  refine (dats m 0 c).arrAt_eq_of_covers 10 _ (by decide +kernel) fun t hf y => ?_
  have ht := pt_lt t
  obtain ⟨j, b, k, q, rfl⟩ := split4 (n₀ := 2) (n₁ := 4) (n₂ := 80) (n₃ := 128) y
  refine (congrFun (after0_10 m c t) (ix4 j b k q)).trans ((FrontKeys.out10_at _ _ _ _ _ _ j b k q).trans ((FrontKeys.slcs_at _ _ _ _ _ _ j k _).trans ?_))
  have e : (win0_10.blk t).view.emb (ix4 j b k q) = ix4 j ⟨4 * t.val + b.val, by omega⟩ k q := by
    funext x
    match x with
    | ⟨0, _⟩ => exact Fin.ext (by show win0_10.index t 0 * 2 + 1 * j.val = j.val; rw [(idx10 t).1]; omega)
    | ⟨1, _⟩ => exact Fin.ext (by show win0_10.index t 1 * 4 + 1 * b.val = 4 * t.val + b.val; rw [(idx10 t).2.1]; omega)
    | ⟨2, _⟩ => exact Fin.ext (by show win0_10.index t 2 * 80 + 1 * k.val = k.val; rw [(idx10 t).2.2.1]; omega)
    | ⟨3, _⟩ => exact Fin.ext (by show win0_10.index t 3 * 128 + 1 * q.val = q.val; rw [(idx10 t).2.2.2]; omega)
  refine Eq.trans ?_ (congrArg (res128 m c 3) e).symm
  exact chunk_eq m c t 3 j b k q (fun d => ⟨896 + (64 * j.val + d.val), by omega⟩) (fun d => by show 896 + (64 * j.val + d.val) = 512 + (128 * 3 + (64 * j.val + d.val)); omega) (by omega) (by omega)

theorem final12 : (dats m 0 c).arrAt 12 cfg0.N = res128 m c 5 := by
  refine (dats m 0 c).arrAt_eq_of_covers 12 _ (by decide +kernel) fun t hf y => ?_
  have ht := pt_lt t
  obtain ⟨j, b, k, q, rfl⟩ := split4 (n₀ := 2) (n₁ := 4) (n₂ := 80) (n₃ := 128) y
  refine (congrFun (after0_12 m c t) (ix4 j b k q)).trans ((FrontKeys.out12_at _ _ _ _ _ _ j b k q).trans ((FrontKeys.wins_at _ _ _ _ _ _ j k _).trans ?_))
  have e : (win0_12.blk t).view.emb (ix4 j b k q) = ix4 j ⟨4 * t.val + b.val, by omega⟩ k q := by
    funext x
    match x with
    | ⟨0, _⟩ => exact Fin.ext (by show win0_12.index t 0 * 2 + 1 * j.val = j.val; rw [(idx12 t).1]; omega)
    | ⟨1, _⟩ => exact Fin.ext (by show win0_12.index t 1 * 4 + 1 * b.val = 4 * t.val + b.val; rw [(idx12 t).2.1]; omega)
    | ⟨2, _⟩ => exact Fin.ext (by show win0_12.index t 2 * 80 + 1 * k.val = k.val; rw [(idx12 t).2.2.1]; omega)
    | ⟨3, _⟩ => exact Fin.ext (by show win0_12.index t 3 * 128 + 1 * q.val = q.val; rw [(idx12 t).2.2.2]; omega)
  refine Eq.trans ?_ (congrArg (res128 m c 5) e).symm
  exact chunk_eq m c t 5 j b k q (fun d => ⟨1152 + (64 * j.val + d.val), by omega⟩) (fun d => by show 1152 + (64 * j.val + d.val) = 512 + (128 * 5 + (64 * j.val + d.val)); omega) (by omega) (by omega)

end Cert.Proof.FrontRunKeys

end
-- ==== Proof.FrontRef.lean ====
/-
  The front call's reference read at an index: its projection, its queries, its branch gates, the keys and values to be
  compressed and the recurrence's input.
-/
module

public import proofs.«01_k».proof.Proof.Gen.Reference2Ideal.Run
public import proofs.«01_k».proof.Proof.FrontSpec
public import Idealize.ShloMosaic.Lib.Pointwise

@[expose] public section

noncomputable section

open Idealize.ShloMosaic Idealize.ShloMosaic.TcCoe

namespace Cert.Proof.FrontRef

open Cert.Reference2Ideal Cert.Reference2Ideal.Gen Cert.Proof.FrontSpec Cert.Proof.Spec

variable (x : FVec Ideal S1x16384x1024 .f32) (g : FVec Ideal S1024 .f32) (w : FVec Ideal S1024x4888 .f32) (qg : FVec Ideal S64 .f32)

/-- The normalised rows. -/
def rows : FVec Ideal S1x16384x1024 .f32 :=
  mulf (mulf x (broadcastInDim S1x16384x1024 ![0, 1, 2] bcast_S1x16384x1_S1x16384x1024_0_1_2 (Host.rsqrt (addf (Host.divf (broadcastInDim S1x16384x1 ![0, 1] bcast_S1x16384_S1x16384x1_0_1 (Host.reduceAdd (mulf x x) (constant S_ .f32 0x00000000#32) reducesTo_S1x16384x1024_S1x16384_d2 h_S_)) (broadcastInDim S1x16384x1 ![] bcast_S_S1x16384x1 (constant S_ .f32 0x44800000#32))) (broadcastInDim S1x16384x1 ![] bcast_S_S1x16384x1 (constant S_ .f32 0x358637BD#32))))))
    (broadcastInDim S1x16384x1024 ![0, 1, 2] bcast_S1x1x1024_S1x16384x1024_0_1_2 (broadcastInDim S1x1x1024 ![2] bcast_S1024_S1x1x1024_2 g))

theorem rows_at (r : Fin 16384) (k : Fin 1024) : rows x g (ix3 0 r k) = normed (fun k => x (ix3 0 r k)) (fun k => g (ix1 k)) k := by
  unfold rows normed
  pointwise

/-- The input projection. -/
def projected : FVec Ideal S1x16384x4888 .f32 := Host.dotGeneral dot_S1x16384x1024_S1024x4888_S1x16384x4888_2_0_01_1_n_n none (rows x g) w

/-- Row `r`, column `c` of the input projection. -/
def col (r : Fin 16384) (c : Fin 4888) : EReal := column (fun r k => x (ix3 0 r k)) (fun k => g (ix1 k)) (fun k c => w (ix2 k c)) r c

theorem projected_at (r : Fin 16384) (c : Fin 4888) : projected x g w (ix3 0 r c) = col x g w r c := by
  unfold col column dot
  simp only [← rows_at]
  unfold projected
  pointwise

/-- The recurrence's input. -/
theorem u_at (r : Fin 16384) (k : Fin 512) :
    (shapeCast S16384x512 (extractStridedSlice S1x16384x512 ![0, 0, 1816] (projected x g w) slices_S1x16384x4888_S1x16384x512_0_0_1816) shapeCasts_S1x16384x512_S16384x512 : FVec Ideal S16384x512 .f32) (ix2 r k)
      = col x g w r ⟨1816 + k.val, by omega⟩ := by
  rw [← projected_at]
  pointwise

/-- The keys and the values. -/
def kv : FVec Ideal S16384x6x128 .f32 := shapeCast S16384x6x128 (extractStridedSlice S1x16384x768 ![0, 0, 512] (projected x g w) slices_S1x16384x4888_S1x16384x768_0_0_512) shapeCasts_S1x16384x768_S16384x6x128

theorem kv_at (r : Fin 16384) (j : Fin 6) (k : Fin 128) : kv x g w (ix3 r j k) = col x g w r ⟨512 + (128 * j.val + k.val), by omega⟩ := by
  rw [← projected_at]
  unfold kv
  pointwise
  simp only [Nat.mul_comm j.val 128]

/-- The keys and the values to be compressed. -/
def kvc : FVec Ideal S2x16384x128 .f32 :=
  concatenate S2x16384x128 0
    [⟨S1x16384x128, broadcastInDim S1x16384x128 ![1, 2] bcast_S16384x128_S1x16384x128_1_2 (shapeCast S16384x128 (extractStridedSlice S16384x1x128 ![0, 0, 0] (kv x g w) slices_S16384x6x128_S16384x1x128_0_0_0) shapeCasts_S16384x1x128_S16384x128)⟩,
      ⟨S1x16384x128, broadcastInDim S1x16384x128 ![1, 2] bcast_S16384x128_S1x16384x128_1_2 (shapeCast S16384x128 (extractStridedSlice S16384x1x128 ![0, 1, 0] (kv x g w) slices_S16384x6x128_S16384x1x128_0_1_0) shapeCasts_S16384x1x128_S16384x128)⟩]
    concatenates_S1x16384x128_S1x16384x128_S2x16384x128_d0

theorem kvc_at (j : Fin 2) (r : Fin 16384) (k : Fin 128) : kvc x g w (ix3 j r k) = col x g w r ⟨512 + (128 * j.val + k.val), by omega⟩ := by
  refine Eq.trans ?_ (kv_at x g w r ⟨j.val, by omega⟩ k)
  unfold kvc
  fin_cases j
  · pointwise
  · pointwise

/-- The branch gates, gates by rows. -/
def gates : FVec Ideal S32x16384 .f32 :=
  transpose S32x16384 [1, 0] (Host.divf (broadcastInDim S16384x32 ![] bcast_S_S16384x32 (constant S_ .f32 0x3F800000#32)) (addf (broadcastInDim S16384x32 ![] bcast_S_S16384x32 (constant S_ .f32 0x3F800000#32)) (Host.exp (Host.negf (pad S16384x32 ![0, 0] ![0, 8] ![0, 0] (shapeCast S16384x24 (extractStridedSlice S1x16384x24 ![0, 0, 1792] (projected x g w) slices_S1x16384x4888_S1x16384x24_0_0_1792) shapeCasts_S1x16384x24_S16384x24) (sitofp .f32 (constantI S_ 32 0#32)) pads_S16384x24_S16384x32_000_080 h_S_))))) transposes_S16384x32_S32x16384_1_0

theorem gates_at (k : Fin 32) (r : Fin 16384) : gates x g w (ix2 k r) = Ideal.logistic (branch (col x g w r) k) := by
  unfold branch
  simp only [← projected_at]
  unfold gates
  pointwise
  have zero : (FloatOps.sitofp FTy.f32 0#32 : Ideal FTy.f32) = 0 := by
    show (((0#32 : BitVec 32).toInt : ℝ) : EReal) = 0
    simp
  rw [zero]
  split <;> rfl

/-- The heads' queries before the norm. -/
def raw : FVec Ideal S1x16384x8x64 .f32 := shapeCast S1x16384x8x64 (extractStridedSlice S1x16384x512 ![0, 0, 0] (projected x g w) slices_S1x16384x4888_S1x16384x512_0_0_0) shapeCasts_S1x16384x512_S1x16384x8x64

/-- The queries, channels by rows. -/
def queries : FVec Ideal S512x16384 .f32 :=
  transpose S512x16384 [1, 0] (shapeCast S16384x512 (mulf (mulf (mulf (raw x g w) (broadcastInDim S1x16384x8x64 ![0, 1, 2, 3] bcast_S1x16384x8x1_S1x16384x8x64_0_1_2_3 (Host.rsqrt (addf (Host.divf (broadcastInDim S1x16384x8x1 ![0, 1, 2] bcast_S1x16384x8_S1x16384x8x1_0_1_2 (Host.reduceAdd (mulf (raw x g w) (raw x g w)) (constant S_ .f32 0x00000000#32) reducesTo_S1x16384x8x64_S1x16384x8_d3 h_S_)) (broadcastInDim S1x16384x8x1 ![] bcast_S_S1x16384x8x1 (constant S_ .f32 0x42800000#32))) (broadcastInDim S1x16384x8x1 ![] bcast_S_S1x16384x8x1 (constant S_ .f32 0x358637BD#32))))))
    (broadcastInDim S1x16384x8x64 ![0, 1, 2, 3] bcast_S1x1x1x64_S1x16384x8x64_0_1_2_3 (broadcastInDim S1x1x1x64 ![3] bcast_S64_S1x1x1x64_3 qg))) (broadcastInDim S1x16384x8x64 ![] bcast_S_S1x16384x8x64 (constant S_ .f32 0x3E38AA3B#32))) shapeCasts_S1x16384x8x64_S16384x512) transposes_S16384x512_S512x16384_1_0

theorem queries_at (k : Fin 512) (r : Fin 16384) :
    queries x g w qg (ix2 k r) = query (fun k => col x g w r ⟨k.val, by omega⟩) (gain fun q => qg (ix1 q)) k := by
  unfold query gain
  simp only [← projected_at]
  unfold queries raw
  pointwise
  simp only [Nat.mul_comm (k.val / 64) 64]
  exact mul_assoc _ _ _

end Cert.Proof.FrontRef

end
-- ==== Proof.FrontRefKeys.lean ====
/-
  The keys and the values of the front call's reference, read at an index.
-/
module

public import proofs.«01_k».proof.Proof.FrontRef
public import proofs.«01_k».proof.Proof.FrontWords

@[expose] public section

noncomputable section

open Idealize.ShloMosaic Idealize.ShloMosaic.TcCoe

namespace Cert.Proof.FrontRefKeys

open Cert.Reference2Ideal Cert.Reference2Ideal.Gen Cert.Proof.FrontSpec Cert.Proof.FrontRef Cert.Proof.FrontWords

variable (x : FVec Ideal S1x16384x1024 .f32) (g : FVec Ideal S1024 .f32) (w : FVec Ideal S1024x4888 .f32) (kg : FVec Ideal S3x64 .f32)

/-- The keys and the values by kind and group. -/
def kv4 : FVec Ideal S16384x6x2x64 .f32 := shapeCast S16384x6x2x64 (extractStridedSlice S1x16384x768 ![0, 0, 512] (projected x g w) slices_S1x16384x4888_S1x16384x768_0_0_512) shapeCasts_S1x16384x768_S16384x6x2x64

theorem slices_kind (j : Fin 6) : S16384x6x2x64.Slices ![0, j.val, 0, 0] S16384x1x2x64 := by
  revert j
  decide

/-- Those of one kind. -/
def kind (j : Fin 6) : FVec Ideal S16384x2x64 .f32 :=
  shapeCast S16384x2x64 (extractStridedSlice S16384x1x2x64 ![0, j.val, 0, 0] (kv4 x g w) (slices_kind j)) shapeCasts_S16384x1x2x64_S16384x2x64

theorem kind_at (j : Fin 6) (r : Fin 16384) (h : Fin 2) (d : Fin 64) : kind x g w j (ix3 r h d) = col x g w r ⟨512 + (128 * j.val + (lane h d).val), by omega⟩ := by
  rw [← projected_at]
  unfold kind kv4
  pointwise
  refine congrArg (fun a => projected x g w (ix3 0 r a)) (Fin.ext ?_)
  unfold lane
  simp only
  omega

/-- A group's keys, normalised. -/
def keys (j : Fin 6) (n : FVec Ideal S64 .f32) : FVec Ideal S2x16384x64 .f32 :=
  transpose S2x16384x64 [1, 0, 2] (mulf (mulf (kind x g w j) (broadcastInDim S16384x2x64 ![0, 1, 2] bcast_S16384x2x1_S16384x2x64_0_1_2 (Host.rsqrt (addf (Host.divf (broadcastInDim S16384x2x1 ![0, 1] bcast_S16384x2_S16384x2x1_0_1 (Host.reduceAdd (mulf (kind x g w j) (kind x g w j)) (constant S_ .f32 0x00000000#32) reducesTo_S16384x2x64_S16384x2_d2 h_S_)) (broadcastInDim S16384x2x1 ![] bcast_S_S16384x2x1 (constant S_ .f32 0x42800000#32))) (broadcastInDim S16384x2x1 ![] bcast_S_S16384x2x1 (constant S_ .f32 0x358637BD#32))))))
    (broadcastInDim S16384x2x64 ![0, 1, 2] bcast_S1x1x64_S16384x2x64_0_1_2 (broadcastInDim S1x1x64 ![2] bcast_S64_S1x1x64_2 n))) transposes_S16384x2x64_S2x16384x64_1_0_2

/-- The keys' norm, of a channel by its group and its place there. -/
theorem key_lane (p q : Fin 128 → EReal) (h : Fin 2) (d : Fin 64) :
    key p q (lane h d) = p (lane h d) * Ideal.rsqrt (Ideal.div (∑ y : Fin 64, p (lane h y) * p (lane h y)) (Ideal.ofBits .f32 0x42800000#32) + Ideal.ofBits .f32 0x358637BD#32) * q (lane h d) := by
  unfold key lane
  have e : (64 * h.val + d.val) / 64 = h.val := by omega
  simp only [e]

theorem keys_at (j : Fin 6) (n : FVec Ideal S64 .f32) (h : Fin 2) (r : Fin 16384) (d : Fin 64) :
    keys x g w j n (ix3 h r d) = key (fun a => col x g w r ⟨512 + (128 * j.val + a.val), by omega⟩) (fun a => n (ix1 ⟨a.val % 64, by omega⟩)) (lane h d) := by
  rw [key_lane]
  simp only [← kind_at]
  have e : (⟨(lane h d).val % 64, by omega⟩ : Fin 64) = d := Fin.ext (by unfold lane; show (64 * h.val + d.val) % 64 = d.val; omega)
  rw [e]
  unfold keys
  pointwise

/-- The place of each row's block, one-hot. -/
def places : FVec Ideal S2x16384x128 .f32 :=
  shapeCast S2x16384x128 (broadcastInDim S2x2x128x64x128 ![0, 1, 2, 3, 4] bcast_S1x1x128x1x128_S2x2x128x64x128_0_1_2_3_4 (broadcastInDim S1x1x128x1x128 ![2, 4] bcast_S128x128_S1x1x128x1x128_2_4 (uitofp .f32 (cmpi .eq (addi (iotaInDim S128x128 32 0) (broadcastInDim S128x128 ![] bcast_S_S128x128 (constantI S_ 32 0#32))) (iotaInDim S128x128 32 1))))) shapeCasts_S2x2x128x64x128_S2x16384x128

theorem bit_value (p : Prop) [Decidable p] : (FloatOps.uitofp .f32 (if p then 1#1 else 0#1) : Ideal .f32) = if p then (1 : EReal) else 0 := by
  split
  · show (((1#1 : BitVec 1).toNat : ℝ) : EReal) = 1
    simp
  · show (((0#1 : BitVec 1).toNat : ℝ) : EReal) = 0
    simp

theorem places_at (h : Fin 2) (r : Fin 16384) (l : Fin 128) : places (ix3 h r l) = if l.val = r.val / 64 % 128 then (1 : EReal) else 0 := by
  unfold places
  pointwise
  rw [show IntOp.addi (BitVec.ofNat 32 (r.val / 64 % 128)) 0#32 = BitVec.ofNat 32 (r.val / 64 % 128) from BitVec.add_zero _, word_eq _ _ (by omega) l.isLt, bit_value]
  exact if_congr (by omega) rfl rfl

/-- The selected attention's keys. -/
def slc (n : FVec Ideal S64 .f32) : FVec Ideal S2x16384x256 .bf16 :=
  truncf .bf16 (concatenate S2x16384x256 2 [⟨S2x16384x128, places⟩, ⟨S2x16384x64, keys x g w 2 n⟩,
    ⟨S2x16384x2, broadcastInDim S2x16384x2 ![] bcast_S_S2x16384x2 (constant S_ .f32 0x3F800000#32)⟩,
    ⟨S2x16384x62, broadcastInDim S2x16384x62 ![] bcast_S_S2x16384x62 (constant S_ .f32 0x00000000#32)⟩] concatenates_S2x16384x128_S2x16384x64_S2x16384x2_S2x16384x62_S2x16384x256_d2) bitsLt_bf16_f32

theorem slc_at (n : FVec Ideal S64 .f32) (h : Fin 2) (r : Fin 16384) (l : Fin 256) :
    slc x g w n (ix3 h r l) = augmented (fun d => key (fun a => col x g w r ⟨512 + (128 * 2 + a.val), by omega⟩) (fun a => n (ix1 ⟨a.val % 64, by omega⟩)) (lane h d)) r l := by
  refine Eq.trans ?_ (congrArg (fun k => augmented k r l) (funext fun d => keys_at x g w 2 n h r d))
  unfold slc augmented
  pointwise
  split
  · exact places_at h r _
  · split
    · rfl
    · exact if_congr (by omega) rfl rfl

/-- The window attention's keys. -/
def win (n : FVec Ideal S64 .f32) : FVec Ideal S2x16384x128 .bf16 :=
  truncf .bf16 (concatenate S2x16384x128 2 [⟨S2x16384x64, keys x g w 4 n⟩,
    ⟨S2x16384x64, broadcastInDim S2x16384x64 ![] bcast_S_S2x16384x64 (constant S_ .f32 0x00000000#32)⟩] concatenates_S2x16384x64_S2x16384x64_S2x16384x128_d2) bitsLt_bf16_f32

theorem win_at (n : FVec Ideal S64 .f32) (h : Fin 2) (r : Fin 16384) (l : Fin 128) :
    win x g w n (ix3 h r l) = widened (fun d => key (fun a => col x g w r ⟨512 + (128 * 4 + a.val), by omega⟩) (fun a => n (ix1 ⟨a.val % 64, by omega⟩)) (lane h d)) l := by
  refine Eq.trans ?_ (congrArg (fun k => widened k l) (funext fun d => keys_at x g w 4 n h r d))
  unfold win widened
  pointwise

theorem slices_gain (j : Fin 3) : S3x64.Slices ![j.val, 0] S1x64 := by
  revert j
  decide

/-- A row of the keys' gains. -/
def kgain (j : Fin 3) : FVec Ideal S64 .f32 := shapeCast S64 (extractStridedSlice S1x64 ![j.val, 0] kg (slices_gain j)) shapeCasts_S1x64_S64

theorem kgain_at (j : Fin 3) (d : Fin 64) : kgain kg j (ix1 d) = kg (ix2 j d) := by
  unfold kgain
  pointwise

/-- Values, channels by rows, with the ones and the zeros below. -/
def tall (j : Fin 6) : FVec Ideal S2x80x16384 .bf16 :=
  truncf .bf16 (concatenate S2x80x16384 1 [⟨S2x64x16384, transpose S2x64x16384 [1, 2, 0] (kind x g w j) transposes_S16384x2x64_S2x64x16384_1_2_0⟩,
    ⟨S2x1x16384, broadcastInDim S2x1x16384 ![] bcast_S_S2x1x16384 (constant S_ .f32 0x3F800000#32)⟩,
    ⟨S2x15x16384, broadcastInDim S2x15x16384 ![] bcast_S_S2x15x16384 (constant S_ .f32 0x00000000#32)⟩] concatenates_S2x64x16384_S2x1x16384_S2x15x16384_S2x80x16384_d1) bitsLt_bf16_f32

theorem tall_at (j : Fin 6) (h : Fin 2) (l : Fin 80) (r : Fin 16384) :
    tall x g w j (ix3 h l r) = heightened (fun d => col x g w r ⟨512 + (128 * j.val + (lane h d).val), by omega⟩) l := by
  refine Eq.trans ?_ (congrArg (fun v => heightened v l) (funext fun d => kind_at x g w j r h d))
  unfold tall heightened
  pointwise
  split
  · rfl
  · exact if_congr (by omega) rfl rfl

/-- Values in chunks of 512 rows, -/
def chunks512 (j : Fin 6) : FVec Ideal S2x32x80x512 .bf16 :=
  transpose S2x32x80x512 [0, 2, 1, 3] (shapeCast S2x80x32x512 (tall x g w j) shapeCasts_S2x80x16384_S2x80x32x512) transposes_S2x80x32x512_S2x32x80x512_0_2_1_3

theorem chunks512_at (j : Fin 6) (h : Fin 2) (n : Fin 32) (l : Fin 80) (q : Fin 512) :
    chunks512 x g w j (ix4 h n l q) = heightened (fun d => col x g w (row512 n q) ⟨512 + (128 * j.val + (lane h d).val), by omega⟩) l := by
  rw [← tall_at]
  unfold chunks512
  pointwise
  refine congrArg (fun a => tall x g w j (ix3 h l a)) (Fin.ext ?_)
  unfold row512
  simp only
  omega

/-- and of 128. -/
def chunks128 (j : Fin 6) : FVec Ideal S2x128x80x128 .bf16 :=
  transpose S2x128x80x128 [0, 2, 1, 3] (shapeCast S2x80x128x128 (tall x g w j) shapeCasts_S2x80x16384_S2x80x128x128) transposes_S2x80x128x128_S2x128x80x128_0_2_1_3

theorem chunks128_at (j : Fin 6) (h : Fin 2) (n : Fin 128) (l : Fin 80) (q : Fin 128) :
    chunks128 x g w j (ix4 h n l q) = heightened (fun d => col x g w (row128 n q) ⟨512 + (128 * j.val + (lane h d).val), by omega⟩) l := by
  rw [← tall_at]
  unfold chunks128
  pointwise
  refine congrArg (fun a => tall x g w j (ix3 h l a)) (Fin.ext ?_)
  unfold row128
  simp only
  omega

end Cert.Proof.FrontRefKeys

end
-- ==== Proof.CompressPre.lean ====
/-
  What the precondition of the compression's claim says: the position embedding and the first matrix hold real numbers.
-/
module

public import proofs.«01_k».proof.Proof.Gen.Pre_finite
public import Idealize.ShloMosaic.Lib.ReduceAll
public import Idealize.ShloMosaic.PureOps.Ideal

@[expose] public section

noncomputable section

open Idealize.ShloMosaic

namespace Cert.Proof.CompressPre

open Cert.Pre_finite Cert.Pre_finite.Gen

instance : Subsingleton S_.Idx := ⟨fun _ _ => funext fun a => a.elim0⟩

/-- A value whose magnitude is below infinity is a real number. -/
theorem real_of_lt (x : EReal) (h : Ideal.cmp .olt (max x (-x)) (Ideal.ofBits .f32 0x7F800000#32) = 1#1) : ∃ q : ℝ, x = q := by
  have htop : Ideal.ofBits .f32 0x7F800000#32 = ⊤ := by simp [Ideal.ofBits, Ideal.ieee]
  rw [htop] at h
  unfold Ideal.cmp at h
  induction x with
  | coe q => exact ⟨q, rfl⟩
  | top => simp at h
  | bot => simp at h

theorem reals {a0 : FVec Ideal S2x16384x128 .f32} {a1 : FVec Ideal S3x64 .f32} {a2 : FVec Ideal S2x32x64 .f32} {a3 : FVec Ideal S2x2048x256 .f32}
    {a4 : FVec Ideal S2x256 .f32} {a5 : FVec Ideal S2x256x64 .f32} (e : Cert.Pre_finite.fn (F := Ideal) a0 a1 a2 a3 a4 a5 = fun _ => 1#1) :
    (∀ i, ∃ q : ℝ, a2 i = (q : EReal)) ∧ ∀ i, ∃ q : ℝ, a3 i = (q : EReal) := by
  have h := congrFun e (fun a => a.elim0)
  unfold Cert.Pre_finite.fn at h
  obtain ⟨h2, h3⟩ := IntOp.andi_eq_one.1 h
  exact ⟨fun i => real_of_lt _ (Host.reduce_andi_all _ _ _ _ _ h2 i), fun i => real_of_lt _ (Host.reduce_andi_all _ _ _ _ _ h3 i)⟩

end Cert.Proof.CompressPre

end
-- ==== Proof.CompressBlock.lean ====
/-
  What the compress call computes from its blocks, as plain functions of the blocks: a group's chunks of 16 rows side by
  side, the hidden layer of the chunk and the one after it, the compressed rows, the keys' norm. The call's two outputs are
  these, written down per group.
-/
module

public import proofs.«01_k».proof.Proof.Block
public import proofs.«01_k».proof.Proof.Gen.Kernel3Ideal.Value

@[expose] public section

noncomputable section

open Idealize.ShloMosaic Idealize.ShloMosaic.TcCoe

namespace Cert.Proof.CompressBlock

open Cert.Kernel3Ideal Cert.Kernel3Ideal.Gen

/-- Row `p` of every chunk of 16 rows is inside the rows. -/
theorem inside (j : Fin 2) (p : Fin 16) : ∀ a, S1x1024x128.size a = 0 ∨
    (![j.val, p.val, 0] : Fin 3 → ℕ) a + (![1, 16, 1] : Fin 3 → ℕ) a * (S1x1024x128.size a - 1) < S2x16384x128.size a := by
  revert j p; decide

/-- Row `p` of every chunk, of the keys or the values. -/
def rows (x0 : Vec Ideal S2x16384x128 .f32) (j : Fin 2) (p : Fin 16) : Vec Ideal S1x1024x128 .f32 :=
  fun x => x0 ((⟨![j.val, p.val, 0], S1x1024x128.size, ![1, 16, 1], inside j p⟩ : LoadRect S2x16384x128).idx x)

/-- The first group's channels of an even row and of the odd row after it, side by side. -/
def first (e o : Vec Ideal S1x1024x128 .f32) : FVec Ideal S1024x128 .f32 :=
  select k0_pay1 (shapeCast S1024x128 e shapeCasts_S1x1024x128_S1024x128)
    (dynamicRotate 1 64#32 none (shapeCast S1024x128 o shapeCasts_S1x1024x128_S1024x128) rotates_S1024x128_d1)

/-- The second group's. -/
def second (e o : Vec Ideal S1x1024x128 .f32) : FVec Ideal S1024x128 .f32 :=
  select k0_pay1 (dynamicRotate 1 64#32 none (shapeCast S1024x128 e shapeCasts_S1x1024x128_S1024x128) rotates_S1024x128_d1)
    (shapeCast S1024x128 o shapeCasts_S1x1024x128_S1024x128)

/-- The pairs side by side. -/
def joined (f : Fin 8 → FVec Ideal S1024x128 .f32) : FVec Ideal S1024x1024 .f32 :=
  concatenate S1024x1024 1 [⟨S1024x128, f 0⟩, ⟨S1024x128, f 1⟩, ⟨S1024x128, f 2⟩, ⟨S1024x128, f 3⟩, ⟨S1024x128, f 4⟩, ⟨S1024x128, f 5⟩,
    ⟨S1024x128, f 6⟩, ⟨S1024x128, f 7⟩]
    concatenates_S1024x128_S1024x128_S1024x128_S1024x128_S1024x128_S1024x128_S1024x128_S1024x128_S1024x1024_d1

/-- A pair of rows of a group. -/
def pair : Fin 2 → Vec Ideal S1x1024x128 .f32 → Vec Ideal S1x1024x128 .f32 → FVec Ideal S1024x128 .f32
  | ⟨0, _⟩ => first
  | ⟨1, _⟩ => second

/-- A group's chunks: row `r` is chunk `r`, its 16 rows side by side. -/
def chunks (x0 : Vec Ideal S2x16384x128 .f32) (j g : Fin 2) : FVec Ideal S1024x1024 .f32 :=
  joined fun k => pair g (rows x0 j ⟨2 * k.val, by omega⟩) (rows x0 j ⟨2 * k.val + 1, by omega⟩)

/-- The hidden layer before its nonlinearity. -/
def hidB (X : FVec Ideal S1024x1024 .f32) (w : Vec Ideal S1x2048x256 .f32) (p : Vec Ideal S1x1x2048 .f32) (b : Vec Ideal S1x1x256 .f32) :
    FVec Ideal S1024x256 .f32 :=
  have w1 : FVec Ideal S2048x256 .bf16 := truncf .bf16 (shapeCast S2048x256 w shapeCasts_S1x2048x256_S2048x256) bitsLt_bf16_f32
  have x : FVec Ideal S1024x1024 .bf16 := truncf .bf16 X bitsLt_bf16_f32
  have here : FVec Ideal S1024x256 .f32 := matmul dot_S1024x1024_S1024x256_S1024x256_1_0_0_1_n_n none x
    (extractStridedSlice S1024x256 ![0, 0] w1 slices_S2048x256_o0_0_S1024x256) (constant S1024x256 .f32 0x00000000#32)
  have next : FVec Ideal S1024x256 .f32 := matmul dot_S1024x1024_S1024x256_S1024x256_1_0_0_1_n_n none x
    (extractStridedSlice S1024x256 ![1024, 0] w1 slices_S2048x256_o1024_0_S1024x256) (constant S1024x256 .f32 0x00000000#32)
  have pe : FVec Ideal S8x256 .f32 := matmul dot_S8x2048_S2048x256_S8x256_1_0_0_1_n_n none
    (truncf .bf16 (broadcastTo S8x2048 (shapeCast S1x2048 (shapeCast S1x2048 p shapeCasts_S1x1x2048_S1x2048) shapeCasts_S1x2048_S1x2048)
      broadcasts_S1x2048_S8x2048) bitsLt_bf16_f32) w1 (constant S8x256 .f32 0x00000000#32)
  addf (addf (addf here (dynamicRotate 0 1023#32 none next rotates_S1024x256_d0))
      (broadcastTo S1024x256 (extractStridedSlice S1x256 ![0, 0] pe slices_S8x256_o0_0_S1x256) broadcasts_S1x256_S1024x256))
    (broadcastTo S1024x256 (shapeCast S1x256 b shapeCasts_S1x1x256_S1x256) broadcasts_S1x256_S1024x256)

/-- The compressed rows of the hidden layer. -/
def outer (h : FVec Ideal S1024x256 .f32) (w : Vec Ideal S1x256x128 .f32) : FVec Ideal S1024x128 .f32 :=
  matmul dot_S1024x256_S256x128_S1024x128_1_0_0_1_n_n none
    (truncf .bf16 (mulf h (addf (mulf (broadcast S1024x256 (Scalar.ofBits .f32 0x3F000000#32))
      (tanh (mulf (broadcast S1024x256 (Scalar.ofBits .f32 0x3F000000#32)) h))) (broadcast S1024x256 (Scalar.ofBits .f32 0x3F000000#32)))) bitsLt_bf16_f32)
    (truncf .bf16 (shapeCast S256x128 w shapeCasts_S1x256x128_S256x128) bitsLt_bf16_f32) (constant S1024x128 .f32 0x00000000#32)

/-- A group's compressed keys (`j = 0`) or values (`j = 1`), of the call's blocks. -/
def phi (x0 : Vec Ideal S2x16384x128 .f32) (x1 : Vec Ideal S2x2048x256 .f32) (x2 : Vec Ideal S2x1x256 .f32) (x3 : Vec Ideal S2x256x128 .f32)
    (x4 : Vec Ideal S2x1x2048 .f32) (j g : Fin 2) : FVec Ideal S1024x128 .f32 :=
  outer (hidB (chunks x0 j g)
      (View.ld x1 (Rect.unit ![j.val, 0, 0] S1x2048x256.size (by revert j; decide)))
      (View.ld x4 (Rect.unit ![j.val, 0, 0] S1x1x2048.size (by revert j; decide)))
      (View.ld x2 (Rect.unit ![j.val, 0, 0] S1x1x256.size (by revert j; decide))))
    (View.ld x3 (Rect.unit ![j.val, 0, 0] S1x256x128.size (by revert j; decide)))

/-- The compressed values, channels by blocks, with the row of ones below the channels. -/
def below (v : FVec Ideal S1024x128 .f32) : FVec Ideal S1x128x1024 .bf16 :=
  shapeCast S1x128x1024 (truncf .bf16 (select (cmpi .eq (iota .tc S128x1024 32 [0] iota_S128x1024_d0_w32) (broadcast S128x1024 64#32))
      (broadcast S128x1024 (Scalar.ofBits .f32 0x3F800000#32)) (transpose S128x1024 [1, 0] v transposes_S1024x128_p1_0_S128x1024)) bitsLt_bf16_f32)
    shapeCasts_S128x1024_S1x128x1024

/-- A load from a buffer that holds a block's contents reads the block. -/
theorem readAt_unread {sp : Space} {s : Shape} {e : EltTy} (M : Memref sig .tc sp s e) (h : M.IsWhole) (X : Vec Ideal s e) (r : Rect s) :
    View.readAt (Elt Ideal) M.view r.toLoadRect (h.unread X) = View.ld X r := by
  rw [View.readAt_eq_ld, h.read_unread]

/-- A load of every sixteenth row from a buffer that holds the rows. -/
theorem readAt_rows {sp : Space} {s : Shape} {e : EltTy} (M : Memref sig .tc sp s e) (h : M.IsWhole) (X : Vec Ideal s e) (B : LoadRect s) :
    View.readAt (Elt Ideal) M.view B (h.unread X) = fun x => X (B.idx x) :=
  funext fun x => congrFun (h.read_unread X) (B.idx x)

variable {c : Dev nD} {i : grid0.Coords} {arg1 : Memref sig .tc .vmem S2x16384x128 .f32} {harg1 : arg1.IsWhole}
  {arg2 : Memref sig .tc .vmem S2x2048x256 .f32} {harg2 : arg2.IsWhole} {arg3 : Memref sig .tc .vmem S2x1x256 .f32} {harg3 : arg3.IsWhole}
  {arg4 : Memref sig .tc .vmem S2x256x128 .f32} {harg4 : arg4.IsWhole} {arg5 : Memref sig .tc .vmem S2x1x2048 .f32} {harg5 : arg5.IsWhole}
  {arg6 : Memref sig .tc .vmem S1x128 .f32} {harg6 : arg6.IsWhole} {arg7 : Memref sig .tc .vmem S2x1024x256 .bf16} {harg7 : arg7.IsWhole}
  {arg8 : Memref sig .tc .vmem S2x128x1024 .bf16} {harg8 : arg8.IsWhole}
  {x0 : Vec Ideal S2x16384x128 .f32} {x1 : Vec Ideal S2x2048x256 .f32} {x2 : Vec Ideal S2x1x256 .f32} {x3 : Vec Ideal S2x256x128 .f32}
  {x4 : Vec Ideal S2x1x2048 .f32} {x5 : Vec Ideal S1x128 .f32}

/-- The first group's keys. -/
theorem first_keys : kernelRun0_A.sl.r_10 (F := Ideal) c arg1 harg1 arg2 harg2 arg3 harg3 arg4 harg4 arg5 harg5 x0 x1 x2 x3 x4 = phi x0 x1 x2 x3 x4 0 0 := by
  simp (disch := decide) only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, readAt_unread, readAt_rows]
  rfl

theorem first_squares : kernelRun0_A.sl.r_11 (F := Ideal) c arg1 harg1 arg2 harg2 arg3 harg3 arg4 harg4 arg5 harg5 x0 x1 x2 x3 x4
    = mulf (phi x0 x1 x2 x3 x4 0 0) (phi x0 x1 x2 x3 x4 0 0) :=
  (rfl : _ = mulf (kernelRun0_A.sl.r_10 (F := Ideal) c arg1 harg1 arg2 harg2 arg3 harg3 arg4 harg4 arg5 harg5 x0 x1 x2 x3 x4)
    (kernelRun0_A.sl.r_10 (F := Ideal) c arg1 harg1 arg2 harg2 arg3 harg3 arg4 harg4 arg5 harg5 x0 x1 x2 x3 x4)).trans (by rw [first_keys])

/-- The second group's hidden layer. -/
theorem second_hidden : kernelRun0_A.sl.r_28 (F := Ideal) c arg1 harg1 arg2 harg2 arg3 harg3 arg5 harg5 x0 x1 x2 x4
    = hidB (chunks x0 0 1) (View.ld x1 (Rect.unit ![0, 0, 0] S1x2048x256.size inb_S2x2048x256_S1x2048x256_0_0_0))
      (View.ld x4 (Rect.unit ![0, 0, 0] S1x1x2048.size inb_S2x1x2048_S1x1x2048_0_0_0))
      (View.ld x2 (Rect.unit ![0, 0, 0] S1x1x256.size inb_S2x1x256_S1x1x256_0_0_0)) := by
  simp (disch := decide) only [kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, readAt_unread, readAt_rows]
  rfl

theorem lower_eq (h : FVec Ideal S1024x256 .f32) (w : Vec Ideal S1x256x128 .f32) (x : Vec Ideal S1x128 .f32) :
    k0_pay37 h w x = k0_pay16 (outer h w) (mulf (outer h w) (outer h w)) x := rfl

theorem upper_eq (h : FVec Ideal S1024x256 .f32) (w : Vec Ideal S1x256x128 .f32) (x : Vec Ideal S1x128 .f32) :
    k0_pay39 (k0_pay38 k0_pay1 k0_pay2 h w x) = k0_pay17 k0_pay1 k0_pay2 (outer h w) (mulf (outer h w) (outer h w)) x := rfl

/-- The call's keys, two halves for each group. -/
theorem out6_eq :
    out0_A_6 (F := Ideal) c i arg1 harg1 arg2 harg2 arg3 harg3 arg4 harg4 arg5 harg5 arg6 harg6 arg7 harg7 arg8 harg8 x0 x1 x2 x3 x4 x5
      = View.canon (Val := Elt Ideal)
        [⟨Rect.unit (s := S2x1024x256) ![1, 0, 128] S1x1024x128.size inb_S2x1024x256_S1x1024x128_1_0_128,
            k0_pay17 k0_pay1 k0_pay2 (phi x0 x1 x2 x3 x4 0 1) (mulf (phi x0 x1 x2 x3 x4 0 1) (phi x0 x1 x2 x3 x4 0 1)) x5⟩,
          ⟨Rect.unit (s := S2x1024x256) ![1, 0, 0] S1x1024x128.size inb_S2x1024x256_S1x1024x128_1_0_0,
            k0_pay16 (phi x0 x1 x2 x3 x4 0 1) (mulf (phi x0 x1 x2 x3 x4 0 1) (phi x0 x1 x2 x3 x4 0 1)) x5⟩,
          ⟨Rect.unit (s := S2x1024x256) ![0, 0, 128] S1x1024x128.size inb_S2x1024x256_S1x1024x128_0_0_128,
            k0_pay17 k0_pay1 k0_pay2 (phi x0 x1 x2 x3 x4 0 0) (mulf (phi x0 x1 x2 x3 x4 0 0) (phi x0 x1 x2 x3 x4 0 0)) x5⟩,
          ⟨Rect.unit (s := S2x1024x256) ![0, 0, 0] S1x1024x128.size inb_S2x1024x256_S1x1024x128_0_0_0,
            k0_pay16 (phi x0 x1 x2 x3 x4 0 0) (mulf (phi x0 x1 x2 x3 x4 0 0) (phi x0 x1 x2 x3 x4 0 0)) x5⟩] := by
  have gain : View.readAt (Elt Ideal) arg6.view (Rect.unit ![0, 0] ![1, 128] inb_S1x128_S1x128_0_0).toLoadRect (harg6.unread x5) = x5 :=
    (readAt_unread arg6 harg6 x5 _).trans (View.ld_unit_zero Block.zero2 inb_S1x128_S1x128_0_0 x5)
  have w : View.readAt (Elt Ideal) arg4.view (Rect.unit ![0, 0, 0] ![1, 256, 128] inb_S2x256x128_S1x256x128_0_0_0).toLoadRect (harg4.unread x3)
      = View.ld x3 (Rect.unit ![0, 0, 0] ![1, 256, 128] inb_S2x256x128_S1x256x128_0_0_0) := readAt_unread arg4 harg4 x3 _
  have keys : outer (hidB (chunks x0 0 1) (View.ld x1 (Rect.unit ![0, 0, 0] ![1, 2048, 256] inb_S2x2048x256_S1x2048x256_0_0_0))
      (View.ld x4 (Rect.unit ![0, 0, 0] ![1, 1, 2048] inb_S2x1x2048_S1x1x2048_0_0_0))
      (View.ld x2 (Rect.unit ![0, 0, 0] ![1, 1, 256] inb_S2x1x256_S1x1x256_0_0_0)))
      (View.ld x3 (Rect.unit ![0, 0, 0] ![1, 256, 128] inb_S2x256x128_S1x256x128_0_0_0)) = phi x0 x1 x2 x3 x4 0 1 := rfl
  unfold out0_A_6
  rw [View.read_writes_junk_eq_canon]
  simp only [kernelRun0_A, kernelRun0_A.sl.r_29, first_squares, first_keys, second_hidden, lower_eq, upper_eq, gain, w, keys]

/-- The call's values, for each group. -/
theorem out7_eq :
    out0_A_7 (F := Ideal) c i arg1 harg1 arg2 harg2 arg3 harg3 arg4 harg4 arg5 harg5 arg6 harg6 arg7 harg7 arg8 harg8 x0 x1 x2 x3 x4 x5
      = View.canon (Val := Elt Ideal)
        [⟨Rect.unit (s := S2x128x1024) ![1, 0, 0] S1x128x1024.size inb_S2x128x1024_S1x128x1024_1_0_0, below (phi x0 x1 x2 x3 x4 1 1)⟩,
          ⟨Rect.unit (s := S2x128x1024) ![0, 0, 0] S1x128x1024.size inb_S2x128x1024_S1x128x1024_0_0_0, below (phi x0 x1 x2 x3 x4 1 0)⟩] := by
  unfold out0_A_7
  rw [View.read_writes_junk_eq_canon]
  simp (disch := decide) only [kernelRun0_A, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39,
    readAt_unread, readAt_rows, View.ld_unit_lit]
  rfl

end Cert.Proof.CompressBlock

end
-- ==== Proof.CompressSpec.lean ====
/-
  The compressed keys and values, as the reference computes them, written index by index over the extended reals.
-/
module

public import Idealize.ShloMosaic.PureOps.Ideal

@[expose] public section

noncomputable section

open Idealize.ShloMosaic

namespace Cert.Proof.CompressSpec

/-- A block: chunk `r` and the chunk after it, of chunks written as rows. The last block's second chunk is the first. -/
def window (s : Fin 1024 → Fin 1024 → EReal) (r : Fin 1024) (k : Fin 2048) : EReal :=
  if h : k.val < 1024 then s r ⟨k.val, h⟩ else s ⟨(r.val + 1) % 1024, Nat.mod_lt _ (by decide)⟩ ⟨k.val - 1024, by omega⟩

/-- The hidden layer before its nonlinearity. -/
def layer (s : Fin 1024 → Fin 1024 → EReal) (pe : Fin 2048 → EReal) (w : Fin 2048 → Fin 256 → EReal) (b : Fin 256 → EReal)
    (r : Fin 1024) (h : Fin 256) : EReal :=
  (∑ k : Fin 2048, (window s r k + pe k) * w k h) + b h

/-- A compressed row, from the hidden layer and a column of the second matrix. -/
def compressed (H : Fin 1024 → Fin 256 → EReal) (w : Fin 256 → EReal) (r : Fin 1024) : EReal :=
  ∑ h : Fin 256, H r h * Ideal.logistic (H r h) * w h

/-- A key, normalised over its 64 channels and scaled. -/
def normed (v g : Fin 64 → EReal) (d : Fin 64) : EReal :=
  v d * Ideal.rsqrt (Ideal.div (∑ x : Fin 64, v x * v x) (Ideal.ofBits .f32 0x42800000#32) + Ideal.ofBits .f32 0x358637BD#32) * g d

/-- A key's row: the key, what rounding it leaves, the key again, two ones and zeros. -/
def keyRow (n : Fin 64 → EReal) (l : Fin 256) : EReal :=
  if h : l.val < 64 then n ⟨l.val, h⟩
  else if h : l.val < 128 then n ⟨l.val - 64, by omega⟩ - n ⟨l.val - 64, by omega⟩
  else if h : l.val < 192 then n ⟨l.val - 128, by omega⟩
  else if l.val < 194 then 1 else 0

/-- A value's column: the value, a one and zeros. -/
def valueColumn (v : Fin 64 → EReal) (l : Fin 128) : EReal :=
  if h : l.val < 64 then v ⟨l.val, h⟩ else if l.val = 64 then 1 else 0

end Cert.Proof.CompressSpec

end
-- ==== Proof.CompressMath.lean ====
/-
  The compress call's block functions read at an index.
-/
module

public import proofs.«01_k».proof.Proof.CompressBlock
public import proofs.«01_k».proof.Proof.CompressSpec
public import proofs.«01_k».proof.Proof.FrontWords
public import proofs.«01_k».proof.Proof.Scalars
public import Idealize.ShloMosaic.Lib.Pointwise

@[expose] public section

noncomputable section

open Idealize.ShloMosaic Idealize.ShloMosaic.TcCoe

namespace Cert.Proof.CompressMath

open Cert.Kernel3Ideal Cert.Kernel3Ideal.Gen
open Cert.Proof.CompressBlock Cert.Proof.CompressSpec Cert.Proof.FrontWords Cert.Proof.Scalars

theorem mask_at (r : Fin 1024) (l : Fin 128) : k0_pay1 (ix2 r l) = if l.val < 64 then 1#1 else 0#1 := by
  unfold k0_pay1
  pointwise
  exact word_lt l

theorem ones_at (r : Fin 1024) (l : Fin 128) : k0_pay2 (F := Ideal) (ix2 r l) = if l.val = 64 ∨ l.val = 65 then (1 : EReal) else 0 := by
  unfold k0_pay2
  pointwise
  rw [word_ones, select_ite]

theorem pair_at (g : Fin 2) (e o : Vec Ideal S1x1024x128 .f32) (r : Fin 1024) (l : Fin 128) :
    pair g e o (ix2 r l) = if l.val < 64 then e (ix3 0 r ⟨64 * g.val + l.val % 64, by omega⟩) else o (ix3 0 r ⟨64 * g.val + l.val % 64, by omega⟩) := by
  have hl := l.isLt
  match g with
  | ⟨0, _⟩ =>
    unfold pair first
    pointwise
    rw [mask_at, select_ite]
    split
    · exact congrArg (fun c => e (ix3 0 r c)) (Fin.ext (by show l.val = l.val % 64; omega))
    · exact congrArg (fun c => o (ix3 0 r c)) (Fin.ext (by show (l.val + 128 - 64) % 128 = l.val % 64; omega))
  | ⟨1, _⟩ =>
    unfold pair second
    pointwise
    rw [mask_at, select_ite]
    split
    · exact congrArg (fun c => e (ix3 0 r c)) (Fin.ext (by show (l.val + 128 - 64) % 128 = 64 * 1 + l.val % 64; omega))
    · exact congrArg (fun c => o (ix3 0 r c)) (Fin.ext (by show l.val = 64 * 1 + l.val % 64; omega))

theorem joined_at (f : Fin 8 → FVec Ideal S1024x128 .f32) (r c : Fin 1024) :
    joined f (ix2 r c) = f ⟨c.val / 128, by omega⟩ (ix2 r ⟨c.val % 128, by omega⟩) := by
  have hc := c.isLt
  unfold joined
  pointwise
  split
  · exact congrArg₂ (fun k l => f k (ix2 r l)) (Fin.ext (by show 0 = c.val / 128; omega)) (Fin.ext (by show c.val = c.val % 128; omega))
  split
  · exact congrArg₂ (fun k l => f k (ix2 r l)) (Fin.ext (by show 1 = c.val / 128; omega)) (Fin.ext (by show c.val - 128 = c.val % 128; omega))
  split
  · exact congrArg₂ (fun k l => f k (ix2 r l)) (Fin.ext (by show 2 = c.val / 128; omega)) (Fin.ext (by show c.val - 128 - 128 = c.val % 128; omega))
  split
  · exact congrArg₂ (fun k l => f k (ix2 r l)) (Fin.ext (by show 3 = c.val / 128; omega))
      (Fin.ext (by show c.val - 128 - 128 - 128 = c.val % 128; omega))
  split
  · exact congrArg₂ (fun k l => f k (ix2 r l)) (Fin.ext (by show 4 = c.val / 128; omega))
      (Fin.ext (by show c.val - 128 - 128 - 128 - 128 = c.val % 128; omega))
  split
  · exact congrArg₂ (fun k l => f k (ix2 r l)) (Fin.ext (by show 5 = c.val / 128; omega))
      (Fin.ext (by show c.val - 128 - 128 - 128 - 128 - 128 = c.val % 128; omega))
  split
  · exact congrArg₂ (fun k l => f k (ix2 r l)) (Fin.ext (by show 6 = c.val / 128; omega))
      (Fin.ext (by show c.val - 128 - 128 - 128 - 128 - 128 - 128 = c.val % 128; omega))
  · exact congrArg₂ (fun k l => f k (ix2 r l)) (Fin.ext (by show 7 = c.val / 128; omega))
      (Fin.ext (by show c.val - 128 - 128 - 128 - 128 - 128 - 128 - 128 = c.val % 128; omega))

theorem rows_at (x0 : Vec Ideal S2x16384x128 .f32) (j : Fin 2) (p : Fin 16) (r : Fin 1024) (l : Fin 128) :
    rows x0 j p (ix3 0 r l) = x0 (ix3 j ⟨16 * r.val + p.val, by omega⟩ l) := by
  refine congrArg x0 (funext fun a => Fin.ext ?_)
  match a with
  | ⟨0, _⟩ => show j.val + 1 * 0 = j.val; omega
  | ⟨1, _⟩ => show p.val + 16 * r.val = 16 * r.val + p.val; omega
  | ⟨2, _⟩ => show 0 + 1 * l.val = l.val; omega

/-- A group's chunks, of the rows of keys or values. -/
def source (x : Fin 16384 → Fin 128 → EReal) (g : Fin 2) (r k : Fin 1024) : EReal :=
  x ⟨16 * r.val + k.val / 64, by omega⟩ ⟨64 * g.val + k.val % 64, by omega⟩

theorem chunks_at (x0 : Vec Ideal S2x16384x128 .f32) (j g : Fin 2) (r k : Fin 1024) :
    chunks x0 j g (ix2 r k) = source (fun r l => x0 (ix3 j r l)) g r k := by
  have hk := k.isLt
  unfold chunks source
  rw [joined_at, pair_at, rows_at, rows_at]
  split
  · rename_i h
    replace h : k.val % 128 < 64 := h
    exact congrArg₂ (fun r l => x0 (ix3 j r l)) (Fin.ext (by show 16 * r.val + 2 * (k.val / 128) = 16 * r.val + k.val / 64; omega))
      (Fin.ext (by show 64 * g.val + k.val % 128 % 64 = 64 * g.val + k.val % 64; omega))
  · rename_i h
    replace h : ¬ k.val % 128 < 64 := h
    exact congrArg₂ (fun r l => x0 (ix3 j r l)) (Fin.ext (by show 16 * r.val + (2 * (k.val / 128) + 1) = 16 * r.val + k.val / 64; omega))
      (Fin.ext (by show 64 * g.val + k.val % 128 % 64 = 64 * g.val + k.val % 64; omega))

/-- A finite number's product goes over a sum whose second term is finite. -/
theorem distrib (x : EReal) {p w : EReal} (hp : ∃ q : ℝ, p = q) (hw : ∃ v : ℝ, w = v) : x * w + p * w = (x + p) * w := by
  obtain ⟨q, rfl⟩ := hp
  obtain ⟨v, rfl⟩ := hw
  rw [← EReal.coe_mul]
  induction x with
  | coe y => rw [← EReal.coe_mul, ← EReal.coe_add, ← EReal.coe_add, ← EReal.coe_mul, add_mul]
  | top =>
    rw [EReal.top_add_coe]
    rcases lt_trichotomy v 0 with h | h | h
    · rw [EReal.top_mul_coe_of_neg h, EReal.bot_add]
    · subst h; simp
    · rw [EReal.top_mul_coe_of_pos h, EReal.top_add_coe]
  | bot =>
    rw [EReal.bot_add]
    rcases lt_trichotomy v 0 with h | h | h
    · rw [EReal.bot_mul_coe_of_neg h, EReal.top_add_coe]
    · subst h; simp
    · rw [EReal.bot_mul_coe_of_pos h, EReal.bot_add]

theorem hidB_at (X : FVec Ideal S1024x1024 .f32) (w : Vec Ideal S1x2048x256 .f32) (p : Vec Ideal S1x1x2048 .f32) (b : Vec Ideal S1x1x256 .f32)
    (hp : ∀ k, ∃ q : ℝ, p (ix3 0 0 k) = q) (hw : ∀ k h, ∃ v : ℝ, w (ix3 0 k h) = v) (r : Fin 1024) (h : Fin 256) :
    hidB X w p b (ix2 r h) = layer (fun r k => X (ix2 r k)) (fun k => p (ix3 0 0 k)) (fun k h => w (ix3 0 k h)) (fun h => b (ix3 0 0 h)) r h := by
  have e : ∑ k : Fin 2048, window (fun r k => X (ix2 r k)) r k * w (ix3 0 k h)
      = ∑ k : Fin 1024, X (ix2 r k) * w (ix3 0 ⟨k.val, by omega⟩ h)
        + ∑ k : Fin 1024, X (ix2 ⟨(r.val + 1) % 1024, Nat.mod_lt _ (by decide)⟩ k) * w (ix3 0 ⟨1024 + k.val, by omega⟩ h) := by
    refine (Fin.sum_univ_add (a := 1024) (b := 1024) (fun k : Fin 2048 => window (fun r k => X (ix2 r k)) r k * w (ix3 0 k h))).trans ?_
    refine congrArg₂ (· + ·) (Finset.sum_congr rfl fun k _ => ?_) (Finset.sum_congr rfl fun k _ => ?_)
    · exact congrArg (· * _) (dif_pos (show k.val < 1024 from k.isLt))
    · refine congrArg (· * _) ((dif_neg (show ¬ 1024 + k.val < 1024 by omega)).trans ?_)
      exact congrArg (fun k => X (ix2 _ k)) (Fin.ext (by show 1024 + k.val - 1024 = k.val; omega))
  unfold layer
  rw [Finset.sum_congr rfl fun k _ => (distrib (window (fun r k => X (ix2 r k)) r k) (hp k) (hw k h)).symm, Finset.sum_add_distrib, e]
  unfold hidB
  pointwise
  rw [show (⟨(r.val + 1024 - 1023) % 1024, Nat.mod_lt _ (by decide)⟩ : Fin 1024) = ⟨(r.val + 1) % 1024, Nat.mod_lt _ (by decide)⟩ from
    Fin.ext (by show (r.val + 1024 - 1023) % 1024 = (r.val + 1) % 1024; omega)]

theorem outer_at (H : FVec Ideal S1024x256 .f32) (w : Vec Ideal S1x256x128 .f32) (r : Fin 1024) (d : Fin 128) :
    outer H w (ix2 r d) = compressed (fun r h => H (ix2 r h)) (fun h => w (ix3 0 h d)) r := by
  unfold outer compressed
  simp only [← sigK_eq]
  unfold sigK
  pointwise

variable (x0 : Vec Ideal S2x16384x128 .f32) (x1 : Vec Ideal S2x2048x256 .f32) (x2 : Vec Ideal S2x1x256 .f32) (x3 : Vec Ideal S2x256x128 .f32)
  (x4 : Vec Ideal S2x1x2048 .f32) (x5 : Vec Ideal S1x128 .f32)

/-- A group's hidden layer, of the call's blocks. -/
def hiddenB (j g : Fin 2) : Fin 1024 → Fin 256 → EReal :=
  layer (source (fun r l => x0 (ix3 j r l)) g) (fun k => x4 (ix3 j 0 k)) (fun k h => x1 (ix3 j k h)) (fun h => x2 (ix3 j 0 h))

theorem ld3 {n m l : ℕ} {e : EltTy} (X : Vec Ideal (⟨3, ![n, m, l]⟩ : Shape) e) (j : Fin n)
    (inb : ∀ a, (![j.val, 0, 0] : Fin 3 → ℕ) a + (![1, m, l] : Fin 3 → ℕ) a ≤ (![n, m, l] : Fin 3 → ℕ) a) (a : Fin m) (b : Fin l) :
    View.ld (Val := Elt Ideal) X (Rect.unit (s := (⟨3, ![n, m, l]⟩ : Shape)) ![j.val, 0, 0] ![1, m, l] inb) (ix3 (0 : Fin 1) a b) = X (ix3 j a b) := by
  refine congrArg X (funext fun x => Fin.ext ?_)
  match x with
  | ⟨0, _⟩ => show j.val + 1 * 0 = j.val; omega
  | ⟨1, _⟩ => show 0 + 1 * a.val = a.val; omega
  | ⟨2, _⟩ => show 0 + 1 * b.val = b.val; omega

theorem phi_at (hp : ∀ j k, ∃ q : ℝ, x4 (ix3 j 0 k) = q) (hw : ∀ j k h, ∃ v : ℝ, x1 (ix3 j k h) = v) (j g : Fin 2) (r : Fin 1024) (d : Fin 128) :
    phi x0 x1 x2 x3 x4 j g (ix2 r d) = compressed (hiddenB x0 x1 x2 x4 j g) (fun h => x3 (ix3 j h d)) r := by
  unfold phi
  rw [outer_at]
  congr 1
  · funext r h
    rw [hidB_at]
    · unfold hiddenB
      congr 1
      · funext r k; exact chunks_at x0 j g r k
      · funext k; exact ld3 x4 j _ 0 k
      · funext k h; exact ld3 x1 j _ k h
      · funext h; exact ld3 x2 j _ 0 h
    · intro k; rw [ld3 x4 j _ 0 k]; exact hp j k
    · intro k h; rw [ld3 x1 j _ k h]; exact hw j k h
  · funext h; exact ld3 x3 j _ h d

/-! The keys' norm: the lanes above the channels are zeros. -/

variable (v : FVec Ideal S1024x128 .f32) (r : Fin 1024)

theorem norm_low (hv : ∀ d : Fin 128, 64 ≤ d.val → v (ix2 r d) = 0) (d : Fin 64) :
    k0_pay14 v (mulf v v) x5 (ix2 r ⟨d.val, by omega⟩)
      = normed (fun d => v (ix2 r ⟨d.val, by omega⟩)) (fun d => x5 (ix2 0 ⟨d.val, by omega⟩)) d := by
  have e : ∑ x : Fin 128, v (ix2 r x) * v (ix2 r x) = ∑ x : Fin 64, v (ix2 r ⟨x.val, by omega⟩) * v (ix2 r ⟨x.val, by omega⟩) := by
    refine (Fin.sum_univ_add (a := 64) (b := 64) (fun x : Fin 128 => v (ix2 r x) * v (ix2 r x))).trans ?_
    refine (congrArg (_ + ·) (Finset.sum_eq_zero fun x _ => ?_)).trans (add_zero _)
    exact (congrArg (· * _) (hv ⟨64 + x.val, by omega⟩ (by show 64 ≤ 64 + x.val; omega))).trans (zero_mul _)
  unfold k0_pay14 normed
  pointwise
  rw [e]

theorem norm_high (hx : ∀ d : Fin 128, 64 ≤ d.val → x5 (ix2 0 d) = 0) (d : Fin 128) (h : 64 ≤ d.val) :
    k0_pay14 v (mulf v v) x5 (ix2 r d) = 0 := by
  unfold k0_pay14
  pointwise
  rw [hx d h, mul_zero]

theorem lower_at (hv : ∀ d : Fin 128, 64 ≤ d.val → v (ix2 r d) = 0) (hx : ∀ d : Fin 128, 64 ≤ d.val → x5 (ix2 0 d) = 0) (l : Fin 128) :
    k0_pay16 v (mulf v v) x5 (ix3 0 r l)
      = keyRow (normed (fun d => v (ix2 r ⟨d.val, by omega⟩)) (fun d => x5 (ix2 0 ⟨d.val, by omega⟩))) ⟨l.val, by omega⟩ := by
  have hl := l.isLt
  unfold k0_pay16 k0_pay15 keyRow
  pointwise
  split
  · rename_i h
    rw [norm_high x5 v r hx ⟨(l.val + 128 - 64) % 128, Nat.mod_lt _ (by decide)⟩ (by show 64 ≤ (l.val + 128 - 64) % 128; omega), show (0 : EReal) - 0 = 0 by simp, add_zero]
    exact norm_low x5 v r hv ⟨l.val, h⟩
  · rename_i h
    rw [norm_high x5 v r hx l (by omega), zero_add]
    have e := (congrArg (fun c => k0_pay14 v (mulf v v) x5 (ix2 r c)) (Fin.ext (by show (l.val + 128 - 64) % 128 = l.val - 64; omega) :
      (⟨(l.val + 128 - 64) % 128, Nat.mod_lt _ (by decide)⟩ : Fin 128) = ⟨l.val - 64, by omega⟩)).trans (norm_low x5 v r hv ⟨l.val - 64, by omega⟩)
    exact congrArg₂ (· - ·) e e

theorem upper_at (hv : ∀ d : Fin 128, 64 ≤ d.val → v (ix2 r d) = 0) (l : Fin 128) :
    k0_pay17 k0_pay1 k0_pay2 v (mulf v v) x5 (ix3 0 r l)
      = keyRow (normed (fun d => v (ix2 r ⟨d.val, by omega⟩)) (fun d => x5 (ix2 0 ⟨d.val, by omega⟩))) ⟨128 + l.val, by omega⟩ := by
  have hl := l.isLt
  unfold k0_pay17 k0_pay15 keyRow
  pointwise
  rw [mask_at, select_ite, ones_at]
  split
  · rename_i h
    rw [dif_neg (show ¬ 128 + l.val < 64 by omega), dif_pos (show 128 + l.val < 192 by omega)]
    exact norm_low x5 v r hv ⟨l.val, h⟩
  · rename_i h
    rw [dif_neg (show ¬ 128 + l.val < 64 by omega), dif_neg (show ¬ 128 + l.val < 192 by omega)]
    exact if_congr (by show l.val = 64 ∨ l.val = 65 ↔ 128 + l.val < 194; omega) rfl rfl

theorem below_at (hv : ∀ d : Fin 128, 64 ≤ d.val → v (ix2 r d) = 0) (l : Fin 128) :
    below v (ix3 0 l r) = valueColumn (fun d => v (ix2 r ⟨d.val, by omega⟩)) l := by
  unfold below valueColumn
  pointwise
  rw [word_eq l.val 64 l.isLt (by decide), select_ite]
  split
  · rename_i h
    rw [dif_neg (by omega)]
  · split
    · rfl
    · exact hv l (by omega)

/-! The outputs. -/

theorem first3 {n₁ n₂ : ℕ} (x : (⟨3, ![1, n₁, n₂]⟩ : Shape).Idx) : ∃ (a : Fin n₁) (b : Fin n₂), x = ix3 (0 : Fin 1) a b :=
  ⟨x 1, x 2, funext fun a => match a with | ⟨0, _⟩ => Subsingleton.elim (α := Fin 1) _ _ | ⟨1, _⟩ => rfl | ⟨2, _⟩ => rfl⟩

theorem outside (w : Fin 256 → EReal) (hw : ∀ h, w h = 0) (H : Fin 1024 → Fin 256 → EReal) (r : Fin 1024) : compressed H w r = 0 :=
  Finset.sum_eq_zero fun h _ => by rw [hw h, mul_zero]

variable {c : Dev nD} {i : grid0.Coords} {arg1 : Memref sig .tc .vmem S2x16384x128 .f32} {harg1 : arg1.IsWhole}
  {arg2 : Memref sig .tc .vmem S2x2048x256 .f32} {harg2 : arg2.IsWhole} {arg3 : Memref sig .tc .vmem S2x1x256 .f32} {harg3 : arg3.IsWhole}
  {arg4 : Memref sig .tc .vmem S2x256x128 .f32} {harg4 : arg4.IsWhole} {arg5 : Memref sig .tc .vmem S2x1x2048 .f32} {harg5 : arg5.IsWhole}
  {arg6 : Memref sig .tc .vmem S1x128 .f32} {harg6 : arg6.IsWhole} {arg7 : Memref sig .tc .vmem S2x1024x256 .bf16} {harg7 : arg7.IsWhole}
  {arg8 : Memref sig .tc .vmem S2x128x1024 .bf16} {harg8 : arg8.IsWhole}

/-- A group's compressed row of keys (`j = 0`) or values (`j = 1`). -/
def rowB (j g : Fin 2) (r : Fin 1024) (d : Fin 64) : EReal :=
  compressed (hiddenB x0 x1 x2 x4 j g) (fun h => x3 (ix3 j h ⟨d.val, by omega⟩)) r

variable (hp : ∀ j k, ∃ q : ℝ, x4 (ix3 j 0 k) = q) (hw : ∀ j k h, ∃ v : ℝ, x1 (ix3 j k h) = v)
  (h3 : ∀ j h (d : Fin 128), 64 ≤ d.val → x3 (ix3 j h d) = 0) (h5 : ∀ d : Fin 128, 64 ≤ d.val → x5 (ix2 0 d) = 0)

include hp hw in
theorem phi_row (j g : Fin 2) (r : Fin 1024) :
    (fun d : Fin 64 => phi x0 x1 x2 x3 x4 j g (ix2 r ⟨d.val, by omega⟩)) = rowB x0 x1 x2 x3 x4 j g r :=
  funext fun d => phi_at x0 x1 x2 x3 x4 hp hw j g r ⟨d.val, by omega⟩

include hp hw h3 in
theorem phi_high (j g : Fin 2) (r : Fin 1024) (d : Fin 128) (h : 64 ≤ d.val) : phi x0 x1 x2 x3 x4 j g (ix2 r d) = 0 :=
  (phi_at x0 x1 x2 x3 x4 hp hw j g r d).trans (outside _ (fun k => h3 j k d h) _ r)

include hp hw h3 h5 in
theorem out6_at (g : Fin 2) (r : Fin 1024) (l : Fin 256) :
    out0_A_6 (F := Ideal) c i arg1 harg1 arg2 harg2 arg3 harg3 arg4 harg4 arg5 harg5 arg6 harg6 arg7 harg7 arg8 harg8 x0 x1 x2 x3 x4 x5 (ix3 g r l)
      = keyRow (normed (rowB x0 x1 x2 x3 x4 0 g r) (fun d => x5 (ix2 0 ⟨d.val, by omega⟩))) l := by
  rw [← phi_row x0 x1 x2 x3 x4 hp hw, out6_eq]
  canon_tiles x h
  · obtain ⟨a, b, rfl⟩ := first3 x
    obtain rfl : r = a := Fin.ext h1
    obtain rfl : l = ⟨128 + b.val, Nat.add_lt_add_left b.isLt 128⟩ := Fin.ext h2
    obtain rfl : g = 1 := Fin.ext h0
    exact upper_at x5 _ r (phi_high x0 x1 x2 x3 x4 hp hw h3 0 1 r) b
  · obtain ⟨a, b, rfl⟩ := first3 x
    obtain rfl : r = a := Fin.ext h1
    obtain rfl : l = ⟨b.val, b.isLt.trans (by decide)⟩ := Fin.ext h2
    obtain rfl : g = 1 := Fin.ext h0
    exact lower_at x5 _ r (phi_high x0 x1 x2 x3 x4 hp hw h3 0 1 r) h5 b
  · obtain ⟨a, b, rfl⟩ := first3 x
    obtain rfl : r = a := Fin.ext h1
    obtain rfl : l = ⟨128 + b.val, Nat.add_lt_add_left b.isLt 128⟩ := Fin.ext h2
    obtain rfl : g = 0 := Fin.ext h0
    exact upper_at x5 _ r (phi_high x0 x1 x2 x3 x4 hp hw h3 0 0 r) b
  · obtain ⟨a, b, rfl⟩ := first3 x
    obtain rfl : r = a := Fin.ext h1
    obtain rfl : l = ⟨b.val, b.isLt.trans (by decide)⟩ := Fin.ext h2
    obtain rfl : g = 0 := Fin.ext h0
    exact lower_at x5 _ r (phi_high x0 x1 x2 x3 x4 hp hw h3 0 0 r) h5 b

include hp hw h3 in
theorem out7_at (g : Fin 2) (l : Fin 128) (r : Fin 1024) :
    out0_A_7 (F := Ideal) c i arg1 harg1 arg2 harg2 arg3 harg3 arg4 harg4 arg5 harg5 arg6 harg6 arg7 harg7 arg8 harg8 x0 x1 x2 x3 x4 x5 (ix3 g l r)
      = valueColumn (rowB x0 x1 x2 x3 x4 1 g r) l := by
  rw [← phi_row x0 x1 x2 x3 x4 hp hw, out7_eq]
  canon_tiles x h
  · obtain ⟨a, b, rfl⟩ := first3 x
    obtain rfl : l = a := Fin.ext h1
    obtain rfl : r = b := Fin.ext h2
    obtain rfl : g = 1 := Fin.ext h0
    exact below_at _ r (phi_high x0 x1 x2 x3 x4 hp hw h3 1 1 r) l
  · obtain ⟨a, b, rfl⟩ := first3 x
    obtain rfl : l = a := Fin.ext h1
    obtain rfl : r = b := Fin.ext h2
    obtain rfl : g = 0 := Fin.ext h0
    exact below_at _ r (phi_high x0 x1 x2 x3 x4 hp hw h3 1 0 r) l

end Cert.Proof.CompressMath

end
-- ==== Proof.CompressRun.lean ====
/-
  The compression's results as functions of its arguments: what its host operations leave in the arrays the call reads, and what
  the call leaves in its results' arrays.
-/
module

public import proofs.«01_k».proof.Proof.CompressMath
public import proofs.«01_k».proof.Proof.Gen.Kernel3Ideal.Value
public import Idealize.ShloMosaic.Lib.StableHlo.RunRead

@[expose] public section

noncomputable section

open Idealize.ShloMosaic Idealize.ShloMosaic.TcCoe Idealize.ShloMosaic.StableHlo

namespace Cert.Proof.CompressRun

open Cert.Kernel3Ideal Cert.Kernel3Ideal.Gen Cert.Kernel3Ideal.Value Cert.Proof.CompressSpec Cert.Proof.CompressMath

variable (m : (ℓ : Loc nD τ sig) → Buf (Elt Ideal) ℓ) (c : Dev nD) (t : Fin cfg0.N)

theorem pad_zero : (FloatOps.sitofp FTy.f32 0#32 : Ideal .f32) = (0 : EReal) := by
  show (((0#32 : BitVec 32).toInt : ℝ) : EReal) = 0
  simp

/-! The host's arrays. -/

theorem v5 (j : Fin 2) (h : Fin 256) : (V m c main_v5 : FVec Ideal S2x1x256 .f32) (ix3 j 0 h) = (m (c.tc.loc main_arg4) : FVec Ideal S2x256 .f32) (ix2 j h) := by
  unfold V
  after_reads_simp
  pointwise
theorem v6 (j : Fin 2) (k : Fin 2048) : (V m c main_v6 : FVec Ideal S2x1x2048 .f32) (ix3 j 0 k)
    = (m (c.tc.loc main_arg2) : FVec Ideal S2x32x64 .f32) (ix3 j ⟨k.val / 64, by omega⟩ ⟨k.val % 64, by omega⟩) := by
  unfold V
  after_reads_simp
  pointwise
/-- The second matrix with zeros beside its channels, -/
def wide (w : FVec Ideal S2x256x64 .f32) : FVec Ideal S2x256x128 .f32 :=
  pad S2x256x128 ![0, 0, 0] ![0, 0, 64] ![0, 0, 0] w (sitofp .f32 (constantI S_ 32 0#32)) pads_S2x256x64_S2x256x128_000_000_0640 h_S_
/-- and the keys' gain with zeros after it. -/
def wideGain (g : FVec Ideal S3x64 .f32) : FVec Ideal S1x128 .f32 :=
  shapeCast S1x128 (pad S128 ![0] ![64] ![0] (shapeCast S64 (extractStridedSlice S1x64 ![0, 0] g slices_S3x64_S1x64_0_0) shapeCasts_S1x64_S64) (sitofp .f32 (constantI S_ 32 0#32))
    pads_S64_S128_0640 h_S_) shapeCasts_S128_S1x128

theorem v0 : V m c main_v0 = wide (m (c.tc.loc main_arg5)) := by
  unfold wide V
  after_reads_simp
  rfl
theorem v4 : V m c main_v4 = wideGain (m (c.tc.loc main_arg1)) := by
  unfold wideGain V
  after_reads_simp
  rfl

theorem v0_low (j : Fin 2) (h : Fin 256) (d : Fin 64) : (V m c main_v0 : FVec Ideal S2x256x128 .f32) (ix3 j h ⟨d.val, by omega⟩)
    = (m (c.tc.loc main_arg5) : FVec Ideal S2x256x64 .f32) (ix3 j h d) := by
  rw [v0]
  unfold wide
  pointwise
theorem v0_high (j : Fin 2) (h : Fin 256) (d : Fin 128) (hd : 64 ≤ d.val) : (V m c main_v0 : FVec Ideal S2x256x128 .f32) (ix3 j h d) = (0 : EReal) := by
  rw [v0]
  unfold wide
  pointwise
  rw [dif_neg (by omega)]
  exact pad_zero
theorem v4_low (d : Fin 64) : (V m c main_v4 : FVec Ideal S1x128 .f32) (ix2 0 ⟨d.val, by omega⟩) = (m (c.tc.loc main_arg1) : FVec Ideal S3x64 .f32) (ix2 0 d) := by
  rw [v4]
  unfold wideGain
  pointwise
theorem v4_high (d : Fin 128) (hd : 64 ≤ d.val) : (V m c main_v4 : FVec Ideal S1x128 .f32) (ix2 0 d) = (0 : EReal) := by
  rw [v4]
  unfold wideGain
  pointwise
  rw [dif_neg (by omega)]
  exact pad_zero

/-! The blocks: each is its whole array. -/

theorem whole (b : Ref sig .tc) {ix : Fin b.ty.shape.rank → ℕ} (h : ∀ a, ix a = 0) (inb : ∀ a, ix a * b.ty.shape.size a + b.ty.shape.size a ≤ b.ty.shape.size a)
    (f : b.ty.Contents (Elt Ideal)) :
    ((Memref.whole b).access (Rect.unit (fun a => ix a * b.ty.shape.size a) b.ty.shape.size inb) : View sig .tc _ _ _).read (Elt Ideal) f = f :=
  Memref.read_access_unit_zero (Elt Ideal) b (funext fun a => by rw [h a, Nat.zero_mul]) inb f

theorem b0 : (iblk m c 0 t : Vec Ideal S2x16384x128 .f32) = V m c main_arg0 := whole main_arg0 (ix := win0_0.index t) (fun a => by fin_cases a <;> rfl) _ _
theorem b1 : (iblk m c 1 t : Vec Ideal S2x2048x256 .f32) = V m c main_arg3 := whole main_arg3 (ix := win0_1.index t) (fun a => by fin_cases a <;> rfl) _ _
theorem b2 : (iblk m c 2 t : Vec Ideal S2x1x256 .f32) = V m c main_v5 := whole main_v5 (ix := win0_2.index t) (fun a => by fin_cases a <;> rfl) _ _
theorem b3 : (iblk m c 3 t : Vec Ideal S2x256x128 .f32) = V m c main_v0 := whole main_v0 (ix := win0_3.index t) (fun a => by fin_cases a <;> rfl) _ _
theorem b4 : (iblk m c 4 t : Vec Ideal S2x1x2048 .f32) = V m c main_v6 := whole main_v6 (ix := win0_4.index t) (fun a => by fin_cases a <;> rfl) _ _
theorem b5 : (iblk m c 5 t : Vec Ideal S1x128 .f32) = V m c main_v4 := whole main_v4 (ix := win0_5.index t) (fun a => by fin_cases a <;> rfl) _ _

theorem a0 : V m c main_arg0 = m (c.tc.loc main_arg0) := by
  unfold V
  after_reads_simp
theorem a3 : V m c main_arg3 = m (c.tc.loc main_arg3) := by
  unfold V
  after_reads_simp

/-- A group's compressed row of keys (`j = 0`) or values (`j = 1`), of the argument arrays. -/
def rowOf (kvc : FVec Ideal S2x16384x128 .f32) (pe : FVec Ideal S2x32x64 .f32) (w1 : FVec Ideal S2x2048x256 .f32) (b : FVec Ideal S2x256 .f32)
    (w2 : FVec Ideal S2x256x64 .f32) (j g : Fin 2) (r : Fin 1024) (d : Fin 64) : EReal :=
  compressed (layer (source (fun r l => kvc (ix3 j r l)) g) (fun k => pe (ix3 j ⟨k.val / 64, by omega⟩ ⟨k.val % 64, by omega⟩)) (fun k h => w1 (ix3 j k h))
    (fun h => b (ix2 j h))) (fun h => w2 (ix3 j h d)) r

/-- That of the arguments in memory. -/
def rowM (j g : Fin 2) (r : Fin 1024) (d : Fin 64) : EReal :=
  rowOf (m (c.tc.loc main_arg0)) (m (c.tc.loc main_arg2)) (m (c.tc.loc main_arg3)) (m (c.tc.loc main_arg4)) (m (c.tc.loc main_arg5)) j g r d

theorem row_eq (j g : Fin 2) (r : Fin 1024) : rowB (iblk m c 0 t) (iblk m c 1 t) (iblk m c 2 t) (iblk m c 3 t) (iblk m c 4 t) j g r = rowM m c j g r := by
  funext d
  rw [b0, b1, b2, b3, b4, a0, a3]
  unfold rowB rowM rowOf hiddenB
  rw [funext (v6 m c j), funext (v5 m c j), funext fun h => v0_low m c j h d]

/-- The position embedding and the first matrix hold real numbers. -/
def Reals : Prop :=
  (∀ i, ∃ q : ℝ, (m (c.tc.loc main_arg2) : FVec Ideal S2x32x64 .f32) i = (q : EReal)) ∧ ∀ i, ∃ q : ℝ, (m (c.tc.loc main_arg3) : FVec Ideal S2x2048x256 .f32) i = (q : EReal)

variable {m c} in
theorem pe_real (h : Reals m c) (j : Fin 2) (k : Fin 2048) : ∃ q : ℝ, (iblk m c 4 t : Vec Ideal S2x1x2048 .f32) (ix3 j 0 k) = (q : EReal) := by
  rw [b4, v6]
  exact h.1 _
variable {m c} in
theorem w1_real (h : Reals m c) (j : Fin 2) (k : Fin 2048) (d : Fin 256) : ∃ q : ℝ, (iblk m c 1 t : Vec Ideal S2x2048x256 .f32) (ix3 j k d) = (q : EReal) := by
  rw [b1, a3]
  exact h.2 _
theorem w2_high (j : Fin 2) (h : Fin 256) (d : Fin 128) (hd : 64 ≤ d.val) : (iblk m c 3 t : Vec Ideal S2x256x128 .f32) (ix3 j h d) = (0 : EReal) := by
  rw [b3]
  exact v0_high m c j h d hd
theorem gain_high (d : Fin 128) (hd : 64 ≤ d.val) : (iblk m c 5 t : Vec Ideal S1x128 .f32) (ix2 0 d) = (0 : EReal) := by
  rw [b5]
  exact v4_high m c d hd
theorem gain_eq : (fun d : Fin 64 => (iblk m c 5 t : Vec Ideal S1x128 .f32) (ix2 0 ⟨d.val, by omega⟩)) = fun d => (m (c.tc.loc main_arg1) : FVec Ideal S3x64 .f32) (ix2 0 d) := by
  rw [b5]
  exact funext fun d => v4_low m c d

theorem split3 {n₀ n₁ n₂ : ℕ} (y : (⟨3, ![n₀, n₁, n₂]⟩ : Shape).Idx) : ∃ (a : Fin n₀) (b : Fin n₁) (d : Fin n₂), y = ix3 a b d :=
  ⟨y 0, y 1, y 2, funext fun a => match a with | ⟨0, _⟩ => rfl | ⟨1, _⟩ => rfl | ⟨2, _⟩ => rfl⟩

/-- The compressed keys. -/
def res6 : FVec Ideal S2x1024x256 .bf16 := fun i => keyRow (normed (rowM m c 0 (i 0) (i 1)) fun d => (m (c.tc.loc main_arg1) : FVec Ideal S3x64 .f32) (ix2 0 d)) (i 2)

theorem idx6 : ∀ t : Fin cfg0.N, win0_6.index t 0 = 0 ∧ win0_6.index t 1 = 0 ∧ win0_6.index t 2 = 0 := by decide +kernel
theorem idx7 : ∀ t : Fin cfg0.N, win0_7.index t 0 = 0 ∧ win0_7.index t 1 = 0 ∧ win0_7.index t 2 = 0 := by decide +kernel

theorem at6 (g : Fin 2) (r : Fin 1024) (l : Fin 256) : (win0_6.blk t).view.emb (ix3 g r l) = ix3 g r l := by
  funext x
  match x with
  | ⟨0, _⟩ => exact Fin.ext (by show win0_6.index t 0 * 2 + 1 * g.val = g.val; rw [(idx6 t).1]; omega)
  | ⟨1, _⟩ => exact Fin.ext (by show win0_6.index t 1 * 1024 + 1 * r.val = r.val; rw [(idx6 t).2.1]; omega)
  | ⟨2, _⟩ => exact Fin.ext (by show win0_6.index t 2 * 256 + 1 * l.val = l.val; rw [(idx6 t).2.2]; omega)

variable {m c} in
theorem block6 (hr : Reals m c) (g : Fin 2) (r : Fin 1024) (l : Fin 256) : (outsAt0 m c t).1 (ix3 g r l) = res6 m c (ix3 g r l) := by
  unfold outsAt0
  dsimp only
  have h := @out6_at (iblk m c 0 t) (iblk m c 1 t) (iblk m c 2 t) (iblk m c 3 t) (iblk m c 4 t) (iblk m c 5 t) c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (pe_real t hr) (w1_real t hr) (w2_high m c t) (gain_high m c t) g r l
  refine h.trans ?_
  rw [row_eq, gain_eq]
  rfl

variable {m c} in
theorem final6 (hr : Reals m c) : (dats m 0 c).arrAt 6 cfg0.N = res6 m c := by
  refine (dats m 0 c).arrAt_eq_of_covers 6 _ (by decide +kernel) fun t hf y => ?_
  obtain ⟨g, r, l, rfl⟩ := split3 (n₀ := 2) (n₁ := 1024) (n₂ := 256) y
  exact (congrFun (after0_6 m c t) (ix3 g r l)).trans ((block6 t hr g r l).trans (congrArg (res6 m c) (at6 t g r l)).symm)

/-- The compressed values. -/
def res7 : FVec Ideal S2x128x1024 .bf16 := fun i => valueColumn (rowM m c 1 (i 0) (i 2)) (i 1)

theorem at7 (g : Fin 2) (l : Fin 128) (r : Fin 1024) : (win0_7.blk t).view.emb (ix3 g l r) = ix3 g l r := by
  funext x
  match x with
  | ⟨0, _⟩ => exact Fin.ext (by show win0_7.index t 0 * 2 + 1 * g.val = g.val; rw [(idx7 t).1]; omega)
  | ⟨1, _⟩ => exact Fin.ext (by show win0_7.index t 1 * 128 + 1 * l.val = l.val; rw [(idx7 t).2.1]; omega)
  | ⟨2, _⟩ => exact Fin.ext (by show win0_7.index t 2 * 1024 + 1 * r.val = r.val; rw [(idx7 t).2.2]; omega)

variable {m c} in
theorem block7 (hr : Reals m c) (g : Fin 2) (l : Fin 128) (r : Fin 1024) : (outsAt0 m c t).2 (ix3 g l r) = res7 m c (ix3 g l r) := by
  unfold outsAt0
  dsimp only
  have h := @out7_at (iblk m c 0 t) (iblk m c 1 t) (iblk m c 2 t) (iblk m c 3 t) (iblk m c 4 t) (iblk m c 5 t) c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (pe_real t hr) (w1_real t hr) (w2_high m c t) g l r
  refine h.trans ?_
  rw [row_eq]
  rfl

variable {m c} in
theorem final7 (hr : Reals m c) : (dats m 0 c).arrAt 7 cfg0.N = res7 m c := by
  refine (dats m 0 c).arrAt_eq_of_covers 7 _ (by decide +kernel) fun t hf y => ?_
  obtain ⟨g, l, r, rfl⟩ := split3 (n₀ := 2) (n₁ := 128) (n₂ := 1024) y
  exact (congrFun (after0_7 m c t) (ix3 g l r)).trans ((block7 t hr g l r).trans (congrArg (res7 m c) (at7 t g l r)).symm)

end Cert.Proof.CompressRun

end
-- ==== Proof.CompressRef.lean ====
/-
  The compression's reference, read at an index.
-/
module

public import proofs.«01_k».proof.Proof.CompressRun
public import proofs.«01_k».proof.Proof.Gen.Reference3Ideal.Run

@[expose] public section

noncomputable section

open Idealize.ShloMosaic Idealize.ShloMosaic.TcCoe

namespace Cert.Proof.CompressRef

open Cert.Reference3Ideal Cert.Reference3Ideal.Gen Cert.Proof.CompressSpec Cert.Proof.CompressMath Cert.Proof.CompressRun

variable (x : FVec Ideal S2x16384x128 .f32) (n : FVec Ideal S3x64 .f32) (pe : FVec Ideal S2x32x64 .f32) (w1 : FVec Ideal S2x2048x256 .f32)
  (b : FVec Ideal S2x256 .f32) (w2 : FVec Ideal S2x256x64 .f32) (j : Fin 2)

theorem slices_kv (j : Fin 2) : S2x16384x2x64.Slices ![j.val, 0, 0, 0] S1x16384x2x64 := by revert j; decide
theorem slices_pe (j : Fin 2) : S2x32x64.Slices ![j.val, 0, 0] S1x32x64 := by revert j; decide
theorem slices_w1 (j : Fin 2) : S2x2048x256.Slices ![j.val, 0, 0] S1x2048x256 := by revert j; decide
theorem slices_b (j : Fin 2) : S2x256.Slices ![j.val, 0] S1x256 := by revert j; decide
theorem slices_w2 (j : Fin 2) : S2x256x64.Slices ![j.val, 0, 0] S1x256x64 := by revert j; decide

/-- The chunks of 16 rows, -/
def chunks16 : FVec Ideal S1024x16x2x64 .f32 :=
  shapeCast S1024x16x2x64 (shapeCast S16384x2x64 (extractStridedSlice S1x16384x2x64 ![j.val, 0, 0, 0] (shapeCast S2x16384x2x64 x shapeCasts_S2x16384x128_S2x16384x2x64) (slices_kv j))
    shapeCasts_S1x16384x2x64_S16384x2x64) shapeCasts_S16384x2x64_S1024x16x2x64

theorem chunks16_at (r : Fin 1024) (a : Fin 16) (g : Fin 2) (d : Fin 64) :
    chunks16 x j (ix4 r a g d) = x (ix3 j ⟨16 * r.val + a.val, by omega⟩ ⟨64 * g.val + d.val, by omega⟩) := by
  unfold chunks16
  pointwise
  exact congrArg₂ (fun a b => x (ix3 j a b)) (Fin.ext (by show r.val * 16 + a.val = 16 * r.val + a.val; omega)) (Fin.ext (by show g.val * 64 + d.val = 64 * g.val + d.val; omega))

/-- and the blocks of two of them. -/
def blocks32 (s : FVec Ideal S1024x16x2x64 .f32) : FVec Ideal S1024x32x2x64 .f32 :=
  concatenate S1024x32x2x64 1 [⟨S1024x16x2x64, s⟩, ⟨S1024x16x2x64, concatenate S1024x16x2x64 0
    [⟨S1023x16x2x64, extractStridedSlice S1023x16x2x64 ![1, 0, 0, 0] s slices_S1024x16x2x64_S1023x16x2x64_1_0_0_0⟩, ⟨S1x16x2x64, extractStridedSlice S1x16x2x64 ![0, 0, 0, 0] s slices_S1024x16x2x64_S1x16x2x64_0_0_0_0⟩]
    concatenates_S1023x16x2x64_S1x16x2x64_S1024x16x2x64_d0⟩] concatenates_S1024x16x2x64_S1024x16x2x64_S1024x32x2x64_d1

theorem blocks32_at (s : FVec Ideal S1024x16x2x64 .f32) (r : Fin 1024) (a : Fin 32) (g : Fin 2) (d : Fin 64) :
    blocks32 s (ix4 r a g d) = if h : a.val < 16 then s (ix4 r ⟨a.val, h⟩ g d) else s (ix4 ⟨(r.val + 1) % 1024, Nat.mod_lt _ (by decide)⟩ ⟨a.val - 16, by omega⟩ g d) := by
  unfold blocks32
  pointwise
  split
  · rfl
  · split
    · exact congrArg (fun b => s (ix4 b _ g d)) (Fin.ext (by show 1 + r.val = (r.val + 1) % 1024; omega))
    · exact congrArg (fun b => s (ix4 b _ g d)) (Fin.ext (by show r.val - 1023 = (r.val + 1) % 1024; omega))

/-- The blocks with their positions' embedding, flat. -/
def flat : FVec Ideal S1024x2x2048 .f32 :=
  shapeCast S1024x2x2048 (transpose S1024x2x32x64 [0, 2, 1, 3] (addf (blocks32 (chunks16 x j)) (broadcastInDim S1024x32x2x64 ![0, 1, 2, 3] bcast_S1x32x1x64_S1024x32x2x64_0_1_2_3
    (broadcastInDim S1x32x1x64 ![1, 3] bcast_S32x64_S1x32x1x64_1_3 (shapeCast S32x64 (extractStridedSlice S1x32x64 ![j.val, 0, 0] pe (slices_pe j)) shapeCasts_S1x32x64_S32x64))))
    transposes_S1024x32x2x64_S1024x2x32x64_0_2_1_3) shapeCasts_S1024x2x32x64_S1024x2x2048

theorem flat_at (r : Fin 1024) (g : Fin 2) (k : Fin 2048) :
    flat x pe j (ix3 r g k) = window (source (fun r l => x (ix3 j r l)) g) r k + pe (ix3 j ⟨k.val / 64, by omega⟩ ⟨k.val % 64, by omega⟩) := by
  unfold flat
  pointwise
  refine congrArg (· + pe (ix3 j ⟨k.val / 64, by omega⟩ ⟨k.val % 64, by omega⟩)) ?_
  rw [blocks32_at]
  unfold window source
  by_cases h : k.val < 1024
  · rw [dif_pos h, dif_pos (by show k.val / 64 < 16; omega), chunks16_at]
  · rw [dif_neg h, dif_neg (by show ¬ k.val / 64 < 16; omega), chunks16_at]
    exact congrArg₂ (fun a b => x (ix3 j a b)) (Fin.ext (by show 16 * ((r.val + 1) % 1024) + (k.val / 64 - 16) = 16 * ((r.val + 1) % 1024) + (k.val - 1024) / 64; omega))
      (Fin.ext (by show 64 * g.val + k.val % 64 = 64 * g.val + (k.val - 1024) % 64; omega))

/-- The hidden layer before its nonlinearity, -/
def hid : FVec Ideal S1024x2x256 .f32 :=
  addf (Host.dotGeneral dot_S1024x2x2048_S2048x256_S1024x2x256_2_0_01_1_n_n none (flat x pe j) (shapeCast S2048x256 (extractStridedSlice S1x2048x256 ![j.val, 0, 0] w1 (slices_w1 j)) shapeCasts_S1x2048x256_S2048x256))
    (broadcastInDim S1024x2x256 ![0, 1, 2] bcast_S1x1x256_S1024x2x256_0_1_2 (broadcastInDim S1x1x256 ![2] bcast_S256_S1x1x256_2 (shapeCast S256 (extractStridedSlice S1x256 ![j.val, 0] b (slices_b j)) shapeCasts_S1x256_S256)))

theorem hid_at (r : Fin 1024) (g : Fin 2) (h : Fin 256) :
    hid x pe w1 b j (ix3 r g h) = layer (source (fun r l => x (ix3 j r l)) g) (fun k => pe (ix3 j ⟨k.val / 64, by omega⟩ ⟨k.val % 64, by omega⟩)) (fun k h => w1 (ix3 j k h)) (fun h => b (ix2 j h)) r h := by
  unfold layer
  simp only [← flat_at]
  unfold hid
  pointwise

/-- and the compressed rows. -/
def comp (H : FVec Ideal S1024x2x256 .f32) : FVec Ideal S1024x2x64 .f32 :=
  Host.dotGeneral dot_S1024x2x256_S256x64_S1024x2x64_2_0_01_1_n_n none
    (mulf H (Host.divf (broadcastInDim S1024x2x256 ![] bcast_S_S1024x2x256 (constant S_ .f32 0x3F800000#32)) (addf (broadcastInDim S1024x2x256 ![] bcast_S_S1024x2x256 (constant S_ .f32 0x3F800000#32)) (Host.exp (Host.negf H)))))
    (shapeCast S256x64 (extractStridedSlice S1x256x64 ![j.val, 0, 0] w2 (slices_w2 j)) shapeCasts_S1x256x64_S256x64)

theorem comp_at (H : FVec Ideal S1024x2x256 .f32) (r : Fin 1024) (g : Fin 2) (d : Fin 64) :
    comp w2 j H (ix3 r g d) = compressed (fun r h => H (ix3 r g h)) (fun h => w2 (ix3 j h d)) r := by
  unfold comp compressed
  pointwise
  rfl

theorem row_at (r : Fin 1024) (g : Fin 2) (d : Fin 64) : comp w2 j (hid x pe w1 b j) (ix3 r g d) = rowOf x pe w1 b w2 j g r d := by
  rw [comp_at]
  unfold rowOf
  simp only [hid_at]

/-- The keys, normalised, by groups. -/
def normedR (c : FVec Ideal S1024x2x64 .f32) : FVec Ideal S2x1024x64 .f32 :=
  transpose S2x1024x64 [1, 0, 2] (mulf (mulf c (broadcastInDim S1024x2x64 ![0, 1, 2] bcast_S1024x2x1_S1024x2x64_0_1_2 (Host.rsqrt (addf (Host.divf (broadcastInDim S1024x2x1 ![0, 1] bcast_S1024x2_S1024x2x1_0_1
    (Host.reduceAdd (mulf c c) (constant S_ .f32 0x00000000#32) reducesTo_S1024x2x64_S1024x2_d2 h_S_)) (broadcastInDim S1024x2x1 ![] bcast_S_S1024x2x1 (constant S_ .f32 0x42800000#32)))
    (broadcastInDim S1024x2x1 ![] bcast_S_S1024x2x1 (constant S_ .f32 0x358637BD#32))))))
    (broadcastInDim S1024x2x64 ![0, 1, 2] bcast_S1x1x64_S1024x2x64_0_1_2 (broadcastInDim S1x1x64 ![2] bcast_S64_S1x1x64_2 (shapeCast S64 (extractStridedSlice S1x64 ![0, 0] n slices_S3x64_S1x64_0_0) shapeCasts_S1x64_S64))))
    transposes_S1024x2x64_S2x1024x64_1_0_2

theorem normedR_at (c : FVec Ideal S1024x2x64 .f32) (g : Fin 2) (r : Fin 1024) (d : Fin 64) :
    normedR n c (ix3 g r d) = normed (fun d => c (ix3 r g d)) (fun d => n (ix2 0 d)) d := by
  unfold normedR normed
  pointwise

/-- The keys' rows. -/
def keysR (k : FVec Ideal S2x1024x64 .f32) : FVec Ideal S2x1024x256 .bf16 :=
  truncf .bf16 (concatenate S2x1024x256 2 [⟨S2x1024x64, extf .f32 (truncf .bf16 k bitsLt_bf16_f32) bitsLt_bf16_f32⟩,
    ⟨S2x1024x64, subf k (extf .f32 (truncf .bf16 k bitsLt_bf16_f32) bitsLt_bf16_f32)⟩,
    ⟨S2x1024x64, extf .f32 (truncf .bf16 k bitsLt_bf16_f32) bitsLt_bf16_f32⟩,
    ⟨S2x1024x2, broadcastInDim S2x1024x2 ![] bcast_S_S2x1024x2 (constant S_ .f32 0x3F800000#32)⟩,
    ⟨S2x1024x62, broadcastInDim S2x1024x62 ![] bcast_S_S2x1024x62 (constant S_ .f32 0x00000000#32)⟩]
    concatenates_S2x1024x64_S2x1024x64_S2x1024x64_S2x1024x2_S2x1024x62_S2x1024x256_d2) bitsLt_bf16_f32

theorem keysR_at (k : FVec Ideal S2x1024x64 .f32) (g : Fin 2) (r : Fin 1024) (l : Fin 256) : keysR k (ix3 g r l) = keyRow (fun d => k (ix3 g r d)) l := by
  unfold keysR keyRow
  pointwise
  refine dite_congr rfl (fun _ => rfl) fun _ => dite_congr (propext ⟨fun _ => by omega, fun _ => by omega⟩) (fun _ => rfl) fun _ =>
    dite_congr (propext ⟨fun _ => by omega, fun _ => by omega⟩) (fun _ => congrArg (fun d => k (ix3 g r d)) (Fin.ext (Nat.sub_sub _ 64 64))) fun _ =>
      if_congr (by omega) rfl rfl

/-- The values' columns. -/
def valuesR (c : FVec Ideal S1024x2x64 .f32) : FVec Ideal S2x128x1024 .bf16 :=
  truncf .bf16 (concatenate S2x128x1024 1 [⟨S2x64x1024, transpose S2x64x1024 [1, 2, 0] c transposes_S1024x2x64_S2x64x1024_1_2_0⟩,
    ⟨S2x1x1024, broadcastInDim S2x1x1024 ![] bcast_S_S2x1x1024 (constant S_ .f32 0x3F800000#32)⟩,
    ⟨S2x63x1024, broadcastInDim S2x63x1024 ![] bcast_S_S2x63x1024 (constant S_ .f32 0x00000000#32)⟩]
    concatenates_S2x64x1024_S2x1x1024_S2x63x1024_S2x128x1024_d1) bitsLt_bf16_f32

theorem valuesR_at (c : FVec Ideal S1024x2x64 .f32) (g : Fin 2) (l : Fin 128) (r : Fin 1024) : valuesR c (ix3 g l r) = valueColumn (fun d => c (ix3 r g d)) l := by
  unfold valuesR valueColumn
  pointwise
  split
  · rfl
  · exact if_congr (by omega) rfl rfl

theorem res76 (m : (ℓ : Loc nD τ sig) → Buf (Elt Ideal) ℓ) (c : Dev nD) : Cert.Reference3Ideal.Value.res_main_v76 m c
    = keysR (normedR (m (c.tc.loc main_arg1)) (comp (m (c.tc.loc main_arg5)) 0 (hid (m (c.tc.loc main_arg0)) (m (c.tc.loc main_arg2)) (m (c.tc.loc main_arg3)) (m (c.tc.loc main_arg4)) 0))) := rfl

theorem res80 (m : (ℓ : Loc nD τ sig) → Buf (Elt Ideal) ℓ) (c : Dev nD) : Cert.Reference3Ideal.Value.res_main_v80 m c
    = valuesR (comp (m (c.tc.loc main_arg5)) 1 (hid (m (c.tc.loc main_arg0)) (m (c.tc.loc main_arg2)) (m (c.tc.loc main_arg3)) (m (c.tc.loc main_arg4)) 1)) := rfl

theorem keys_eq (g : Fin 2) (r : Fin 1024) (l : Fin 256) :
    keysR (normedR n (comp w2 0 (hid x pe w1 b 0))) (ix3 g r l) = keyRow (normed (rowOf x pe w1 b w2 0 g r) fun d => n (ix2 0 d)) l := by
  rw [keysR_at]
  refine congrArg (fun k => keyRow k l) (funext fun d => ?_)
  rw [normedR_at]
  exact congrArg (fun v => normed v _ d) (funext fun d => row_at x pe w1 b w2 0 r g d)

theorem values_eq (g : Fin 2) (l : Fin 128) (r : Fin 1024) : valuesR (comp w2 1 (hid x pe w1 b 1)) (ix3 g l r) = valueColumn (rowOf x pe w1 b w2 1 g r) l := by
  rw [valuesR_at]
  exact congrArg (fun v => valueColumn v l) (funext fun d => row_at x pe w1 b w2 1 r g d)

end Cert.Proof.CompressRef

end
-- ==== Proof.Keep.lean ====
/-
  A program that gives back what it holds: `Keeps P p` says that from `P` the program `p` runs to its return holding `P`
  again. It follows the program's text: a return, a sequence, a conditional and a loop keep `P` when their parts do, a load
  keeps it when `P` lends the buffer loaded from, and a store when `P` holds its buffer at contents it does not fix.
-/
module

public import Idealize.ShloMosaic.Rules.Step
public import Idealize.ShloMosaic.Lib.Memref
public import Idealize.ShloMosaic.Lib.Scf
public import Idealize.ShloMosaic.Lib.Tactic

@[expose] public section

noncomputable section

namespace Cert.Proof.Keep

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U] {Λ : Labels}
variable {defs : Defs nD τ sig Val Λ} {c : Thread nD τ}

local notation "𝕄" => MT nD τ sig Unit Val ℕ U ℕ

/-- The memref's whole buffer on the core, at `f`. -/
abbrev at_ (c : Thread nD τ) {cs : CoreSpace} {s : Shape} {e : EltTy} (M : Memref sig c.2.kind cs s e) (f : Buf Val (M.view.loc c)) : sProp 𝕄 :=
  M.view.loc c ↦{fullShare} f

/-- The memref's whole buffer on the core, at some contents. -/
abbrev any_ (c : Thread nD τ) {cs : CoreSpace} {s : Shape} {e : EltTy} (M : Memref sig c.2.kind cs s e) : sProp 𝕄 :=
  iprop(∃ f : Buf Val (M.view.loc c), at_ (U := U) c M f)

/-- From `P` the program runs to its return and holds `P` again. -/
def Keeps (defs : Defs nD τ sig Val Λ) (c : Thread nD τ) (P : sProp 𝕄) {α : Type} (p : Prog (TpuEff nD τ sig Val Λ c.2) α) : Prop :=
  P ⊢ wp frame (wpE defs Variants.none c none) Set.univ p (fun _ => P)

/-- `P` lends the memref's buffer: it can be taken out and put back as it was. -/
def Lends (c : Thread nD τ) (P : sProp 𝕄) {cs : CoreSpace} {s : Shape} {e : EltTy} (M : Memref sig c.2.kind cs s e) : Prop :=
  P ⊢ iprop(∃ f : Buf Val (M.view.loc c), at_ (U := U) c M f ∗ (at_ (U := U) c M f -∗ P))

/-- `P` gives the memref's buffer: it can be taken out and put back at any contents. -/
def Gives (c : Thread nD τ) (P : sProp 𝕄) {cs : CoreSpace} {s : Shape} {e : EltTy} (M : Memref sig c.2.kind cs s e) : Prop :=
  P ⊢ iprop(any_ (Val := Val) (U := U) c M ∗ (any_ (Val := Val) (U := U) c M -∗ P))

section Buffers

theorem Gives.lends {P : sProp 𝕄} {cs : CoreSpace} {s : Shape} {e : EltTy} {M : Memref sig c.2.kind cs s e} (h : Gives (U := U) c P M) : Lends (U := U) c P M := by
  unfold Gives at h
  unfold Lends
  refine Idealize.SL.BI.BIBase.Entails.trans h ?_
  iintro ⟨⟨%f, H⟩, HP⟩
  iexists f
  isplitl [H]; · iexact H
  iintro H
  iapply HP
  iexists f; iexact H

theorem lends_here {R : sProp 𝕄} {cs : CoreSpace} {s : Shape} {e : EltTy} {M : Memref sig c.2.kind cs s e} (f : Buf Val (M.view.loc c)) : Lends (U := U) c iprop(at_ (U := U) c M f ∗ R) M := by
  unfold Lends
  iintro ⟨H, HR⟩
  iexists f
  isplitl [H]; · iexact H
  iintro H
  isplitl [H]; · iexact H
  iexact HR

theorem gives_here {R : sProp 𝕄} {cs : CoreSpace} {s : Shape} {e : EltTy} {M : Memref sig c.2.kind cs s e} : Gives (U := U) c iprop(any_ (Val := Val) (U := U) c M ∗ R) M := by
  unfold Gives
  iintro ⟨H, HR⟩
  isplitl [H]; · iexact H
  iintro H
  isplitl [H]; · iexact H
  iexact HR

theorem lends_owns {R : sProp 𝕄} {cs : CoreSpace} {s : Shape} {e : EltTy} {M : Memref sig c.2.kind cs s e} (hM : M.IsWhole) (X : s.Idx → Val e) :
    Lends (U := U) c iprop(owns c M fullShare X ∗ R) M := by
  unfold Lends owns
  rw [hM.set_eq_univ]
  iintro ⟨⟨%f, %hf, H⟩, HR⟩
  iexists f
  isplitl [H]; · iexact H
  iintro H
  isplitl [H]
  · iexists f
    isplitr; · ipureintro; exact hf
    iexact H
  iexact HR

theorem gives_owns {R : sProp 𝕄} {cs : CoreSpace} {s : Shape} {e : EltTy} {M : Memref sig c.2.kind cs s e} (hM : M.IsWhole) :
    Gives (U := U) c iprop((∃ X : s.Idx → Val e, owns c M fullShare X) ∗ R) M := by
  unfold Gives owns
  rw [hM.set_eq_univ]
  iintro ⟨⟨%X, %f, %hf, H⟩, HR⟩
  isplitl [H]; · iexists f; iexact H
  iintro ⟨%g, H⟩
  isplitl [H]
  · iexists M.view.read Val g, g
    isplitr; · ipureintro; rfl
    iexact H
  iexact HR

theorem Lends.there {P R : sProp 𝕄} {cs : CoreSpace} {s : Shape} {e : EltTy} {M : Memref sig c.2.kind cs s e} (h : Lends (U := U) c P M) : Lends (U := U) c iprop(R ∗ P) M := by
  unfold Lends at h ⊢
  iintro ⟨HR, HP⟩
  ihave HP := h $$ HP
  icases HP with ⟨%f, H, HP⟩
  iexists f
  isplitl [H]; · iexact H
  iintro H
  isplitl [HR]; · iexact HR
  iapply HP; iexact H

theorem Gives.there {P R : sProp 𝕄} {cs : CoreSpace} {s : Shape} {e : EltTy} {M : Memref sig c.2.kind cs s e} (h : Gives (U := U) c P M) : Gives (U := U) c iprop(R ∗ P) M := by
  unfold Gives at h ⊢
  iintro ⟨HR, HP⟩
  ihave HP := h $$ HP
  icases HP with ⟨H, HP⟩
  isplitl [H]; · iexact H
  iintro H
  isplitl [HR]; · iexact HR
  iapply HP; iexact H

end Buffers

section Programs

theorem keeps_pure {P : sProp 𝕄} {α : Type} (a : α) : Keeps (U := U) defs c P (pure a) := by
  unfold Keeps
  rw [wp_pure]
  iintro H
  imodintro
  iexact H

theorem keeps_bind {P : sProp 𝕄} {α β : Type} {p : Prog (TpuEff nD τ sig Val Λ c.2) α} {k : α → Prog (TpuEff nD τ sig Val Λ c.2) β}
    (hp : Keeps (U := U) defs c P p) (hk : ∀ a, Keeps (U := U) defs c P (k a)) : Keeps (U := U) defs c P (p >>= k) := by
  unfold Keeps at hp hk ⊢
  rw [wp_bind]
  exact Idealize.SL.BI.BIBase.Entails.trans hp (wp_mono _ _ _ hk)

theorem keeps_dite {P : sProp 𝕄} {α : Type} {a : Prop} [Decidable a] {p : a → Prog (TpuEff nD τ sig Val Λ c.2) α} {q : ¬ a → Prog (TpuEff nD τ sig Val Λ c.2) α}
    (hp : ∀ h, Keeps (U := U) defs c P (p h)) (hq : ∀ h, Keeps (U := U) defs c P (q h)) : Keeps (U := U) defs c P (if h : a then p h else q h) := by
  by_cases h : a
  · rw [dif_pos h]; exact hp h
  · rw [dif_neg h]; exact hq h

theorem keeps_for {P : sProp 𝕄} {α : Type} {w : Nat} (l : Scf.Loop w) (hok : l.OK) (init : α) (body : Fin l.trips → α → Prog (TpuEff nD τ sig Val Λ c.2) α)
    (h : ∀ k a, Keeps (U := U) defs c P (body k a)) : Keeps (U := U) defs c P (Scf.Loop.for l hok init body) := by
  unfold Keeps at h ⊢
  refine Idealize.SL.BI.BIBase.Entails.trans ?_ (Scf.wp_for frame (wpE defs Variants.none c none) Set.univ l.lb l.ub l.st hok init body (fun _ _ => P) h)
  iintro H
  isplitl [H]; · iexact H
  iintro %a H
  iexact H

theorem keeps_load {P : sProp 𝕄} {cs : CoreSpace} {s : Shape} {e : EltTy} {M : Memref sig c.2.kind cs s e} {r : LoadRect s} {hl : M.view.LoadsAt r} (h : Lends (U := U) c P M) :
    Keeps (U := U) (α := r.shape.Idx → Val e) defs c P (Prog.lift (.load M r hl)) := by
  unfold Keeps
  unfold Lends at h
  refine Idealize.SL.BI.BIBase.Entails.trans h ?_
  iintro ⟨%f, H, HP⟩
  iapply (wp_load (defs := defs) Variants.none c none Set.univ (m := M) (S := Finset.univ) (f := f) (Finset.subset_univ _)) $$ H
  iintro H
  rw [wp_ret]
  imodintro
  iapply HP; iexact H

theorem keeps_store {P : sProp 𝕄} {cs : CoreSpace} {s : Shape} {e : EltTy} {M : Memref sig c.2.kind cs s e} {r : Rect s} {w : r.shape.Idx → Val e} {Mk : Finset r.shape.Idx} {hx : (M.access r).Stores Mk}
    {hm : Mk = Finset.univ ∨ ∀ a, r.stride a = 1} (h : Gives (U := U) c P M) :
    Keeps (U := U) defs c P (Prog.lift (.store M r w Mk hx hm)) := by
  unfold Keeps
  unfold Gives at h
  refine Idealize.SL.BI.BIBase.Entails.trans h ?_
  iintro ⟨⟨%f, H⟩, HP⟩
  iapply (wp_store (defs := defs) Variants.none c none Set.univ (m := M) (r := r) (S := Finset.univ) (f := f) (Finset.subset_univ _)) $$ H
  iintro H
  rw [wp_ret]
  imodintro
  iapply HP
  iexists _; iexact H

end Programs

end Cert.Proof.Keep

end
-- ==== Proof.AttnFrame.lean ====
/-
  The frame of the selected and windowed attention call: run on any arguments it terminates, leaves them as they were and
  leaves every counter at zero. Its body is followed as a program that gives back what it holds: the ten input blocks as
  they were, the two output blocks and the nine scratch buffers at some contents.
-/
module

public import proofs.«01_k».proof.Proof.Keep
public import proofs.«01_k».proof.Proof.Gen.Kernel4.Frame
public import proofs.«01_k».proof.Proof.Gen.Kernel4.Skeleton
public import Idealize.ShloMosaic.Lib.Pipeline.Frame

@[expose] public section

set_option maxRecDepth 65536

noncomputable section

namespace Cert.Proof.AttnFrame

open Cert.Kernel4 Cert.Kernel4.Gen Cert.Proof.Keep
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

set_option maxHeartbeats 4000000 in
/-- The body keeps whatever lends it its inputs and gives it its outputs and its scratch. -/
theorem body_keeps (c : Dev nD) (P : sProp 𝕄) (i : grid0.Coords) (arg2 : Memref sig .tc .vmem S256x128 .bf16) (harg2 : arg2.IsWhole) (arg3 : Memref sig .tc .vmem S1x256x128 .bf16) (harg3 : arg3.IsWhole) (arg4 : Memref sig .tc .vmem S1x16384x256 .bf16) (harg4 : arg4.IsWhole) (arg5 : Memref sig .tc .vmem S1x32x80x512 .bf16) (harg5 : arg5.IsWhole) (arg6 : Memref sig .tc .vmem S1x128x80x128 .bf16) (harg6 : arg6.IsWhole) (arg7 : Memref sig .tc .vmem S4x384x128 .f32) (harg7 : arg7.IsWhole) (arg8 : Memref sig .tc .vmem S1x64x512 .bf16) (harg8 : arg8.IsWhole) (arg9 : Memref sig .tc .vmem S1x16384x128 .bf16) (harg9 : arg9.IsWhole) (arg10 : Memref sig .tc .vmem S1x128x80x128 .bf16) (harg10 : arg10.IsWhole) (arg11 : Memref sig .tc .vmem S4x1152x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S2x256x512 .bf16) (harg14 : arg14.IsWhole) (arg15 : Memref sig .tc .vmem S1x512 .f32) (harg15 : arg15.IsWhole) (arg16 : Memref sig .tc .vmem S80x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S1x512 .f32) (harg22 : arg22.IsWhole)
    (l2 : Lends (c : Thread nD τ) P arg2) (l3 : Lends (c : Thread nD τ) P arg3) (l4 : Lends (c : Thread nD τ) P arg4) (l5 : Lends (c : Thread nD τ) P arg5) (l6 : Lends (c : Thread nD τ) P arg6) (l7 : Lends (c : Thread nD τ) P arg7) (l8 : Lends (c : Thread nD τ) P arg8) (l9 : Lends (c : Thread nD τ) P arg9) (l10 : Lends (c : Thread nD τ) P arg10) (l11 : Lends (c : Thread nD τ) P arg11)
    (g12 : Gives (c : Thread nD τ) P arg12) (g13 : Gives (c : Thread nD τ) P arg13) (g14 : Gives (c : Thread nD τ) P arg14) (g15 : Gives (c : Thread nD τ) P arg15) (g16 : Gives (c : Thread nD τ) P arg16) (g17 : Gives (c : Thread nD τ) P arg17) (g18 : Gives (c : Thread nD τ) P arg18) (g19 : Gives (c : Thread nD τ) P arg19) (g20 : Gives (c : Thread nD τ) P arg20) (g21 : Gives (c : Thread nD τ) P arg21) (g22 : Gives (c : Thread nD τ) P arg22) :
    Keeps (defs₀ (F := F)) (c : Thread nD τ) P (cc0_sel_win_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) := by
  have l12 := g12.lends
  have l13 := g13.lends
  have l14 := g14.lends
  have l15 := g15.lends
  have l16 := g16.lends
  have l17 := g17.lends
  have l18 := g18.lends
  have l19 := g19.lends
  have l20 := g20.lends
  have l21 := g21.lends
  have l22 := g22.lends
  rw [cc0_sel_win_attention_eq_skeleton]
  unfold cc0_sel_win_attention_skel
  repeat' first
    | with_reducible exact keeps_pure _
    | (with_reducible refine keeps_load ?_); with_reducible assumption
    | (with_reducible refine keeps_store ?_); with_reducible assumption
    | with_reducible refine keeps_bind ?_ (fun x => ?_)
    | with_reducible refine keeps_dite (fun h => ?_) (fun h => ?_)
    | with_reducible refine keeps_for _ _ _ _ (fun k a => ?_)
    | unfold k0_t1_body
    | unfold k0_t2_body
    | (rw [k0_part1_eq_skeleton]; unfold k0_part1_skel)
    | (rw [k0_part2_eq_skeleton]; unfold k0_part2_skel)
    | (rw [k0_part3_eq_skeleton]; unfold k0_part3_skel)
    | (rw [k0_part4_eq_skeleton]; unfold k0_part4_skel)
    | (rw [k0_part5_eq_skeleton]; unfold k0_part5_skel)
    | (rw [k0_part6_eq_skeleton]; unfold k0_part6_skel)
    | (rw [k0_part7_eq_skeleton]; unfold k0_part7_skel)
    | (rw [k0_part8_eq_skeleton]; unfold k0_part8_skel)
    | (rw [k0_part9_eq_skeleton]; unfold k0_part9_skel)
    | (rw [k0_part10_eq_skeleton]; unfold k0_part10_skel)
    | (rw [k0_part11_eq_skeleton]; unfold k0_part11_skel)
    | (rw [k0_part12_eq_skeleton]; unfold k0_part12_skel)
    | (rw [k0_part13_eq_skeleton]; unfold k0_part13_skel)
    | (rw [k0_part14_eq_skeleton]; unfold k0_part14_skel)
    | (rw [k0_part15_eq_skeleton]; unfold k0_part15_skel)
    | (rw [k0_part16_eq_skeleton]; unfold k0_part16_skel)
    | (rw [k0_part17_eq_skeleton]; unfold k0_part17_skel)
    | (rw [k0_part18_eq_skeleton]; unfold k0_part18_skel)
    | (rw [k0_part19_eq_skeleton]; unfold k0_part19_skel)
    | (rw [k0_part20_eq_skeleton]; unfold k0_part20_skel)
    | (rw [k0_part21_eq_skeleton]; unfold k0_part21_skel)
    | (rw [k0_part22_eq_skeleton]; unfold k0_part22_skel)
    | (rw [k0_part23_eq_skeleton]; unfold k0_part23_skel)
    | (rw [k0_part24_eq_skeleton]; unfold k0_part24_skel)
    | (rw [k0_part25_eq_skeleton]; unfold k0_part25_skel)
    | (rw [k0_part26_eq_skeleton]; unfold k0_part26_skel)
    | (rw [k0_part27_eq_skeleton]; unfold k0_part27_skel)
    | (rw [k0_part28_eq_skeleton]; unfold k0_part28_skel)
    | (rw [k0_part29_eq_skeleton]; unfold k0_part29_skel)
    | (rw [k0_part30_eq_skeleton]; unfold k0_part30_skel)
    | (rw [k0_part31_eq_skeleton]; unfold k0_part31_skel)
    | (rw [k0_part32_eq_skeleton]; unfold k0_part32_skel)
    | (rw [k0_part33_eq_skeleton]; unfold k0_part33_skel)
    | (rw [k0_part34_eq_skeleton]; unfold k0_part34_skel)
    | (rw [k0_part35_eq_skeleton]; unfold k0_part35_skel)

variable [∀ e, Nonempty (Elt F e)] (m : (ℓ : Loc nD τ sig) → Buf (Elt F) ℓ) (ρ : Dev nD → PrngReg)

/-- The two outputs: what the body leaves in them is not named. -/
def forgets (w : Fin 12) : Bool := decide (10 ≤ w.val)

/-- The arrays as launched, each input's block left in place, the scratch and the generator register at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => Pipeline.Dat.unnamed (cfg := cfg0) 10 t
    | ⟨11, _⟩ => Pipeline.Dat.unnamed (cfg := cfg0) 11 t
  Φ _ := Pipeline.ΦA spec0 c
  q _ := fullShare
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t :=
  before0_0_of m (dats m 0 c) (A_eq m c 0) (fun _ => by dsimp only [dats]) t d
theorem before_1 (c : Dev nD) (t : Fin cfg0.N) (d) : (dats m 0 c).before 1 t d = iblk m c 1 t :=
  before0_1_of m (dats m 0 c) (A_eq m c 1) (fun _ => by dsimp only [dats]) t d
theorem before_2 (c : Dev nD) (t : Fin cfg0.N) (d) : (dats m 0 c).before 2 t d = iblk m c 2 t :=
  before0_2_of m (dats m 0 c) (A_eq m c 2) (fun _ => by dsimp only [dats]) t d
theorem before_3 (c : Dev nD) (t : Fin cfg0.N) (d) : (dats m 0 c).before 3 t d = iblk m c 3 t :=
  before0_3_of m (dats m 0 c) (A_eq m c 3) (fun _ => by dsimp only [dats]) t d
theorem before_4 (c : Dev nD) (t : Fin cfg0.N) (d) : (dats m 0 c).before 4 t d = iblk m c 4 t :=
  before0_4_of m (dats m 0 c) (A_eq m c 4) (fun _ => by dsimp only [dats]) t d
theorem before_5 (c : Dev nD) (t : Fin cfg0.N) (d) : (dats m 0 c).before 5 t d = iblk m c 5 t :=
  before0_5_of m (dats m 0 c) (A_eq m c 5) (fun _ => by dsimp only [dats]) t d
theorem before_6 (c : Dev nD) (t : Fin cfg0.N) (d) : (dats m 0 c).before 6 t d = iblk m c 6 t :=
  before0_6_of m (dats m 0 c) (A_eq m c 6) (fun _ => by dsimp only [dats]) t d
theorem before_7 (c : Dev nD) (t : Fin cfg0.N) (d) : (dats m 0 c).before 7 t d = iblk m c 7 t :=
  before0_7_of m (dats m 0 c) (A_eq m c 7) (fun _ => by dsimp only [dats]) t d
theorem before_8 (c : Dev nD) (t : Fin cfg0.N) (d) : (dats m 0 c).before 8 t d = iblk m c 8 t :=
  before0_8_of m (dats m 0 c) (A_eq m c 8) (fun _ => by dsimp only [dats]) t d
theorem before_9 (c : Dev nD) (t : Fin cfg0.N) (d) : (dats m 0 c).before 9 t d = iblk m c 9 t :=
  before0_9_of m (dats m 0 c) (A_eq m c 9) (fun _ => by dsimp only [dats]) t d

/-- What the body holds at a point: each input's block, the outputs and the scratch at some contents, and what it never
    touches. -/
def held (c : Dev nD) (t : Fin cfg0.N) : sProp 𝕄 :=
  iprop(owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare (iblk m c 5 t)
    ∗ owns (c : Thread nD τ) (win0_6.stage (cfg0.slots t 6)) fullShare (iblk m c 6 t)
    ∗ owns (c : Thread nD τ) (win0_7.stage (cfg0.slots t 7)) fullShare (iblk m c 7 t)
    ∗ owns (c : Thread nD τ) (win0_8.stage (cfg0.slots t 8)) fullShare (iblk m c 8 t)
    ∗ owns (c : Thread nD τ) (win0_9.stage (cfg0.slots t 9)) fullShare (iblk m c 9 t)
    ∗ (∃ X, owns (c : Thread nD τ) (win0_10.stage (cfg0.slots t 10)) fullShare X)
    ∗ (∃ X, owns (c : Thread nD τ) (win0_11.stage (cfg0.slots t 11)) fullShare X)
    ∗ any_ (Val := Elt F) (U := UR sig nD τ) (c : Thread nD τ) (Memref.whole cc0_scratch0)
    ∗ any_ (Val := Elt F) (U := UR sig nD τ) (c : Thread nD τ) (Memref.whole cc0_scratch1)
    ∗ any_ (Val := Elt F) (U := UR sig nD τ) (c : Thread nD τ) (Memref.whole cc0_scratch2)
    ∗ any_ (Val := Elt F) (U := UR sig nD τ) (c : Thread nD τ) (Memref.whole cc0_scratch3)
    ∗ any_ (Val := Elt F) (U := UR sig nD τ) (c : Thread nD τ) (Memref.whole cc0_scratch4)
    ∗ any_ (Val := Elt F) (U := UR sig nD τ) (c : Thread nD τ) (Memref.whole cc0_scratch5)
    ∗ any_ (Val := Elt F) (U := UR sig nD τ) (c : Thread nD τ) (Memref.whole cc0_scratch6)
    ∗ any_ (Val := Elt F) (U := UR sig nD τ) (c : Thread nD τ) (Memref.whole cc0_scratch7)
    ∗ any_ (Val := Elt F) (U := UR sig nD τ) (c : Thread nD τ) (Memref.whole cc0_scratch8)
    ∗ (∃ r, prngReg c r)
    ∗ (dats m 0 c).owesAt () t.castSucc)

/-- The body at a point gives back what it holds. -/
theorem body_held (c : Dev nD) (t : Fin cfg0.N) : Keeps (defs₀ (F := F)) (c : Thread nD τ) (held m c t) (bodyAt0 t) := by
  unfold held
  have w0 : (win0_0.stage (cfg0.slots t 0)).IsWhole := hstage0_0 ((cfg0.slots t 0).cast nbuf0_0)
  have w1 : (win0_1.stage (cfg0.slots t 1)).IsWhole := hstage0_1 ((cfg0.slots t 1).cast nbuf0_1)
  have w2 : (win0_2.stage (cfg0.slots t 2)).IsWhole := hstage0_2 ((cfg0.slots t 2).cast nbuf0_2)
  have w3 : (win0_3.stage (cfg0.slots t 3)).IsWhole := hstage0_3 ((cfg0.slots t 3).cast nbuf0_3)
  have w4 : (win0_4.stage (cfg0.slots t 4)).IsWhole := hstage0_4 ((cfg0.slots t 4).cast nbuf0_4)
  have w5 : (win0_5.stage (cfg0.slots t 5)).IsWhole := hstage0_5 ((cfg0.slots t 5).cast nbuf0_5)
  have w6 : (win0_6.stage (cfg0.slots t 6)).IsWhole := hstage0_6 ((cfg0.slots t 6).cast nbuf0_6)
  have w7 : (win0_7.stage (cfg0.slots t 7)).IsWhole := hstage0_7 ((cfg0.slots t 7).cast nbuf0_7)
  have w8 : (win0_8.stage (cfg0.slots t 8)).IsWhole := hstage0_8 ((cfg0.slots t 8).cast nbuf0_8)
  have w9 : (win0_9.stage (cfg0.slots t 9)).IsWhole := hstage0_9 ((cfg0.slots t 9).cast nbuf0_9)
  have w10 : (win0_10.stage (cfg0.slots t 10)).IsWhole := hstage0_10 ((cfg0.slots t 10).cast nbuf0_10)
  have w11 : (win0_11.stage (cfg0.slots t 11)).IsWhole := hstage0_11 ((cfg0.slots t 11).cast nbuf0_11)
  refine body_keeps c _ _ _ _ _ _ _ _ _ _ _ _ _ _ _ _ _ _ _ _ _ _ _ _ _ _ _ _ _ _ _ _ _ _ _ _ _ _ _ _ _ _ _ _ ?_ ?_ ?_ ?_ ?_ ?_ ?_ ?_ ?_ ?_ ?_ ?_ ?_ ?_ ?_ ?_ ?_ ?_ ?_ ?_ ?_
  all_goals
    repeat' first
      | with_reducible exact lends_owns (by with_reducible assumption) _
      | with_reducible exact gives_owns (by with_reducible assumption)
      | with_reducible exact gives_here
      | with_reducible refine Lends.there ?_
      | with_reducible refine Gives.there ?_

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare d)
    ∗ (∃ d, owns (c : Thread nD τ) (win0_11.stage (cfg0.slots t 11)) fullShare d))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ (∃ d, owns (c : Thread nD τ) (win0_10.stage (cfg0.slots t 10)) fullShare d)
    ∗ (∃ d, owns (c : Thread nD τ) (win0_11.stage (cfg0.slots t 11)) fullShare d))

theorem pre_held (c : Dev nD) (t : Fin cfg0.N) : bodyPre m c t ⊢ held m c t := by
  unfold bodyPre held
  simp only [before_0, before_1, before_2, before_3, before_4, before_5, before_6, before_7, before_8, before_9]
  rw [show (dats m 0 c).Φ t.castSucc = Pipeline.ΦA spec0 c from rfl]
  unfold Pipeline.ΦA
  rw [scopedRest0_eq]
  iintro ⟨⟨⟨S0, S1, S2, S3, S4, S5, S6, S7, S8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [Hg]; · iexact Hg
  iexact Ho

theorem held_post (c : Dev nD) (t : Fin cfg0.N) : held m c t ⊢ bodyPost m c t := by
  unfold bodyPost held
  rw [show (dats m 0 c).Φ t.succ = Pipeline.ΦA spec0 c from rfl,
    show (dats m 0 c).owesAt () t.succ = (dats m 0 c).owesAt () t.castSucc from rfl]
  unfold Pipeline.ΦA
  rw [scopedRest0_eq]
  iintro ⟨H0, H1, H2, H3, H4, H5, H6, H7, H8, H9, H10, H11, S0, S1, S2, S3, S4, S5, S6, S7, S8, Hg, Ho⟩
  isplitl [S0 S1 S2 S3 S4 S5 S6 S7 S8 Hg]
  · isplitl [S0 S1 S2 S3 S4 S5 S6 S7 S8]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem sound_body (c : Dev nD) (t : Fin cfg0.N) :
    bodyPre m c t ⊢ wp frame (wpE (defs₀ (F := F)) Variants.none c none) Set.univ (bodyAt0 t) (fun _ => bodyPost m c t) := by
  have h := body_held m c t
  unfold Keeps at h
  exact BIBase.Entails.trans (pre_held m c t) (BIBase.Entails.trans h (wp_mono _ _ _ fun _ => held_post m c t))

/-- The body table's row at a point is the body at the point. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The launch: it terminates, with every input array at what it held and every counter at zero. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- An input array ends as it was launched. -/
theorem input_kept {r : PUnit × MemSt nD τ sig (Elt F)}
    (h : Pipeline.RDat.FramePost (cfgs 0) (fun c => (dats (F := F) m 0 c).toRForget forgets) (V m) r) (c : Dev nD) (w : Fin cfg0.W)
    (hw : forgets w = false) (hin : (cfg0.win w).isOut = false) :
    r.2.mem ((cfg0.spec w).arr.view.loc (c.tc : Thread nD τ)) = V m c (Pipeline.arrRef spec0 w) :=
  (((dats m 0 c).toRForget_arrAt_iff hw _ _).mp ((h c).1 w)).trans (((dats m 0 c).arrAt_in w hin _).trans (A_eq m c w))

/-- The frame at any float arithmetic: the run terminates, the ten arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨input_kept m h.1 c 0 rfl rfl, input_kept m h.1 c 1 rfl rfl, input_kept m h.1 c 2 rfl rfl, input_kept m h.1 c 3 rfl rfl, input_kept m h.1 c 4 rfl rfl, input_kept m h.1 c 5 rfl rfl, input_kept m h.1 c 6 rfl rfl, input_kept m h.1 c 7 rfl rfl, input_kept m h.1 c 8 rfl rfl, input_kept m h.1 c 9 rfl rfl⟩, h.2⟩) (run_main m ρ)

end Cert.Proof.AttnFrame

end
-- ==== Proof.BiasBlock.lean ====
/-
  What the bias call leaves in its three output blocks: at every entry, the bias of the entry's bucket.
-/
module

public import proofs.«01_k».proof.Proof.CompressBlock
public import proofs.«01_k».proof.Proof.Gen.Kernel5Ideal.Value
public import Idealize.ShloMosaic.Lib.ValueLayout

@[expose] public section

noncomputable section

open Idealize.ShloMosaic Idealize.ShloMosaic.TcCoe

namespace Cert.Proof.BiasBlock

open Cert.Kernel5Ideal Cert.Kernel5Ideal.Gen

/-- The base-two logarithm of e, as the program names it. -/
def scale : EReal := (Scalar.ofBits .f32 0x3FB8AA3B#32 : Ideal .f32)

/-- The value of an entry that has no bucket. -/
def masked : EReal := (Scalar.ofBits .f32 0xF149F2CA#32 : Ideal .f32)

/-- The bias of bucket `w`, to the base of two. -/
def bias (f : ℕ → EReal) (w : BitVec 32) : EReal := if w.toNat < 32 then f w.toNat * scale else masked

/-- One bucket tried on a value. -/
def step (f : EReal) (n : ℕ) (w : BitVec 32) (rest : EReal) : EReal :=
  Scalar.select (IntOp.cmpi .eq w (BitVec.ofNat 32 n)) (Scalar.mulf (F := Ideal) (φ := .f32) f (Scalar.ofBits .f32 0x3FB8AA3B#32)) rest

/-- The first `n` buckets tried one after the other. -/
def tried (f : ℕ → EReal) (w : BitVec 32) : ℕ → EReal
  | 0 => masked
  | n + 1 => step (f n) n w (tried f w n)

theorem step_eq (f : EReal) (n : ℕ) (hn : n < 32) (w : BitVec 32) (rest : EReal) :
    step f n w rest = if w.toNat = n then f * scale else rest := by
  unfold step
  rw [WordCmp.cmpi_eq_eq_toNat, BitVec.toNat_ofNat, Nat.mod_eq_of_lt (by omega)]
  by_cases h : w.toNat = n
  · rw [if_pos h]; simp only [h, decide_true]; rfl
  · rw [if_neg h]; simp only [h, decide_false]; rfl

theorem tried_eq (f : ℕ → EReal) (w : BitVec 32) (n : ℕ) (hn : n ≤ 32) :
    tried f w n = if w.toNat < n then f w.toNat * scale else masked := by
  induction n with
  | zero => rw [if_neg (Nat.not_lt_zero _)]; rfl
  | succ n ih =>
    unfold tried
    rw [step_eq _ n (by omega), ih (by omega)]
    by_cases h : w.toNat = n
    · rw [if_pos h, if_pos (by omega), h]
    · rw [if_neg h]
      by_cases h' : w.toNat < n
      · rw [if_pos h', if_pos (by omega)]
      · rw [if_neg h', if_neg (by omega)]

theorem tried_all (f : ℕ → EReal) (w : BitVec 32) : tried f w 32 = bias f w := tried_eq f w 32 le_rfl

/-- The table's entry at an offset. -/
def entry (x : Vec Ideal S32x8 .f32) (o : Fin 2 → ℕ) : EReal :=
  if h : o 0 < 32 ∧ o 1 < 8 then x (ix2 ⟨o 0, h.1⟩ ⟨o 1, h.2⟩) else 0

theorem entry_ix2 (x : Vec Ideal S32x8 .f32) (n : ℕ) (hn : n < 32) (b : Fin 8) : entry x ![n, b.val] = x (ix2 ⟨n, hn⟩ b) :=
  dif_pos (⟨hn, b.isLt⟩ : (![n, b.val] : Fin 2 → ℕ) 0 < 32 ∧ (![n, b.val] : Fin 2 → ℕ) 1 < 8)

/-- A load from a buffer that holds a block's contents reads the block. -/
theorem readAt_unread {sp : Space} {s : Shape} {e : EltTy} (M : Memref sig .tc sp s e) (h : M.IsWhole) (X : Vec Ideal s e) (r : Rect s) :
    View.readAt (Elt Ideal) M.view r.toLoadRect (h.unread X) = View.ld X r := by
  rw [View.readAt_eq_ld, h.read_unread]

/-- A load of one number of the table. -/
theorem ld_entry (x : Vec Ideal S32x8 .f32) (o : Fin 2 → ℕ) (h) :
    View.ld x (Rect.unit o ![1, 1] h) = fun _ => entry x o := by
  funext y
  have h0 : o 0 < 32 := by have := h 0; simpa using this
  have h1 : o 1 < 8 := by have := h 1; simpa using this
  have y0 : (y 0).val = 0 := Nat.lt_one_iff.mp (y 0).isLt
  have y1 : (y 1).val = 0 := Nat.lt_one_iff.mp (y 1).isLt
  unfold entry
  rw [dif_pos ⟨h0, h1⟩]
  refine congrArg x (funext fun a => Fin.ext ?_)
  fin_cases a
  · show o 0 + 1 * (y 0).val = o 0
    omega
  · show o 1 + 1 * (y 1).val = o 1
    omega

theorem ld_whole {R C : ℕ} (x : Vec Ideal ⟨2, ![R, C]⟩ .i32) (h) : View.ld x (Rect.unit ![0, 0] ![R, C] h) = x :=
  View.ld_unit_zero Block.zero2 h x

variable {c : Dev nD} {i : grid0.Coords} {arg1 : Memref sig .tc .smem S32x8 .f32} {harg1 : arg1.IsWhole}
  {arg2 : Memref sig .tc .vmem S1152x128 .i32} {harg2 : arg2.IsWhole} {arg3 : Memref sig .tc .vmem S384x128 .i32} {harg3 : arg3.IsWhole}
  {arg4 : Memref sig .tc .vmem S40x128 .i32} {harg4 : arg4.IsWhole} {arg5 : Memref sig .tc .vmem S1x1152x128 .f32} {harg5 : arg5.IsWhole}
  {arg6 : Memref sig .tc .vmem S1x384x128 .f32} {harg6 : arg6.IsWhole} {arg7 : Memref sig .tc .vmem S1x40x128 .f32} {harg7 : arg7.IsWhole}
  {x0 : Vec Ideal S32x8 .f32} {x1 : Vec Ideal S1152x128 .i32} {x2 : Vec Ideal S384x128 .i32} {x3 : Vec Ideal S40x128 .i32}

theorem zero3 : (![0, 0, 0] : Fin 3 → ℕ) = fun _ => 0 := by funext a; fin_cases a <;> rfl

theorem out4 (a : Fin 1152) (b : Fin 128) :
    out0_A_4 c i arg1 harg1 arg2 harg2 arg3 harg3 arg4 harg4 arg5 harg5 arg6 harg6 arg7 harg7 x0 x1 x2 x3 (ix3 0 a b)
      = bias (fun n => entry x0 ![n, (i 0).val]) (x1 (ix2 a b)) := by
  unfold out0_A_4
  rw [View.read_writes_junk_eq_canon]
  simp only [kernelRun0_A, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, readAt_unread, ld_whole]
  repeat rw [ld_entry]
  simp only [k0_off1_eq, k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq, k0_off31_eq, k0_off32_eq]
  rw [View.canon_unit_zero zero3]
  unfold k0_pay6
  refine (ValueIdx.shapeCast_ab_1ab_apply _ _ _ _ _).trans (Eq.trans ?_ (tried_all _ _))
  rfl

theorem out5 (a : Fin 384) (b : Fin 128) :
    out0_A_5 c i arg1 harg1 arg2 harg2 arg3 harg3 arg4 harg4 arg5 harg5 arg6 harg6 arg7 harg7 x0 x1 x2 x3 (ix3 0 a b)
      = bias (fun n => Scalar.subf (F := Ideal) (φ := .f32) (entry x0 ![n, (i 0).val]) (entry x0 ![31, (i 0).val])) (x2 (ix2 a b)) := by
  unfold out0_A_5
  rw [View.read_writes_junk_eq_canon]
  simp only [kernelRun0_A, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, readAt_unread, ld_whole]
  repeat rw [ld_entry]
  simp only [k0_off1_eq, k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq, k0_off31_eq, k0_off32_eq]
  rw [View.canon_unit_zero zero3]
  unfold k0_pay19
  refine (ValueIdx.shapeCast_ab_1ab_apply _ _ _ _ _).trans (Eq.trans ?_ (tried_all _ _))
  rfl

theorem out6 (a : Fin 40) (b : Fin 128) :
    out0_A_6 c i arg1 harg1 arg2 harg2 arg3 harg3 arg4 harg4 arg5 harg5 arg6 harg6 arg7 harg7 x0 x1 x2 x3 (ix3 0 a b)
      = bias (fun n => Scalar.subf (F := Ideal) (φ := .f32) (entry x0 ![n, (i 0).val]) (entry x0 ![31, (i 0).val])) (x3 (ix2 a b)) := by
  unfold out0_A_6
  rw [View.read_writes_junk_eq_canon]
  simp only [kernelRun0_A, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, readAt_unread, ld_whole]
  repeat rw [ld_entry]
  simp only [k0_off1_eq, k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq, k0_off31_eq, k0_off32_eq]
  rw [View.canon_unit_zero zero3]
  unfold k0_pay33
  refine (ValueIdx.shapeCast_ab_1ab_apply _ _ _ _ _).trans (Eq.trans ?_ (tried_all _ _))
  rfl

end Cert.Proof.BiasBlock

end
-- ==== Proof.BiasRun.lean ====
/-
  The bias call's results as functions of its arguments.
-/
module

public import proofs.«01_k».proof.Proof.BiasBlock
public import proofs.«01_k».proof.Proof.FrontRun

@[expose] public section

noncomputable section

open Idealize.ShloMosaic Idealize.ShloMosaic.TcCoe

namespace Cert.Proof.BiasRun

open Cert.Kernel5Ideal Cert.Kernel5Ideal.Gen Cert.Kernel5Ideal.Value
open Cert.Proof.BiasBlock (bias entry)
open Cert.Proof.FrontRun (split3)

/-- The tile of the heads' biases at an array of buckets. -/
def tile {R : ℕ} (f : Fin 8 → ℕ → EReal) (w : Vec Ideal ⟨2, ![R, 128]⟩ .i32) : Vec Ideal ⟨3, ![8, R, 128]⟩ .f32 :=
  fun i => bias (f (i 0)) (w (ix2 (i 1) (i 2)))

/-- A head's biases. -/
def full (x : Vec Ideal S32x8 .f32) (h : Fin 8) (n : ℕ) : EReal := entry x ![n, h.val]

/-- A head's biases less that of its last bucket. -/
def near (x : Vec Ideal S32x8 .f32) (h : Fin 8) (n : ℕ) : EReal :=
  Scalar.subf (F := Ideal) (φ := .f32) (entry x ![n, h.val]) (entry x ![31, h.val])

variable (m : (ℓ : Loc nD τ sig) → Buf (Elt Ideal) ℓ) (c : Dev nD)

theorem pt_lt (t : Fin cfg0.N) : t.val < 8 := t.isLt.trans_eq N_0

theorem coord : ∀ t : Fin cfg0.N, ((grid0.coords t) 0).val = t.val := by decide +kernel
theorem idx4 : ∀ t : Fin cfg0.N, win0_4.index t 0 = t.val ∧ win0_4.index t 1 = 0 ∧ win0_4.index t 2 = 0 := by decide +kernel
theorem idx5 : ∀ t : Fin cfg0.N, win0_5.index t 0 = t.val ∧ win0_5.index t 1 = 0 ∧ win0_5.index t 2 = 0 := by decide +kernel
theorem idx6 : ∀ t : Fin cfg0.N, win0_6.index t 0 = t.val ∧ win0_6.index t 1 = 0 ∧ win0_6.index t 2 = 0 := by decide +kernel

/-- A read of the array's own sizes at block index zero reads the array. -/
theorem whole (b : Ref sig .tc) {ix : Fin b.ty.shape.rank → ℕ} (h : ∀ a, ix a = 0) (inb : ∀ a, ix a * b.ty.shape.size a + b.ty.shape.size a ≤ b.ty.shape.size a)
    (f : b.ty.Contents (Elt Ideal)) :
    ((Memref.whole b).access (Rect.unit (fun a => ix a * b.ty.shape.size a) b.ty.shape.size inb) : View sig .tc _ _ _).read (Elt Ideal) f = f :=
  Memref.read_access_unit_zero (Elt Ideal) b (funext fun a => by rw [h a, Nat.zero_mul]) inb f

theorem b0 (t : Fin cfg0.N) : (iblk m c 0 t : Vec Ideal S32x8 .f32) = V m c main_arg0 := whole main_arg0 (ix := win0_0.index t) (fun a => by fin_cases a <;> rfl) _ _
theorem b1 (t : Fin cfg0.N) : (iblk m c 1 t : Vec Ideal S1152x128 .i32) = V m c main_arg1 := whole main_arg1 (ix := win0_1.index t) (fun a => by fin_cases a <;> rfl) _ _
theorem b2 (t : Fin cfg0.N) : (iblk m c 2 t : Vec Ideal S384x128 .i32) = V m c main_arg2 := whole main_arg2 (ix := win0_2.index t) (fun a => by fin_cases a <;> rfl) _ _
theorem b3 (t : Fin cfg0.N) : (iblk m c 3 t : Vec Ideal S40x128 .i32) = V m c main_arg3 := whole main_arg3 (ix := win0_3.index t) (fun a => by fin_cases a <;> rfl) _ _

/-- A block's entry in an array of one block a head. -/
theorem at_head {R k₀ k₁ k₂ : ℕ} {h : Fin 8} {a : Fin R} {b : Fin 128} (f : (⟨3, ![8, R, 128]⟩ : Shape).Idx) (h₀ : (f 0).val = k₀ * 1 + 1 * 0)
    (h₁ : (f 1).val = k₁ * R + 1 * a.val) (h₂ : (f 2).val = k₂ * 128 + 1 * b.val) (e : k₀ = h.val ∧ k₁ = 0 ∧ k₂ = 0) : f = ix3 h a b := by
  obtain ⟨e₀, e₁, e₂⟩ := e
  subst e₁ e₂
  funext x
  match x with
  | ⟨0, _⟩ => exact Fin.ext (h₀.trans (by show _ = h.val; omega))
  | ⟨1, _⟩ => exact Fin.ext (h₁.trans (by show _ = a.val; omega))
  | ⟨2, _⟩ => exact Fin.ext (h₂.trans (by show _ = b.val; omega))

theorem block4 (t : Fin cfg0.N) (a : Fin 1152) (b : Fin 128) : (outsAt0 m c t).1 (ix3 0 a b)
    = bias (full (iblk m c 0 t) ⟨t.val, pt_lt t⟩) ((iblk m c 1 t : Vec Ideal S1152x128 .i32) (ix2 a b)) := by
  unfold outsAt0
  dsimp only
  rw [BiasBlock.out4, coord]
  rfl

theorem block5 (t : Fin cfg0.N) (a : Fin 384) (b : Fin 128) : (outsAt0 m c t).2.1 (ix3 0 a b)
    = bias (near (iblk m c 0 t) ⟨t.val, pt_lt t⟩) ((iblk m c 2 t : Vec Ideal S384x128 .i32) (ix2 a b)) := by
  unfold outsAt0
  dsimp only
  rw [BiasBlock.out5, coord]
  rfl

theorem block6 (t : Fin cfg0.N) (a : Fin 40) (b : Fin 128) : (outsAt0 m c t).2.2 (ix3 0 a b)
    = bias (near (iblk m c 0 t) ⟨t.val, pt_lt t⟩) ((iblk m c 3 t : Vec Ideal S40x128 .i32) (ix2 a b)) := by
  unfold outsAt0
  dsimp only
  rw [BiasBlock.out6, coord]
  rfl

theorem final4 : (dats m 0 c).arrAt 4 cfg0.N = tile (full (m (c.tc.loc main_arg0))) (m (c.tc.loc main_arg1)) := by
  refine (dats m 0 c).arrAt_eq_of_covers 4 _ (by decide +kernel) fun t hf y => ?_
  have ht := pt_lt t
  obtain ⟨z, a, b, rfl⟩ := split3 (n₀ := 1) (n₁ := 1152) (n₂ := 128) y
  obtain rfl : z = 0 := Subsingleton.elim _ _
  refine (congrFun (after0_4 m c t) (ix3 0 a b)).trans ((block4 m c t a b).trans ?_)
  refine Eq.trans ?_ (congrArg (tile (full (m (c.tc.loc main_arg0))) (m (c.tc.loc main_arg1))) (at_head (h := ⟨t.val, ht⟩) ((win0_4.blk t).view.emb (ix3 0 a b)) rfl rfl rfl (idx4 t))).symm
  rw [b0, b1]
  exact congrArg₂ (fun x w => bias (full x ⟨t.val, ht⟩) (w (ix2 a b))) (V_main_arg0 m c) (V_main_arg1 m c)

theorem final5 : (dats m 0 c).arrAt 5 cfg0.N = tile (near (m (c.tc.loc main_arg0))) (m (c.tc.loc main_arg2)) := by
  refine (dats m 0 c).arrAt_eq_of_covers 5 _ (by decide +kernel) fun t hf y => ?_
  have ht := pt_lt t
  obtain ⟨z, a, b, rfl⟩ := split3 (n₀ := 1) (n₁ := 384) (n₂ := 128) y
  obtain rfl : z = 0 := Subsingleton.elim _ _
  refine (congrFun (after0_5 m c t) (ix3 0 a b)).trans ((block5 m c t a b).trans ?_)
  refine Eq.trans ?_ (congrArg (tile (near (m (c.tc.loc main_arg0))) (m (c.tc.loc main_arg2))) (at_head (h := ⟨t.val, ht⟩) ((win0_5.blk t).view.emb (ix3 0 a b)) rfl rfl rfl (idx5 t))).symm
  rw [b0, b2]
  exact congrArg₂ (fun x w => bias (near x ⟨t.val, ht⟩) (w (ix2 a b))) (V_main_arg0 m c) (V_main_arg2 m c)

theorem final6 : (dats m 0 c).arrAt 6 cfg0.N = tile (near (m (c.tc.loc main_arg0))) (m (c.tc.loc main_arg3)) := by
  refine (dats m 0 c).arrAt_eq_of_covers 6 _ (by decide +kernel) fun t hf y => ?_
  have ht := pt_lt t
  obtain ⟨z, a, b, rfl⟩ := split3 (n₀ := 1) (n₁ := 40) (n₂ := 128) y
  obtain rfl : z = 0 := Subsingleton.elim _ _
  refine (congrFun (after0_6 m c t) (ix3 0 a b)).trans ((block6 m c t a b).trans ?_)
  refine Eq.trans ?_ (congrArg (tile (near (m (c.tc.loc main_arg0))) (m (c.tc.loc main_arg3))) (at_head (h := ⟨t.val, ht⟩) ((win0_6.blk t).view.emb (ix3 0 a b)) rfl rfl rfl (idx6 t))).symm
  rw [b0, b3]
  exact congrArg₂ (fun x w => bias (near x ⟨t.val, ht⟩) (w (ix2 a b))) (V_main_arg0 m c) (V_main_arg3 m c)

end Cert.Proof.BiasRun

end
-- ==== Proof.BiasRef.lean ====
/-
  The bias reference at every entry: the bias of the entry's bucket.
-/
module

public import proofs.«01_k».proof.Proof.BiasRun
public import proofs.«01_k».proof.Proof.Gen.Reference5Ideal.Run

@[expose] public section

noncomputable section

open Idealize.ShloMosaic Idealize.ShloMosaic.TcCoe

namespace Cert.Proof.BiasRef

open Cert.Proof.BiasBlock (bias scale masked entry entry_ix2)
open Cert.Proof.BiasRun (tile full near)

section Take
variable {α : Type}

/-- The dimension numbers of a take of whole rows of a table of 32 rows of 8. -/
abbrev rowDims (R C : ℕ) (wf : GatherDims.WF ⟨2, ![32, 8]⟩ ⟨3, ![R, C, 1]⟩ ⟨3, ![R, C, 8]⟩ [2] [0] [] [0] [] 2 ![1, 8]) :
    GatherDims ⟨2, ![32, 8]⟩ ⟨3, ![R, C, 1]⟩ ⟨3, ![R, C, 8]⟩ where
  offsetDims := [2]
  collapsedSliceDims := [0]
  operandBatchingDims := []
  startIndicesBatchingDims := []
  startIndexMap := [0]
  indexVectorDim := 2
  sliceSizes := ![1, 8]
  wf := wf

/-- The take at `(a, b, h)`: column `h` of the row that the index names, clamped to the table. -/
theorem take_row {R C : ℕ} (wf) (x : (⟨2, ![32, 8]⟩ : Shape).Idx → α) (idx : IVec ⟨3, ![R, C, 1]⟩ 32) (a : Fin R) (b : Fin C) (h : Fin 8) :
    Host.gather (rowDims R C wf) x idx (ix3 a b h) = x (ix2 ⟨min (idx (ix3 a b 0)).toInt.toNat 31, by omega⟩ h) := by
  unfold Host.gather
  congr 1
  funext k
  refine Fin.ext ?_
  match k with
  | ⟨0, _⟩ =>
    show (rowDims R C wf).start (ix3 a b h) idx 0 + (rowDims R C wf).batchCoord (ix3 a b h) 0 + (rowDims R C wf).offCoord (ix3 a b h) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims R C wf).startIndexMap from List.mem_singleton.mpr rfl)]
    have hsi : (rowDims R C wf).siIdx (ix3 a b h) ⟨List.idxOf (0 : Fin 2) (rowDims R C wf).startIndexMap,
        List.idxOf_lt_length_iff.2 (List.mem_singleton.mpr rfl)⟩ = ix3 a b 0 := by
      funext q; refine Fin.ext ?_
      match q with
      | ⟨0, _⟩ => rfl
      | ⟨1, _⟩ => rfl
      | ⟨2, _⟩ => rfl
    rw [hsi]
    rfl
  | ⟨1, _⟩ =>
    show (rowDims R C wf).start (ix3 a b h) idx 1 + (rowDims R C wf).batchCoord (ix3 a b h) 1 + (rowDims R C wf).offCoord (ix3 a b h) 1 = h.val
    rw [GatherDims.batchCoord_eq_zero _ _ _ List.not_mem_nil]
    unfold GatherDims.start
    rw [dif_neg (show ¬ (1 : Fin 2) ∈ (rowDims R C wf).startIndexMap from fun h => absurd (List.mem_singleton.mp h) (by decide))]
    rw [Nat.add_zero, Nat.zero_add]
    rfl

end Take

/-- A broadcast at an index reads the operand at the coordinates it keeps. -/
theorem spread {α : Type} {s t : Shape} (dims : Fin s.rank → Fin t.rank) (h : s.BroadcastsInDim t dims) (x : s.Idx → α) (j : t.Idx) (i : s.Idx)
    (hi : ∀ a, (i a).val = (j (dims a)).val ∨ s.size a = 1) : broadcastInDim t dims h x j = x i := by
  unfold broadcastInDim
  refine congrArg x (funext fun a => Fin.ext ?_)
  split
  · have := (i a).isLt
    show 0 = (i a).val
    omega
  · next h1 => exact ((hi a).resolve_right h1).symm

/-- Whether a word names a bucket. -/
def valid (w : BitVec 32) : BitVec 1 := IntOp.andi (IntOp.cmpi .sge w 0#32) (IntOp.cmpi .slt w 32#32)

/-- The word, or zero where it names no bucket. -/
def safe (w : BitVec 32) : BitVec 32 := Scalar.select (valid w) w 0#32

/-- The row that is taken. -/
def row (w : BitVec 32) : BitVec 32 := Scalar.select (IntOp.cmpi .slt (safe w) 0#32) (IntOp.addi (safe w) 32#32) (safe w)

theorem valid_eq (w : BitVec 32) : valid w = if w.toNat < 32 then 1#1 else 0#1 := by
  unfold valid IntOp.andi IntOp.cmpi
  have hw := w.isLt
  have e0 : (0#32).toInt = 0 := rfl
  have e32 : (32#32).toInt = 32 := rfl
  simp only [BitVec.sle, BitVec.slt, e0, e32, BitVec.toInt_eq_toNat_cond w]
  by_cases h : w.toNat < 32
  · rw [if_pos h, if_pos (by omega), decide_eq_true (by omega), decide_eq_true (by omega)]
    rfl
  · rw [if_neg h]
    by_cases h' : 2 * w.toNat < 2 ^ 32
    · rw [if_pos h', decide_eq_true (by omega), decide_eq_false (by omega)]
      rfl
    · rw [if_neg h', decide_eq_false (by omega)]
      simp

theorem row_eq (w : BitVec 32) (h : w.toNat < 32) : (row w).toInt.toNat = w.toNat := by
  have e0 : (0#32).toInt = 0 := rfl
  have ew : w.toInt = w.toNat := by rw [BitVec.toInt_eq_toNat_cond, if_pos (by omega)]
  have hs : safe w = w := by
    unfold safe
    rw [valid_eq, if_pos h]
    rfl
  have hc : IntOp.cmpi .slt w 0#32 = 0#1 := by
    unfold IntOp.cmpi
    simp only [BitVec.slt, e0, ew]
    rw [decide_eq_false (by omega)]
    rfl
  unfold row
  rw [hs, hc, ValueIdx.select_zero, ew, Int.toNat_natCast]

theorem bias_congr {f g : ℕ → EReal} (w : BitVec 32) (h : ∀ n < 32, f n = g n) : bias f w = bias g w := by
  unfold bias
  split
  · next hw => rw [h _ hw]
  · rfl

/-- The tile of a table at an array of buckets, at one entry. -/
theorem at_entry {R : ℕ} (x : FVec Ideal ⟨2, ![32, 8]⟩ .f32) (w : IVec ⟨2, ![R, 128]⟩ 32) (wf h12 h01 ht h3)
    (h : Fin 8) (a : Fin R) (b : Fin 128) :
    select (broadcastInDim ⟨3, ![8, R, 128]⟩ ![1, 2] h12 (fun i => valid (w i)))
      (mulf (transpose ⟨3, ![8, R, 128]⟩ [2, 0, 1] (Host.gather (rowDims R 128 wf) x (broadcastInDim ⟨3, ![R, 128, 1]⟩ ![0, 1] h01 (fun i => row (w i)))) ht)
        (broadcastInDim ⟨3, ![8, R, 128]⟩ ![] h3 (constant (F := Ideal) ⟨0, ![]⟩ .f32 0x3FB8AA3B#32)))
      (broadcastInDim ⟨3, ![8, R, 128]⟩ ![] h3 (constant (F := Ideal) ⟨0, ![]⟩ .f32 0xF149F2CA#32)) (ix3 h a b)
      = bias (fun n => entry x ![n, h.val]) (w (ix2 a b)) := by
  rw [ValueIdx.select_apply, ValueIdx.mulf_apply, spread _ h12 _ (ix3 h a b) (ix2 a b) (fun q => match q with | ⟨0, _⟩ => .inl rfl | ⟨1, _⟩ => .inl rfl),
    transpose_apply _ _ ht (ix3 h a b) (ix3 a b h) (fun q => match q with | ⟨0, _⟩ => rfl | ⟨1, _⟩ => rfl | ⟨2, _⟩ => rfl),
    take_row, valid_eq]
  unfold bias
  by_cases hw : (w (ix2 a b)).toNat < 32
  · rw [if_pos hw, if_pos hw, ValueIdx.select_one]
    refine Eq.trans (congrArg (fun k => x (ix2 k h) * scale) (Fin.ext ?_)) (congrArg (· * scale) (entry_ix2 x _ hw h)).symm
    show min (broadcastInDim ⟨3, ![R, 128, 1]⟩ ![0, 1] h01 (fun i => row (w i)) (ix3 a b 0)).toInt.toNat 31 = (w (ix2 a b)).toNat
    rw [spread _ h01 _ (ix3 a b 0) (ix2 a b) (fun q => match q with | ⟨0, _⟩ => .inl rfl | ⟨1, _⟩ => .inl rfl), row_eq _ hw]
    omega
  · rw [if_neg hw, if_neg hw, ValueIdx.select_zero]
    rfl

open Cert.Reference5Ideal Cert.Reference5Ideal.Gen

/-- The table less its last row. -/
def less (x : FVec Ideal S32x8 .f32) : FVec Ideal S32x8 .f32 :=
  subf x (broadcastInDim S32x8 ![0, 1] bcast_S1x8_S32x8_0_1 (broadcastInDim S1x8 ![1] bcast_S8_S1x8_1
    (shapeCast S8 (extractStridedSlice S1x8 ![31, 0] x slices_S32x8_S1x8_31_0) shapeCasts_S1x8_S8)))

theorem less_at (x : FVec Ideal S32x8 .f32) (h : Fin 8) (n : ℕ) (hn : n < 32) : entry (less x) ![n, h.val] = near x h n := by
  unfold near
  rw [entry_ix2 _ n hn h, entry_ix2 _ n hn h, entry_ix2 _ 31 (by decide) h]
  refine congrArg (fun z => x (ix2 ⟨n, hn⟩ h) - z) ?_
  rw [spread _ bcast_S1x8_S32x8_0_1 _ (ix2 ⟨n, hn⟩ h) (ix2 0 h) (fun q => match q with | ⟨0, _⟩ => .inr rfl | ⟨1, _⟩ => .inl rfl),
    spread _ bcast_S8_S1x8_1 _ (ix2 0 h) (ix1 h) (fun q => match q with | ⟨0, _⟩ => .inl rfl)]
  refine (ValueIdx.shapeCast_1a_a_apply _ _ h).trans ?_
  exact extractStridedSlice_apply _ x slices_S32x8_S1x8_31_0 (ix2 0 h) (ix2 ⟨31, by decide⟩ h) fun q => match q with | ⟨0, _⟩ => rfl | ⟨1, _⟩ => (Nat.zero_add _).symm

/-- The reference's first result. -/
theorem res21 (x : FVec Ideal S32x8 .f32) (w : IVec S1152x128 32) :
    select (broadcastInDim S8x1152x128 ![1, 2] bcast_S1152x128_S8x1152x128_1_2 (fun i => valid (w i)))
      (mulf (transpose S8x1152x128 [2, 0, 1] (Host.gather gather_S32x8_S1152x128x1_S1152x128x8_2_0_n_n_0_2_18 x
          (broadcastInDim S1152x128x1 ![0, 1] bcast_S1152x128_S1152x128x1_0_1 (fun i => row (w i)))) transposes_S1152x128x8_S8x1152x128_2_0_1)
        (broadcastInDim S8x1152x128 ![] bcast_S_S8x1152x128 (constant S_ .f32 0x3FB8AA3B#32)))
      (broadcastInDim S8x1152x128 ![] bcast_S_S8x1152x128 (id (constant S_ .f32 0xF149F2CA#32)))
      = tile (full x) w := by
  funext i
  obtain ⟨h, a, b, rfl⟩ := FrontRun.split3 i
  exact at_entry x w _ _ _ _ _ h a b

/-- The reference's second result. -/
theorem res38 (x : FVec Ideal S32x8 .f32) (w : IVec S384x128 32) :
    select (broadcastInDim S8x384x128 ![1, 2] bcast_S384x128_S8x384x128_1_2 (fun i => valid (w i)))
      (mulf (transpose S8x384x128 [2, 0, 1] (Host.gather gather_S32x8_S384x128x1_S384x128x8_2_0_n_n_0_2_18 (less x)
          (broadcastInDim S384x128x1 ![0, 1] bcast_S384x128_S384x128x1_0_1 (fun i => row (w i)))) transposes_S384x128x8_S8x384x128_2_0_1)
        (broadcastInDim S8x384x128 ![] bcast_S_S8x384x128 (constant S_ .f32 0x3FB8AA3B#32)))
      (broadcastInDim S8x384x128 ![] bcast_S_S8x384x128 (id (constant S_ .f32 0xF149F2CA#32)))
      = tile (near x) w := by
  funext i
  obtain ⟨h, a, b, rfl⟩ := FrontRun.split3 i
  exact (at_entry (less x) w _ _ _ _ _ h a b).trans (bias_congr _ fun n hn => less_at x h n hn)

/-- The reference's third result. -/
theorem res55 (x : FVec Ideal S32x8 .f32) (w : IVec S40x128 32) :
    select (broadcastInDim S8x40x128 ![1, 2] bcast_S40x128_S8x40x128_1_2 (fun i => valid (w i)))
      (mulf (transpose S8x40x128 [2, 0, 1] (Host.gather gather_S32x8_S40x128x1_S40x128x8_2_0_n_n_0_2_18 (less x)
          (broadcastInDim S40x128x1 ![0, 1] bcast_S40x128_S40x128x1_0_1 (fun i => row (w i)))) transposes_S40x128x8_S8x40x128_2_0_1)
        (broadcastInDim S8x40x128 ![] bcast_S_S8x40x128 (constant S_ .f32 0x3FB8AA3B#32)))
      (broadcastInDim S8x40x128 ![] bcast_S_S8x40x128 (id (constant S_ .f32 0xF149F2CA#32)))
      = tile (near x) w := by
  funext i
  obtain ⟨h, a, b, rfl⟩ := FrontRun.split3 i
  exact (at_entry (less x) w _ _ _ _ _ h a b).trans (bias_congr _ fun n hn => less_at x h n hn)

end Cert.Proof.BiasRef

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Pre_finite
public import proofs.«01_k».proof.Proof.KernelRun
public import proofs.«01_k».proof.Proof.RefValue
public import proofs.«01_k».proof.Proof.FrontRun
public import proofs.«01_k».proof.Proof.FrontRunKeys
public import proofs.«01_k».proof.Proof.FrontRef
public import proofs.«01_k».proof.Proof.FrontRefKeys
public import proofs.«01_k».proof.Proof.CompressPre
public import proofs.«01_k».proof.Proof.CompressRun
public import proofs.«01_k».proof.Proof.CompressRef
public import proofs.«01_k».proof.Proof.AttnFrame
public import Idealize.ShloMosaic.Lib.Quiescent
public import Idealize.ShloMosaic.Adequacy
public import Idealize.ShloMosaic.Init
public import proofs.«01_k».proof.Proof.BiasRef

@[expose] public section

noncomputable section

namespace Cert.Proof

open Idealize.ShloMosaic Idealize.SL.Sem Cert.Proof.FrontSpec

/-- The kernel runs to its end from any memory and leaves its arguments unchanged. -/
theorem frame_kernel : Cert.quiescent_Kernel := fun m ρ _ => Cert.Kernel.Gen.frame m ρ

/-- So does the idealized kernel. -/
theorem frame_kernelIdeal : Cert.quiescent_KernelIdeal := fun m ρ _ => Cert.KernelIdeal.Gen.frame m ρ

/-- So does the idealized reference. -/
theorem frame_referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- From memories that agree on the arguments, the idealized kernel and the idealized reference end with the same result. -/
theorem algebraic : Cert.algebraic_KernelIdeal_ReferenceIdeal := by
  intro m ρ m' ρ' _ hagree
  refine ⟨fun c => Cert.KernelIdeal.Value.G18 m c, Cert.KernelIdeal.Value.run (F := Ideal) m ρ, ?_⟩
  refine (θ_run _ _ _).mono (fun _ h c => ⟨(h c).1.trans ?_, (h c).2⟩) (Cert.ReferenceIdeal.Value.run (F := Ideal) m' ρ')
  have hv : ∀ r j, RefValue.value m' c r j = KernelRun.value m c r j := by
    intro r j
    obtain ⟨h0, h1, h2, h3, h4, h5, h6, h7, h8, h9, h10, h11, h12, h13, h14, h15, h16, h17⟩ := hagree c
    unfold RefValue.value RefValue.input RefValue.params
    rw [h0, h1, h2, h3, h4, h5, h6, h7, h8, h9, h10, h11, h12, h13, h14, h15, h16, h17]
    rfl
  funext i
  obtain ⟨r, j, rfl⟩ : ∃ (r : Fin 16384) (j : Fin 1024), i = ix2 r j :=
    ⟨i 0, i 1, funext fun a => match a with | ⟨0, _⟩ => rfl | ⟨1, _⟩ => rfl⟩
  exact (RefValue.result_at m' c le_rfl r r.isLt j).trans ((hv r j).trans (KernelRun.result_at m c r j).symm)

/-- The front call runs to its end from any memory and leaves its arguments unchanged. -/
theorem frame_kernel2 : Cert.quiescent_Kernel2 := fun m ρ _ => Cert.Kernel2.Gen.frame m ρ

/-- So does the idealized front call. -/
theorem frame_kernel2Ideal : Cert.quiescent_Kernel2Ideal := fun m ρ _ => Cert.Kernel2Ideal.Gen.frame m ρ

/-- So does its idealized reference. -/
theorem frame_reference2Ideal : Cert.quiescent_Reference2Ideal := fun m ρ _ =>
  (θ_run Cert.Reference2Ideal.defs _ _).mono (fun r h => ⟨fun c => (h c).2.2.2.2.2.2.2.2.2.2,
      Idealize.ShloMosaic.sem_eq_zero_of_no_sems (by decide) r.2⟩)
    (Cert.Reference2Ideal.Value.run (F := Ideal) m ρ)

/-- From memories that agree on the arguments, the idealized front call and its idealized reference end with the same results. -/
theorem algebraic2 : Cert.algebraic_Kernel2Ideal_Reference2Ideal := by
  intro m ρ m' ρ' _ hagree
  refine ⟨fun c => FrontRun.res5 m c, fun c => FrontRun.res6 m c, fun c => FrontRun.res7 m c, fun c => FrontRunKeys.res8 m c, fun c => FrontRunKeys.res9 m c,
    fun c => FrontRunKeys.res128 m c 3, fun c => FrontRunKeys.res11 m c, fun c => FrontRunKeys.res128 m c 5, fun c => FrontRun.res13 m c, fun c => FrontRun.res14 m c,
    (θ_run _ _ _).mono (fun _ h c => ?_) (Cert.Kernel2Ideal.Value.run_blocks (F := Ideal) m ρ),
    (θ_run _ _ _).mono (fun _ h c => ?_) (Cert.Reference2Ideal.Value.run (F := Ideal) m' ρ')⟩
  · obtain ⟨h5, h6, h7, h8, h9, h10, h11, h12, h13, h14, hargs⟩ := h c
    exact ⟨h5.trans (FrontRun.final5 m c), h6.trans (FrontRun.final6 m c), h7.trans (FrontRun.final7 m c), h8.trans (FrontRunKeys.final8 m c),
      h9.trans (FrontRunKeys.final9 m c), h10.trans (FrontRunKeys.final10 m c), h11.trans (FrontRunKeys.final11 m c), h12.trans (FrontRunKeys.final12 m c),
      h13.trans (FrontRun.final13 m c), h14.trans (FrontRun.final14 m c), hargs⟩
  · obtain ⟨h5, h6, h7, h8, h9, h10, h11, h12, h13, h14, hargs⟩ := h c
    obtain ⟨e0, e1, e2, e3, e4⟩ := hagree c
    rw [e0, e1, e2, e3] at h5
    rw [e0, e1, e2] at h7 h9 h10 h12 h13 h14
    have hq (i : Cert.Reference2Ideal.S512x16384.Idx) : FrontRef.queries (m (c.tc.loc Cert.Kernel2Ideal.main_arg0)) (m (c.tc.loc Cert.Kernel2Ideal.main_arg1))
        (m (c.tc.loc Cert.Kernel2Ideal.main_arg2)) (m (c.tc.loc Cert.Kernel2Ideal.main_arg3)) i = FrontRun.queryOf m c (i 1) (i 0) := by
      obtain ⟨a, b, rfl⟩ := FrontRun.split2 i
      exact FrontRef.queries_at _ _ _ _ a b
    have hk (j : Fin 6) (n : Fin 3) (r : Fin 16384) : key (fun a => FrontRef.col (m (c.tc.loc Cert.Kernel2Ideal.main_arg0)) (m (c.tc.loc Cert.Kernel2Ideal.main_arg1))
        (m (c.tc.loc Cert.Kernel2Ideal.main_arg2)) r ⟨512 + (128 * j.val + a.val), by omega⟩)
        (fun a => FrontRefKeys.kgain (m (c.tc.loc Cert.Kernel2Ideal.main_arg4)) n (ix1 ⟨a.val % 64, by omega⟩)) = FrontRunKeys.keyOf m c j n r := by
      simp only [FrontRefKeys.kgain_at]
      rfl
    refine ⟨h5.trans (funext fun i => hq i), h6.trans (funext fun i => ?_), h7.trans (funext fun i => ?_), h8.trans (funext fun i => ?_), h9.trans (funext fun i => ?_),
      h10.trans (funext fun i => ?_), h11.trans (funext fun i => ?_), h12.trans (funext fun i => ?_), h13.trans (funext fun i => ?_), h14.trans (funext fun i => ?_), hargs⟩
    · unfold Cert.Reference2Ideal.Value.res_main_v42
      rw [e0, e1, e2, e3]
      exact congrArg₂ (· - ·) (hq i) (hq i)
    · obtain ⟨a, b, rfl⟩ := FrontRun.split2 i
      exact FrontRef.gates_at _ _ _ a b
    · unfold Cert.Reference2Ideal.Value.res_main_v83
      rw [e0, e1, e2, e4]
      obtain ⟨j, a, k, rfl⟩ := FrontRun.split3 i
      exact (FrontRefKeys.slc_at _ _ _ (FrontRefKeys.kgain _ 1) j a k).trans (congrArg (fun p => augmented (fun d => p (lane j d)) a k) (hk 2 1 a))
    · obtain ⟨j, n, l, q, rfl⟩ := FrontRunKeys.split4 i
      exact FrontRefKeys.chunks512_at _ _ _ 3 j n l q
    · obtain ⟨j, n, l, q, rfl⟩ := FrontRunKeys.split4 i
      exact FrontRefKeys.chunks128_at _ _ _ 3 j n l q
    · unfold Cert.Reference2Ideal.Value.res_main_v104
      rw [e0, e1, e2, e4]
      obtain ⟨j, a, k, rfl⟩ := FrontRun.split3 i
      exact (FrontRefKeys.win_at _ _ _ (FrontRefKeys.kgain _ 2) j a k).trans (congrArg (fun p => widened (fun d => p (lane j d)) k) (hk 4 2 a))
    · obtain ⟨j, n, l, q, rfl⟩ := FrontRunKeys.split4 i
      exact FrontRefKeys.chunks128_at _ _ _ 5 j n l q
    · obtain ⟨j, a, k, rfl⟩ := FrontRun.split3 i
      exact FrontRef.kvc_at _ _ _ j a k
    · obtain ⟨a, b, rfl⟩ := FrontRun.split2 i
      exact FrontRef.u_at _ _ _ a b

/-- The compression runs to its end from any memory and leaves its arguments unchanged. -/
theorem frame_kernel3 : Cert.quiescent_Kernel3 := fun m ρ _ => Cert.Kernel3.Gen.frame m ρ

/-- So does the idealized compression. -/
theorem frame_kernel3Ideal : Cert.quiescent_Kernel3Ideal := fun m ρ _ => Cert.Kernel3Ideal.Gen.frame m ρ

/-- So does its idealized reference. -/
theorem frame_reference3Ideal : Cert.quiescent_Reference3Ideal := fun m ρ _ =>
  (θ_run Cert.Reference3Ideal.defs _ _).mono (fun r h => ⟨fun c => (h c).2.2,
      Idealize.ShloMosaic.sem_eq_zero_of_no_sems (by decide) r.2⟩)
    (Cert.Reference3Ideal.Value.run (F := Ideal) m ρ)

/-- From memories that agree on the arguments, the idealized compression and its idealized reference end with the same results
    where the position embedding and the first matrix are finite. -/
theorem algebraic3 : Cert.algebraic_Kernel3Ideal_Reference3Ideal_pre_finite := by
  intro m ρ m' ρ' hpre hagree
  refine ⟨fun c => CompressRun.res6 m c, fun c => CompressRun.res7 m c,
    (θ_run _ _ _).mono (fun _ h c => ?_) (Cert.Kernel3Ideal.Value.run_blocks (F := Ideal) m ρ),
    (θ_run _ _ _).mono (fun _ h c => ?_) (Cert.Reference3Ideal.Value.run (F := Ideal) m' ρ')⟩
  · obtain ⟨h6, h7, hargs⟩ := h c
    have hr : CompressRun.Reals m c := CompressPre.reals (hpre c)
    exact ⟨h6.trans (CompressRun.final6 hr), h7.trans (CompressRun.final7 hr), hargs⟩
  · obtain ⟨h6, h7, hargs⟩ := h c
    obtain ⟨e0, e1, e2, e3, e4, e5⟩ := hagree c
    refine ⟨h6.trans ((CompressRef.res76 m' c).trans (funext fun i => ?_)), h7.trans ((CompressRef.res80 m' c).trans (funext fun i => ?_)), hargs⟩
    · rw [e0, e1, e2, e3, e4, e5]
      obtain ⟨g, r, l, rfl⟩ := FrontRun.split3 i
      exact CompressRef.keys_eq _ _ _ _ _ _ g r l
    · rw [e0, e2, e3, e4, e5]
      obtain ⟨g, l, r, rfl⟩ := FrontRun.split3 i
      exact CompressRef.values_eq _ _ _ _ _ g l r

/-- The attention call runs to its end from any memory and leaves its arguments unchanged. -/
theorem frame_kernel4 : Cert.quiescent_Kernel4 := fun m ρ _ => AttnFrame.frame m ρ

/-- The bias call runs to its end from any memory and leaves its arguments unchanged. -/
theorem frame_kernel5 : Cert.quiescent_Kernel5 := fun m ρ _ => Cert.Kernel5.Gen.frame m ρ

/-- So does its idealization. -/
theorem frame_kernel5Ideal : Cert.quiescent_Kernel5Ideal := fun m ρ _ => Cert.Kernel5Ideal.Gen.frame m ρ

/-- So does its idealized reference. -/
theorem frame_reference5Ideal : Cert.quiescent_Reference5Ideal := fun m ρ _ =>
  (θ_run Cert.Reference5Ideal.defs _ _).mono (fun r h => ⟨fun c => (h c).2.2.2,
      Idealize.ShloMosaic.sem_eq_zero_of_no_sems (by decide) r.2⟩)
    (Cert.Reference5Ideal.Value.run (F := Ideal) m ρ)

/-- From memories that agree on the arguments, the idealized bias call and its idealized reference end with the same results. -/
theorem algebraic5 : Cert.algebraic_Kernel5Ideal_Reference5Ideal := by
  intro m ρ m' ρ' _ hagree
  refine ⟨fun c => BiasRun.tile (BiasRun.full (m (c.tc.loc Cert.Kernel5Ideal.main_arg0))) (m (c.tc.loc Cert.Kernel5Ideal.main_arg1)),
    fun c => BiasRun.tile (BiasRun.near (m (c.tc.loc Cert.Kernel5Ideal.main_arg0))) (m (c.tc.loc Cert.Kernel5Ideal.main_arg2)),
    fun c => BiasRun.tile (BiasRun.near (m (c.tc.loc Cert.Kernel5Ideal.main_arg0))) (m (c.tc.loc Cert.Kernel5Ideal.main_arg3)),
    (θ_run _ _ _).mono (fun _ h c => ?_) (Cert.Kernel5Ideal.Value.run_blocks (F := Ideal) m ρ),
    (θ_run _ _ _).mono (fun _ h c => ?_) (Cert.Reference5Ideal.Value.run (F := Ideal) m' ρ')⟩
  · obtain ⟨h4, h5, h6, hargs⟩ := h c
    exact ⟨h4.trans (BiasRun.final4 m c), h5.trans (BiasRun.final5 m c), h6.trans (BiasRun.final6 m c), hargs⟩
  · obtain ⟨h4, h5, h6, hargs⟩ := h c
    obtain ⟨e0, e1, e2, e3⟩ := hagree c
    refine ⟨h4.trans ((BiasRef.res21 _ _).trans ?_), h5.trans ((BiasRef.res38 _ _).trans ?_), h6.trans ((BiasRef.res55 _ _).trans ?_), hargs⟩
    · rw [e0, e1]
    · rw [e0, e2]
    · rw [e0, e3]

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts,
    Cert.Kernel5.Gen.facts, Cert.Kernel5Ideal.Gen.facts, Cert.Reference5Ideal.Gen.facts, Cert.Pre_finite.Gen.facts,
    frame_kernel, frame_kernelIdeal, frame_referenceIdeal, frame_kernel2, frame_kernel2Ideal, frame_reference2Ideal,
    frame_kernel3, frame_kernel3Ideal, fun m g _ => frame_kernel3Ideal m g trivial, frame_reference3Ideal, fun m g _ => frame_reference3Ideal m g trivial,
    frame_kernel4, frame_kernel5, frame_kernel5Ideal, frame_reference5Ideal,
    trivial, algebraic, trivial, algebraic2, trivial, algebraic3, trivial, algebraic5⟩

end Cert.Proof

end
